-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_q_k [hPre_finite_q_k : Cert.Pre_finite_q_k.Facts] (m : (ℓ : Loc Cert.KernelIdeal.nD Cert.KernelIdeal.τ Cert.KernelIdeal.sig) → Buf (Elt Ideal) ℓ) : Prop :=
  ∀ c : Dev Cert.KernelIdeal.nD,
    (Cert.Pre_finite_q_k.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_q_k [hPre_finite_q_k : Cert.Pre_finite_q_k.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_q_k.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_KernelUp (m : (ℓ : Loc Cert.KernelUp.nD Cert.KernelUp.τ Cert.KernelUp.sig) → Buf (Elt Bits) ℓ) : Prop :=
  True

def Pre_KernelUpIdeal (m : (ℓ : Loc Cert.KernelUpIdeal.nD Cert.KernelUpIdeal.τ Cert.KernelUpIdeal.sig) → Buf (Elt Ideal) ℓ) : Prop :=
  True

def Pre_ReferenceUpIdeal (m : (ℓ : Loc Cert.ReferenceUpIdeal.nD Cert.ReferenceUpIdeal.τ Cert.ReferenceUpIdeal.sig) → Buf (Elt Ideal) ℓ) : Prop :=
  True

def Pre_KernelDown (m : (ℓ : Loc Cert.KernelDown.nD Cert.KernelDown.τ Cert.KernelDown.sig) → Buf (Elt Bits) ℓ) : Prop :=
  True

def Pre_KernelDownIdeal (m : (ℓ : Loc Cert.KernelDownIdeal.nD Cert.KernelDownIdeal.τ Cert.KernelDownIdeal.sig) → Buf (Elt Ideal) ℓ) : Prop :=
  True

def Pre_ReferenceDownIdeal (m : (ℓ : Loc Cert.ReferenceDownIdeal.nD Cert.ReferenceDownIdeal.τ Cert.ReferenceDownIdeal.sig) → Buf (Elt Ideal) ℓ) : Prop :=
  True

def Pre_KernelIn (m : (ℓ : Loc Cert.KernelIn.nD Cert.KernelIn.τ Cert.KernelIn.sig) → Buf (Elt Bits) ℓ) : Prop :=
  True

def Pre_KernelInIdeal (m : (ℓ : Loc Cert.KernelInIdeal.nD Cert.KernelInIdeal.τ Cert.KernelInIdeal.sig) → Buf (Elt Ideal) ℓ) : Prop :=
  True

def Pre_ReferenceInIdeal (m : (ℓ : Loc Cert.ReferenceInIdeal.nD Cert.ReferenceInIdeal.τ Cert.ReferenceInIdeal.sig) → Buf (Elt Ideal) ℓ) : Prop :=
  True

def Pre_KernelOut (m : (ℓ : Loc Cert.KernelOut.nD Cert.KernelOut.τ Cert.KernelOut.sig) → Buf (Elt Bits) ℓ) : Prop :=
  True

def Pre_KernelOutIdeal (m : (ℓ : Loc Cert.KernelOutIdeal.nD Cert.KernelOutIdeal.τ Cert.KernelOutIdeal.sig) → Buf (Elt Ideal) ℓ) : Prop :=
  True

def Pre_ReferenceOutIdeal (m : (ℓ : Loc Cert.ReferenceOutIdeal.nD Cert.ReferenceOutIdeal.τ Cert.ReferenceOutIdeal.sig) → Buf (Elt Ideal) ℓ) : Prop :=
  True

def Pre_KernelNorm (m : (ℓ : Loc Cert.KernelNorm.nD Cert.KernelNorm.τ Cert.KernelNorm.sig) → Buf (Elt Bits) ℓ) : Prop :=
  True

def Pre_KernelNormIdeal (m : (ℓ : Loc Cert.KernelNormIdeal.nD Cert.KernelNormIdeal.τ Cert.KernelNormIdeal.sig) → Buf (Elt Ideal) ℓ) : Prop :=
  True

def Pre_ReferenceNormIdeal (m : (ℓ : Loc Cert.ReferenceNormIdeal.nD Cert.ReferenceNormIdeal.τ Cert.ReferenceNormIdeal.sig) → Buf (Elt Ideal) ℓ) : Prop :=
  True

def Pre_KernelLat (m : (ℓ : Loc Cert.KernelLat.nD Cert.KernelLat.τ Cert.KernelLat.sig) → Buf (Elt Bits) ℓ) : Prop :=
  True

def Pre_KernelLatIdeal (m : (ℓ : Loc Cert.KernelLatIdeal.nD Cert.KernelLatIdeal.τ Cert.KernelLatIdeal.sig) → Buf (Elt Ideal) ℓ) : Prop :=
  True

def Pre_KernelLatIdeal_finite_q_k_c [hPre_finite_q_k_c : Cert.Pre_finite_q_k_c.Facts] (m : (ℓ : Loc Cert.KernelLatIdeal.nD Cert.KernelLatIdeal.τ Cert.KernelLatIdeal.sig) → Buf (Elt Ideal) ℓ) : Prop :=
  ∀ c : Dev Cert.KernelLatIdeal.nD,
    (Cert.Pre_finite_q_k_c.fn (F := Ideal) (m ((c.tc : Thread Cert.KernelLatIdeal.nD Cert.KernelLatIdeal.τ).loc Cert.KernelLatIdeal.main_arg0)) (m ((c.tc : Thread Cert.KernelLatIdeal.nD Cert.KernelLatIdeal.τ).loc Cert.KernelLatIdeal.main_arg1)) (m ((c.tc : Thread Cert.KernelLatIdeal.nD Cert.KernelLatIdeal.τ).loc Cert.KernelLatIdeal.main_arg2)) (m ((c.tc : Thread Cert.KernelLatIdeal.nD Cert.KernelLatIdeal.τ).loc Cert.KernelLatIdeal.main_arg3)) (m ((c.tc : Thread Cert.KernelLatIdeal.nD Cert.KernelLatIdeal.τ).loc Cert.KernelLatIdeal.main_arg4))) = (fun _ => 1#1)

def Pre_ReferenceLatIdeal (m : (ℓ : Loc Cert.ReferenceLatIdeal.nD Cert.ReferenceLatIdeal.τ Cert.ReferenceLatIdeal.sig) → Buf (Elt Ideal) ℓ) : Prop :=
  True

def Pre_ReferenceLatIdeal_finite_q_k_c [hPre_finite_q_k_c : Cert.Pre_finite_q_k_c.Facts] (m : (ℓ : Loc Cert.ReferenceLatIdeal.nD Cert.ReferenceLatIdeal.τ Cert.ReferenceLatIdeal.sig) → Buf (Elt Ideal) ℓ) : Prop :=
  ∀ c : Dev Cert.ReferenceLatIdeal.nD,
    (Cert.Pre_finite_q_k_c.fn (F := Ideal) (m ((c.tc : Thread Cert.ReferenceLatIdeal.nD Cert.ReferenceLatIdeal.τ).loc Cert.ReferenceLatIdeal.main_arg0)) (m ((c.tc : Thread Cert.ReferenceLatIdeal.nD Cert.ReferenceLatIdeal.τ).loc Cert.ReferenceLatIdeal.main_arg1)) (m ((c.tc : Thread Cert.ReferenceLatIdeal.nD Cert.ReferenceLatIdeal.τ).loc Cert.ReferenceLatIdeal.main_arg2)) (m ((c.tc : Thread Cert.ReferenceLatIdeal.nD Cert.ReferenceLatIdeal.τ).loc Cert.ReferenceLatIdeal.main_arg3)) (m ((c.tc : Thread Cert.ReferenceLatIdeal.nD Cert.ReferenceLatIdeal.τ).loc Cert.ReferenceLatIdeal.main_arg4))) = (fun _ => 1#1)

def Pre_KernelDiff (m : (ℓ : Loc Cert.KernelDiff.nD Cert.KernelDiff.τ Cert.KernelDiff.sig) → Buf (Elt Bits) ℓ) : Prop :=
  True

def Pre_KernelDiffIdeal (m : (ℓ : Loc Cert.KernelDiffIdeal.nD Cert.KernelDiffIdeal.τ Cert.KernelDiffIdeal.sig) → Buf (Elt Ideal) ℓ) : Prop :=
  True

def Pre_KernelDiffIdeal_finite_q_k_v_lam [hPre_finite_q_k_v_lam : Cert.Pre_finite_q_k_v_lam.Facts] (m : (ℓ : Loc Cert.KernelDiffIdeal.nD Cert.KernelDiffIdeal.τ Cert.KernelDiffIdeal.sig) → Buf (Elt Ideal) ℓ) : Prop :=
  ∀ c : Dev Cert.KernelDiffIdeal.nD,
    (Cert.Pre_finite_q_k_v_lam.fn (F := Ideal) (m ((c.tc : Thread Cert.KernelDiffIdeal.nD Cert.KernelDiffIdeal.τ).loc Cert.KernelDiffIdeal.main_arg0)) (m ((c.tc : Thread Cert.KernelDiffIdeal.nD Cert.KernelDiffIdeal.τ).loc Cert.KernelDiffIdeal.main_arg1)) (m ((c.tc : Thread Cert.KernelDiffIdeal.nD Cert.KernelDiffIdeal.τ).loc Cert.KernelDiffIdeal.main_arg2)) (m ((c.tc : Thread Cert.KernelDiffIdeal.nD Cert.KernelDiffIdeal.τ).loc Cert.KernelDiffIdeal.main_arg3)) (m ((c.tc : Thread Cert.KernelDiffIdeal.nD Cert.KernelDiffIdeal.τ).loc Cert.KernelDiffIdeal.main_arg4)) (m ((c.tc : Thread Cert.KernelDiffIdeal.nD Cert.KernelDiffIdeal.τ).loc Cert.KernelDiffIdeal.main_arg5)) (m ((c.tc : Thread Cert.KernelDiffIdeal.nD Cert.KernelDiffIdeal.τ).loc Cert.KernelDiffIdeal.main_arg6))) = (fun _ => 1#1)

def Pre_ReferenceDiffIdeal (m : (ℓ : Loc Cert.ReferenceDiffIdeal.nD Cert.ReferenceDiffIdeal.τ Cert.ReferenceDiffIdeal.sig) → Buf (Elt Ideal) ℓ) : Prop :=
  True

def Pre_ReferenceDiffIdeal_finite_q_k_v_lam [hPre_finite_q_k_v_lam : Cert.Pre_finite_q_k_v_lam.Facts] (m : (ℓ : Loc Cert.ReferenceDiffIdeal.nD Cert.ReferenceDiffIdeal.τ Cert.ReferenceDiffIdeal.sig) → Buf (Elt Ideal) ℓ) : Prop :=
  ∀ c : Dev Cert.ReferenceDiffIdeal.nD,
    (Cert.Pre_finite_q_k_v_lam.fn (F := Ideal) (m ((c.tc : Thread Cert.ReferenceDiffIdeal.nD Cert.ReferenceDiffIdeal.τ).loc Cert.ReferenceDiffIdeal.main_arg0)) (m ((c.tc : Thread Cert.ReferenceDiffIdeal.nD Cert.ReferenceDiffIdeal.τ).loc Cert.ReferenceDiffIdeal.main_arg1)) (m ((c.tc : Thread Cert.ReferenceDiffIdeal.nD Cert.ReferenceDiffIdeal.τ).loc Cert.ReferenceDiffIdeal.main_arg2)) (m ((c.tc : Thread Cert.ReferenceDiffIdeal.nD Cert.ReferenceDiffIdeal.τ).loc Cert.ReferenceDiffIdeal.main_arg3)) (m ((c.tc : Thread Cert.ReferenceDiffIdeal.nD Cert.ReferenceDiffIdeal.τ).loc Cert.ReferenceDiffIdeal.main_arg4)) (m ((c.tc : Thread Cert.ReferenceDiffIdeal.nD Cert.ReferenceDiffIdeal.τ).loc Cert.ReferenceDiffIdeal.main_arg5)) (m ((c.tc : Thread Cert.ReferenceDiffIdeal.nD Cert.ReferenceDiffIdeal.τ).loc Cert.ReferenceDiffIdeal.main_arg6))) = (fun _ => 1#1)

def Pre_KernelQu (m : (ℓ : Loc Cert.KernelQu.nD Cert.KernelQu.τ Cert.KernelQu.sig) → Buf (Elt Bits) ℓ) : Prop :=
  True

def Pre_KernelQuIdeal (m : (ℓ : Loc Cert.KernelQuIdeal.nD Cert.KernelQuIdeal.τ Cert.KernelQuIdeal.sig) → Buf (Elt Ideal) ℓ) : Prop :=
  True

def Pre_ReferenceQuIdeal (m : (ℓ : Loc Cert.ReferenceQuIdeal.nD Cert.ReferenceQuIdeal.τ Cert.ReferenceQuIdeal.sig) → Buf (Elt Ideal) ℓ) : Prop :=
  True

def Pre_KernelKv (m : (ℓ : Loc Cert.KernelKv.nD Cert.KernelKv.τ Cert.KernelKv.sig) → Buf (Elt Bits) ℓ) : Prop :=
  True

def Pre_KernelKvIdeal (m : (ℓ : Loc Cert.KernelKvIdeal.nD Cert.KernelKvIdeal.τ Cert.KernelKvIdeal.sig) → Buf (Elt Ideal) ℓ) : Prop :=
  True

def Pre_ReferenceKvIdeal (m : (ℓ : Loc Cert.ReferenceKvIdeal.nD Cert.ReferenceKvIdeal.τ Cert.ReferenceKvIdeal.sig) → Buf (Elt Ideal) ℓ) : Prop :=
  True

def Pre_KernelKr (m : (ℓ : Loc Cert.KernelKr.nD Cert.KernelKr.τ Cert.KernelKr.sig) → Buf (Elt Bits) ℓ) : Prop :=
  True

def Pre_KernelKrIdeal (m : (ℓ : Loc Cert.KernelKrIdeal.nD Cert.KernelKrIdeal.τ Cert.KernelKrIdeal.sig) → Buf (Elt Ideal) ℓ) : Prop :=
  True

def Pre_ReferenceKrIdeal (m : (ℓ : Loc Cert.ReferenceKrIdeal.nD Cert.ReferenceKrIdeal.τ Cert.ReferenceKrIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_q_k [hKernelIdeal : Cert.KernelIdeal.Facts] [hPre_finite_q_k : Cert.Pre_finite_q_k.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_q_k m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_q_k [hReferenceIdeal : Cert.ReferenceIdeal.Facts] [hPre_finite_q_k : Cert.Pre_finite_q_k.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_q_k m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_KernelUp [hKernelUp : Cert.KernelUp.Facts] : Prop :=
  ∀ (m : (ℓ : Loc Cert.KernelUp.nD Cert.KernelUp.τ Cert.KernelUp.sig) → Buf (Elt Bits) ℓ) (g : Dev Cert.KernelUp.nD → PrngReg), Pre_KernelUp m →
    θ_run (Cert.KernelUp.defs (F := Bits)) (onTc (τ := Cert.KernelUp.τ) (Cert.KernelUp.main (F := Bits))) ⟨m, fun _ => 0, g⟩ (fun r => (∀ c : Dev Cert.KernelUp.nD,
      r.2.mem ((c.tc : Thread Cert.KernelUp.nD Cert.KernelUp.τ).loc Cert.KernelUp.main_arg0) = m ((c.tc : Thread Cert.KernelUp.nD Cert.KernelUp.τ).loc Cert.KernelUp.main_arg0)
      ∧ r.2.mem ((c.tc : Thread Cert.KernelUp.nD Cert.KernelUp.τ).loc Cert.KernelUp.main_arg1) = m ((c.tc : Thread Cert.KernelUp.nD Cert.KernelUp.τ).loc Cert.KernelUp.main_arg1)
      ∧ r.2.mem ((c.tc : Thread Cert.KernelUp.nD Cert.KernelUp.τ).loc Cert.KernelUp.main_arg2) = m ((c.tc : Thread Cert.KernelUp.nD Cert.KernelUp.τ).loc Cert.KernelUp.main_arg2))
      ∧ r.2.sem = fun _ => 0)

def quiescent_KernelUpIdeal [hKernelUpIdeal : Cert.KernelUpIdeal.Facts] : Prop :=
  ∀ (m : (ℓ : Loc Cert.KernelUpIdeal.nD Cert.KernelUpIdeal.τ Cert.KernelUpIdeal.sig) → Buf (Elt Ideal) ℓ) (g : Dev Cert.KernelUpIdeal.nD → PrngReg), Pre_KernelUpIdeal m →
    θ_run (Cert.KernelUpIdeal.defs (F := Ideal)) (onTc (τ := Cert.KernelUpIdeal.τ) (Cert.KernelUpIdeal.main (F := Ideal))) ⟨m, fun _ => 0, g⟩ (fun r => (∀ c : Dev Cert.KernelUpIdeal.nD,
      r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
      ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1)
      ∧ r.2.mem ((c.tc : Thread Cert.KernelUpIdeal.nD Cert.KernelUpIdeal.τ).loc Cert.KernelUpIdeal.main_arg2) = m ((c.tc : Thread Cert.KernelUpIdeal.nD Cert.KernelUpIdeal.τ).loc Cert.KernelUpIdeal.main_arg2))
      ∧ r.2.sem = fun _ => 0)

def quiescent_ReferenceUpIdeal [hReferenceUpIdeal : Cert.ReferenceUpIdeal.Facts] : Prop :=
  ∀ (m : (ℓ : Loc Cert.ReferenceUpIdeal.nD Cert.ReferenceUpIdeal.τ Cert.ReferenceUpIdeal.sig) → Buf (Elt Ideal) ℓ) (g : Dev Cert.ReferenceUpIdeal.nD → PrngReg), Pre_ReferenceUpIdeal m →
    θ_run (Cert.ReferenceUpIdeal.defs (F := Ideal)) (onTc (τ := Cert.ReferenceUpIdeal.τ) (Cert.ReferenceUpIdeal.main (F := Ideal))) ⟨m, fun _ => 0, g⟩ (fun r => (∀ c : Dev Cert.ReferenceUpIdeal.nD,
      r.2.mem ((c.tc : Thread Cert.ReferenceUpIdeal.nD Cert.ReferenceUpIdeal.τ).loc Cert.ReferenceUpIdeal.main_arg0) = m ((c.tc : Thread Cert.ReferenceUpIdeal.nD Cert.ReferenceUpIdeal.τ).loc Cert.ReferenceUpIdeal.main_arg0)
      ∧ r.2.mem ((c.tc : Thread Cert.ReferenceUpIdeal.nD Cert.ReferenceUpIdeal.τ).loc Cert.ReferenceUpIdeal.main_arg1) = m ((c.tc : Thread Cert.ReferenceUpIdeal.nD Cert.ReferenceUpIdeal.τ).loc Cert.ReferenceUpIdeal.main_arg1)
      ∧ r.2.mem ((c.tc : Thread Cert.ReferenceUpIdeal.nD Cert.ReferenceUpIdeal.τ).loc Cert.ReferenceUpIdeal.main_arg2) = m ((c.tc : Thread Cert.ReferenceUpIdeal.nD Cert.ReferenceUpIdeal.τ).loc Cert.ReferenceUpIdeal.main_arg2))
      ∧ r.2.sem = fun _ => 0)

def quiescent_KernelDown [hKernelDown : Cert.KernelDown.Facts] : Prop :=
  ∀ (m : (ℓ : Loc Cert.KernelDown.nD Cert.KernelDown.τ Cert.KernelDown.sig) → Buf (Elt Bits) ℓ) (g : Dev Cert.KernelDown.nD → PrngReg), Pre_KernelDown m →
    θ_run (Cert.KernelDown.defs (F := Bits)) (onTc (τ := Cert.KernelDown.τ) (Cert.KernelDown.main (F := Bits))) ⟨m, fun _ => 0, g⟩ (fun r => (∀ c : Dev Cert.KernelDown.nD,
      r.2.mem ((c.tc : Thread Cert.KernelDown.nD Cert.KernelDown.τ).loc Cert.KernelDown.main_arg0) = m ((c.tc : Thread Cert.KernelDown.nD Cert.KernelDown.τ).loc Cert.KernelDown.main_arg0)
      ∧ r.2.mem ((c.tc : Thread Cert.KernelDown.nD Cert.KernelDown.τ).loc Cert.KernelDown.main_arg1) = m ((c.tc : Thread Cert.KernelDown.nD Cert.KernelDown.τ).loc Cert.KernelDown.main_arg1)
      ∧ r.2.mem ((c.tc : Thread Cert.KernelDown.nD Cert.KernelDown.τ).loc Cert.KernelDown.main_arg2) = m ((c.tc : Thread Cert.KernelDown.nD Cert.KernelDown.τ).loc Cert.KernelDown.main_arg2))
      ∧ r.2.sem = fun _ => 0)

def quiescent_KernelDownIdeal [hKernelDownIdeal : Cert.KernelDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg), Pre_KernelDownIdeal m →
    θ_run (Cert.KernelDownIdeal.defs (F := Ideal)) (onTc (τ := Cert.KernelDownIdeal.τ) (Cert.KernelDownIdeal.main (F := Ideal))) ⟨m, fun _ => 0, g⟩ (fun r => (∀ c : Dev Cert.KernelDownIdeal.nD,
      r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
      ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1)
      ∧ r.2.mem ((c.tc : Thread Cert.KernelDownIdeal.nD Cert.KernelDownIdeal.τ).loc Cert.KernelDownIdeal.main_arg2) = m ((c.tc : Thread Cert.KernelDownIdeal.nD Cert.KernelDownIdeal.τ).loc Cert.KernelDownIdeal.main_arg2))
      ∧ r.2.sem = fun _ => 0)

def quiescent_ReferenceDownIdeal [hReferenceDownIdeal : Cert.ReferenceDownIdeal.Facts] : Prop :=
  ∀ (m : (ℓ : Loc Cert.ReferenceDownIdeal.nD Cert.ReferenceDownIdeal.τ Cert.ReferenceDownIdeal.sig) → Buf (Elt Ideal) ℓ) (g : Dev Cert.ReferenceDownIdeal.nD → PrngReg), Pre_ReferenceDownIdeal m →
    θ_run (Cert.ReferenceDownIdeal.defs (F := Ideal)) (onTc (τ := Cert.ReferenceDownIdeal.τ) (Cert.ReferenceDownIdeal.main (F := Ideal))) ⟨m, fun _ => 0, g⟩ (fun r => (∀ c : Dev Cert.ReferenceDownIdeal.nD,
      r.2.mem ((c.tc : Thread Cert.ReferenceDownIdeal.nD Cert.ReferenceDownIdeal.τ).loc Cert.ReferenceDownIdeal.main_arg0) = m ((c.tc : Thread Cert.ReferenceDownIdeal.nD Cert.ReferenceDownIdeal.τ).loc Cert.ReferenceDownIdeal.main_arg0)
      ∧ r.2.mem ((c.tc : Thread Cert.ReferenceDownIdeal.nD Cert.ReferenceDownIdeal.τ).loc Cert.ReferenceDownIdeal.main_arg1) = m ((c.tc : Thread Cert.ReferenceDownIdeal.nD Cert.ReferenceDownIdeal.τ).loc Cert.ReferenceDownIdeal.main_arg1)
      ∧ r.2.mem ((c.tc : Thread Cert.ReferenceDownIdeal.nD Cert.ReferenceDownIdeal.τ).loc Cert.ReferenceDownIdeal.main_arg2) = m ((c.tc : Thread Cert.ReferenceDownIdeal.nD Cert.ReferenceDownIdeal.τ).loc Cert.ReferenceDownIdeal.main_arg2))
      ∧ r.2.sem = fun _ => 0)

def quiescent_KernelIn [hKernelIn : Cert.KernelIn.Facts] : Prop :=
  ∀ (m : (ℓ : Loc Cert.KernelIn.nD Cert.KernelIn.τ Cert.KernelIn.sig) → Buf (Elt Bits) ℓ) (g : Dev Cert.KernelIn.nD → PrngReg), Pre_KernelIn m →
    θ_run (Cert.KernelIn.defs (F := Bits)) (onTc (τ := Cert.KernelIn.τ) (Cert.KernelIn.main (F := Bits))) ⟨m, fun _ => 0, g⟩ (fun r => (∀ c : Dev Cert.KernelIn.nD,
      r.2.mem ((c.tc : Thread Cert.KernelIn.nD Cert.KernelIn.τ).loc Cert.KernelIn.main_arg0) = m ((c.tc : Thread Cert.KernelIn.nD Cert.KernelIn.τ).loc Cert.KernelIn.main_arg0)
      ∧ r.2.mem ((c.tc : Thread Cert.KernelIn.nD Cert.KernelIn.τ).loc Cert.KernelIn.main_arg1) = m ((c.tc : Thread Cert.KernelIn.nD Cert.KernelIn.τ).loc Cert.KernelIn.main_arg1))
      ∧ r.2.sem = fun _ => 0)

def quiescent_KernelInIdeal [hKernelInIdeal : Cert.KernelInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg), Pre_KernelInIdeal m →
    θ_run (Cert.KernelInIdeal.defs (F := Ideal)) (onTc (τ := Cert.KernelInIdeal.τ) (Cert.KernelInIdeal.main (F := Ideal))) ⟨m, fun _ => 0, g⟩ (fun r => (∀ c : Dev Cert.KernelInIdeal.nD,
      r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
      ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1))
      ∧ r.2.sem = fun _ => 0)

def quiescent_ReferenceInIdeal [hReferenceInIdeal : Cert.ReferenceInIdeal.Facts] : Prop :=
  ∀ (m : (ℓ : Loc Cert.ReferenceInIdeal.nD Cert.ReferenceInIdeal.τ Cert.ReferenceInIdeal.sig) → Buf (Elt Ideal) ℓ) (g : Dev Cert.ReferenceInIdeal.nD → PrngReg), Pre_ReferenceInIdeal m →
    θ_run (Cert.ReferenceInIdeal.defs (F := Ideal)) (onTc (τ := Cert.ReferenceInIdeal.τ) (Cert.ReferenceInIdeal.main (F := Ideal))) ⟨m, fun _ => 0, g⟩ (fun r => (∀ c : Dev Cert.ReferenceInIdeal.nD,
      r.2.mem ((c.tc : Thread Cert.ReferenceInIdeal.nD Cert.ReferenceInIdeal.τ).loc Cert.ReferenceInIdeal.main_arg0) = m ((c.tc : Thread Cert.ReferenceInIdeal.nD Cert.ReferenceInIdeal.τ).loc Cert.ReferenceInIdeal.main_arg0)
      ∧ r.2.mem ((c.tc : Thread Cert.ReferenceInIdeal.nD Cert.ReferenceInIdeal.τ).loc Cert.ReferenceInIdeal.main_arg1) = m ((c.tc : Thread Cert.ReferenceInIdeal.nD Cert.ReferenceInIdeal.τ).loc Cert.ReferenceInIdeal.main_arg1))
      ∧ r.2.sem = fun _ => 0)

def quiescent_KernelOut [hKernelOut : Cert.KernelOut.Facts] : Prop :=
  ∀ (m : (ℓ : Loc Cert.KernelOut.nD Cert.KernelOut.τ Cert.KernelOut.sig) → Buf (Elt Bits) ℓ) (g : Dev Cert.KernelOut.nD → PrngReg), Pre_KernelOut m →
    θ_run (Cert.KernelOut.defs (F := Bits)) (onTc (τ := Cert.KernelOut.τ) (Cert.KernelOut.main (F := Bits))) ⟨m, fun _ => 0, g⟩ (fun r => (∀ c : Dev Cert.KernelOut.nD,
      r.2.mem ((c.tc : Thread Cert.KernelOut.nD Cert.KernelOut.τ).loc Cert.KernelOut.main_arg0) = m ((c.tc : Thread Cert.KernelOut.nD Cert.KernelOut.τ).loc Cert.KernelOut.main_arg0)
      ∧ r.2.mem ((c.tc : Thread Cert.KernelOut.nD Cert.KernelOut.τ).loc Cert.KernelOut.main_arg1) = m ((c.tc : Thread Cert.KernelOut.nD Cert.KernelOut.τ).loc Cert.KernelOut.main_arg1)
      ∧ r.2.mem ((c.tc : Thread Cert.KernelOut.nD Cert.KernelOut.τ).loc Cert.KernelOut.main_arg2) = m ((c.tc : Thread Cert.KernelOut.nD Cert.KernelOut.τ).loc Cert.KernelOut.main_arg2)
      ∧ r.2.mem ((c.tc : Thread Cert.KernelOut.nD Cert.KernelOut.τ).loc Cert.KernelOut.main_arg3) = m ((c.tc : Thread Cert.KernelOut.nD Cert.KernelOut.τ).loc Cert.KernelOut.main_arg3)
      ∧ r.2.mem ((c.tc : Thread Cert.KernelOut.nD Cert.KernelOut.τ).loc Cert.KernelOut.main_arg4) = m ((c.tc : Thread Cert.KernelOut.nD Cert.KernelOut.τ).loc Cert.KernelOut.main_arg4))
      ∧ r.2.sem = fun _ => 0)

def quiescent_KernelOutIdeal [hKernelOutIdeal : Cert.KernelOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg), Pre_KernelOutIdeal m →
    θ_run (Cert.KernelOutIdeal.defs (F := Ideal)) (onTc (τ := Cert.KernelOutIdeal.τ) (Cert.KernelOutIdeal.main (F := Ideal))) ⟨m, fun _ => 0, g⟩ (fun r => (∀ c : Dev Cert.KernelOutIdeal.nD,
      r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
      ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
      ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2)
      ∧ r.2.mem ((c.tc : Thread Cert.KernelOutIdeal.nD Cert.KernelOutIdeal.τ).loc Cert.KernelOutIdeal.main_arg3) = m ((c.tc : Thread Cert.KernelOutIdeal.nD Cert.KernelOutIdeal.τ).loc Cert.KernelOutIdeal.main_arg3)
      ∧ r.2.mem ((c.tc : Thread Cert.KernelOutIdeal.nD Cert.KernelOutIdeal.τ).loc Cert.KernelOutIdeal.main_arg4) = m ((c.tc : Thread Cert.KernelOutIdeal.nD Cert.KernelOutIdeal.τ).loc Cert.KernelOutIdeal.main_arg4))
      ∧ r.2.sem = fun _ => 0)

def quiescent_ReferenceOutIdeal [hReferenceOutIdeal : Cert.ReferenceOutIdeal.Facts] : Prop :=
  ∀ (m : (ℓ : Loc Cert.ReferenceOutIdeal.nD Cert.ReferenceOutIdeal.τ Cert.ReferenceOutIdeal.sig) → Buf (Elt Ideal) ℓ) (g : Dev Cert.ReferenceOutIdeal.nD → PrngReg), Pre_ReferenceOutIdeal m →
    θ_run (Cert.ReferenceOutIdeal.defs (F := Ideal)) (onTc (τ := Cert.ReferenceOutIdeal.τ) (Cert.ReferenceOutIdeal.main (F := Ideal))) ⟨m, fun _ => 0, g⟩ (fun r => (∀ c : Dev Cert.ReferenceOutIdeal.nD,
      r.2.mem ((c.tc : Thread Cert.ReferenceOutIdeal.nD Cert.ReferenceOutIdeal.τ).loc Cert.ReferenceOutIdeal.main_arg0) = m ((c.tc : Thread Cert.ReferenceOutIdeal.nD Cert.ReferenceOutIdeal.τ).loc Cert.ReferenceOutIdeal.main_arg0)
      ∧ r.2.mem ((c.tc : Thread Cert.ReferenceOutIdeal.nD Cert.ReferenceOutIdeal.τ).loc Cert.ReferenceOutIdeal.main_arg1) = m ((c.tc : Thread Cert.ReferenceOutIdeal.nD Cert.ReferenceOutIdeal.τ).loc Cert.ReferenceOutIdeal.main_arg1)
      ∧ r.2.mem ((c.tc : Thread Cert.ReferenceOutIdeal.nD Cert.ReferenceOutIdeal.τ).loc Cert.ReferenceOutIdeal.main_arg2) = m ((c.tc : Thread Cert.ReferenceOutIdeal.nD Cert.ReferenceOutIdeal.τ).loc Cert.ReferenceOutIdeal.main_arg2)
      ∧ r.2.mem ((c.tc : Thread Cert.ReferenceOutIdeal.nD Cert.ReferenceOutIdeal.τ).loc Cert.ReferenceOutIdeal.main_arg3) = m ((c.tc : Thread Cert.ReferenceOutIdeal.nD Cert.ReferenceOutIdeal.τ).loc Cert.ReferenceOutIdeal.main_arg3)
      ∧ r.2.mem ((c.tc : Thread Cert.ReferenceOutIdeal.nD Cert.ReferenceOutIdeal.τ).loc Cert.ReferenceOutIdeal.main_arg4) = m ((c.tc : Thread Cert.ReferenceOutIdeal.nD Cert.ReferenceOutIdeal.τ).loc Cert.ReferenceOutIdeal.main_arg4))
      ∧ r.2.sem = fun _ => 0)

def quiescent_KernelNorm [hKernelNorm : Cert.KernelNorm.Facts] : Prop :=
  ∀ (m : (ℓ : Loc Cert.KernelNorm.nD Cert.KernelNorm.τ Cert.KernelNorm.sig) → Buf (Elt Bits) ℓ) (g : Dev Cert.KernelNorm.nD → PrngReg), Pre_KernelNorm m →
    θ_run (Cert.KernelNorm.defs (F := Bits)) (onTc (τ := Cert.KernelNorm.τ) (Cert.KernelNorm.main (F := Bits))) ⟨m, fun _ => 0, g⟩ (fun r => (∀ c : Dev Cert.KernelNorm.nD,
      r.2.mem ((c.tc : Thread Cert.KernelNorm.nD Cert.KernelNorm.τ).loc Cert.KernelNorm.main_arg0) = m ((c.tc : Thread Cert.KernelNorm.nD Cert.KernelNorm.τ).loc Cert.KernelNorm.main_arg0)
      ∧ r.2.mem ((c.tc : Thread Cert.KernelNorm.nD Cert.KernelNorm.τ).loc Cert.KernelNorm.main_arg1) = m ((c.tc : Thread Cert.KernelNorm.nD Cert.KernelNorm.τ).loc Cert.KernelNorm.main_arg1))
      ∧ r.2.sem = fun _ => 0)

def quiescent_KernelNormIdeal [hKernelNormIdeal : Cert.KernelNormIdeal.Facts] : Prop :=
  ∀ (m : (ℓ : Loc Cert.KernelNormIdeal.nD Cert.KernelNormIdeal.τ Cert.KernelNormIdeal.sig) → Buf (Elt Ideal) ℓ) (g : Dev Cert.KernelNormIdeal.nD → PrngReg), Pre_KernelNormIdeal m →
    θ_run (Cert.KernelNormIdeal.defs (F := Ideal)) (onTc (τ := Cert.KernelNormIdeal.τ) (Cert.KernelNormIdeal.main (F := Ideal))) ⟨m, fun _ => 0, g⟩ (fun r => (∀ c : Dev Cert.KernelNormIdeal.nD,
      r.2.mem ((c.tc : Thread Cert.KernelNormIdeal.nD Cert.KernelNormIdeal.τ).loc Cert.KernelNormIdeal.main_arg0) = m ((c.tc : Thread Cert.KernelNormIdeal.nD Cert.KernelNormIdeal.τ).loc Cert.KernelNormIdeal.main_arg0)
      ∧ r.2.mem ((c.tc : Thread Cert.KernelNormIdeal.nD Cert.KernelNormIdeal.τ).loc Cert.KernelNormIdeal.main_arg1) = m ((c.tc : Thread Cert.KernelNormIdeal.nD Cert.KernelNormIdeal.τ).loc Cert.KernelNormIdeal.main_arg1))
      ∧ r.2.sem = fun _ => 0)

def quiescent_ReferenceNormIdeal [hReferenceNormIdeal : Cert.ReferenceNormIdeal.Facts] : Prop :=
  ∀ (m : (ℓ : Loc Cert.ReferenceNormIdeal.nD Cert.ReferenceNormIdeal.τ Cert.ReferenceNormIdeal.sig) → Buf (Elt Ideal) ℓ) (g : Dev Cert.ReferenceNormIdeal.nD → PrngReg), Pre_ReferenceNormIdeal m →
    θ_run (Cert.ReferenceNormIdeal.defs (F := Ideal)) (onTc (τ := Cert.ReferenceNormIdeal.τ) (Cert.ReferenceNormIdeal.main (F := Ideal))) ⟨m, fun _ => 0, g⟩ (fun r => (∀ c : Dev Cert.ReferenceNormIdeal.nD,
      r.2.mem ((c.tc : Thread Cert.ReferenceNormIdeal.nD Cert.ReferenceNormIdeal.τ).loc Cert.ReferenceNormIdeal.main_arg0) = m ((c.tc : Thread Cert.ReferenceNormIdeal.nD Cert.ReferenceNormIdeal.τ).loc Cert.ReferenceNormIdeal.main_arg0)
      ∧ r.2.mem ((c.tc : Thread Cert.ReferenceNormIdeal.nD Cert.ReferenceNormIdeal.τ).loc Cert.ReferenceNormIdeal.main_arg1) = m ((c.tc : Thread Cert.ReferenceNormIdeal.nD Cert.ReferenceNormIdeal.τ).loc Cert.ReferenceNormIdeal.main_arg1))
      ∧ r.2.sem = fun _ => 0)

def quiescent_KernelLat [hKernelLat : Cert.KernelLat.Facts] : Prop :=
  ∀ (m : (ℓ : Loc Cert.KernelLat.nD Cert.KernelLat.τ Cert.KernelLat.sig) → Buf (Elt Bits) ℓ) (g : Dev Cert.KernelLat.nD → PrngReg), Pre_KernelLat m →
    θ_run (Cert.KernelLat.defs (F := Bits)) (onTc (τ := Cert.KernelLat.τ) (Cert.KernelLat.main (F := Bits))) ⟨m, fun _ => 0, g⟩ (fun r => (∀ c : Dev Cert.KernelLat.nD,
      r.2.mem ((c.tc : Thread Cert.KernelLat.nD Cert.KernelLat.τ).loc Cert.KernelLat.main_arg0) = m ((c.tc : Thread Cert.KernelLat.nD Cert.KernelLat.τ).loc Cert.KernelLat.main_arg0)
      ∧ r.2.mem ((c.tc : Thread Cert.KernelLat.nD Cert.KernelLat.τ).loc Cert.KernelLat.main_arg1) = m ((c.tc : Thread Cert.KernelLat.nD Cert.KernelLat.τ).loc Cert.KernelLat.main_arg1)
      ∧ r.2.mem ((c.tc : Thread Cert.KernelLat.nD Cert.KernelLat.τ).loc Cert.KernelLat.main_arg2) = m ((c.tc : Thread Cert.KernelLat.nD Cert.KernelLat.τ).loc Cert.KernelLat.main_arg2)
      ∧ r.2.mem ((c.tc : Thread Cert.KernelLat.nD Cert.KernelLat.τ).loc Cert.KernelLat.main_arg3) = m ((c.tc : Thread Cert.KernelLat.nD Cert.KernelLat.τ).loc Cert.KernelLat.main_arg3)
      ∧ r.2.mem ((c.tc : Thread Cert.KernelLat.nD Cert.KernelLat.τ).loc Cert.KernelLat.main_arg4) = m ((c.tc : Thread Cert.KernelLat.nD Cert.KernelLat.τ).loc Cert.KernelLat.main_arg4))
      ∧ r.2.sem = fun _ => 0)

def quiescent_KernelLatIdeal [hKernelLatIdeal : Cert.KernelLatIdeal.Facts] : Prop :=
  ∀ (m : (ℓ : Loc Cert.KernelLatIdeal.nD Cert.KernelLatIdeal.τ Cert.KernelLatIdeal.sig) → Buf (Elt Ideal) ℓ) (g : Dev Cert.KernelLatIdeal.nD → PrngReg), Pre_KernelLatIdeal m →
    θ_run (Cert.KernelLatIdeal.defs (F := Ideal)) (onTc (τ := Cert.KernelLatIdeal.τ) (Cert.KernelLatIdeal.main (F := Ideal))) ⟨m, fun _ => 0, g⟩ (fun r => (∀ c : Dev Cert.KernelLatIdeal.nD,
      r.2.mem ((c.tc : Thread Cert.KernelLatIdeal.nD Cert.KernelLatIdeal.τ).loc Cert.KernelLatIdeal.main_arg0) = m ((c.tc : Thread Cert.KernelLatIdeal.nD Cert.KernelLatIdeal.τ).loc Cert.KernelLatIdeal.main_arg0)
      ∧ r.2.mem ((c.tc : Thread Cert.KernelLatIdeal.nD Cert.KernelLatIdeal.τ).loc Cert.KernelLatIdeal.main_arg1) = m ((c.tc : Thread Cert.KernelLatIdeal.nD Cert.KernelLatIdeal.τ).loc Cert.KernelLatIdeal.main_arg1)
      ∧ r.2.mem ((c.tc : Thread Cert.KernelLatIdeal.nD Cert.KernelLatIdeal.τ).loc Cert.KernelLatIdeal.main_arg2) = m ((c.tc : Thread Cert.KernelLatIdeal.nD Cert.KernelLatIdeal.τ).loc Cert.KernelLatIdeal.main_arg2)
      ∧ r.2.mem ((c.tc : Thread Cert.KernelLatIdeal.nD Cert.KernelLatIdeal.τ).loc Cert.KernelLatIdeal.main_arg3) = m ((c.tc : Thread Cert.KernelLatIdeal.nD Cert.KernelLatIdeal.τ).loc Cert.KernelLatIdeal.main_arg3)
      ∧ r.2.mem ((c.tc : Thread Cert.KernelLatIdeal.nD Cert.KernelLatIdeal.τ).loc Cert.KernelLatIdeal.main_arg4) = m ((c.tc : Thread Cert.KernelLatIdeal.nD Cert.KernelLatIdeal.τ).loc Cert.KernelLatIdeal.main_arg4))
      ∧ r.2.sem = fun _ => 0)

def quiescent_KernelLatIdeal_pre_finite_q_k_c [hKernelLatIdeal : Cert.KernelLatIdeal.Facts] [hPre_finite_q_k_c : Cert.Pre_finite_q_k_c.Facts] : Prop :=
  ∀ (m : (ℓ : Loc Cert.KernelLatIdeal.nD Cert.KernelLatIdeal.τ Cert.KernelLatIdeal.sig) → Buf (Elt Ideal) ℓ) (g : Dev Cert.KernelLatIdeal.nD → PrngReg), Pre_KernelLatIdeal_finite_q_k_c m →
    θ_run (Cert.KernelLatIdeal.defs (F := Ideal)) (onTc (τ := Cert.KernelLatIdeal.τ) (Cert.KernelLatIdeal.main (F := Ideal))) ⟨m, fun _ => 0, g⟩ (fun r => (∀ c : Dev Cert.KernelLatIdeal.nD,
      r.2.mem ((c.tc : Thread Cert.KernelLatIdeal.nD Cert.KernelLatIdeal.τ).loc Cert.KernelLatIdeal.main_arg0) = m ((c.tc : Thread Cert.KernelLatIdeal.nD Cert.KernelLatIdeal.τ).loc Cert.KernelLatIdeal.main_arg0)
      ∧ r.2.mem ((c.tc : Thread Cert.KernelLatIdeal.nD Cert.KernelLatIdeal.τ).loc Cert.KernelLatIdeal.main_arg1) = m ((c.tc : Thread Cert.KernelLatIdeal.nD Cert.KernelLatIdeal.τ).loc Cert.KernelLatIdeal.main_arg1)
      ∧ r.2.mem ((c.tc : Thread Cert.KernelLatIdeal.nD Cert.KernelLatIdeal.τ).loc Cert.KernelLatIdeal.main_arg2) = m ((c.tc : Thread Cert.KernelLatIdeal.nD Cert.KernelLatIdeal.τ).loc Cert.KernelLatIdeal.main_arg2)
      ∧ r.2.mem ((c.tc : Thread Cert.KernelLatIdeal.nD Cert.KernelLatIdeal.τ).loc Cert.KernelLatIdeal.main_arg3) = m ((c.tc : Thread Cert.KernelLatIdeal.nD Cert.KernelLatIdeal.τ).loc Cert.KernelLatIdeal.main_arg3)
      ∧ r.2.mem ((c.tc : Thread Cert.KernelLatIdeal.nD Cert.KernelLatIdeal.τ).loc Cert.KernelLatIdeal.main_arg4) = m ((c.tc : Thread Cert.KernelLatIdeal.nD Cert.KernelLatIdeal.τ).loc Cert.KernelLatIdeal.main_arg4))
      ∧ r.2.sem = fun _ => 0)

def quiescent_ReferenceLatIdeal [hReferenceLatIdeal : Cert.ReferenceLatIdeal.Facts] : Prop :=
  ∀ (m : (ℓ : Loc Cert.ReferenceLatIdeal.nD Cert.ReferenceLatIdeal.τ Cert.ReferenceLatIdeal.sig) → Buf (Elt Ideal) ℓ) (g : Dev Cert.ReferenceLatIdeal.nD → PrngReg), Pre_ReferenceLatIdeal m →
    θ_run (Cert.ReferenceLatIdeal.defs (F := Ideal)) (onTc (τ := Cert.ReferenceLatIdeal.τ) (Cert.ReferenceLatIdeal.main (F := Ideal))) ⟨m, fun _ => 0, g⟩ (fun r => (∀ c : Dev Cert.ReferenceLatIdeal.nD,
      r.2.mem ((c.tc : Thread Cert.ReferenceLatIdeal.nD Cert.ReferenceLatIdeal.τ).loc Cert.ReferenceLatIdeal.main_arg0) = m ((c.tc : Thread Cert.ReferenceLatIdeal.nD Cert.ReferenceLatIdeal.τ).loc Cert.ReferenceLatIdeal.main_arg0)
      ∧ r.2.mem ((c.tc : Thread Cert.ReferenceLatIdeal.nD Cert.ReferenceLatIdeal.τ).loc Cert.ReferenceLatIdeal.main_arg1) = m ((c.tc : Thread Cert.ReferenceLatIdeal.nD Cert.ReferenceLatIdeal.τ).loc Cert.ReferenceLatIdeal.main_arg1)
      ∧ r.2.mem ((c.tc : Thread Cert.ReferenceLatIdeal.nD Cert.ReferenceLatIdeal.τ).loc Cert.ReferenceLatIdeal.main_arg2) = m ((c.tc : Thread Cert.ReferenceLatIdeal.nD Cert.ReferenceLatIdeal.τ).loc Cert.ReferenceLatIdeal.main_arg2)
      ∧ r.2.mem ((c.tc : Thread Cert.ReferenceLatIdeal.nD Cert.ReferenceLatIdeal.τ).loc Cert.ReferenceLatIdeal.main_arg3) = m ((c.tc : Thread Cert.ReferenceLatIdeal.nD Cert.ReferenceLatIdeal.τ).loc Cert.ReferenceLatIdeal.main_arg3)
      ∧ r.2.mem ((c.tc : Thread Cert.ReferenceLatIdeal.nD Cert.ReferenceLatIdeal.τ).loc Cert.ReferenceLatIdeal.main_arg4) = m ((c.tc : Thread Cert.ReferenceLatIdeal.nD Cert.ReferenceLatIdeal.τ).loc Cert.ReferenceLatIdeal.main_arg4))
      ∧ r.2.sem = fun _ => 0)

def quiescent_ReferenceLatIdeal_pre_finite_q_k_c [hReferenceLatIdeal : Cert.ReferenceLatIdeal.Facts] [hPre_finite_q_k_c : Cert.Pre_finite_q_k_c.Facts] : Prop :=
  ∀ (m : (ℓ : Loc Cert.ReferenceLatIdeal.nD Cert.ReferenceLatIdeal.τ Cert.ReferenceLatIdeal.sig) → Buf (Elt Ideal) ℓ) (g : Dev Cert.ReferenceLatIdeal.nD → PrngReg), Pre_ReferenceLatIdeal_finite_q_k_c m →
    θ_run (Cert.ReferenceLatIdeal.defs (F := Ideal)) (onTc (τ := Cert.ReferenceLatIdeal.τ) (Cert.ReferenceLatIdeal.main (F := Ideal))) ⟨m, fun _ => 0, g⟩ (fun r => (∀ c : Dev Cert.ReferenceLatIdeal.nD,
      r.2.mem ((c.tc : Thread Cert.ReferenceLatIdeal.nD Cert.ReferenceLatIdeal.τ).loc Cert.ReferenceLatIdeal.main_arg0) = m ((c.tc : Thread Cert.ReferenceLatIdeal.nD Cert.ReferenceLatIdeal.τ).loc Cert.ReferenceLatIdeal.main_arg0)
      ∧ r.2.mem ((c.tc : Thread Cert.ReferenceLatIdeal.nD Cert.ReferenceLatIdeal.τ).loc Cert.ReferenceLatIdeal.main_arg1) = m ((c.tc : Thread Cert.ReferenceLatIdeal.nD Cert.ReferenceLatIdeal.τ).loc Cert.ReferenceLatIdeal.main_arg1)
      ∧ r.2.mem ((c.tc : Thread Cert.ReferenceLatIdeal.nD Cert.ReferenceLatIdeal.τ).loc Cert.ReferenceLatIdeal.main_arg2) = m ((c.tc : Thread Cert.ReferenceLatIdeal.nD Cert.ReferenceLatIdeal.τ).loc Cert.ReferenceLatIdeal.main_arg2)
      ∧ r.2.mem ((c.tc : Thread Cert.ReferenceLatIdeal.nD Cert.ReferenceLatIdeal.τ).loc Cert.ReferenceLatIdeal.main_arg3) = m ((c.tc : Thread Cert.ReferenceLatIdeal.nD Cert.ReferenceLatIdeal.τ).loc Cert.ReferenceLatIdeal.main_arg3)
      ∧ r.2.mem ((c.tc : Thread Cert.ReferenceLatIdeal.nD Cert.ReferenceLatIdeal.τ).loc Cert.ReferenceLatIdeal.main_arg4) = m ((c.tc : Thread Cert.ReferenceLatIdeal.nD Cert.ReferenceLatIdeal.τ).loc Cert.ReferenceLatIdeal.main_arg4))
      ∧ r.2.sem = fun _ => 0)

def quiescent_KernelDiff [hKernelDiff : Cert.KernelDiff.Facts] : Prop :=
  ∀ (m : (ℓ : Loc Cert.KernelDiff.nD Cert.KernelDiff.τ Cert.KernelDiff.sig) → Buf (Elt Bits) ℓ) (g : Dev Cert.KernelDiff.nD → PrngReg), Pre_KernelDiff m →
    θ_run (Cert.KernelDiff.defs (F := Bits)) (onTc (τ := Cert.KernelDiff.τ) (Cert.KernelDiff.main (F := Bits))) ⟨m, fun _ => 0, g⟩ (fun r => (∀ c : Dev Cert.KernelDiff.nD,
      r.2.mem ((c.tc : Thread Cert.KernelDiff.nD Cert.KernelDiff.τ).loc Cert.KernelDiff.main_arg0) = m ((c.tc : Thread Cert.KernelDiff.nD Cert.KernelDiff.τ).loc Cert.KernelDiff.main_arg0)
      ∧ r.2.mem ((c.tc : Thread Cert.KernelDiff.nD Cert.KernelDiff.τ).loc Cert.KernelDiff.main_arg1) = m ((c.tc : Thread Cert.KernelDiff.nD Cert.KernelDiff.τ).loc Cert.KernelDiff.main_arg1)
      ∧ r.2.mem ((c.tc : Thread Cert.KernelDiff.nD Cert.KernelDiff.τ).loc Cert.KernelDiff.main_arg2) = m ((c.tc : Thread Cert.KernelDiff.nD Cert.KernelDiff.τ).loc Cert.KernelDiff.main_arg2)
      ∧ r.2.mem ((c.tc : Thread Cert.KernelDiff.nD Cert.KernelDiff.τ).loc Cert.KernelDiff.main_arg3) = m ((c.tc : Thread Cert.KernelDiff.nD Cert.KernelDiff.τ).loc Cert.KernelDiff.main_arg3)
      ∧ r.2.mem ((c.tc : Thread Cert.KernelDiff.nD Cert.KernelDiff.τ).loc Cert.KernelDiff.main_arg4) = m ((c.tc : Thread Cert.KernelDiff.nD Cert.KernelDiff.τ).loc Cert.KernelDiff.main_arg4)
      ∧ r.2.mem ((c.tc : Thread Cert.KernelDiff.nD Cert.KernelDiff.τ).loc Cert.KernelDiff.main_arg5) = m ((c.tc : Thread Cert.KernelDiff.nD Cert.KernelDiff.τ).loc Cert.KernelDiff.main_arg5)
      ∧ r.2.mem ((c.tc : Thread Cert.KernelDiff.nD Cert.KernelDiff.τ).loc Cert.KernelDiff.main_arg6) = m ((c.tc : Thread Cert.KernelDiff.nD Cert.KernelDiff.τ).loc Cert.KernelDiff.main_arg6))
      ∧ r.2.sem = fun _ => 0)

def quiescent_KernelDiffIdeal [hKernelDiffIdeal : Cert.KernelDiffIdeal.Facts] : Prop :=
  ∀ (m : (ℓ : Loc Cert.KernelDiffIdeal.nD Cert.KernelDiffIdeal.τ Cert.KernelDiffIdeal.sig) → Buf (Elt Ideal) ℓ) (g : Dev Cert.KernelDiffIdeal.nD → PrngReg), Pre_KernelDiffIdeal m →
    θ_run (Cert.KernelDiffIdeal.defs (F := Ideal)) (onTc (τ := Cert.KernelDiffIdeal.τ) (Cert.KernelDiffIdeal.main (F := Ideal))) ⟨m, fun _ => 0, g⟩ (fun r => (∀ c : Dev Cert.KernelDiffIdeal.nD,
      r.2.mem ((c.tc : Thread Cert.KernelDiffIdeal.nD Cert.KernelDiffIdeal.τ).loc Cert.KernelDiffIdeal.main_arg0) = m ((c.tc : Thread Cert.KernelDiffIdeal.nD Cert.KernelDiffIdeal.τ).loc Cert.KernelDiffIdeal.main_arg0)
      ∧ r.2.mem ((c.tc : Thread Cert.KernelDiffIdeal.nD Cert.KernelDiffIdeal.τ).loc Cert.KernelDiffIdeal.main_arg1) = m ((c.tc : Thread Cert.KernelDiffIdeal.nD Cert.KernelDiffIdeal.τ).loc Cert.KernelDiffIdeal.main_arg1)
      ∧ r.2.mem ((c.tc : Thread Cert.KernelDiffIdeal.nD Cert.KernelDiffIdeal.τ).loc Cert.KernelDiffIdeal.main_arg2) = m ((c.tc : Thread Cert.KernelDiffIdeal.nD Cert.KernelDiffIdeal.τ).loc Cert.KernelDiffIdeal.main_arg2)
      ∧ r.2.mem ((c.tc : Thread Cert.KernelDiffIdeal.nD Cert.KernelDiffIdeal.τ).loc Cert.KernelDiffIdeal.main_arg3) = m ((c.tc : Thread Cert.KernelDiffIdeal.nD Cert.KernelDiffIdeal.τ).loc Cert.KernelDiffIdeal.main_arg3)
      ∧ r.2.mem ((c.tc : Thread Cert.KernelDiffIdeal.nD Cert.KernelDiffIdeal.τ).loc Cert.KernelDiffIdeal.main_arg4) = m ((c.tc : Thread Cert.KernelDiffIdeal.nD Cert.KernelDiffIdeal.τ).loc Cert.KernelDiffIdeal.main_arg4)
      ∧ r.2.mem ((c.tc : Thread Cert.KernelDiffIdeal.nD Cert.KernelDiffIdeal.τ).loc Cert.KernelDiffIdeal.main_arg5) = m ((c.tc : Thread Cert.KernelDiffIdeal.nD Cert.KernelDiffIdeal.τ).loc Cert.KernelDiffIdeal.main_arg5)
      ∧ r.2.mem ((c.tc : Thread Cert.KernelDiffIdeal.nD Cert.KernelDiffIdeal.τ).loc Cert.KernelDiffIdeal.main_arg6) = m ((c.tc : Thread Cert.KernelDiffIdeal.nD Cert.KernelDiffIdeal.τ).loc Cert.KernelDiffIdeal.main_arg6))
      ∧ r.2.sem = fun _ => 0)

def quiescent_KernelDiffIdeal_pre_finite_q_k_v_lam [hKernelDiffIdeal : Cert.KernelDiffIdeal.Facts] [hPre_finite_q_k_v_lam : Cert.Pre_finite_q_k_v_lam.Facts] : Prop :=
  ∀ (m : (ℓ : Loc Cert.KernelDiffIdeal.nD Cert.KernelDiffIdeal.τ Cert.KernelDiffIdeal.sig) → Buf (Elt Ideal) ℓ) (g : Dev Cert.KernelDiffIdeal.nD → PrngReg), Pre_KernelDiffIdeal_finite_q_k_v_lam m →
    θ_run (Cert.KernelDiffIdeal.defs (F := Ideal)) (onTc (τ := Cert.KernelDiffIdeal.τ) (Cert.KernelDiffIdeal.main (F := Ideal))) ⟨m, fun _ => 0, g⟩ (fun r => (∀ c : Dev Cert.KernelDiffIdeal.nD,
      r.2.mem ((c.tc : Thread Cert.KernelDiffIdeal.nD Cert.KernelDiffIdeal.τ).loc Cert.KernelDiffIdeal.main_arg0) = m ((c.tc : Thread Cert.KernelDiffIdeal.nD Cert.KernelDiffIdeal.τ).loc Cert.KernelDiffIdeal.main_arg0)
      ∧ r.2.mem ((c.tc : Thread Cert.KernelDiffIdeal.nD Cert.KernelDiffIdeal.τ).loc Cert.KernelDiffIdeal.main_arg1) = m ((c.tc : Thread Cert.KernelDiffIdeal.nD Cert.KernelDiffIdeal.τ).loc Cert.KernelDiffIdeal.main_arg1)
      ∧ r.2.mem ((c.tc : Thread Cert.KernelDiffIdeal.nD Cert.KernelDiffIdeal.τ).loc Cert.KernelDiffIdeal.main_arg2) = m ((c.tc : Thread Cert.KernelDiffIdeal.nD Cert.KernelDiffIdeal.τ).loc Cert.KernelDiffIdeal.main_arg2)
      ∧ r.2.mem ((c.tc : Thread Cert.KernelDiffIdeal.nD Cert.KernelDiffIdeal.τ).loc Cert.KernelDiffIdeal.main_arg3) = m ((c.tc : Thread Cert.KernelDiffIdeal.nD Cert.KernelDiffIdeal.τ).loc Cert.KernelDiffIdeal.main_arg3)
      ∧ r.2.mem ((c.tc : Thread Cert.KernelDiffIdeal.nD Cert.KernelDiffIdeal.τ).loc Cert.KernelDiffIdeal.main_arg4) = m ((c.tc : Thread Cert.KernelDiffIdeal.nD Cert.KernelDiffIdeal.τ).loc Cert.KernelDiffIdeal.main_arg4)
      ∧ r.2.mem ((c.tc : Thread Cert.KernelDiffIdeal.nD Cert.KernelDiffIdeal.τ).loc Cert.KernelDiffIdeal.main_arg5) = m ((c.tc : Thread Cert.KernelDiffIdeal.nD Cert.KernelDiffIdeal.τ).loc Cert.KernelDiffIdeal.main_arg5)
      ∧ r.2.mem ((c.tc : Thread Cert.KernelDiffIdeal.nD Cert.KernelDiffIdeal.τ).loc Cert.KernelDiffIdeal.main_arg6) = m ((c.tc : Thread Cert.KernelDiffIdeal.nD Cert.KernelDiffIdeal.τ).loc Cert.KernelDiffIdeal.main_arg6))
      ∧ r.2.sem = fun _ => 0)

def quiescent_ReferenceDiffIdeal [hReferenceDiffIdeal : Cert.ReferenceDiffIdeal.Facts] : Prop :=
  ∀ (m : (ℓ : Loc Cert.ReferenceDiffIdeal.nD Cert.ReferenceDiffIdeal.τ Cert.ReferenceDiffIdeal.sig) → Buf (Elt Ideal) ℓ) (g : Dev Cert.ReferenceDiffIdeal.nD → PrngReg), Pre_ReferenceDiffIdeal m →
    θ_run (Cert.ReferenceDiffIdeal.defs (F := Ideal)) (onTc (τ := Cert.ReferenceDiffIdeal.τ) (Cert.ReferenceDiffIdeal.main (F := Ideal))) ⟨m, fun _ => 0, g⟩ (fun r => (∀ c : Dev Cert.ReferenceDiffIdeal.nD,
      r.2.mem ((c.tc : Thread Cert.ReferenceDiffIdeal.nD Cert.ReferenceDiffIdeal.τ).loc Cert.ReferenceDiffIdeal.main_arg0) = m ((c.tc : Thread Cert.ReferenceDiffIdeal.nD Cert.ReferenceDiffIdeal.τ).loc Cert.ReferenceDiffIdeal.main_arg0)
      ∧ r.2.mem ((c.tc : Thread Cert.ReferenceDiffIdeal.nD Cert.ReferenceDiffIdeal.τ).loc Cert.ReferenceDiffIdeal.main_arg1) = m ((c.tc : Thread Cert.ReferenceDiffIdeal.nD Cert.ReferenceDiffIdeal.τ).loc Cert.ReferenceDiffIdeal.main_arg1)
      ∧ r.2.mem ((c.tc : Thread Cert.ReferenceDiffIdeal.nD Cert.ReferenceDiffIdeal.τ).loc Cert.ReferenceDiffIdeal.main_arg2) = m ((c.tc : Thread Cert.ReferenceDiffIdeal.nD Cert.ReferenceDiffIdeal.τ).loc Cert.ReferenceDiffIdeal.main_arg2)
      ∧ r.2.mem ((c.tc : Thread Cert.ReferenceDiffIdeal.nD Cert.ReferenceDiffIdeal.τ).loc Cert.ReferenceDiffIdeal.main_arg3) = m ((c.tc : Thread Cert.ReferenceDiffIdeal.nD Cert.ReferenceDiffIdeal.τ).loc Cert.ReferenceDiffIdeal.main_arg3)
      ∧ r.2.mem ((c.tc : Thread Cert.ReferenceDiffIdeal.nD Cert.ReferenceDiffIdeal.τ).loc Cert.ReferenceDiffIdeal.main_arg4) = m ((c.tc : Thread Cert.ReferenceDiffIdeal.nD Cert.ReferenceDiffIdeal.τ).loc Cert.ReferenceDiffIdeal.main_arg4)
      ∧ r.2.mem ((c.tc : Thread Cert.ReferenceDiffIdeal.nD Cert.ReferenceDiffIdeal.τ).loc Cert.ReferenceDiffIdeal.main_arg5) = m ((c.tc : Thread Cert.ReferenceDiffIdeal.nD Cert.ReferenceDiffIdeal.τ).loc Cert.ReferenceDiffIdeal.main_arg5)
      ∧ r.2.mem ((c.tc : Thread Cert.ReferenceDiffIdeal.nD Cert.ReferenceDiffIdeal.τ).loc Cert.ReferenceDiffIdeal.main_arg6) = m ((c.tc : Thread Cert.ReferenceDiffIdeal.nD Cert.ReferenceDiffIdeal.τ).loc Cert.ReferenceDiffIdeal.main_arg6))
      ∧ r.2.sem = fun _ => 0)

def quiescent_ReferenceDiffIdeal_pre_finite_q_k_v_lam [hReferenceDiffIdeal : Cert.ReferenceDiffIdeal.Facts] [hPre_finite_q_k_v_lam : Cert.Pre_finite_q_k_v_lam.Facts] : Prop :=
  ∀ (m : (ℓ : Loc Cert.ReferenceDiffIdeal.nD Cert.ReferenceDiffIdeal.τ Cert.ReferenceDiffIdeal.sig) → Buf (Elt Ideal) ℓ) (g : Dev Cert.ReferenceDiffIdeal.nD → PrngReg), Pre_ReferenceDiffIdeal_finite_q_k_v_lam m →
    θ_run (Cert.ReferenceDiffIdeal.defs (F := Ideal)) (onTc (τ := Cert.ReferenceDiffIdeal.τ) (Cert.ReferenceDiffIdeal.main (F := Ideal))) ⟨m, fun _ => 0, g⟩ (fun r => (∀ c : Dev Cert.ReferenceDiffIdeal.nD,
      r.2.mem ((c.tc : Thread Cert.ReferenceDiffIdeal.nD Cert.ReferenceDiffIdeal.τ).loc Cert.ReferenceDiffIdeal.main_arg0) = m ((c.tc : Thread Cert.ReferenceDiffIdeal.nD Cert.ReferenceDiffIdeal.τ).loc Cert.ReferenceDiffIdeal.main_arg0)
      ∧ r.2.mem ((c.tc : Thread Cert.ReferenceDiffIdeal.nD Cert.ReferenceDiffIdeal.τ).loc Cert.ReferenceDiffIdeal.main_arg1) = m ((c.tc : Thread Cert.ReferenceDiffIdeal.nD Cert.ReferenceDiffIdeal.τ).loc Cert.ReferenceDiffIdeal.main_arg1)
      ∧ r.2.mem ((c.tc : Thread Cert.ReferenceDiffIdeal.nD Cert.ReferenceDiffIdeal.τ).loc Cert.ReferenceDiffIdeal.main_arg2) = m ((c.tc : Thread Cert.ReferenceDiffIdeal.nD Cert.ReferenceDiffIdeal.τ).loc Cert.ReferenceDiffIdeal.main_arg2)
      ∧ r.2.mem ((c.tc : Thread Cert.ReferenceDiffIdeal.nD Cert.ReferenceDiffIdeal.τ).loc Cert.ReferenceDiffIdeal.main_arg3) = m ((c.tc : Thread Cert.ReferenceDiffIdeal.nD Cert.ReferenceDiffIdeal.τ).loc Cert.ReferenceDiffIdeal.main_arg3)
      ∧ r.2.mem ((c.tc : Thread Cert.ReferenceDiffIdeal.nD Cert.ReferenceDiffIdeal.τ).loc Cert.ReferenceDiffIdeal.main_arg4) = m ((c.tc : Thread Cert.ReferenceDiffIdeal.nD Cert.ReferenceDiffIdeal.τ).loc Cert.ReferenceDiffIdeal.main_arg4)
      ∧ r.2.mem ((c.tc : Thread Cert.ReferenceDiffIdeal.nD Cert.ReferenceDiffIdeal.τ).loc Cert.ReferenceDiffIdeal.main_arg5) = m ((c.tc : Thread Cert.ReferenceDiffIdeal.nD Cert.ReferenceDiffIdeal.τ).loc Cert.ReferenceDiffIdeal.main_arg5)
      ∧ r.2.mem ((c.tc : Thread Cert.ReferenceDiffIdeal.nD Cert.ReferenceDiffIdeal.τ).loc Cert.ReferenceDiffIdeal.main_arg6) = m ((c.tc : Thread Cert.ReferenceDiffIdeal.nD Cert.ReferenceDiffIdeal.τ).loc Cert.ReferenceDiffIdeal.main_arg6))
      ∧ r.2.sem = fun _ => 0)

def quiescent_KernelQu [hKernelQu : Cert.KernelQu.Facts] : Prop :=
  ∀ (m : (ℓ : Loc Cert.KernelQu.nD Cert.KernelQu.τ Cert.KernelQu.sig) → Buf (Elt Bits) ℓ) (g : Dev Cert.KernelQu.nD → PrngReg), Pre_KernelQu m →
    θ_run (Cert.KernelQu.defs (F := Bits)) (onTc (τ := Cert.KernelQu.τ) (Cert.KernelQu.main (F := Bits))) ⟨m, fun _ => 0, g⟩ (fun r => (∀ c : Dev Cert.KernelQu.nD,
      r.2.mem ((c.tc : Thread Cert.KernelQu.nD Cert.KernelQu.τ).loc Cert.KernelQu.main_arg0) = m ((c.tc : Thread Cert.KernelQu.nD Cert.KernelQu.τ).loc Cert.KernelQu.main_arg0)
      ∧ r.2.mem ((c.tc : Thread Cert.KernelQu.nD Cert.KernelQu.τ).loc Cert.KernelQu.main_arg1) = m ((c.tc : Thread Cert.KernelQu.nD Cert.KernelQu.τ).loc Cert.KernelQu.main_arg1))
      ∧ r.2.sem = fun _ => 0)

def quiescent_KernelQuIdeal [hKernelQuIdeal : Cert.KernelQuIdeal.Facts] : Prop :=
  ∀ (m : (ℓ : Loc Cert.KernelQuIdeal.nD Cert.KernelQuIdeal.τ Cert.KernelQuIdeal.sig) → Buf (Elt Ideal) ℓ) (g : Dev Cert.KernelQuIdeal.nD → PrngReg), Pre_KernelQuIdeal m →
    θ_run (Cert.KernelQuIdeal.defs (F := Ideal)) (onTc (τ := Cert.KernelQuIdeal.τ) (Cert.KernelQuIdeal.main (F := Ideal))) ⟨m, fun _ => 0, g⟩ (fun r => (∀ c : Dev Cert.KernelQuIdeal.nD,
      r.2.mem ((c.tc : Thread Cert.KernelQuIdeal.nD Cert.KernelQuIdeal.τ).loc Cert.KernelQuIdeal.main_arg0) = m ((c.tc : Thread Cert.KernelQuIdeal.nD Cert.KernelQuIdeal.τ).loc Cert.KernelQuIdeal.main_arg0)
      ∧ r.2.mem ((c.tc : Thread Cert.KernelQuIdeal.nD Cert.KernelQuIdeal.τ).loc Cert.KernelQuIdeal.main_arg1) = m ((c.tc : Thread Cert.KernelQuIdeal.nD Cert.KernelQuIdeal.τ).loc Cert.KernelQuIdeal.main_arg1))
      ∧ r.2.sem = fun _ => 0)

def quiescent_ReferenceQuIdeal [hReferenceQuIdeal : Cert.ReferenceQuIdeal.Facts] : Prop :=
  ∀ (m : (ℓ : Loc Cert.ReferenceQuIdeal.nD Cert.ReferenceQuIdeal.τ Cert.ReferenceQuIdeal.sig) → Buf (Elt Ideal) ℓ) (g : Dev Cert.ReferenceQuIdeal.nD → PrngReg), Pre_ReferenceQuIdeal m →
    θ_run (Cert.ReferenceQuIdeal.defs (F := Ideal)) (onTc (τ := Cert.ReferenceQuIdeal.τ) (Cert.ReferenceQuIdeal.main (F := Ideal))) ⟨m, fun _ => 0, g⟩ (fun r => (∀ c : Dev Cert.ReferenceQuIdeal.nD,
      r.2.mem ((c.tc : Thread Cert.ReferenceQuIdeal.nD Cert.ReferenceQuIdeal.τ).loc Cert.ReferenceQuIdeal.main_arg0) = m ((c.tc : Thread Cert.ReferenceQuIdeal.nD Cert.ReferenceQuIdeal.τ).loc Cert.ReferenceQuIdeal.main_arg0)
      ∧ r.2.mem ((c.tc : Thread Cert.ReferenceQuIdeal.nD Cert.ReferenceQuIdeal.τ).loc Cert.ReferenceQuIdeal.main_arg1) = m ((c.tc : Thread Cert.ReferenceQuIdeal.nD Cert.ReferenceQuIdeal.τ).loc Cert.ReferenceQuIdeal.main_arg1))
      ∧ r.2.sem = fun _ => 0)

def quiescent_KernelKv [hKernelKv : Cert.KernelKv.Facts] : Prop :=
  ∀ (m : (ℓ : Loc Cert.KernelKv.nD Cert.KernelKv.τ Cert.KernelKv.sig) → Buf (Elt Bits) ℓ) (g : Dev Cert.KernelKv.nD → PrngReg), Pre_KernelKv m →
    θ_run (Cert.KernelKv.defs (F := Bits)) (onTc (τ := Cert.KernelKv.τ) (Cert.KernelKv.main (F := Bits))) ⟨m, fun _ => 0, g⟩ (fun r => (∀ c : Dev Cert.KernelKv.nD,
      r.2.mem ((c.tc : Thread Cert.KernelKv.nD Cert.KernelKv.τ).loc Cert.KernelKv.main_arg0) = m ((c.tc : Thread Cert.KernelKv.nD Cert.KernelKv.τ).loc Cert.KernelKv.main_arg0)
      ∧ r.2.mem ((c.tc : Thread Cert.KernelKv.nD Cert.KernelKv.τ).loc Cert.KernelKv.main_arg1) = m ((c.tc : Thread Cert.KernelKv.nD Cert.KernelKv.τ).loc Cert.KernelKv.main_arg1))
      ∧ r.2.sem = fun _ => 0)

def quiescent_KernelKvIdeal [hKernelKvIdeal : Cert.KernelKvIdeal.Facts] : Prop :=
  ∀ (m : (ℓ : Loc Cert.KernelKvIdeal.nD Cert.KernelKvIdeal.τ Cert.KernelKvIdeal.sig) → Buf (Elt Ideal) ℓ) (g : Dev Cert.KernelKvIdeal.nD → PrngReg), Pre_KernelKvIdeal m →
    θ_run (Cert.KernelKvIdeal.defs (F := Ideal)) (onTc (τ := Cert.KernelKvIdeal.τ) (Cert.KernelKvIdeal.main (F := Ideal))) ⟨m, fun _ => 0, g⟩ (fun r => (∀ c : Dev Cert.KernelKvIdeal.nD,
      r.2.mem ((c.tc : Thread Cert.KernelKvIdeal.nD Cert.KernelKvIdeal.τ).loc Cert.KernelKvIdeal.main_arg0) = m ((c.tc : Thread Cert.KernelKvIdeal.nD Cert.KernelKvIdeal.τ).loc Cert.KernelKvIdeal.main_arg0)
      ∧ r.2.mem ((c.tc : Thread Cert.KernelKvIdeal.nD Cert.KernelKvIdeal.τ).loc Cert.KernelKvIdeal.main_arg1) = m ((c.tc : Thread Cert.KernelKvIdeal.nD Cert.KernelKvIdeal.τ).loc Cert.KernelKvIdeal.main_arg1))
      ∧ r.2.sem = fun _ => 0)

def quiescent_ReferenceKvIdeal [hReferenceKvIdeal : Cert.ReferenceKvIdeal.Facts] : Prop :=
  ∀ (m : (ℓ : Loc Cert.ReferenceKvIdeal.nD Cert.ReferenceKvIdeal.τ Cert.ReferenceKvIdeal.sig) → Buf (Elt Ideal) ℓ) (g : Dev Cert.ReferenceKvIdeal.nD → PrngReg), Pre_ReferenceKvIdeal m →
    θ_run (Cert.ReferenceKvIdeal.defs (F := Ideal)) (onTc (τ := Cert.ReferenceKvIdeal.τ) (Cert.ReferenceKvIdeal.main (F := Ideal))) ⟨m, fun _ => 0, g⟩ (fun r => (∀ c : Dev Cert.ReferenceKvIdeal.nD,
      r.2.mem ((c.tc : Thread Cert.ReferenceKvIdeal.nD Cert.ReferenceKvIdeal.τ).loc Cert.ReferenceKvIdeal.main_arg0) = m ((c.tc : Thread Cert.ReferenceKvIdeal.nD Cert.ReferenceKvIdeal.τ).loc Cert.ReferenceKvIdeal.main_arg0)
      ∧ r.2.mem ((c.tc : Thread Cert.ReferenceKvIdeal.nD Cert.ReferenceKvIdeal.τ).loc Cert.ReferenceKvIdeal.main_arg1) = m ((c.tc : Thread Cert.ReferenceKvIdeal.nD Cert.ReferenceKvIdeal.τ).loc Cert.ReferenceKvIdeal.main_arg1))
      ∧ r.2.sem = fun _ => 0)

def quiescent_KernelKr [hKernelKr : Cert.KernelKr.Facts] : Prop :=
  ∀ (m : (ℓ : Loc Cert.KernelKr.nD Cert.KernelKr.τ Cert.KernelKr.sig) → Buf (Elt Bits) ℓ) (g : Dev Cert.KernelKr.nD → PrngReg), Pre_KernelKr m →
    θ_run (Cert.KernelKr.defs (F := Bits)) (onTc (τ := Cert.KernelKr.τ) (Cert.KernelKr.main (F := Bits))) ⟨m, fun _ => 0, g⟩ (fun r => (∀ c : Dev Cert.KernelKr.nD,
      r.2.mem ((c.tc : Thread Cert.KernelKr.nD Cert.KernelKr.τ).loc Cert.KernelKr.main_arg0) = m ((c.tc : Thread Cert.KernelKr.nD Cert.KernelKr.τ).loc Cert.KernelKr.main_arg0)
      ∧ r.2.mem ((c.tc : Thread Cert.KernelKr.nD Cert.KernelKr.τ).loc Cert.KernelKr.main_arg1) = m ((c.tc : Thread Cert.KernelKr.nD Cert.KernelKr.τ).loc Cert.KernelKr.main_arg1))
      ∧ r.2.sem = fun _ => 0)

def quiescent_KernelKrIdeal [hKernelKrIdeal : Cert.KernelKrIdeal.Facts] : Prop :=
  ∀ (m : (ℓ : Loc Cert.KernelKrIdeal.nD Cert.KernelKrIdeal.τ Cert.KernelKrIdeal.sig) → Buf (Elt Ideal) ℓ) (g : Dev Cert.KernelKrIdeal.nD → PrngReg), Pre_KernelKrIdeal m →
    θ_run (Cert.KernelKrIdeal.defs (F := Ideal)) (onTc (τ := Cert.KernelKrIdeal.τ) (Cert.KernelKrIdeal.main (F := Ideal))) ⟨m, fun _ => 0, g⟩ (fun r => (∀ c : Dev Cert.KernelKrIdeal.nD,
      r.2.mem ((c.tc : Thread Cert.KernelKrIdeal.nD Cert.KernelKrIdeal.τ).loc Cert.KernelKrIdeal.main_arg0) = m ((c.tc : Thread Cert.KernelKrIdeal.nD Cert.KernelKrIdeal.τ).loc Cert.KernelKrIdeal.main_arg0)
      ∧ r.2.mem ((c.tc : Thread Cert.KernelKrIdeal.nD Cert.KernelKrIdeal.τ).loc Cert.KernelKrIdeal.main_arg1) = m ((c.tc : Thread Cert.KernelKrIdeal.nD Cert.KernelKrIdeal.τ).loc Cert.KernelKrIdeal.main_arg1))
      ∧ r.2.sem = fun _ => 0)

def quiescent_ReferenceKrIdeal [hReferenceKrIdeal : Cert.ReferenceKrIdeal.Facts] : Prop :=
  ∀ (m : (ℓ : Loc Cert.ReferenceKrIdeal.nD Cert.ReferenceKrIdeal.τ Cert.ReferenceKrIdeal.sig) → Buf (Elt Ideal) ℓ) (g : Dev Cert.ReferenceKrIdeal.nD → PrngReg), Pre_ReferenceKrIdeal m →
    θ_run (Cert.ReferenceKrIdeal.defs (F := Ideal)) (onTc (τ := Cert.ReferenceKrIdeal.τ) (Cert.ReferenceKrIdeal.main (F := Ideal))) ⟨m, fun _ => 0, g⟩ (fun r => (∀ c : Dev Cert.ReferenceKrIdeal.nD,
      r.2.mem ((c.tc : Thread Cert.ReferenceKrIdeal.nD Cert.ReferenceKrIdeal.τ).loc Cert.ReferenceKrIdeal.main_arg0) = m ((c.tc : Thread Cert.ReferenceKrIdeal.nD Cert.ReferenceKrIdeal.τ).loc Cert.ReferenceKrIdeal.main_arg0)
      ∧ r.2.mem ((c.tc : Thread Cert.ReferenceKrIdeal.nD Cert.ReferenceKrIdeal.τ).loc Cert.ReferenceKrIdeal.main_arg1) = m ((c.tc : Thread Cert.ReferenceKrIdeal.nD Cert.ReferenceKrIdeal.τ).loc Cert.ReferenceKrIdeal.main_arg1))
      ∧ r.2.sem = fun _ => 0)

def preserves_Kernel_KernelIdeal : Prop :=
  True

def algebraic_KernelIdeal_ReferenceIdeal_pre_finite_q_k [hKernelIdeal : Cert.KernelIdeal.Facts] [hReferenceIdeal : Cert.ReferenceIdeal.Facts] [hPre_finite_q_k : Cert.Pre_finite_q_k.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_q_k m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_KernelUp_KernelUpIdeal : Prop :=
  True

def algebraic_KernelUpIdeal_ReferenceUpIdeal [hKernelUpIdeal : Cert.KernelUpIdeal.Facts] [hReferenceUpIdeal : Cert.ReferenceUpIdeal.Facts] : Prop :=
  ∀ (m : (ℓ : Loc Cert.KernelUpIdeal.nD Cert.KernelUpIdeal.τ Cert.KernelUpIdeal.sig) → Buf (Elt Ideal) ℓ) (g : Dev Cert.KernelUpIdeal.nD → PrngReg)
    (m' : (ℓ : Loc Cert.ReferenceUpIdeal.nD Cert.ReferenceUpIdeal.τ Cert.ReferenceUpIdeal.sig) → Buf (Elt Ideal) ℓ) (g' : Dev Cert.ReferenceUpIdeal.nD → PrngReg), Pre_KernelUpIdeal m →
    (∀ c : Dev Cert.KernelUpIdeal.nD,
      m' ((c.tc : Thread Cert.ReferenceUpIdeal.nD Cert.ReferenceUpIdeal.τ).loc Cert.ReferenceUpIdeal.main_arg0) = m ((c.tc : Thread Cert.KernelUpIdeal.nD Cert.KernelUpIdeal.τ).loc Cert.KernelUpIdeal.main_arg0)
      ∧ m' ((c.tc : Thread Cert.ReferenceUpIdeal.nD Cert.ReferenceUpIdeal.τ).loc Cert.ReferenceUpIdeal.main_arg1) = m ((c.tc : Thread Cert.KernelUpIdeal.nD Cert.KernelUpIdeal.τ).loc Cert.KernelUpIdeal.main_arg1)
      ∧ m' ((c.tc : Thread Cert.ReferenceUpIdeal.nD Cert.ReferenceUpIdeal.τ).loc Cert.ReferenceUpIdeal.main_arg2) = m ((c.tc : Thread Cert.KernelUpIdeal.nD Cert.KernelUpIdeal.τ).loc Cert.KernelUpIdeal.main_arg2)) →
    ∃ (v0 : (c : Dev Cert.KernelUpIdeal.nD) → Buf (Elt Ideal) ((c.tc : Thread Cert.KernelUpIdeal.nD Cert.KernelUpIdeal.τ).loc Cert.KernelUpIdeal.main_v0)),
      θ_run (Cert.KernelUpIdeal.defs (F := Ideal)) (onTc (τ := Cert.KernelUpIdeal.τ) (Cert.KernelUpIdeal.main (F := Ideal))) ⟨m, fun _ => 0, g⟩ (fun r => ∀ c : Dev Cert.KernelUpIdeal.nD,
          r.2.mem ((c.tc : Thread Cert.KernelUpIdeal.nD Cert.KernelUpIdeal.τ).loc Cert.KernelUpIdeal.main_v0) = v0 c
          ∧ r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
          ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1)
          ∧ r.2.mem ((c.tc : Thread Cert.KernelUpIdeal.nD Cert.KernelUpIdeal.τ).loc Cert.KernelUpIdeal.main_arg2) = m ((c.tc : Thread Cert.KernelUpIdeal.nD Cert.KernelUpIdeal.τ).loc Cert.KernelUpIdeal.main_arg2))
      ∧ θ_run (Cert.ReferenceUpIdeal.defs (F := Ideal)) (onTc (τ := Cert.ReferenceUpIdeal.τ) (Cert.ReferenceUpIdeal.main (F := Ideal))) ⟨m', fun _ => 0, g'⟩ (fun r => ∀ c : Dev Cert.ReferenceUpIdeal.nD,
          r.2.mem ((c.tc : Thread Cert.ReferenceUpIdeal.nD Cert.ReferenceUpIdeal.τ).loc Cert.ReferenceUpIdeal.main_v9) = v0 c
          ∧ r.2.mem ((c.tc : Thread Cert.ReferenceUpIdeal.nD Cert.ReferenceUpIdeal.τ).loc Cert.ReferenceUpIdeal.main_arg0) = m' ((c.tc : Thread Cert.ReferenceUpIdeal.nD Cert.ReferenceUpIdeal.τ).loc Cert.ReferenceUpIdeal.main_arg0)
          ∧ r.2.mem ((c.tc : Thread Cert.ReferenceUpIdeal.nD Cert.ReferenceUpIdeal.τ).loc Cert.ReferenceUpIdeal.main_arg1) = m' ((c.tc : Thread Cert.ReferenceUpIdeal.nD Cert.ReferenceUpIdeal.τ).loc Cert.ReferenceUpIdeal.main_arg1)
          ∧ r.2.mem ((c.tc : Thread Cert.ReferenceUpIdeal.nD Cert.ReferenceUpIdeal.τ).loc Cert.ReferenceUpIdeal.main_arg2) = m' ((c.tc : Thread Cert.ReferenceUpIdeal.nD Cert.ReferenceUpIdeal.τ).loc Cert.ReferenceUpIdeal.main_arg2))

def preserves_KernelDown_KernelDownIdeal : Prop :=
  True

def algebraic_KernelDownIdeal_ReferenceDownIdeal [hKernelDownIdeal : Cert.KernelDownIdeal.Facts] [hReferenceDownIdeal : Cert.ReferenceDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg)
    (m' : (ℓ : Loc Cert.ReferenceDownIdeal.nD Cert.ReferenceDownIdeal.τ Cert.ReferenceDownIdeal.sig) → Buf (Elt Ideal) ℓ) (g' : Dev Cert.ReferenceDownIdeal.nD → PrngReg), Pre_KernelDownIdeal m →
    (∀ c : Dev Cert.KernelDownIdeal.nD,
      m' ((c.tc : Thread Cert.ReferenceDownIdeal.nD Cert.ReferenceDownIdeal.τ).loc Cert.ReferenceDownIdeal.main_arg0) = m ((c.tc : Thread Cert.KernelDownIdeal.nD Cert.KernelDownIdeal.τ).loc Cert.KernelDownIdeal.main_arg0)
      ∧ m' ((c.tc : Thread Cert.ReferenceDownIdeal.nD Cert.ReferenceDownIdeal.τ).loc Cert.ReferenceDownIdeal.main_arg1) = m ((c.tc : Thread Cert.KernelDownIdeal.nD Cert.KernelDownIdeal.τ).loc Cert.KernelDownIdeal.main_arg1)
      ∧ m' ((c.tc : Thread Cert.ReferenceDownIdeal.nD Cert.ReferenceDownIdeal.τ).loc Cert.ReferenceDownIdeal.main_arg2) = m ((c.tc : Thread Cert.KernelDownIdeal.nD Cert.KernelDownIdeal.τ).loc Cert.KernelDownIdeal.main_arg2)) →
    ∃ (v0 : (c : Dev Cert.KernelDownIdeal.nD) → Buf (Elt Ideal) ((c.tc : Thread Cert.KernelDownIdeal.nD Cert.KernelDownIdeal.τ).loc Cert.KernelDownIdeal.main_v0)),
      θ_run (Cert.KernelDownIdeal.defs (F := Ideal)) (onTc (τ := Cert.KernelDownIdeal.τ) (Cert.KernelDownIdeal.main (F := Ideal))) ⟨m, fun _ => 0, g⟩ (fun r => ∀ c : Dev Cert.KernelDownIdeal.nD,
          r.2.mem ((c.tc : Thread Cert.KernelDownIdeal.nD Cert.KernelDownIdeal.τ).loc Cert.KernelDownIdeal.main_v0) = v0 c
          ∧ r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
          ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1)
          ∧ r.2.mem ((c.tc : Thread Cert.KernelDownIdeal.nD Cert.KernelDownIdeal.τ).loc Cert.KernelDownIdeal.main_arg2) = m ((c.tc : Thread Cert.KernelDownIdeal.nD Cert.KernelDownIdeal.τ).loc Cert.KernelDownIdeal.main_arg2))
      ∧ θ_run (Cert.ReferenceDownIdeal.defs (F := Ideal)) (onTc (τ := Cert.ReferenceDownIdeal.τ) (Cert.ReferenceDownIdeal.main (F := Ideal))) ⟨m', fun _ => 0, g'⟩ (fun r => ∀ c : Dev Cert.ReferenceDownIdeal.nD,
          r.2.mem ((c.tc : Thread Cert.ReferenceDownIdeal.nD Cert.ReferenceDownIdeal.τ).loc Cert.ReferenceDownIdeal.main_v4) = v0 c
          ∧ r.2.mem ((c.tc : Thread Cert.ReferenceDownIdeal.nD Cert.ReferenceDownIdeal.τ).loc Cert.ReferenceDownIdeal.main_arg0) = m' ((c.tc : Thread Cert.ReferenceDownIdeal.nD Cert.ReferenceDownIdeal.τ).loc Cert.ReferenceDownIdeal.main_arg0)
          ∧ r.2.mem ((c.tc : Thread Cert.ReferenceDownIdeal.nD Cert.ReferenceDownIdeal.τ).loc Cert.ReferenceDownIdeal.main_arg1) = m' ((c.tc : Thread Cert.ReferenceDownIdeal.nD Cert.ReferenceDownIdeal.τ).loc Cert.ReferenceDownIdeal.main_arg1)
          ∧ r.2.mem ((c.tc : Thread Cert.ReferenceDownIdeal.nD Cert.ReferenceDownIdeal.τ).loc Cert.ReferenceDownIdeal.main_arg2) = m' ((c.tc : Thread Cert.ReferenceDownIdeal.nD Cert.ReferenceDownIdeal.τ).loc Cert.ReferenceDownIdeal.main_arg2))

def preserves_KernelIn_KernelInIdeal : Prop :=
  True

def algebraic_KernelInIdeal_ReferenceInIdeal [hKernelInIdeal : Cert.KernelInIdeal.Facts] [hReferenceInIdeal : Cert.ReferenceInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg)
    (m' : (ℓ : Loc Cert.ReferenceInIdeal.nD Cert.ReferenceInIdeal.τ Cert.ReferenceInIdeal.sig) → Buf (Elt Ideal) ℓ) (g' : Dev Cert.ReferenceInIdeal.nD → PrngReg), Pre_KernelInIdeal m →
    (∀ c : Dev Cert.KernelInIdeal.nD,
      m' ((c.tc : Thread Cert.ReferenceInIdeal.nD Cert.ReferenceInIdeal.τ).loc Cert.ReferenceInIdeal.main_arg0) = m ((c.tc : Thread Cert.KernelInIdeal.nD Cert.KernelInIdeal.τ).loc Cert.KernelInIdeal.main_arg0)
      ∧ m' ((c.tc : Thread Cert.ReferenceInIdeal.nD Cert.ReferenceInIdeal.τ).loc Cert.ReferenceInIdeal.main_arg1) = m ((c.tc : Thread Cert.KernelInIdeal.nD Cert.KernelInIdeal.τ).loc Cert.KernelInIdeal.main_arg1)) →
    ∃ (v0 : (c : Dev Cert.KernelInIdeal.nD) → Buf (Elt Ideal) ((c.tc : Thread Cert.KernelInIdeal.nD Cert.KernelInIdeal.τ).loc Cert.KernelInIdeal.main_v1)),
      θ_run (Cert.KernelInIdeal.defs (F := Ideal)) (onTc (τ := Cert.KernelInIdeal.τ) (Cert.KernelInIdeal.main (F := Ideal))) ⟨m, fun _ => 0, g⟩ (fun r => ∀ c : Dev Cert.KernelInIdeal.nD,
          r.2.mem ((c.tc : Thread Cert.KernelInIdeal.nD Cert.KernelInIdeal.τ).loc Cert.KernelInIdeal.main_v1) = v0 c
          ∧ r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
          ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1))
      ∧ θ_run (Cert.ReferenceInIdeal.defs (F := Ideal)) (onTc (τ := Cert.ReferenceInIdeal.τ) (Cert.ReferenceInIdeal.main (F := Ideal))) ⟨m', fun _ => 0, g'⟩ (fun r => ∀ c : Dev Cert.ReferenceInIdeal.nD,
          r.2.mem ((c.tc : Thread Cert.ReferenceInIdeal.nD Cert.ReferenceInIdeal.τ).loc Cert.ReferenceInIdeal.main_v4) = v0 c
          ∧ r.2.mem ((c.tc : Thread Cert.ReferenceInIdeal.nD Cert.ReferenceInIdeal.τ).loc Cert.ReferenceInIdeal.main_arg0) = m' ((c.tc : Thread Cert.ReferenceInIdeal.nD Cert.ReferenceInIdeal.τ).loc Cert.ReferenceInIdeal.main_arg0)
          ∧ r.2.mem ((c.tc : Thread Cert.ReferenceInIdeal.nD Cert.ReferenceInIdeal.τ).loc Cert.ReferenceInIdeal.main_arg1) = m' ((c.tc : Thread Cert.ReferenceInIdeal.nD Cert.ReferenceInIdeal.τ).loc Cert.ReferenceInIdeal.main_arg1))

def preserves_KernelOut_KernelOutIdeal : Prop :=
  True

def algebraic_KernelOutIdeal_ReferenceOutIdeal [hKernelOutIdeal : Cert.KernelOutIdeal.Facts] [hReferenceOutIdeal : Cert.ReferenceOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg)
    (m' : (ℓ : Loc Cert.ReferenceOutIdeal.nD Cert.ReferenceOutIdeal.τ Cert.ReferenceOutIdeal.sig) → Buf (Elt Ideal) ℓ) (g' : Dev Cert.ReferenceOutIdeal.nD → PrngReg), Pre_KernelOutIdeal m →
    (∀ c : Dev Cert.KernelOutIdeal.nD,
      m' ((c.tc : Thread Cert.ReferenceOutIdeal.nD Cert.ReferenceOutIdeal.τ).loc Cert.ReferenceOutIdeal.main_arg0) = m ((c.tc : Thread Cert.KernelOutIdeal.nD Cert.KernelOutIdeal.τ).loc Cert.KernelOutIdeal.main_arg0)
      ∧ m' ((c.tc : Thread Cert.ReferenceOutIdeal.nD Cert.ReferenceOutIdeal.τ).loc Cert.ReferenceOutIdeal.main_arg1) = m ((c.tc : Thread Cert.KernelOutIdeal.nD Cert.KernelOutIdeal.τ).loc Cert.KernelOutIdeal.main_arg1)
      ∧ m' ((c.tc : Thread Cert.ReferenceOutIdeal.nD Cert.ReferenceOutIdeal.τ).loc Cert.ReferenceOutIdeal.main_arg2) = m ((c.tc : Thread Cert.KernelOutIdeal.nD Cert.KernelOutIdeal.τ).loc Cert.KernelOutIdeal.main_arg2)
      ∧ m' ((c.tc : Thread Cert.ReferenceOutIdeal.nD Cert.ReferenceOutIdeal.τ).loc Cert.ReferenceOutIdeal.main_arg3) = m ((c.tc : Thread Cert.KernelOutIdeal.nD Cert.KernelOutIdeal.τ).loc Cert.KernelOutIdeal.main_arg3)
      ∧ m' ((c.tc : Thread Cert.ReferenceOutIdeal.nD Cert.ReferenceOutIdeal.τ).loc Cert.ReferenceOutIdeal.main_arg4) = m ((c.tc : Thread Cert.KernelOutIdeal.nD Cert.KernelOutIdeal.τ).loc Cert.KernelOutIdeal.main_arg4)) →
    ∃ (v0 : (c : Dev Cert.KernelOutIdeal.nD) → Buf (Elt Ideal) ((c.tc : Thread Cert.KernelOutIdeal.nD Cert.KernelOutIdeal.τ).loc Cert.KernelOutIdeal.main_v0)),
      θ_run (Cert.KernelOutIdeal.defs (F := Ideal)) (onTc (τ := Cert.KernelOutIdeal.τ) (Cert.KernelOutIdeal.main (F := Ideal))) ⟨m, fun _ => 0, g⟩ (fun r => ∀ c : Dev Cert.KernelOutIdeal.nD,
          r.2.mem ((c.tc : Thread Cert.KernelOutIdeal.nD Cert.KernelOutIdeal.τ).loc Cert.KernelOutIdeal.main_v0) = v0 c
          ∧ r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
          ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
          ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2)
          ∧ r.2.mem ((c.tc : Thread Cert.KernelOutIdeal.nD Cert.KernelOutIdeal.τ).loc Cert.KernelOutIdeal.main_arg3) = m ((c.tc : Thread Cert.KernelOutIdeal.nD Cert.KernelOutIdeal.τ).loc Cert.KernelOutIdeal.main_arg3)
          ∧ r.2.mem ((c.tc : Thread Cert.KernelOutIdeal.nD Cert.KernelOutIdeal.τ).loc Cert.KernelOutIdeal.main_arg4) = m ((c.tc : Thread Cert.KernelOutIdeal.nD Cert.KernelOutIdeal.τ).loc Cert.KernelOutIdeal.main_arg4))
      ∧ θ_run (Cert.ReferenceOutIdeal.defs (F := Ideal)) (onTc (τ := Cert.ReferenceOutIdeal.τ) (Cert.ReferenceOutIdeal.main (F := Ideal))) ⟨m', fun _ => 0, g'⟩ (fun r => ∀ c : Dev Cert.ReferenceOutIdeal.nD,
          r.2.mem ((c.tc : Thread Cert.ReferenceOutIdeal.nD Cert.ReferenceOutIdeal.τ).loc Cert.ReferenceOutIdeal.main_v7) = v0 c
          ∧ r.2.mem ((c.tc : Thread Cert.ReferenceOutIdeal.nD Cert.ReferenceOutIdeal.τ).loc Cert.ReferenceOutIdeal.main_arg0) = m' ((c.tc : Thread Cert.ReferenceOutIdeal.nD Cert.ReferenceOutIdeal.τ).loc Cert.ReferenceOutIdeal.main_arg0)
          ∧ r.2.mem ((c.tc : Thread Cert.ReferenceOutIdeal.nD Cert.ReferenceOutIdeal.τ).loc Cert.ReferenceOutIdeal.main_arg1) = m' ((c.tc : Thread Cert.ReferenceOutIdeal.nD Cert.ReferenceOutIdeal.τ).loc Cert.ReferenceOutIdeal.main_arg1)
          ∧ r.2.mem ((c.tc : Thread Cert.ReferenceOutIdeal.nD Cert.ReferenceOutIdeal.τ).loc Cert.ReferenceOutIdeal.main_arg2) = m' ((c.tc : Thread Cert.ReferenceOutIdeal.nD Cert.ReferenceOutIdeal.τ).loc Cert.ReferenceOutIdeal.main_arg2)
          ∧ r.2.mem ((c.tc : Thread Cert.ReferenceOutIdeal.nD Cert.ReferenceOutIdeal.τ).loc Cert.ReferenceOutIdeal.main_arg3) = m' ((c.tc : Thread Cert.ReferenceOutIdeal.nD Cert.ReferenceOutIdeal.τ).loc Cert.ReferenceOutIdeal.main_arg3)
          ∧ r.2.mem ((c.tc : Thread Cert.ReferenceOutIdeal.nD Cert.ReferenceOutIdeal.τ).loc Cert.ReferenceOutIdeal.main_arg4) = m' ((c.tc : Thread Cert.ReferenceOutIdeal.nD Cert.ReferenceOutIdeal.τ).loc Cert.ReferenceOutIdeal.main_arg4))

def preserves_KernelNorm_KernelNormIdeal : Prop :=
  True

def algebraic_KernelNormIdeal_ReferenceNormIdeal [hKernelNormIdeal : Cert.KernelNormIdeal.Facts] [hReferenceNormIdeal : Cert.ReferenceNormIdeal.Facts] : Prop :=
  ∀ (m : (ℓ : Loc Cert.KernelNormIdeal.nD Cert.KernelNormIdeal.τ Cert.KernelNormIdeal.sig) → Buf (Elt Ideal) ℓ) (g : Dev Cert.KernelNormIdeal.nD → PrngReg)
    (m' : (ℓ : Loc Cert.ReferenceNormIdeal.nD Cert.ReferenceNormIdeal.τ Cert.ReferenceNormIdeal.sig) → Buf (Elt Ideal) ℓ) (g' : Dev Cert.ReferenceNormIdeal.nD → PrngReg), Pre_KernelNormIdeal m →
    (∀ c : Dev Cert.KernelNormIdeal.nD,
      m' ((c.tc : Thread Cert.ReferenceNormIdeal.nD Cert.ReferenceNormIdeal.τ).loc Cert.ReferenceNormIdeal.main_arg0) = m ((c.tc : Thread Cert.KernelNormIdeal.nD Cert.KernelNormIdeal.τ).loc Cert.KernelNormIdeal.main_arg0)
      ∧ m' ((c.tc : Thread Cert.ReferenceNormIdeal.nD Cert.ReferenceNormIdeal.τ).loc Cert.ReferenceNormIdeal.main_arg1) = m ((c.tc : Thread Cert.KernelNormIdeal.nD Cert.KernelNormIdeal.τ).loc Cert.KernelNormIdeal.main_arg1)) →
    ∃ (v0 : (c : Dev Cert.KernelNormIdeal.nD) → Buf (Elt Ideal) ((c.tc : Thread Cert.KernelNormIdeal.nD Cert.KernelNormIdeal.τ).loc Cert.KernelNormIdeal.main_v3)),
      θ_run (Cert.KernelNormIdeal.defs (F := Ideal)) (onTc (τ := Cert.KernelNormIdeal.τ) (Cert.KernelNormIdeal.main (F := Ideal))) ⟨m, fun _ => 0, g⟩ (fun r => ∀ c : Dev Cert.KernelNormIdeal.nD,
          r.2.mem ((c.tc : Thread Cert.KernelNormIdeal.nD Cert.KernelNormIdeal.τ).loc Cert.KernelNormIdeal.main_v3) = v0 c
          ∧ r.2.mem ((c.tc : Thread Cert.KernelNormIdeal.nD Cert.KernelNormIdeal.τ).loc Cert.KernelNormIdeal.main_arg0) = m ((c.tc : Thread Cert.KernelNormIdeal.nD Cert.KernelNormIdeal.τ).loc Cert.KernelNormIdeal.main_arg0)
          ∧ r.2.mem ((c.tc : Thread Cert.KernelNormIdeal.nD Cert.KernelNormIdeal.τ).loc Cert.KernelNormIdeal.main_arg1) = m ((c.tc : Thread Cert.KernelNormIdeal.nD Cert.KernelNormIdeal.τ).loc Cert.KernelNormIdeal.main_arg1))
      ∧ θ_run (Cert.ReferenceNormIdeal.defs (F := Ideal)) (onTc (τ := Cert.ReferenceNormIdeal.τ) (Cert.ReferenceNormIdeal.main (F := Ideal))) ⟨m', fun _ => 0, g'⟩ (fun r => ∀ c : Dev Cert.ReferenceNormIdeal.nD,
          r.2.mem ((c.tc : Thread Cert.ReferenceNormIdeal.nD Cert.ReferenceNormIdeal.τ).loc Cert.ReferenceNormIdeal.main_v15) = v0 c
          ∧ r.2.mem ((c.tc : Thread Cert.ReferenceNormIdeal.nD Cert.ReferenceNormIdeal.τ).loc Cert.ReferenceNormIdeal.main_arg0) = m' ((c.tc : Thread Cert.ReferenceNormIdeal.nD Cert.ReferenceNormIdeal.τ).loc Cert.ReferenceNormIdeal.main_arg0)
          ∧ r.2.mem ((c.tc : Thread Cert.ReferenceNormIdeal.nD Cert.ReferenceNormIdeal.τ).loc Cert.ReferenceNormIdeal.main_arg1) = m' ((c.tc : Thread Cert.ReferenceNormIdeal.nD Cert.ReferenceNormIdeal.τ).loc Cert.ReferenceNormIdeal.main_arg1))

def preserves_KernelLat_KernelLatIdeal : Prop :=
  True

def algebraic_KernelLatIdeal_ReferenceLatIdeal_pre_finite_q_k_c [hKernelLatIdeal : Cert.KernelLatIdeal.Facts] [hReferenceLatIdeal : Cert.ReferenceLatIdeal.Facts] [hPre_finite_q_k_c : Cert.Pre_finite_q_k_c.Facts] : Prop :=
  ∀ (m : (ℓ : Loc Cert.KernelLatIdeal.nD Cert.KernelLatIdeal.τ Cert.KernelLatIdeal.sig) → Buf (Elt Ideal) ℓ) (g : Dev Cert.KernelLatIdeal.nD → PrngReg)
    (m' : (ℓ : Loc Cert.ReferenceLatIdeal.nD Cert.ReferenceLatIdeal.τ Cert.ReferenceLatIdeal.sig) → Buf (Elt Ideal) ℓ) (g' : Dev Cert.ReferenceLatIdeal.nD → PrngReg), Pre_KernelLatIdeal_finite_q_k_c m →
    (∀ c : Dev Cert.KernelLatIdeal.nD,
      m' ((c.tc : Thread Cert.ReferenceLatIdeal.nD Cert.ReferenceLatIdeal.τ).loc Cert.ReferenceLatIdeal.main_arg0) = m ((c.tc : Thread Cert.KernelLatIdeal.nD Cert.KernelLatIdeal.τ).loc Cert.KernelLatIdeal.main_arg0)
      ∧ m' ((c.tc : Thread Cert.ReferenceLatIdeal.nD Cert.ReferenceLatIdeal.τ).loc Cert.ReferenceLatIdeal.main_arg1) = m ((c.tc : Thread Cert.KernelLatIdeal.nD Cert.KernelLatIdeal.τ).loc Cert.KernelLatIdeal.main_arg1)
      ∧ m' ((c.tc : Thread Cert.ReferenceLatIdeal.nD Cert.ReferenceLatIdeal.τ).loc Cert.ReferenceLatIdeal.main_arg2) = m ((c.tc : Thread Cert.KernelLatIdeal.nD Cert.KernelLatIdeal.τ).loc Cert.KernelLatIdeal.main_arg2)
      ∧ m' ((c.tc : Thread Cert.ReferenceLatIdeal.nD Cert.ReferenceLatIdeal.τ).loc Cert.ReferenceLatIdeal.main_arg3) = m ((c.tc : Thread Cert.KernelLatIdeal.nD Cert.KernelLatIdeal.τ).loc Cert.KernelLatIdeal.main_arg3)
      ∧ m' ((c.tc : Thread Cert.ReferenceLatIdeal.nD Cert.ReferenceLatIdeal.τ).loc Cert.ReferenceLatIdeal.main_arg4) = m ((c.tc : Thread Cert.KernelLatIdeal.nD Cert.KernelLatIdeal.τ).loc Cert.KernelLatIdeal.main_arg4)) →
    ∃ (v0 : (c : Dev Cert.KernelLatIdeal.nD) → Buf (Elt Ideal) ((c.tc : Thread Cert.KernelLatIdeal.nD Cert.KernelLatIdeal.τ).loc Cert.KernelLatIdeal.main_v26)),
      θ_run (Cert.KernelLatIdeal.defs (F := Ideal)) (onTc (τ := Cert.KernelLatIdeal.τ) (Cert.KernelLatIdeal.main (F := Ideal))) ⟨m, fun _ => 0, g⟩ (fun r => ∀ c : Dev Cert.KernelLatIdeal.nD,
          r.2.mem ((c.tc : Thread Cert.KernelLatIdeal.nD Cert.KernelLatIdeal.τ).loc Cert.KernelLatIdeal.main_v26) = v0 c
          ∧ r.2.mem ((c.tc : Thread Cert.KernelLatIdeal.nD Cert.KernelLatIdeal.τ).loc Cert.KernelLatIdeal.main_arg0) = m ((c.tc : Thread Cert.KernelLatIdeal.nD Cert.KernelLatIdeal.τ).loc Cert.KernelLatIdeal.main_arg0)
          ∧ r.2.mem ((c.tc : Thread Cert.KernelLatIdeal.nD Cert.KernelLatIdeal.τ).loc Cert.KernelLatIdeal.main_arg1) = m ((c.tc : Thread Cert.KernelLatIdeal.nD Cert.KernelLatIdeal.τ).loc Cert.KernelLatIdeal.main_arg1)
          ∧ r.2.mem ((c.tc : Thread Cert.KernelLatIdeal.nD Cert.KernelLatIdeal.τ).loc Cert.KernelLatIdeal.main_arg2) = m ((c.tc : Thread Cert.KernelLatIdeal.nD Cert.KernelLatIdeal.τ).loc Cert.KernelLatIdeal.main_arg2)
          ∧ r.2.mem ((c.tc : Thread Cert.KernelLatIdeal.nD Cert.KernelLatIdeal.τ).loc Cert.KernelLatIdeal.main_arg3) = m ((c.tc : Thread Cert.KernelLatIdeal.nD Cert.KernelLatIdeal.τ).loc Cert.KernelLatIdeal.main_arg3)
          ∧ r.2.mem ((c.tc : Thread Cert.KernelLatIdeal.nD Cert.KernelLatIdeal.τ).loc Cert.KernelLatIdeal.main_arg4) = m ((c.tc : Thread Cert.KernelLatIdeal.nD Cert.KernelLatIdeal.τ).loc Cert.KernelLatIdeal.main_arg4))
      ∧ θ_run (Cert.ReferenceLatIdeal.defs (F := Ideal)) (onTc (τ := Cert.ReferenceLatIdeal.τ) (Cert.ReferenceLatIdeal.main (F := Ideal))) ⟨m', fun _ => 0, g'⟩ (fun r => ∀ c : Dev Cert.ReferenceLatIdeal.nD,
          r.2.mem ((c.tc : Thread Cert.ReferenceLatIdeal.nD Cert.ReferenceLatIdeal.τ).loc Cert.ReferenceLatIdeal.main_v19) = v0 c
          ∧ r.2.mem ((c.tc : Thread Cert.ReferenceLatIdeal.nD Cert.ReferenceLatIdeal.τ).loc Cert.ReferenceLatIdeal.main_arg0) = m' ((c.tc : Thread Cert.ReferenceLatIdeal.nD Cert.ReferenceLatIdeal.τ).loc Cert.ReferenceLatIdeal.main_arg0)
          ∧ r.2.mem ((c.tc : Thread Cert.ReferenceLatIdeal.nD Cert.ReferenceLatIdeal.τ).loc Cert.ReferenceLatIdeal.main_arg1) = m' ((c.tc : Thread Cert.ReferenceLatIdeal.nD Cert.ReferenceLatIdeal.τ).loc Cert.ReferenceLatIdeal.main_arg1)
          ∧ r.2.mem ((c.tc : Thread Cert.ReferenceLatIdeal.nD Cert.ReferenceLatIdeal.τ).loc Cert.ReferenceLatIdeal.main_arg2) = m' ((c.tc : Thread Cert.ReferenceLatIdeal.nD Cert.ReferenceLatIdeal.τ).loc Cert.ReferenceLatIdeal.main_arg2)
          ∧ r.2.mem ((c.tc : Thread Cert.ReferenceLatIdeal.nD Cert.ReferenceLatIdeal.τ).loc Cert.ReferenceLatIdeal.main_arg3) = m' ((c.tc : Thread Cert.ReferenceLatIdeal.nD Cert.ReferenceLatIdeal.τ).loc Cert.ReferenceLatIdeal.main_arg3)
          ∧ r.2.mem ((c.tc : Thread Cert.ReferenceLatIdeal.nD Cert.ReferenceLatIdeal.τ).loc Cert.ReferenceLatIdeal.main_arg4) = m' ((c.tc : Thread Cert.ReferenceLatIdeal.nD Cert.ReferenceLatIdeal.τ).loc Cert.ReferenceLatIdeal.main_arg4))

def preserves_KernelDiff_KernelDiffIdeal : Prop :=
  True

def algebraic_KernelDiffIdeal_ReferenceDiffIdeal_pre_finite_q_k_v_lam [hKernelDiffIdeal : Cert.KernelDiffIdeal.Facts] [hReferenceDiffIdeal : Cert.ReferenceDiffIdeal.Facts] [hPre_finite_q_k_v_lam : Cert.Pre_finite_q_k_v_lam.Facts] : Prop :=
  ∀ (m : (ℓ : Loc Cert.KernelDiffIdeal.nD Cert.KernelDiffIdeal.τ Cert.KernelDiffIdeal.sig) → Buf (Elt Ideal) ℓ) (g : Dev Cert.KernelDiffIdeal.nD → PrngReg)
    (m' : (ℓ : Loc Cert.ReferenceDiffIdeal.nD Cert.ReferenceDiffIdeal.τ Cert.ReferenceDiffIdeal.sig) → Buf (Elt Ideal) ℓ) (g' : Dev Cert.ReferenceDiffIdeal.nD → PrngReg), Pre_KernelDiffIdeal_finite_q_k_v_lam m →
    (∀ c : Dev Cert.KernelDiffIdeal.nD,
      m' ((c.tc : Thread Cert.ReferenceDiffIdeal.nD Cert.ReferenceDiffIdeal.τ).loc Cert.ReferenceDiffIdeal.main_arg0) = m ((c.tc : Thread Cert.KernelDiffIdeal.nD Cert.KernelDiffIdeal.τ).loc Cert.KernelDiffIdeal.main_arg0)
      ∧ m' ((c.tc : Thread Cert.ReferenceDiffIdeal.nD Cert.ReferenceDiffIdeal.τ).loc Cert.ReferenceDiffIdeal.main_arg1) = m ((c.tc : Thread Cert.KernelDiffIdeal.nD Cert.KernelDiffIdeal.τ).loc Cert.KernelDiffIdeal.main_arg1)
      ∧ m' ((c.tc : Thread Cert.ReferenceDiffIdeal.nD Cert.ReferenceDiffIdeal.τ).loc Cert.ReferenceDiffIdeal.main_arg2) = m ((c.tc : Thread Cert.KernelDiffIdeal.nD Cert.KernelDiffIdeal.τ).loc Cert.KernelDiffIdeal.main_arg2)
      ∧ m' ((c.tc : Thread Cert.ReferenceDiffIdeal.nD Cert.ReferenceDiffIdeal.τ).loc Cert.ReferenceDiffIdeal.main_arg3) = m ((c.tc : Thread Cert.KernelDiffIdeal.nD Cert.KernelDiffIdeal.τ).loc Cert.KernelDiffIdeal.main_arg3)
      ∧ m' ((c.tc : Thread Cert.ReferenceDiffIdeal.nD Cert.ReferenceDiffIdeal.τ).loc Cert.ReferenceDiffIdeal.main_arg4) = m ((c.tc : Thread Cert.KernelDiffIdeal.nD Cert.KernelDiffIdeal.τ).loc Cert.KernelDiffIdeal.main_arg4)
      ∧ m' ((c.tc : Thread Cert.ReferenceDiffIdeal.nD Cert.ReferenceDiffIdeal.τ).loc Cert.ReferenceDiffIdeal.main_arg5) = m ((c.tc : Thread Cert.KernelDiffIdeal.nD Cert.KernelDiffIdeal.τ).loc Cert.KernelDiffIdeal.main_arg5)
      ∧ m' ((c.tc : Thread Cert.ReferenceDiffIdeal.nD Cert.ReferenceDiffIdeal.τ).loc Cert.ReferenceDiffIdeal.main_arg6) = m ((c.tc : Thread Cert.KernelDiffIdeal.nD Cert.KernelDiffIdeal.τ).loc Cert.KernelDiffIdeal.main_arg6)) →
    ∃ (v0 : (c : Dev Cert.KernelDiffIdeal.nD) → Buf (Elt Ideal) ((c.tc : Thread Cert.KernelDiffIdeal.nD Cert.KernelDiffIdeal.τ).loc Cert.KernelDiffIdeal.main_v25)),
      θ_run (Cert.KernelDiffIdeal.defs (F := Ideal)) (onTc (τ := Cert.KernelDiffIdeal.τ) (Cert.KernelDiffIdeal.main (F := Ideal))) ⟨m, fun _ => 0, g⟩ (fun r => ∀ c : Dev Cert.KernelDiffIdeal.nD,
          r.2.mem ((c.tc : Thread Cert.KernelDiffIdeal.nD Cert.KernelDiffIdeal.τ).loc Cert.KernelDiffIdeal.main_v25) = v0 c
          ∧ r.2.mem ((c.tc : Thread Cert.KernelDiffIdeal.nD Cert.KernelDiffIdeal.τ).loc Cert.KernelDiffIdeal.main_arg0) = m ((c.tc : Thread Cert.KernelDiffIdeal.nD Cert.KernelDiffIdeal.τ).loc Cert.KernelDiffIdeal.main_arg0)
          ∧ r.2.mem ((c.tc : Thread Cert.KernelDiffIdeal.nD Cert.KernelDiffIdeal.τ).loc Cert.KernelDiffIdeal.main_arg1) = m ((c.tc : Thread Cert.KernelDiffIdeal.nD Cert.KernelDiffIdeal.τ).loc Cert.KernelDiffIdeal.main_arg1)
          ∧ r.2.mem ((c.tc : Thread Cert.KernelDiffIdeal.nD Cert.KernelDiffIdeal.τ).loc Cert.KernelDiffIdeal.main_arg2) = m ((c.tc : Thread Cert.KernelDiffIdeal.nD Cert.KernelDiffIdeal.τ).loc Cert.KernelDiffIdeal.main_arg2)
          ∧ r.2.mem ((c.tc : Thread Cert.KernelDiffIdeal.nD Cert.KernelDiffIdeal.τ).loc Cert.KernelDiffIdeal.main_arg3) = m ((c.tc : Thread Cert.KernelDiffIdeal.nD Cert.KernelDiffIdeal.τ).loc Cert.KernelDiffIdeal.main_arg3)
          ∧ r.2.mem ((c.tc : Thread Cert.KernelDiffIdeal.nD Cert.KernelDiffIdeal.τ).loc Cert.KernelDiffIdeal.main_arg4) = m ((c.tc : Thread Cert.KernelDiffIdeal.nD Cert.KernelDiffIdeal.τ).loc Cert.KernelDiffIdeal.main_arg4)
          ∧ r.2.mem ((c.tc : Thread Cert.KernelDiffIdeal.nD Cert.KernelDiffIdeal.τ).loc Cert.KernelDiffIdeal.main_arg5) = m ((c.tc : Thread Cert.KernelDiffIdeal.nD Cert.KernelDiffIdeal.τ).loc Cert.KernelDiffIdeal.main_arg5)
          ∧ r.2.mem ((c.tc : Thread Cert.KernelDiffIdeal.nD Cert.KernelDiffIdeal.τ).loc Cert.KernelDiffIdeal.main_arg6) = m ((c.tc : Thread Cert.KernelDiffIdeal.nD Cert.KernelDiffIdeal.τ).loc Cert.KernelDiffIdeal.main_arg6))
      ∧ θ_run (Cert.ReferenceDiffIdeal.defs (F := Ideal)) (onTc (τ := Cert.ReferenceDiffIdeal.τ) (Cert.ReferenceDiffIdeal.main (F := Ideal))) ⟨m', fun _ => 0, g'⟩ (fun r => ∀ c : Dev Cert.ReferenceDiffIdeal.nD,
          r.2.mem ((c.tc : Thread Cert.ReferenceDiffIdeal.nD Cert.ReferenceDiffIdeal.τ).loc Cert.ReferenceDiffIdeal.main_v57) = v0 c
          ∧ r.2.mem ((c.tc : Thread Cert.ReferenceDiffIdeal.nD Cert.ReferenceDiffIdeal.τ).loc Cert.ReferenceDiffIdeal.main_arg0) = m' ((c.tc : Thread Cert.ReferenceDiffIdeal.nD Cert.ReferenceDiffIdeal.τ).loc Cert.ReferenceDiffIdeal.main_arg0)
          ∧ r.2.mem ((c.tc : Thread Cert.ReferenceDiffIdeal.nD Cert.ReferenceDiffIdeal.τ).loc Cert.ReferenceDiffIdeal.main_arg1) = m' ((c.tc : Thread Cert.ReferenceDiffIdeal.nD Cert.ReferenceDiffIdeal.τ).loc Cert.ReferenceDiffIdeal.main_arg1)
          ∧ r.2.mem ((c.tc : Thread Cert.ReferenceDiffIdeal.nD Cert.ReferenceDiffIdeal.τ).loc Cert.ReferenceDiffIdeal.main_arg2) = m' ((c.tc : Thread Cert.ReferenceDiffIdeal.nD Cert.ReferenceDiffIdeal.τ).loc Cert.ReferenceDiffIdeal.main_arg2)
          ∧ r.2.mem ((c.tc : Thread Cert.ReferenceDiffIdeal.nD Cert.ReferenceDiffIdeal.τ).loc Cert.ReferenceDiffIdeal.main_arg3) = m' ((c.tc : Thread Cert.ReferenceDiffIdeal.nD Cert.ReferenceDiffIdeal.τ).loc Cert.ReferenceDiffIdeal.main_arg3)
          ∧ r.2.mem ((c.tc : Thread Cert.ReferenceDiffIdeal.nD Cert.ReferenceDiffIdeal.τ).loc Cert.ReferenceDiffIdeal.main_arg4) = m' ((c.tc : Thread Cert.ReferenceDiffIdeal.nD Cert.ReferenceDiffIdeal.τ).loc Cert.ReferenceDiffIdeal.main_arg4)
          ∧ r.2.mem ((c.tc : Thread Cert.ReferenceDiffIdeal.nD Cert.ReferenceDiffIdeal.τ).loc Cert.ReferenceDiffIdeal.main_arg5) = m' ((c.tc : Thread Cert.ReferenceDiffIdeal.nD Cert.ReferenceDiffIdeal.τ).loc Cert.ReferenceDiffIdeal.main_arg5)
          ∧ r.2.mem ((c.tc : Thread Cert.ReferenceDiffIdeal.nD Cert.ReferenceDiffIdeal.τ).loc Cert.ReferenceDiffIdeal.main_arg6) = m' ((c.tc : Thread Cert.ReferenceDiffIdeal.nD Cert.ReferenceDiffIdeal.τ).loc Cert.ReferenceDiffIdeal.main_arg6))

def preserves_KernelQu_KernelQuIdeal : Prop :=
  True

def algebraic_KernelQuIdeal_ReferenceQuIdeal [hKernelQuIdeal : Cert.KernelQuIdeal.Facts] [hReferenceQuIdeal : Cert.ReferenceQuIdeal.Facts] : Prop :=
  ∀ (m : (ℓ : Loc Cert.KernelQuIdeal.nD Cert.KernelQuIdeal.τ Cert.KernelQuIdeal.sig) → Buf (Elt Ideal) ℓ) (g : Dev Cert.KernelQuIdeal.nD → PrngReg)
    (m' : (ℓ : Loc Cert.ReferenceQuIdeal.nD Cert.ReferenceQuIdeal.τ Cert.ReferenceQuIdeal.sig) → Buf (Elt Ideal) ℓ) (g' : Dev Cert.ReferenceQuIdeal.nD → PrngReg), Pre_KernelQuIdeal m →
    (∀ c : Dev Cert.KernelQuIdeal.nD,
      m' ((c.tc : Thread Cert.ReferenceQuIdeal.nD Cert.ReferenceQuIdeal.τ).loc Cert.ReferenceQuIdeal.main_arg0) = m ((c.tc : Thread Cert.KernelQuIdeal.nD Cert.KernelQuIdeal.τ).loc Cert.KernelQuIdeal.main_arg0)
      ∧ m' ((c.tc : Thread Cert.ReferenceQuIdeal.nD Cert.ReferenceQuIdeal.τ).loc Cert.ReferenceQuIdeal.main_arg1) = m ((c.tc : Thread Cert.KernelQuIdeal.nD Cert.KernelQuIdeal.τ).loc Cert.KernelQuIdeal.main_arg1)) →
    ∃ (v0 : (c : Dev Cert.KernelQuIdeal.nD) → Buf (Elt Ideal) ((c.tc : Thread Cert.KernelQuIdeal.nD Cert.KernelQuIdeal.τ).loc Cert.KernelQuIdeal.main_v7)),
      θ_run (Cert.KernelQuIdeal.defs (F := Ideal)) (onTc (τ := Cert.KernelQuIdeal.τ) (Cert.KernelQuIdeal.main (F := Ideal))) ⟨m, fun _ => 0, g⟩ (fun r => ∀ c : Dev Cert.KernelQuIdeal.nD,
          r.2.mem ((c.tc : Thread Cert.KernelQuIdeal.nD Cert.KernelQuIdeal.τ).loc Cert.KernelQuIdeal.main_v7) = v0 c
          ∧ r.2.mem ((c.tc : Thread Cert.KernelQuIdeal.nD Cert.KernelQuIdeal.τ).loc Cert.KernelQuIdeal.main_arg0) = m ((c.tc : Thread Cert.KernelQuIdeal.nD Cert.KernelQuIdeal.τ).loc Cert.KernelQuIdeal.main_arg0)
          ∧ r.2.mem ((c.tc : Thread Cert.KernelQuIdeal.nD Cert.KernelQuIdeal.τ).loc Cert.KernelQuIdeal.main_arg1) = m ((c.tc : Thread Cert.KernelQuIdeal.nD Cert.KernelQuIdeal.τ).loc Cert.KernelQuIdeal.main_arg1))
      ∧ θ_run (Cert.ReferenceQuIdeal.defs (F := Ideal)) (onTc (τ := Cert.ReferenceQuIdeal.τ) (Cert.ReferenceQuIdeal.main (F := Ideal))) ⟨m', fun _ => 0, g'⟩ (fun r => ∀ c : Dev Cert.ReferenceQuIdeal.nD,
          r.2.mem ((c.tc : Thread Cert.ReferenceQuIdeal.nD Cert.ReferenceQuIdeal.τ).loc Cert.ReferenceQuIdeal.main_v7) = v0 c
          ∧ r.2.mem ((c.tc : Thread Cert.ReferenceQuIdeal.nD Cert.ReferenceQuIdeal.τ).loc Cert.ReferenceQuIdeal.main_arg0) = m' ((c.tc : Thread Cert.ReferenceQuIdeal.nD Cert.ReferenceQuIdeal.τ).loc Cert.ReferenceQuIdeal.main_arg0)
          ∧ r.2.mem ((c.tc : Thread Cert.ReferenceQuIdeal.nD Cert.ReferenceQuIdeal.τ).loc Cert.ReferenceQuIdeal.main_arg1) = m' ((c.tc : Thread Cert.ReferenceQuIdeal.nD Cert.ReferenceQuIdeal.τ).loc Cert.ReferenceQuIdeal.main_arg1))

def preserves_KernelKv_KernelKvIdeal : Prop :=
  True

def algebraic_KernelKvIdeal_ReferenceKvIdeal [hKernelKvIdeal : Cert.KernelKvIdeal.Facts] [hReferenceKvIdeal : Cert.ReferenceKvIdeal.Facts] : Prop :=
  ∀ (m : (ℓ : Loc Cert.KernelKvIdeal.nD Cert.KernelKvIdeal.τ Cert.KernelKvIdeal.sig) → Buf (Elt Ideal) ℓ) (g : Dev Cert.KernelKvIdeal.nD → PrngReg)
    (m' : (ℓ : Loc Cert.ReferenceKvIdeal.nD Cert.ReferenceKvIdeal.τ Cert.ReferenceKvIdeal.sig) → Buf (Elt Ideal) ℓ) (g' : Dev Cert.ReferenceKvIdeal.nD → PrngReg), Pre_KernelKvIdeal m →
    (∀ c : Dev Cert.KernelKvIdeal.nD,
      m' ((c.tc : Thread Cert.ReferenceKvIdeal.nD Cert.ReferenceKvIdeal.τ).loc Cert.ReferenceKvIdeal.main_arg0) = m ((c.tc : Thread Cert.KernelKvIdeal.nD Cert.KernelKvIdeal.τ).loc Cert.KernelKvIdeal.main_arg0)
      ∧ m' ((c.tc : Thread Cert.ReferenceKvIdeal.nD Cert.ReferenceKvIdeal.τ).loc Cert.ReferenceKvIdeal.main_arg1) = m ((c.tc : Thread Cert.KernelKvIdeal.nD Cert.KernelKvIdeal.τ).loc Cert.KernelKvIdeal.main_arg1)) →
    ∃ (v0 : (c : Dev Cert.KernelKvIdeal.nD) → Buf (Elt Ideal) ((c.tc : Thread Cert.KernelKvIdeal.nD Cert.KernelKvIdeal.τ).loc Cert.KernelKvIdeal.main_v3)),
      θ_run (Cert.KernelKvIdeal.defs (F := Ideal)) (onTc (τ := Cert.KernelKvIdeal.τ) (Cert.KernelKvIdeal.main (F := Ideal))) ⟨m, fun _ => 0, g⟩ (fun r => ∀ c : Dev Cert.KernelKvIdeal.nD,
          r.2.mem ((c.tc : Thread Cert.KernelKvIdeal.nD Cert.KernelKvIdeal.τ).loc Cert.KernelKvIdeal.main_v3) = v0 c
          ∧ r.2.mem ((c.tc : Thread Cert.KernelKvIdeal.nD Cert.KernelKvIdeal.τ).loc Cert.KernelKvIdeal.main_arg0) = m ((c.tc : Thread Cert.KernelKvIdeal.nD Cert.KernelKvIdeal.τ).loc Cert.KernelKvIdeal.main_arg0)
          ∧ r.2.mem ((c.tc : Thread Cert.KernelKvIdeal.nD Cert.KernelKvIdeal.τ).loc Cert.KernelKvIdeal.main_arg1) = m ((c.tc : Thread Cert.KernelKvIdeal.nD Cert.KernelKvIdeal.τ).loc Cert.KernelKvIdeal.main_arg1))
      ∧ θ_run (Cert.ReferenceKvIdeal.defs (F := Ideal)) (onTc (τ := Cert.ReferenceKvIdeal.τ) (Cert.ReferenceKvIdeal.main (F := Ideal))) ⟨m', fun _ => 0, g'⟩ (fun r => ∀ c : Dev Cert.ReferenceKvIdeal.nD,
          r.2.mem ((c.tc : Thread Cert.ReferenceKvIdeal.nD Cert.ReferenceKvIdeal.τ).loc Cert.ReferenceKvIdeal.main_v3) = v0 c
          ∧ r.2.mem ((c.tc : Thread Cert.ReferenceKvIdeal.nD Cert.ReferenceKvIdeal.τ).loc Cert.ReferenceKvIdeal.main_arg0) = m' ((c.tc : Thread Cert.ReferenceKvIdeal.nD Cert.ReferenceKvIdeal.τ).loc Cert.ReferenceKvIdeal.main_arg0)
          ∧ r.2.mem ((c.tc : Thread Cert.ReferenceKvIdeal.nD Cert.ReferenceKvIdeal.τ).loc Cert.ReferenceKvIdeal.main_arg1) = m' ((c.tc : Thread Cert.ReferenceKvIdeal.nD Cert.ReferenceKvIdeal.τ).loc Cert.ReferenceKvIdeal.main_arg1))

def preserves_KernelKr_KernelKrIdeal : Prop :=
  True

def algebraic_KernelKrIdeal_ReferenceKrIdeal [hKernelKrIdeal : Cert.KernelKrIdeal.Facts] [hReferenceKrIdeal : Cert.ReferenceKrIdeal.Facts] : Prop :=
  ∀ (m : (ℓ : Loc Cert.KernelKrIdeal.nD Cert.KernelKrIdeal.τ Cert.KernelKrIdeal.sig) → Buf (Elt Ideal) ℓ) (g : Dev Cert.KernelKrIdeal.nD → PrngReg)
    (m' : (ℓ : Loc Cert.ReferenceKrIdeal.nD Cert.ReferenceKrIdeal.τ Cert.ReferenceKrIdeal.sig) → Buf (Elt Ideal) ℓ) (g' : Dev Cert.ReferenceKrIdeal.nD → PrngReg), Pre_KernelKrIdeal m →
    (∀ c : Dev Cert.KernelKrIdeal.nD,
      m' ((c.tc : Thread Cert.ReferenceKrIdeal.nD Cert.ReferenceKrIdeal.τ).loc Cert.ReferenceKrIdeal.main_arg0) = m ((c.tc : Thread Cert.KernelKrIdeal.nD Cert.KernelKrIdeal.τ).loc Cert.KernelKrIdeal.main_arg0)
      ∧ m' ((c.tc : Thread Cert.ReferenceKrIdeal.nD Cert.ReferenceKrIdeal.τ).loc Cert.ReferenceKrIdeal.main_arg1) = m ((c.tc : Thread Cert.KernelKrIdeal.nD Cert.KernelKrIdeal.τ).loc Cert.KernelKrIdeal.main_arg1)) →
    ∃ (v0 : (c : Dev Cert.KernelKrIdeal.nD) → Buf (Elt Ideal) ((c.tc : Thread Cert.KernelKrIdeal.nD Cert.KernelKrIdeal.τ).loc Cert.KernelKrIdeal.main_v1)),
      θ_run (Cert.KernelKrIdeal.defs (F := Ideal)) (onTc (τ := Cert.KernelKrIdeal.τ) (Cert.KernelKrIdeal.main (F := Ideal))) ⟨m, fun _ => 0, g⟩ (fun r => ∀ c : Dev Cert.KernelKrIdeal.nD,
          r.2.mem ((c.tc : Thread Cert.KernelKrIdeal.nD Cert.KernelKrIdeal.τ).loc Cert.KernelKrIdeal.main_v1) = v0 c
          ∧ r.2.mem ((c.tc : Thread Cert.KernelKrIdeal.nD Cert.KernelKrIdeal.τ).loc Cert.KernelKrIdeal.main_arg0) = m ((c.tc : Thread Cert.KernelKrIdeal.nD Cert.KernelKrIdeal.τ).loc Cert.KernelKrIdeal.main_arg0)
          ∧ r.2.mem ((c.tc : Thread Cert.KernelKrIdeal.nD Cert.KernelKrIdeal.τ).loc Cert.KernelKrIdeal.main_arg1) = m ((c.tc : Thread Cert.KernelKrIdeal.nD Cert.KernelKrIdeal.τ).loc Cert.KernelKrIdeal.main_arg1))
      ∧ θ_run (Cert.ReferenceKrIdeal.defs (F := Ideal)) (onTc (τ := Cert.ReferenceKrIdeal.τ) (Cert.ReferenceKrIdeal.main (F := Ideal))) ⟨m', fun _ => 0, g'⟩ (fun r => ∀ c : Dev Cert.ReferenceKrIdeal.nD,
          r.2.mem ((c.tc : Thread Cert.ReferenceKrIdeal.nD Cert.ReferenceKrIdeal.τ).loc Cert.ReferenceKrIdeal.main_v6) = v0 c
          ∧ r.2.mem ((c.tc : Thread Cert.ReferenceKrIdeal.nD Cert.ReferenceKrIdeal.τ).loc Cert.ReferenceKrIdeal.main_arg0) = m' ((c.tc : Thread Cert.ReferenceKrIdeal.nD Cert.ReferenceKrIdeal.τ).loc Cert.ReferenceKrIdeal.main_arg0)
          ∧ r.2.mem ((c.tc : Thread Cert.ReferenceKrIdeal.nD Cert.ReferenceKrIdeal.τ).loc Cert.ReferenceKrIdeal.main_arg1) = m' ((c.tc : Thread Cert.ReferenceKrIdeal.nD Cert.ReferenceKrIdeal.τ).loc Cert.ReferenceKrIdeal.main_arg1))

def Claim : Prop :=
  ∃ (hKernel : Cert.Kernel.Facts) (hKernelIdeal : Cert.KernelIdeal.Facts) (hReferenceIdeal : Cert.ReferenceIdeal.Facts) (hKernelUp : Cert.KernelUp.Facts) (hKernelUpIdeal : Cert.KernelUpIdeal.Facts) (hReferenceUpIdeal : Cert.ReferenceUpIdeal.Facts) (hKernelDown : Cert.KernelDown.Facts) (hKernelDownIdeal : Cert.KernelDownIdeal.Facts) (hReferenceDownIdeal : Cert.ReferenceDownIdeal.Facts) (hKernelIn : Cert.KernelIn.Facts) (hKernelInIdeal : Cert.KernelInIdeal.Facts) (hReferenceInIdeal : Cert.ReferenceInIdeal.Facts) (hKernelOut : Cert.KernelOut.Facts) (hKernelOutIdeal : Cert.KernelOutIdeal.Facts) (hReferenceOutIdeal : Cert.ReferenceOutIdeal.Facts) (hKernelNorm : Cert.KernelNorm.Facts) (hKernelNormIdeal : Cert.KernelNormIdeal.Facts) (hReferenceNormIdeal : Cert.ReferenceNormIdeal.Facts) (hKernelLat : Cert.KernelLat.Facts) (hKernelLatIdeal : Cert.KernelLatIdeal.Facts) (hReferenceLatIdeal : Cert.ReferenceLatIdeal.Facts) (hKernelDiff : Cert.KernelDiff.Facts) (hKernelDiffIdeal : Cert.KernelDiffIdeal.Facts) (hReferenceDiffIdeal : Cert.ReferenceDiffIdeal.Facts) (hKernelQu : Cert.KernelQu.Facts) (hKernelQuIdeal : Cert.KernelQuIdeal.Facts) (hReferenceQuIdeal : Cert.ReferenceQuIdeal.Facts) (hKernelKv : Cert.KernelKv.Facts) (hKernelKvIdeal : Cert.KernelKvIdeal.Facts) (hReferenceKvIdeal : Cert.ReferenceKvIdeal.Facts) (hKernelKr : Cert.KernelKr.Facts) (hKernelKrIdeal : Cert.KernelKrIdeal.Facts) (hReferenceKrIdeal : Cert.ReferenceKrIdeal.Facts) (hPre_finite_q_k : Cert.Pre_finite_q_k.Facts) (hPre_finite_q_k_c : Cert.Pre_finite_q_k_c.Facts) (hPre_finite_q_k_v_lam : Cert.Pre_finite_q_k_v_lam.Facts),
    quiescent_Kernel (hKernel := hKernel)
    ∧ quiescent_KernelIdeal (hKernelIdeal := hKernelIdeal)
    ∧ quiescent_KernelIdeal_pre_finite_q_k (hKernelIdeal := hKernelIdeal) (hPre_finite_q_k := hPre_finite_q_k)
    ∧ quiescent_ReferenceIdeal (hReferenceIdeal := hReferenceIdeal)
    ∧ quiescent_ReferenceIdeal_pre_finite_q_k (hReferenceIdeal := hReferenceIdeal) (hPre_finite_q_k := hPre_finite_q_k)
    ∧ quiescent_KernelUp (hKernelUp := hKernelUp)
    ∧ quiescent_KernelUpIdeal (hKernelUpIdeal := hKernelUpIdeal)
    ∧ quiescent_ReferenceUpIdeal (hReferenceUpIdeal := hReferenceUpIdeal)
    ∧ quiescent_KernelDown (hKernelDown := hKernelDown)
    ∧ quiescent_KernelDownIdeal (hKernelDownIdeal := hKernelDownIdeal)
    ∧ quiescent_ReferenceDownIdeal (hReferenceDownIdeal := hReferenceDownIdeal)
    ∧ quiescent_KernelIn (hKernelIn := hKernelIn)
    ∧ quiescent_KernelInIdeal (hKernelInIdeal := hKernelInIdeal)
    ∧ quiescent_ReferenceInIdeal (hReferenceInIdeal := hReferenceInIdeal)
    ∧ quiescent_KernelOut (hKernelOut := hKernelOut)
    ∧ quiescent_KernelOutIdeal (hKernelOutIdeal := hKernelOutIdeal)
    ∧ quiescent_ReferenceOutIdeal (hReferenceOutIdeal := hReferenceOutIdeal)
    ∧ quiescent_KernelNorm (hKernelNorm := hKernelNorm)
    ∧ quiescent_KernelNormIdeal (hKernelNormIdeal := hKernelNormIdeal)
    ∧ quiescent_ReferenceNormIdeal (hReferenceNormIdeal := hReferenceNormIdeal)
    ∧ quiescent_KernelLat (hKernelLat := hKernelLat)
    ∧ quiescent_KernelLatIdeal (hKernelLatIdeal := hKernelLatIdeal)
    ∧ quiescent_KernelLatIdeal_pre_finite_q_k_c (hKernelLatIdeal := hKernelLatIdeal) (hPre_finite_q_k_c := hPre_finite_q_k_c)
    ∧ quiescent_ReferenceLatIdeal (hReferenceLatIdeal := hReferenceLatIdeal)
    ∧ quiescent_ReferenceLatIdeal_pre_finite_q_k_c (hReferenceLatIdeal := hReferenceLatIdeal) (hPre_finite_q_k_c := hPre_finite_q_k_c)
    ∧ quiescent_KernelDiff (hKernelDiff := hKernelDiff)
    ∧ quiescent_KernelDiffIdeal (hKernelDiffIdeal := hKernelDiffIdeal)
    ∧ quiescent_KernelDiffIdeal_pre_finite_q_k_v_lam (hKernelDiffIdeal := hKernelDiffIdeal) (hPre_finite_q_k_v_lam := hPre_finite_q_k_v_lam)
    ∧ quiescent_ReferenceDiffIdeal (hReferenceDiffIdeal := hReferenceDiffIdeal)
    ∧ quiescent_ReferenceDiffIdeal_pre_finite_q_k_v_lam (hReferenceDiffIdeal := hReferenceDiffIdeal) (hPre_finite_q_k_v_lam := hPre_finite_q_k_v_lam)
    ∧ quiescent_KernelQu (hKernelQu := hKernelQu)
    ∧ quiescent_KernelQuIdeal (hKernelQuIdeal := hKernelQuIdeal)
    ∧ quiescent_ReferenceQuIdeal (hReferenceQuIdeal := hReferenceQuIdeal)
    ∧ quiescent_KernelKv (hKernelKv := hKernelKv)
    ∧ quiescent_KernelKvIdeal (hKernelKvIdeal := hKernelKvIdeal)
    ∧ quiescent_ReferenceKvIdeal (hReferenceKvIdeal := hReferenceKvIdeal)
    ∧ quiescent_KernelKr (hKernelKr := hKernelKr)
    ∧ quiescent_KernelKrIdeal (hKernelKrIdeal := hKernelKrIdeal)
    ∧ quiescent_ReferenceKrIdeal (hReferenceKrIdeal := hReferenceKrIdeal)
    ∧ preserves_Kernel_KernelIdeal
    ∧ algebraic_KernelIdeal_ReferenceIdeal_pre_finite_q_k (hKernelIdeal := hKernelIdeal) (hReferenceIdeal := hReferenceIdeal) (hPre_finite_q_k := hPre_finite_q_k)
    ∧ preserves_KernelUp_KernelUpIdeal
    ∧ algebraic_KernelUpIdeal_ReferenceUpIdeal (hKernelUpIdeal := hKernelUpIdeal) (hReferenceUpIdeal := hReferenceUpIdeal)
    ∧ preserves_KernelDown_KernelDownIdeal
    ∧ algebraic_KernelDownIdeal_ReferenceDownIdeal (hKernelDownIdeal := hKernelDownIdeal) (hReferenceDownIdeal := hReferenceDownIdeal)
    ∧ preserves_KernelIn_KernelInIdeal
    ∧ algebraic_KernelInIdeal_ReferenceInIdeal (hKernelInIdeal := hKernelInIdeal) (hReferenceInIdeal := hReferenceInIdeal)
    ∧ preserves_KernelOut_KernelOutIdeal
    ∧ algebraic_KernelOutIdeal_ReferenceOutIdeal (hKernelOutIdeal := hKernelOutIdeal) (hReferenceOutIdeal := hReferenceOutIdeal)
    ∧ preserves_KernelNorm_KernelNormIdeal
    ∧ algebraic_KernelNormIdeal_ReferenceNormIdeal (hKernelNormIdeal := hKernelNormIdeal) (hReferenceNormIdeal := hReferenceNormIdeal)
    ∧ preserves_KernelLat_KernelLatIdeal
    ∧ algebraic_KernelLatIdeal_ReferenceLatIdeal_pre_finite_q_k_c (hKernelLatIdeal := hKernelLatIdeal) (hReferenceLatIdeal := hReferenceLatIdeal) (hPre_finite_q_k_c := hPre_finite_q_k_c)
    ∧ preserves_KernelDiff_KernelDiffIdeal
    ∧ algebraic_KernelDiffIdeal_ReferenceDiffIdeal_pre_finite_q_k_v_lam (hKernelDiffIdeal := hKernelDiffIdeal) (hReferenceDiffIdeal := hReferenceDiffIdeal) (hPre_finite_q_k_v_lam := hPre_finite_q_k_v_lam)
    ∧ preserves_KernelQu_KernelQuIdeal
    ∧ algebraic_KernelQuIdeal_ReferenceQuIdeal (hKernelQuIdeal := hKernelQuIdeal) (hReferenceQuIdeal := hReferenceQuIdeal)
    ∧ preserves_KernelKv_KernelKvIdeal
    ∧ algebraic_KernelKvIdeal_ReferenceKvIdeal (hKernelKvIdeal := hKernelKvIdeal) (hReferenceKvIdeal := hReferenceKvIdeal)
    ∧ preserves_KernelKr_KernelKrIdeal
    ∧ algebraic_KernelKrIdeal_ReferenceKrIdeal (hKernelKrIdeal := hKernelKrIdeal) (hReferenceKrIdeal := hReferenceKrIdeal)
-- ==== Pre_finite_q_k.lean ====
abbrev S8192x12x128 : Shape := ⟨3, ![8192, 12, 128]⟩
abbrev S8192x4x128 : Shape := ⟨3, ![8192, 4, 128]⟩
abbrev S128 : Shape := ⟨1, ![128]⟩
abbrev S_ : Shape := ⟨0, ![]⟩

class Facts : Prop where
  bcast_S_S8192x12x128 : S_.BroadcastsInDim S8192x12x128 (![] : Fin 0 → Fin S8192x12x128.rank)
  reducesTo_S8192x12x128_S_d0_1_2 : S8192x12x128.ReducesTo [0, 1, 2] S_
  h_S_ : 0 < S_.numel
  bcast_S_S8192x4x128 : S_.BroadcastsInDim S8192x4x128 (![] : Fin 0 → Fin S8192x4x128.rank)
  reducesTo_S8192x4x128_S_d0_1_2 : S8192x4x128.ReducesTo [0, 1, 2] S_

variable [Facts]

def fn {F : FTy → Type} [FloatOps F] (main_arg0 : FVec F S8192x12x128 .f32) (main_arg1 : FVec F S8192x4x128 .f32) (main_arg2 : FVec F S8192x4x128 .f32) (main_arg3 : FVec F S128 .f32) (main_arg4 : FVec F S128 .f32) : IVec S_ 1 :=
  let main_v0 : FVec F S8192x12x128 .f32 := Host.absf main_arg0
  let main_cst : FVec F S_ .f32 := constant S_ .f32 0x7F800000#32
  let main_v1 : FVec F S8192x12x128 .f32 := broadcastInDim S8192x12x128 ![] bcast_S_S8192x12x128 main_cst
  let main_v2 : IVec S8192x12x128 1 := cmpf .olt main_v0 main_v1
  let main_c : IVec S_ 1 := constantI S_ 1 1#1
  let main_v3 : IVec S_ 1 := (fun x v => Host.reduce IntOp.andi x v reducesTo_S8192x12x128_S_d0_1_2 h_S_) main_v2 main_c
  let main_v4 : FVec F S8192x4x128 .f32 := Host.absf main_arg1
  let main_cst_0 : FVec F S_ .f32 := constant S_ .f32 0x7F800000#32
  let main_v5 : FVec F S8192x4x128 .f32 := broadcastInDim S8192x4x128 ![] bcast_S_S8192x4x128 main_cst_0
  let main_v6 : IVec S8192x4x128 1 := cmpf .olt main_v4 main_v5
  let main_c_1 : IVec S_ 1 := constantI S_ 1 1#1
  let main_v7 : IVec S_ 1 := (fun x v => Host.reduce IntOp.andi x v reducesTo_S8192x4x128_S_d0_1_2 h_S_) main_v6 main_c_1
  let main_v8 : IVec S_ 1 := andi main_v3 main_v7
  main_v8
-- ==== Pre_finite_q_k_c.lean ====
abbrev S8192x12x192 : Shape := ⟨3, ![8192, 12, 192]⟩
abbrev S8192x12x128 : Shape := ⟨3, ![8192, 12, 128]⟩
abbrev S192 : Shape := ⟨1, ![192]⟩
abbrev S_ : Shape := ⟨0, ![]⟩

class Facts : Prop where
  bcast_S_S8192x12x192 : S_.BroadcastsInDim S8192x12x192 (![] : Fin 0 → Fin S8192x12x192.rank)
  reducesTo_S8192x12x192_S_d0_1_2 : S8192x12x192.ReducesTo [0, 1, 2] S_
  h_S_ : 0 < S_.numel

variable [Facts]

def fn {F : FTy → Type} [FloatOps F] (main_arg0 : FVec F S8192x12x192 .f32) (main_arg1 : FVec F S8192x12x192 .f32) (main_arg2 : FVec F S8192x12x128 .f32) (main_arg3 : FVec F S192 .f32) (main_arg4 : FVec F S192 .f32) : IVec S_ 1 :=
  let main_v0 : FVec F S8192x12x192 .f32 := Host.absf main_arg0
  let main_cst : FVec F S_ .f32 := constant S_ .f32 0x7F800000#32
  let main_v1 : FVec F S8192x12x192 .f32 := broadcastInDim S8192x12x192 ![] bcast_S_S8192x12x192 main_cst
  let main_v2 : IVec S8192x12x192 1 := cmpf .olt main_v0 main_v1
  let main_c : IVec S_ 1 := constantI S_ 1 1#1
  let main_v3 : IVec S_ 1 := (fun x v => Host.reduce IntOp.andi x v reducesTo_S8192x12x192_S_d0_1_2 h_S_) main_v2 main_c
  let main_v4 : FVec F S8192x12x192 .f32 := Host.absf main_arg1
  let main_cst_0 : FVec F S_ .f32 := constant S_ .f32 0x7F800000#32
  let main_v5 : FVec F S8192x12x192 .f32 := broadcastInDim S8192x12x192 ![] bcast_S_S8192x12x192 main_cst_0
  let main_v6 : IVec S8192x12x192 1 := cmpf .olt main_v4 main_v5
  let main_c_1 : IVec S_ 1 := constantI S_ 1 1#1
  let main_v7 : IVec S_ 1 := (fun x v => Host.reduce IntOp.andi x v reducesTo_S8192x12x192_S_d0_1_2 h_S_) main_v6 main_c_1
  let main_v8 : IVec S_ 1 := andi main_v3 main_v7
  main_v8
-- ==== Pre_finite_q_k_v_lam.lean ====
abbrev S8192x8x2x64 : Shape := ⟨4, ![8192, 8, 2, 64]⟩
abbrev S8192x8x128 : Shape := ⟨3, ![8192, 8, 128]⟩
abbrev S4x64 : Shape := ⟨2, ![4, 64]⟩
abbrev S128 : Shape := ⟨1, ![128]⟩
abbrev S64 : Shape := ⟨1, ![64]⟩
abbrev S_ : Shape := ⟨0, ![]⟩

class Facts : Prop where
  bcast_S_S8192x8x2x64 : S_.BroadcastsInDim S8192x8x2x64 (![] : Fin 0 → Fin S8192x8x2x64.rank)
  reducesTo_S8192x8x2x64_S_d0_1_2_3 : S8192x8x2x64.ReducesTo [0, 1, 2, 3] S_
  h_S_ : 0 < S_.numel
  bcast_S_S8192x8x128 : S_.BroadcastsInDim S8192x8x128 (![] : Fin 0 → Fin S8192x8x128.rank)
  reducesTo_S8192x8x128_S_d0_1_2 : S8192x8x128.ReducesTo [0, 1, 2] S_
  bcast_S_S4x64 : S_.BroadcastsInDim S4x64 (![] : Fin 0 → Fin S4x64.rank)
  reducesTo_S4x64_S_d0_1 : S4x64.ReducesTo [0, 1] S_

variable [Facts]

def fn_part1 {F : FTy → Type} [FloatOps F] (main_v13 : IVec S_ 1) (main_v16 : IVec S4x64 1) : IVec S_ 1 :=
  let main_c_5 : IVec S_ 1 := constantI S_ 1 1#1
  let main_v17 : IVec S_ 1 := (fun x v => Host.reduce IntOp.andi x v reducesTo_S4x64_S_d0_1 h_S_) main_v16 main_c_5
  let main_v18 : IVec S_ 1 := andi main_v13 main_v17
  main_v18

def fn {F : FTy → Type} [FloatOps F] (main_arg0 : FVec F S8192x8x2x64 .f32) (main_arg1 : FVec F S8192x8x2x64 .f32) (main_arg2 : FVec F S8192x8x128 .f32) (main_arg3 : FVec F S4x64 .f32) (main_arg4 : FVec F S128 .f32) (main_arg5 : FVec F S64 .f32) (main_arg6 : FVec F S64 .f32) : IVec S_ 1 :=
  let main_v0 : FVec F S8192x8x2x64 .f32 := Host.absf main_arg0
  let main_cst : FVec F S_ .f32 := constant S_ .f32 0x7F800000#32
  let main_v1 : FVec F S8192x8x2x64 .f32 := broadcastInDim S8192x8x2x64 ![] bcast_S_S8192x8x2x64 main_cst
  let main_v2 : IVec S8192x8x2x64 1 := cmpf .olt main_v0 main_v1
  let main_c : IVec S_ 1 := constantI S_ 1 1#1
  let main_v3 : IVec S_ 1 := (fun x v => Host.reduce IntOp.andi x v reducesTo_S8192x8x2x64_S_d0_1_2_3 h_S_) main_v2 main_c
  let main_v4 : FVec F S8192x8x2x64 .f32 := Host.absf main_arg1
  let main_cst_0 : FVec F S_ .f32 := constant S_ .f32 0x7F800000#32
  let main_v5 : FVec F S8192x8x2x64 .f32 := broadcastInDim S8192x8x2x64 ![] bcast_S_S8192x8x2x64 main_cst_0
  let main_v6 : IVec S8192x8x2x64 1 := cmpf .olt main_v4 main_v5
  let main_c_1 : IVec S_ 1 := constantI S_ 1 1#1
  let main_v7 : IVec S_ 1 := (fun x v => Host.reduce IntOp.andi x v reducesTo_S8192x8x2x64_S_d0_1_2_3 h_S_) main_v6 main_c_1
  let main_v8 : IVec S_ 1 := andi main_v3 main_v7
  let main_v9 : FVec F S8192x8x128 .f32 := Host.absf main_arg2
  let main_cst_2 : FVec F S_ .f32 := constant S_ .f32 0x7F800000#32
  let main_v10 : FVec F S8192x8x128 .f32 := broadcastInDim S8192x8x128 ![] bcast_S_S8192x8x128 main_cst_2
  let main_v11 : IVec S8192x8x128 1 := cmpf .olt main_v9 main_v10
  let main_c_3 : IVec S_ 1 := constantI S_ 1 1#1
  let main_v12 : IVec S_ 1 := (fun x v => Host.reduce IntOp.andi x v reducesTo_S8192x8x128_S_d0_1_2 h_S_) main_v11 main_c_3
  let main_v13 : IVec S_ 1 := andi main_v8 main_v12
  let main_v14 : FVec F S4x64 .f32 := Host.absf main_arg3
  let main_cst_4 : FVec F S_ .f32 := constant S_ .f32 0x7F800000#32
  let main_v15 : FVec F S4x64 .f32 := broadcastInDim S4x64 ![] bcast_S_S4x64 main_cst_4
  let main_v16 : IVec S4x64 1 := cmpf .olt main_v14 main_v15
  fn_part1 (F := F) main_v13 main_v16
-- ==== Kernel.lean ====
abbrev S8192x12x128 : Shape := ⟨3, ![8192, 12, 128]⟩
abbrev S8192x4x128 : Shape := ⟨3, ![8192, 4, 128]⟩
abbrev S128 : Shape := ⟨1, ![128]⟩
abbrev S_ : Shape := ⟨0, ![]⟩
abbrev S16x512x12x128 : Shape := ⟨4, ![16, 512, 12, 128]⟩
abbrev S12x16x128x512 : Shape := ⟨4, ![12, 16, 128, 512]⟩
abbrev S4x8192x128 : Shape := ⟨3, ![4, 8192, 128]⟩
abbrev S16x512x4x128 : Shape := ⟨4, ![16, 512, 4, 128]⟩
abbrev S4x16x128x512 : Shape := ⟨4, ![4, 16, 128, 512]⟩
abbrev S4x16x16x512 : Shape := ⟨4, ![4, 16, 16, 512]⟩
abbrev S4x16x144x512 : Shape := ⟨4, ![4, 16, 144, 512]⟩
abbrev S1x4096 : Shape := ⟨2, ![1, 4096]⟩
abbrev S8192x1536 : Shape := ⟨2, ![8192, 1536]⟩
abbrev S1x16x128x512 : Shape := ⟨4, ![1, 16, 128, 512]⟩
abbrev S1x8192x128 : Shape := ⟨3, ![1, 8192, 128]⟩
abbrev S1x16x144x512 : Shape := ⟨4, ![1, 16, 144, 512]⟩
abbrev S4096x128 : Shape := ⟨2, ![4096, 128]⟩
abbrev S144x4096 : Shape := ⟨2, ![144, 4096]⟩
abbrev S2x512x4096 : Shape := ⟨3, ![2, 512, 4096]⟩
abbrev S2x128x4096 : Shape := ⟨3, ![2, 128, 4096]⟩
abbrev S512x4096 : Shape := ⟨2, ![512, 4096]⟩
abbrev S1x1x128x512 : Shape := ⟨4, ![1, 1, 128, 512]⟩
abbrev S128x512 : Shape := ⟨2, ![128, 512]⟩
abbrev S128x4096 : Shape := ⟨2, ![128, 4096]⟩
abbrev S1x128x4096 : Shape := ⟨3, ![1, 128, 4096]⟩
abbrev S1x512x128 : Shape := ⟨3, ![1, 512, 128]⟩
abbrev S512x128 : Shape := ⟨2, ![512, 128]⟩
abbrev S1x512x4096 : Shape := ⟨3, ![1, 512, 4096]⟩
abbrev S1x1x144x512 : Shape := ⟨4, ![1, 1, 144, 512]⟩
abbrev S144x512 : Shape := ⟨2, ![144, 512]⟩
abbrev S1x1x4096 : Shape := ⟨3, ![1, 1, 4096]⟩
abbrev S1 : Shape := ⟨1, ![1]⟩
abbrev S1x1x1 : Shape := ⟨3, ![1, 1, 1]⟩
abbrev S64x4096 : Shape := ⟨2, ![64, 4096]⟩
abbrev S8x8x4096 : Shape := ⟨3, ![8, 8, 4096]⟩
abbrev S8x4096 : Shape := ⟨2, ![8, 4096]⟩
abbrev S4096 : Shape := ⟨1, ![4096]⟩
abbrev S1x8x4096 : Shape := ⟨3, ![1, 8, 4096]⟩

abbrev nBuf : Space → Nat
  | .hbm => 36
  | .vmem => 15
  | .smem => 0
  | _ => 0

abbrev bufTy : (tb : Table) → Fin (tcTables nBuf tb) → BufTy
  | .hbm, ⟨0, _⟩ => ⟨S8192x12x128, .f32⟩
  | .hbm, ⟨1, _⟩ => ⟨S8192x4x128, .f32⟩
  | .hbm, ⟨2, _⟩ => ⟨S8192x4x128, .f32⟩
  | .hbm, ⟨3, _⟩ => ⟨S128, .f32⟩
  | .hbm, ⟨4, _⟩ => ⟨S128, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S8192x12x128, .f32⟩
  | .hbm, ⟨13, _⟩ => ⟨S8192x12x128, .f32⟩
  | .hbm, ⟨14, _⟩ => ⟨S8192x12x128, .bf16⟩
  | .hbm, ⟨15, _⟩ => ⟨S16x512x12x128, .bf16⟩
  | .hbm, ⟨16, _⟩ => ⟨S12x16x128x512, .bf16⟩
  | .hbm, ⟨17, _⟩ => ⟨S8192x4x128, .bf16⟩
  | .hbm, ⟨18, _⟩ => ⟨S4x8192x128, .bf16⟩
  | .hbm, ⟨19, _⟩ => ⟨S8192x4x128, .bf16⟩
  | .hbm, ⟨20, _⟩ => ⟨S16x512x4x128, .bf16⟩
  | .hbm, ⟨21, _⟩ => ⟨S4x16x128x512, .bf16⟩
  | .hbm, ⟨22, _⟩ => ⟨S_, .bf16⟩
  | .hbm, ⟨23, _⟩ => ⟨S4x16x16x512, .bf16⟩
  | .hbm, ⟨24, _⟩ => ⟨S4x16x144x512, .bf16⟩
  | .hbm, ⟨25, _⟩ => ⟨S128, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S128, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S1x4096, .f32⟩
  | .hbm, ⟨35, _⟩ => ⟨S8192x1536, .bf16⟩
  | .local _ .vmem, ⟨0, _⟩ => ⟨S1x16x128x512, .bf16⟩
  | .local _ .vmem, ⟨1, _⟩ => ⟨S1x16x128x512, .bf16⟩
  | .local _ .vmem, ⟨2, _⟩ => ⟨S1x8192x128, .bf16⟩
  | .local _ .vmem, ⟨3, _⟩ => ⟨S1x8192x128, .bf16⟩
  | .local _ .vmem, ⟨4, _⟩ => ⟨S1x16x144x512, .bf16⟩
  | .local _ .vmem, ⟨5, _⟩ => ⟨S1x16x144x512, .bf16⟩
  | .local _ .vmem, ⟨6, _⟩ => ⟨S1x4096, .f32⟩
  | .local _ .vmem, ⟨7, _⟩ => ⟨S4096x128, .bf16⟩
  | .local _ .vmem, ⟨8, _⟩ => ⟨S4096x128, .bf16⟩
  | .local _ .vmem, ⟨9, _⟩ => ⟨S144x4096, .f32⟩
  | .local _ .vmem, ⟨10, _⟩ => ⟨S2x512x4096, .bf16⟩
  | .local _ .vmem, ⟨11, _⟩ => ⟨S2x128x4096, .bf16⟩
  | .local _ .vmem, ⟨12, _⟩ => ⟨S1x4096, .f32⟩
  | .local _ .vmem, ⟨13, _⟩ => ⟨S512x4096, .f32⟩
  | .local _ .vmem, ⟨14, _⟩ => ⟨S512x4096, .bf16⟩
  | _, _ => ⟨S8192x12x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_cst_1 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_cst_5 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_scratch4 : Ref sig .tc := ⟨.vmem, 13, rfl⟩
abbrev cc0_scratch5 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![12, 2], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_mult1 : BitVec 32 :=
  let c0_i32_71 : BitVec 32 := 0#32
  c0_i32_71
def k0_off1 (i : grid0.Coords) : Fin 3 → Nat :=
  let arg1 : BitVec 32 := BitVec.ofNat 32 (i 1).val
  let c0_i32_69 : BitVec 32 := 0#32
  let v64 : BitVec 32 := Scalar.addi arg1 c0_i32_69
  let c1_i32_70 : BitVec 32 := 1#32
  let v65 : BitVec 32 := Scalar.minsi v64 c1_i32_70
  let v70 : Index := Scalar.indexCast v65
  let c0_74 : Index := 0#32
  let c0_75 : Index := 0#32
  ![v70.toNat, 0, 0]
@[reducible] def k0_t1_loop : Scf.Loop 32 :=
  let c0_i32_2 : BitVec 32 := 0#32
  let c2_i32 : BitVec 32 := 2#32
  let v7 : BitVec 32 := Scalar.addi c0_i32_2 c2_i32
  let c1_i32 : BitVec 32 := 1#32
  ⟨c0_i32_2, v7, c1_i32⟩
def k0_mult2 (k0_t1 : Fin k0_t1_loop.trips) : BitVec 32 :=
  let c0_i32_2 : BitVec 32 := 0#32
  let c1_i32 : BitVec 32 := 1#32
  let arg13 : BitVec 32 := Scf.iv c0_i32_2 c1_i32 k0_t1
  let c8_i32 : BitVec 32 := 8#32
  let v24 : BitVec 32 := Scalar.muli arg13 c8_i32
  let c0_i32_14 : BitVec 32 := 0#32
  let v25 : BitVec 32 := Scalar.addi v24 c0_i32_14
  let c1_i32_15 : BitVec 32 := 1#32
  let v26 : BitVec 32 := Scalar.addi v25 c1_i32_15
  let c15_i32 : BitVec 32 := 15#32
  let v27 : BitVec 32 := Scalar.andi v26 c15_i32
  let c512_i32 : BitVec 32 := 512#32
  let v31 : BitVec 32 := Scalar.muli v27 c512_i32
  v31
def k0_off2 (k0_t1 : Fin k0_t1_loop.trips) (c0_i32_14 : BitVec 32) : Fin 3 → Nat :=
  let c0_17 : Index := 0#32
  let c0_i32_2 : BitVec 32 := 0#32
  let c1_i32 : BitVec 32 := 1#32
  let arg13 : BitVec 32 := Scf.iv c0_i32_2 c1_i32 k0_t1
  let c8_i32 : BitVec 32 := 8#32
  let v24 : BitVec 32 := Scalar.muli arg13 c8_i32
  let v25 : BitVec 32 := Scalar.addi v24 c0_i32_14
  let c1_i32_15 : BitVec 32 := 1#32
  let v26 : BitVec 32 := Scalar.addi v25 c1_i32_15
  let c15_i32 : BitVec 32 := 15#32
  let v27 : BitVec 32 := Scalar.andi v26 c15_i32
  let c512_i32 : BitVec 32 := 512#32
  let v31 : BitVec 32 := Scalar.muli v27 c512_i32
  let v32 : BitVec 32 := v31
  let v33 : Index := Scalar.indexCast v32
  let c0_18 : Index := 0#32
  ![0, v33.toNat, 0]
def k0_off3 (i : grid0.Coords) (k0_t1 : Fin k0_t1_loop.trips) (c0_i32_14 : BitVec 32) : Fin 3 → Nat :=
  let arg1 : BitVec 32 := BitVec.ofNat 32 (i 1).val
  let c0_i32_2 : BitVec 32 := 0#32
  let c1_i32 : BitVec 32 := 1#32
  let arg13 : BitVec 32 := Scf.iv c0_i32_2 c1_i32 k0_t1
  let c8_i32 : BitVec 32 := 8#32
  let v24 : BitVec 32 := Scalar.muli arg13 c8_i32
  let v25 : BitVec 32 := Scalar.addi v24 c0_i32_14
  let c1_i32_15 : BitVec 32 := 1#32
  let v26 : BitVec 32 := Scalar.addi v25 c1_i32_15
  let c4_i32 : BitVec 32 := 4#32
  let v28 : BitVec 32 := Scalar.shrsi v26 c4_i32
  let v29 : BitVec 32 := Scalar.addi arg1 v28
  let c1_i32_16 : BitVec 32 := 1#32
  let v30 : BitVec 32 := Scalar.minsi v29 c1_i32_16
  let v36 : Index := Scalar.indexCast v30
  let c0_19 : Index := 0#32
  let c0_20 : Index := 0#32
  ![v36.toNat, 0, 0]
def k0_off4 (k0_t1 : Fin k0_t1_loop.trips) (c0_i32_14 : BitVec 32) : Fin 4 → Nat :=
  let c0_28 : Index := 0#32
  let c0_i32_2 : BitVec 32 := 0#32
  let c1_i32 : BitVec 32 := 1#32
  let arg13 : BitVec 32 := Scf.iv c0_i32_2 c1_i32 k0_t1
  let c8_i32 : BitVec 32 := 8#32
  let v24 : BitVec 32 := Scalar.muli arg13 c8_i32
  let v25 : BitVec 32 := Scalar.addi v24 c0_i32_14
  let v50 : Index := Scalar.indexCast v25
  let c0_29 : Index := 0#32
  let c0_30 : Index := 0#32
  ![0, v50.toNat, 0, 0]
def k0_mult3 (k0_t1 : Fin k0_t1_loop.trips) : BitVec 32 :=
  let c0_i32_2 : BitVec 32 := 0#32
  let c1_i32 : BitVec 32 := 1#32
  let arg13 : BitVec 32 := Scf.iv c0_i32_2 c1_i32 k0_t1
  let c8_i32_37 : BitVec 32 := 8#32
  let v60 : BitVec 32 := Scalar.muli arg13 c8_i32_37
  let c1_i32_38 : BitVec 32 := 1#32
  let v61 : BitVec 32 := Scalar.addi v60 c1_i32_38
  let c1_i32_39 : BitVec 32 := 1#32
  let v62 : BitVec 32 := Scalar.addi v61 c1_i32_39
  let c15_i32_40 : BitVec 32 := 15#32
  let v63 : BitVec 32 := Scalar.andi v62 c15_i32_40
  let c512_i32_43 : BitVec 32 := 512#32
  let v67 : BitVec 32 := Scalar.muli v63 c512_i32_43
  v67
def k0_mult4 (k0_t1 : Fin k0_t1_loop.trips) : BitVec 32 :=
  let c0_i32_2 : BitVec 32 := 0#32
  let c1_i32 : BitVec 32 := 1#32
  let arg13 : BitVec 32 := Scf.iv c0_i32_2 c1_i32 k0_t1
  let c8_i32_65 : BitVec 32 := 8#32
  let v96 : BitVec 32 := Scalar.muli arg13 c8_i32_65
  let c2_i32_66 : BitVec 32 := 2#32
  let v97 : BitVec 32 := Scalar.addi v96 c2_i32_66
  let c1_i32_67 : BitVec 32 := 1#32
  let v98 : BitVec 32 := Scalar.addi v97 c1_i32_67
  let c15_i32_68 : BitVec 32 := 15#32
  let v99 : BitVec 32 := Scalar.andi v98 c15_i32_68
  let c512_i32_71 : BitVec 32 := 512#32
  let v103 : BitVec 32 := Scalar.muli v99 c512_i32_71
  v103
def k0_mult5 (k0_t1 : Fin k0_t1_loop.trips) : BitVec 32 :=
  let c0_i32_2 : BitVec 32 := 0#32
  let c1_i32 : BitVec 32 := 1#32
  let arg13 : BitVec 32 := Scf.iv c0_i32_2 c1_i32 k0_t1
  let c8_i32_93 : BitVec 32 := 8#32
  let v132 : BitVec 32 := Scalar.muli arg13 c8_i32_93
  let c3_i32 : BitVec 32 := 3#32
  let v133 : BitVec 32 := Scalar.addi v132 c3_i32
  let c1_i32_94 : BitVec 32 := 1#32
  let v134 : BitVec 32 := Scalar.addi v133 c1_i32_94
  let c15_i32_95 : BitVec 32 := 15#32
  let v135 : BitVec 32 := Scalar.andi v134 c15_i32_95
  let c512_i32_98 : BitVec 32 := 512#32
  let v139 : BitVec 32 := Scalar.muli v135 c512_i32_98
  v139
def k0_mult6 (k0_t1 : Fin k0_t1_loop.trips) : BitVec 32 :=
  let c0_i32_2 : BitVec 32 := 0#32
  let c1_i32 : BitVec 32 := 1#32
  let arg13 : BitVec 32 := Scf.iv c0_i32_2 c1_i32 k0_t1
  let c8_i32_120 : BitVec 32 := 8#32
  let v168 : BitVec 32 := Scalar.muli arg13 c8_i32_120
  let c4_i32_121 : BitVec 32 := 4#32
  let v169 : BitVec 32 := Scalar.addi v168 c4_i32_121
  let c1_i32_122 : BitVec 32 := 1#32
  let v170 : BitVec 32 := Scalar.addi v169 c1_i32_122
  let c15_i32_123 : BitVec 32 := 15#32
  let v171 : BitVec 32 := Scalar.andi v170 c15_i32_123
  let c512_i32_126 : BitVec 32 := 512#32
  let v175 : BitVec 32 := Scalar.muli v171 c512_i32_126
  v175
def k0_mult7 (k0_t1 : Fin k0_t1_loop.trips) : BitVec 32 :=
  let c0_i32_2 : BitVec 32 := 0#32
  let c1_i32 : BitVec 32 := 1#32
  let arg13 : BitVec 32 := Scf.iv c0_i32_2 c1_i32 k0_t1
  let c8_i32_148 : BitVec 32 := 8#32
  let v204 : BitVec 32 := Scalar.muli arg13 c8_i32_148
  let c5_i32 : BitVec 32 := 5#32
  let v205 : BitVec 32 := Scalar.addi v204 c5_i32
  let c1_i32_149 : BitVec 32 := 1#32
  let v206 : BitVec 32 := Scalar.addi v205 c1_i32_149
  let c15_i32_150 : BitVec 32 := 15#32
  let v207 : BitVec 32 := Scalar.andi v206 c15_i32_150
  let c512_i32_153 : BitVec 32 := 512#32
  let v211 : BitVec 32 := Scalar.muli v207 c512_i32_153
  v211
def k0_mult8 (k0_t1 : Fin k0_t1_loop.trips) : BitVec 32 :=
  let c0_i32_2 : BitVec 32 := 0#32
  let c1_i32 : BitVec 32 := 1#32
  let arg13 : BitVec 32 := Scf.iv c0_i32_2 c1_i32 k0_t1
  let c8_i32_175 : BitVec 32 := 8#32
  let v240 : BitVec 32 := Scalar.muli arg13 c8_i32_175
  let c6_i32 : BitVec 32 := 6#32
  let v241 : BitVec 32 := Scalar.addi v240 c6_i32
  let c1_i32_176 : BitVec 32 := 1#32
  let v242 : BitVec 32 := Scalar.addi v241 c1_i32_176
  let c15_i32_177 : BitVec 32 := 15#32
  let v243 : BitVec 32 := Scalar.andi v242 c15_i32_177
  let c512_i32_180 : BitVec 32 := 512#32
  let v247 : BitVec 32 := Scalar.muli v243 c512_i32_180
  v247
def k0_mult9 (k0_t1 : Fin k0_t1_loop.trips) : BitVec 32 :=
  let c0_i32_2 : BitVec 32 := 0#32
  let c1_i32 : BitVec 32 := 1#32
  let arg13 : BitVec 32 := Scf.iv c0_i32_2 c1_i32 k0_t1
  let c8_i32_202 : BitVec 32 := 8#32
  let v276 : BitVec 32 := Scalar.muli arg13 c8_i32_202
  let c7_i32 : BitVec 32 := 7#32
  let v277 : BitVec 32 := Scalar.addi v276 c7_i32
  let c1_i32_203 : BitVec 32 := 1#32
  let v278 : BitVec 32 := Scalar.addi v277 c1_i32_203
  let c15_i32_204 : BitVec 32 := 15#32
  let v279 : BitVec 32 := Scalar.andi v278 c15_i32_204
  let c512_i32_207 : BitVec 32 := 512#32
  let v283 : BitVec 32 := Scalar.muli v279 c512_i32_207
  v283
@[reducible] def k0_t2_loop : Scf.Loop 32 :=
  let c0_i32_20 : BitVec 32 := 0#32
  let c16_i32 : BitVec 32 := 16#32
  let v32 : BitVec 32 := Scalar.addi c0_i32_20 c16_i32
  let c1_i32_21 : BitVec 32 := 1#32
  ⟨c0_i32_20, v32, c1_i32_21⟩
def k0_mult10 (k0_t2 : Fin k0_t2_loop.trips) : BitVec 32 :=
  let c0_i32_20 : BitVec 32 := 0#32
  let c1_i32_21 : BitVec 32 := 1#32
  let arg13 : BitVec 32 := Scf.iv c0_i32_20 c1_i32_21 k0_t2
  let c15_i32 : BitVec 32 := 15#32
  let v33 : BitVec 32 := Scalar.andi arg13 c15_i32
  let c512_i32 : BitVec 32 := 512#32
  let v37 : BitVec 32 := Scalar.muli v33 c512_i32
  v37
def k0_off5 (k0_t2 : Fin k0_t2_loop.trips) : Fin 3 → Nat :=
  let c0_24 : Index := 0#32
  let c0_i32_20 : BitVec 32 := 0#32
  let c1_i32_21 : BitVec 32 := 1#32
  let arg13 : BitVec 32 := Scf.iv c0_i32_20 c1_i32_21 k0_t2
  let c15_i32 : BitVec 32 := 15#32
  let v33 : BitVec 32 := Scalar.andi arg13 c15_i32
  let c512_i32 : BitVec 32 := 512#32
  let v37 : BitVec 32 := Scalar.muli v33 c512_i32
  let v38 : BitVec 32 := v37
  let v39 : Index := Scalar.indexCast v38
  let c0_25 : Index := 0#32
  ![0, v39.toNat, 0]
def k0_off6 (i : grid0.Coords) (k0_t2 : Fin k0_t2_loop.trips) : Fin 3 → Nat :=
  let arg1 : BitVec 32 := BitVec.ofNat 32 (i 1).val
  let c0_i32_20 : BitVec 32 := 0#32
  let c1_i32_21 : BitVec 32 := 1#32
  let arg13 : BitVec 32 := Scf.iv c0_i32_20 c1_i32_21 k0_t2
  let c4_i32 : BitVec 32 := 4#32
  let v34 : BitVec 32 := Scalar.shrsi arg13 c4_i32
  let v35 : BitVec 32 := Scalar.addi arg1 v34
  let c1_i32_23 : BitVec 32 := 1#32
  let v36 : BitVec 32 := Scalar.minsi v35 c1_i32_23
  let v42 : Index := Scalar.indexCast v36
  let c0_26 : Index := 0#32
  let c0_27 : Index := 0#32
  ![v42.toNat, 0, 0]
def k0_off7 (k0_t2 : Fin k0_t2_loop.trips) : Fin 4 → Nat :=
  let c0_84 : Index := 0#32
  let c0_i32_20 : BitVec 32 := 0#32
  let c1_i32_21 : BitVec 32 := 1#32
  let arg13 : BitVec 32 := Scf.iv c0_i32_20 c1_i32_21 k0_t2
  let v169 : Index := Scalar.indexCast arg13
  let c0_85 : Index := 0#32
  let c0_86 : Index := 0#32
  ![0, v169.toNat, 0, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.divsi arg0 c3_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg0 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 4 → Nat :=
  let arg0 : BitVec 32 := BitVec.ofNat 32 (i 0).val
  let arg1 : BitVec 32 := BitVec.ofNat 32 (i 1).val
  let c3_i32 : BitVec 32 := 3#32
  let v0 : BitVec 32 := Scalar.divsi arg0 c3_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg0 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  let c0_i32_7 : BitVec 32 := 0#32
  ![v16.toNat, c0_i32_4.toNat, c0_i32_5.toNat, c0_i32_6.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1x16x128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x16x144x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceIdeal.lean ====
abbrev S8192x12x128 : Shape := ⟨3, ![8192, 12, 128]⟩
abbrev S8192x4x128 : Shape := ⟨3, ![8192, 4, 128]⟩
abbrev S128 : Shape := ⟨1, ![128]⟩
abbrev S8192x4x3x128 : Shape := ⟨4, ![8192, 4, 3, 128]⟩
abbrev S4x8192x8192x3 : Shape := ⟨4, ![4, 8192, 8192, 3]⟩
abbrev S4x3x8192x8192 : Shape := ⟨4, ![4, 3, 8192, 8192]⟩
abbrev S_ : Shape := ⟨0, ![]⟩
abbrev S4x3x8192 : Shape := ⟨3, ![4, 3, 8192]⟩
abbrev S4x3x8192x1 : Shape := ⟨4, ![4, 3, 8192, 1]⟩
abbrev S4x128x3x8192 : Shape := ⟨4, ![4, 128, 3, 8192]⟩
abbrev S8192x1536 : Shape := ⟨2, ![8192, 1536]⟩

abbrev nBuf : Space → Nat
  | .hbm => 32
  | .vmem => 0
  | .smem => 0
  | _ => 0

abbrev bufTy : (tb : Table) → Fin (tcTables nBuf tb) → BufTy
  | .hbm, ⟨0, _⟩ => ⟨S8192x12x128, .f32⟩
  | .hbm, ⟨1, _⟩ => ⟨S8192x4x128, .f32⟩
  | .hbm, ⟨2, _⟩ => ⟨S8192x4x128, .f32⟩
  | .hbm, ⟨3, _⟩ => ⟨S128, .f32⟩
  | .hbm, ⟨4, _⟩ => ⟨S128, .f32⟩
  | .hbm, ⟨5, _⟩ => ⟨S8192x4x3x128, .f32⟩
  | .hbm, ⟨6, _⟩ => ⟨S4x8192x8192x3, .f32⟩
  | .hbm, ⟨7, _⟩ => ⟨S4x3x8192x8192, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S4x3x8192x8192, .f32⟩
  | .hbm, ⟨13, _⟩ => ⟨S4x3x8192x8192, .f32⟩
  | .hbm, ⟨14, _⟩ => ⟨S_, .f32⟩
  | .hbm, ⟨15, _⟩ => ⟨S4x3x8192, .f32⟩
  | .hbm, ⟨16, _⟩ => ⟨S_, .f32⟩
  | .hbm, ⟨17, _⟩ => ⟨S4x3x8192, .f32⟩
  | .hbm, ⟨18, _⟩ => ⟨S4x3x8192, .f32⟩
  | .hbm, ⟨19, _⟩ => ⟨S4x3x8192x1, .f32⟩
  | .hbm, ⟨20, _⟩ => ⟨S4x3x8192x8192, .f32⟩
  | .hbm, ⟨21, _⟩ => ⟨S4x3x8192x8192, .f32⟩
  | .hbm, ⟨22, _⟩ => ⟨S4x3x8192x8192, .f32⟩
  | .hbm, ⟨23, _⟩ => ⟨S_, .f32⟩
  | .hbm, ⟨24, _⟩ => ⟨S4x3x8192, .f32⟩
  | .hbm, ⟨25, _⟩ => ⟨S4x3x8192x1, .f32⟩
  | .hbm, ⟨26, _⟩ => ⟨S4x3x8192x8192, .f32⟩
  | .hbm, ⟨27, _⟩ => ⟨S4x3x8192x8192, .f32⟩
  | .hbm, ⟨28, _⟩ => ⟨S4x128x3x8192, .f32⟩
  | .hbm, ⟨29, _⟩ => ⟨S8192x4x3x128, .f32⟩
  | .hbm, ⟨30, _⟩ => ⟨S8192x1536, .f32⟩
  | .hbm, ⟨31, _⟩ => ⟨S8192x1536, .bf16⟩
  | _, _ => ⟨S8192x12x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩

abbrev nD : Nat := 1
abbrev τ : Topo := Topo.v7x

variable {F : FTy → Type} [FloatOps F]
-- ==== KernelUp.lean ====
abbrev S8192x4096 : Shape := ⟨2, ![8192, 4096]⟩
abbrev S2x4096x11008 : Shape := ⟨3, ![2, 4096, 11008]⟩
abbrev S8192x11008 : Shape := ⟨2, ![8192, 11008]⟩
abbrev S2048x4096 : Shape := ⟨2, ![2048, 4096]⟩
abbrev S1x4096x256 : Shape := ⟨3, ![1, 4096, 256]⟩
abbrev S2048x256 : Shape := ⟨2, ![2048, 256]⟩
abbrev S4096x256 : Shape := ⟨2, ![4096, 256]⟩

abbrev nBuf : Space → Nat
  | .hbm => 4
  | .vmem => 8
  | .smem => 0
  | _ => 0

abbrev bufTy : (tb : Table) → Fin (tcTables nBuf tb) → BufTy
  | .hbm, ⟨0, _⟩ => ⟨S8192x4096, .bf16⟩
  | .hbm, ⟨1, _⟩ => ⟨S2x4096x11008, .f32⟩
  | .hbm, ⟨2, _⟩ => ⟨S2x4096x11008, .f32⟩
  | .hbm, ⟨3, _⟩ => ⟨S8192x11008, .bf16⟩
  | .local _ .vmem, ⟨0, _⟩ => ⟨S2048x4096, .bf16⟩
  | .local _ .vmem, ⟨1, _⟩ => ⟨S2048x4096, .bf16⟩
  | .local _ .vmem, ⟨2, _⟩ => ⟨S1x4096x256, .f32⟩
  | .local _ .vmem, ⟨3, _⟩ => ⟨S1x4096x256, .f32⟩
  | .local _ .vmem, ⟨4, _⟩ => ⟨S1x4096x256, .f32⟩
  | .local _ .vmem, ⟨5, _⟩ => ⟨S1x4096x256, .f32⟩
  | .local _ .vmem, ⟨6, _⟩ => ⟨S2048x256, .bf16⟩
  | .local _ .vmem, ⟨7, _⟩ => ⟨S2048x256, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 43], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceUpIdeal.lean ====
abbrev S8192x4096 : Shape := ⟨2, ![8192, 4096]⟩
abbrev S2x4096x11008 : Shape := ⟨3, ![2, 4096, 11008]⟩
abbrev S1x4096x11008 : Shape := ⟨3, ![1, 4096, 11008]⟩
abbrev S4096x11008 : Shape := ⟨2, ![4096, 11008]⟩
abbrev S8192x11008 : Shape := ⟨2, ![8192, 11008]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S2x4096x11008, .f32⟩
  | .hbm, ⟨2, _⟩ => ⟨S2x4096x11008, .f32⟩
  | .hbm, ⟨3, _⟩ => ⟨S8192x4096, .f32⟩
  | .hbm, ⟨4, _⟩ => ⟨S1x4096x11008, .f32⟩
  | .hbm, ⟨5, _⟩ => ⟨S4096x11008, .f32⟩
  | .hbm, ⟨6, _⟩ => ⟨S8192x11008, .f32⟩
  | .hbm, ⟨7, _⟩ => ⟨S8192x11008, .f32⟩
  | .hbm, ⟨8, _⟩ => ⟨S8192x11008, .f32⟩
  | .hbm, ⟨9, _⟩ => ⟨S_, .f32⟩
  | .hbm, ⟨10, _⟩ => ⟨S8192x11008, .f32⟩
  | .hbm, ⟨11, _⟩ => ⟨S8192x11008, .f32⟩
  | .hbm, ⟨12, _⟩ => ⟨S_, .f32⟩
  | .hbm, ⟨13, _⟩ => ⟨S8192x11008, .f32⟩
  | .hbm, ⟨14, _⟩ => ⟨S8192x11008, .f32⟩
  | .hbm, ⟨15, _⟩ => ⟨S8192x11008, .f32⟩
  | .hbm, ⟨16, _⟩ => ⟨S1x4096x11008, .f32⟩
  | .hbm, ⟨17, _⟩ => ⟨S4096x11008, .f32⟩
  | .hbm, ⟨18, _⟩ => ⟨S8192x11008, .f32⟩
  | .hbm, ⟨19, _⟩ => ⟨S8192x11008, .f32⟩
  | .hbm, ⟨20, _⟩ => ⟨S8192x11008, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩

abbrev nD : Nat := 1
abbrev τ : Topo := Topo.v7x

variable {F : FTy → Type} [FloatOps F]
-- ==== KernelDown.lean ====
abbrev S8192x11008 : Shape := ⟨2, ![8192, 11008]⟩
abbrev S2x11008x4096 : Shape := ⟨3, ![2, 11008, 4096]⟩
abbrev S8192x4096 : Shape := ⟨2, ![8192, 4096]⟩
abbrev S1024x5504 : Shape := ⟨2, ![1024, 5504]⟩
abbrev S1x5504x256 : Shape := ⟨3, ![1, 5504, 256]⟩
abbrev S1024x256 : Shape := ⟨2, ![1024, 256]⟩
abbrev S16x1024x256 : Shape := ⟨3, ![16, 1024, 256]⟩
abbrev S5504x256 : Shape := ⟨2, ![5504, 256]⟩
abbrev S1x1024x256 : Shape := ⟨3, ![1, 1024, 256]⟩

abbrev nBuf : Space → Nat
  | .hbm => 4
  | .vmem => 9
  | .smem => 0
  | _ => 0

abbrev bufTy : (tb : Table) → Fin (tcTables nBuf tb) → BufTy
  | .hbm, ⟨0, _⟩ => ⟨S8192x11008, .bf16⟩
  | .hbm, ⟨1, _⟩ => ⟨S2x11008x4096, .f32⟩
  | .hbm, ⟨2, _⟩ => ⟨S8192x4096, .f32⟩
  | .hbm, ⟨3, _⟩ => ⟨S8192x4096, .f32⟩
  | .local _ .vmem, ⟨0, _⟩ => ⟨S1024x5504, .bf16⟩
  | .local _ .vmem, ⟨1, _⟩ => ⟨S1024x5504, .bf16⟩
  | .local _ .vmem, ⟨2, _⟩ => ⟨S1x5504x256, .f32⟩
  | .local _ .vmem, ⟨3, _⟩ => ⟨S1x5504x256, .f32⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | .local _ .vmem, ⟨7, _⟩ => ⟨S1024x256, .f32⟩
  | .local _ .vmem, ⟨8, _⟩ => ⟨S16x1024x256, .f32⟩
  | _, _ => ⟨S8192x11008, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨4, ![1, 8, 2, 16], ![false, false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_4 : BitVec 32 := 0#32
  let v7 : BitVec 1 := Scalar.cmpi .ne v6 c0_i32_4
  v7

def k0_off1 (i : grid0.Coords) : Fin 3 → Nat :=
  let arg3 : BitVec 32 := BitVec.ofNat 32 (i 3).val
  let v11 : Index := Scalar.indexCast arg3
  let c0_6 : Index := 0#32
  let c0_7 : Index := 0#32
  ![v11.toNat, 0, 0]
def k0_cond2 (i : grid0.Coords) : BitVec 1 :=
  let arg2 : BitVec 32 := BitVec.ofNat 32 (i 2).val
  let c1_i32 : BitVec 32 := 1#32
  let v8 : BitVec 1 := Scalar.cmpi .eq arg2 c1_i32
  let v9 : BitVec 32 := Scalar.extui v8
  let c0_i32_5 : BitVec 32 := 0#32
  let v10 : BitVec 1 := Scalar.cmpi .ne v9 c0_i32_5
  v10

def k0_off2 (i : grid0.Coords) : Fin 3 → Nat :=
  let arg3 : BitVec 32 := BitVec.ofNat 32 (i 3).val
  let v11 : Index := Scalar.indexCast arg3
  let c0_6 : Index := 0#32
  let c0_7 : Index := 0#32
  ![v11.toNat, 0, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c16_i32 : BitVec 32 := 16#32
  let v0 : BitVec 32 := Scalar.muli arg0 c16_i32
  let v1 : BitVec 32 := Scalar.addi v0 arg3
  let c1_i32 : BitVec 32 := 1#32
  let c0_i32 : BitVec 32 := 0#32
  ![c1_i32.toNat, arg2.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c16_i32 : BitVec 32 := 16#32
  let v0 : BitVec 32 := Scalar.muli arg0 c16_i32
  let c1_i32 : BitVec 32 := 1#32
  let v1 : BitVec 1 := Scalar.cmpi .eq arg2 c1_i32
  let c0_i32 : BitVec 32 := 0#32
  let v2 : BitVec 32 := Scalar.select v1 arg3 c0_i32
  let v3 : BitVec 32 := Scalar.addi v0 v2
  let c0_i32_0 : BitVec 32 := 0#32
  ![arg1.toNat, v3.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c16_i32 : BitVec 32 := 16#32
  let v0 : BitVec 32 := Scalar.muli arg0 c16_i32
  let c1_i32 : BitVec 32 := 1#32
  let v1 : BitVec 1 := Scalar.cmpi .eq arg2 c1_i32
  let c0_i32 : BitVec 32 := 0#32
  let v2 : BitVec 32 := Scalar.select v1 arg3 c0_i32
  let v3 : BitVec 32 := Scalar.addi v0 v2
  let c0_i32_0 : BitVec 32 := 0#32
  ![arg1.toNat, v3.toNat]

abbrev stage0_0 : Fin 2 → Memref sig .tc .vmem S1024x5504 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true, false]

abbrev stage0_1 : Fin 2 → Memref sig .tc .vmem S1x5504x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, true]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true, true]
-- ==== ReferenceDownIdeal.lean ====
abbrev S8192x11008 : Shape := ⟨2, ![8192, 11008]⟩
abbrev S2x11008x4096 : Shape := ⟨3, ![2, 11008, 4096]⟩
abbrev S8192x4096 : Shape := ⟨2, ![8192, 4096]⟩
abbrev S1x11008x4096 : Shape := ⟨3, ![1, 11008, 4096]⟩
abbrev S11008x4096 : Shape := ⟨2, ![11008, 4096]⟩

abbrev nBuf : Space → Nat
  | .hbm => 8
  | .vmem => 0
  | .smem => 0
  | _ => 0

abbrev bufTy : (tb : Table) → Fin (tcTables nBuf tb) → BufTy
  | .hbm, ⟨0, _⟩ => ⟨S8192x11008, .bf16⟩
  | .hbm, ⟨1, _⟩ => ⟨S2x11008x4096, .f32⟩
  | .hbm, ⟨2, _⟩ => ⟨S8192x4096, .f32⟩
  | .hbm, ⟨3, _⟩ => ⟨S8192x11008, .f32⟩
  | .hbm, ⟨4, _⟩ => ⟨S1x11008x4096, .f32⟩
  | .hbm, ⟨5, _⟩ => ⟨S11008x4096, .f32⟩
  | .hbm, ⟨6, _⟩ => ⟨S8192x4096, .f32⟩
  | .hbm, ⟨7, _⟩ => ⟨S8192x4096, .f32⟩
  | _, _ => ⟨S8192x11008, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KernelIn.lean ====
abbrev S8192x4096 : Shape := ⟨2, ![8192, 4096]⟩
abbrev S2x4096x7232 : Shape := ⟨3, ![2, 4096, 7232]⟩
abbrev S2x7232x4096 : Shape := ⟨3, ![2, 7232, 4096]⟩
abbrev S8192x7168 : Shape := ⟨2, ![8192, 7168]⟩
abbrev S1024x4096 : Shape := ⟨2, ![1024, 4096]⟩
abbrev S1x512x4096 : Shape := ⟨3, ![1, 512, 4096]⟩
abbrev S1024x512 : Shape := ⟨2, ![1024, 512]⟩
abbrev S512x4096 : Shape := ⟨2, ![512, 4096]⟩

abbrev nBuf : Space → Nat
  | .hbm => 4
  | .vmem => 6
  | .smem => 0
  | _ => 0

abbrev bufTy : (tb : Table) → Fin (tcTables nBuf tb) → BufTy
  | .hbm, ⟨0, _⟩ => ⟨S8192x4096, .bf16⟩
  | .hbm, ⟨1, _⟩ => ⟨S2x4096x7232, .f32⟩
  | .hbm, ⟨2, _⟩ => ⟨S2x7232x4096, .f32⟩
  | .hbm, ⟨3, _⟩ => ⟨S8192x7168, .f32⟩
  | .local _ .vmem, ⟨0, _⟩ => ⟨S1024x4096, .bf16⟩
  | .local _ .vmem, ⟨1, _⟩ => ⟨S1024x4096, .bf16⟩
  | .local _ .vmem, ⟨2, _⟩ => ⟨S1x512x4096, .f32⟩
  | .local _ .vmem, ⟨3, _⟩ => ⟨S1x512x4096, .f32⟩
  | .local _ .vmem, ⟨4, _⟩ => ⟨S1024x512, .f32⟩
  | .local _ .vmem, ⟨5, _⟩ => ⟨S1024x512, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 14], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceInIdeal.lean ====
abbrev S8192x4096 : Shape := ⟨2, ![8192, 4096]⟩
abbrev S2x4096x7232 : Shape := ⟨3, ![2, 4096, 7232]⟩
abbrev S1x4096x7232 : Shape := ⟨3, ![1, 4096, 7232]⟩
abbrev S4096x7232 : Shape := ⟨2, ![4096, 7232]⟩
abbrev S4096x7168 : Shape := ⟨2, ![4096, 7168]⟩
abbrev S8192x7168 : Shape := ⟨2, ![8192, 7168]⟩

abbrev nBuf : Space → Nat
  | .hbm => 7
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S2x4096x7232, .f32⟩
  | .hbm, ⟨2, _⟩ => ⟨S8192x4096, .f32⟩
  | .hbm, ⟨3, _⟩ => ⟨S1x4096x7232, .f32⟩
  | .hbm, ⟨4, _⟩ => ⟨S4096x7232, .f32⟩
  | .hbm, ⟨5, _⟩ => ⟨S4096x7168, .f32⟩
  | .hbm, ⟨6, _⟩ => ⟨S8192x7168, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== KernelOut.lean ====
abbrev S8192x1536 : Shape := ⟨2, ![8192, 1536]⟩
abbrev S8192x1024 : Shape := ⟨2, ![8192, 1024]⟩
abbrev S2x4096x4096 : Shape := ⟨3, ![2, 4096, 4096]⟩
abbrev S8192x4096 : Shape := ⟨2, ![8192, 4096]⟩
abbrev S1024x1536 : Shape := ⟨2, ![1024, 1536]⟩
abbrev S1024x1024 : Shape := ⟨2, ![1024, 1024]⟩
abbrev S1x4096x512 : Shape := ⟨3, ![1, 4096, 512]⟩
abbrev S1024x512 : Shape := ⟨2, ![1024, 512]⟩
abbrev S4096x512 : Shape := ⟨2, ![4096, 512]⟩
abbrev S1536x512 : Shape := ⟨2, ![1536, 512]⟩

abbrev nBuf : Space → Nat
  | .hbm => 6
  | .vmem => 12
  | .smem => 0
  | _ => 0

abbrev bufTy : (tb : Table) → Fin (tcTables nBuf tb) → BufTy
  | .hbm, ⟨0, _⟩ => ⟨S8192x1536, .bf16⟩
  | .hbm, ⟨1, _⟩ => ⟨S8192x1024, .bf16⟩
  | .hbm, ⟨2, _⟩ => ⟨S8192x1536, .bf16⟩
  | .hbm, ⟨3, _⟩ => ⟨S2x4096x4096, .f32⟩
  | .hbm, ⟨4, _⟩ => ⟨S8192x4096, .f32⟩
  | .hbm, ⟨5, _⟩ => ⟨S8192x4096, .f32⟩
  | .local _ .vmem, ⟨0, _⟩ => ⟨S1024x1536, .bf16⟩
  | .local _ .vmem, ⟨1, _⟩ => ⟨S1024x1536, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1536, .bf16⟩
  | .local _ .vmem, ⟨5, _⟩ => ⟨S1024x1536, .bf16⟩
  | .local _ .vmem, ⟨6, _⟩ => ⟨S1x4096x512, .f32⟩
  | .local _ .vmem, ⟨7, _⟩ => ⟨S1x4096x512, .f32⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | _, _ => ⟨S8192x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x4096x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceOutIdeal.lean ====
abbrev S8192x1536 : Shape := ⟨2, ![8192, 1536]⟩
abbrev S8192x1024 : Shape := ⟨2, ![8192, 1024]⟩
abbrev S2x4096x4096 : Shape := ⟨3, ![2, 4096, 4096]⟩
abbrev S8192x4096 : Shape := ⟨2, ![8192, 4096]⟩
abbrev S1x4096x4096 : Shape := ⟨3, ![1, 4096, 4096]⟩
abbrev S4096x4096 : Shape := ⟨2, ![4096, 4096]⟩

abbrev nBuf : Space → Nat
  | .hbm => 13
  | .vmem => 0
  | .smem => 0
  | _ => 0

abbrev bufTy : (tb : Table) → Fin (tcTables nBuf tb) → BufTy
  | .hbm, ⟨0, _⟩ => ⟨S8192x1536, .bf16⟩
  | .hbm, ⟨1, _⟩ => ⟨S8192x1024, .bf16⟩
  | .hbm, ⟨2, _⟩ => ⟨S8192x1536, .bf16⟩
  | .hbm, ⟨3, _⟩ => ⟨S2x4096x4096, .f32⟩
  | .hbm, ⟨4, _⟩ => ⟨S8192x4096, .f32⟩
  | .hbm, ⟨5, _⟩ => ⟨S8192x1536, .f32⟩
  | .hbm, ⟨6, _⟩ => ⟨S8192x1024, .f32⟩
  | .hbm, ⟨7, _⟩ => ⟨S8192x1536, .f32⟩
  | .hbm, ⟨8, _⟩ => ⟨S8192x4096, .f32⟩
  | .hbm, ⟨9, _⟩ => ⟨S1x4096x4096, .f32⟩
  | .hbm, ⟨10, _⟩ => ⟨S4096x4096, .f32⟩
  | .hbm, ⟨11, _⟩ => ⟨S8192x4096, .f32⟩
  | .hbm, ⟨12, _⟩ => ⟨S8192x4096, .f32⟩
  | _, _ => ⟨S8192x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== KernelNorm.lean ====
abbrev S8192x4096 : Shape := ⟨2, ![8192, 4096]⟩
abbrev S2x4096 : Shape := ⟨2, ![2, 4096]⟩
abbrev S1x4096 : Shape := ⟨2, ![1, 4096]⟩
abbrev S4096 : Shape := ⟨1, ![4096]⟩
abbrev S512x4096 : Shape := ⟨2, ![512, 4096]⟩
abbrev S512 : Shape := ⟨1, ![512]⟩
abbrev S512x1 : Shape := ⟨2, ![512, 1]⟩

abbrev nBuf : Space → Nat
  | .hbm => 6
  | .vmem => 5
  | .smem => 0
  | _ => 0

abbrev bufTy : (tb : Table) → Fin (tcTables nBuf tb) → BufTy
  | .hbm, ⟨0, _⟩ => ⟨S8192x4096, .f32⟩
  | .hbm, ⟨1, _⟩ => ⟨S2x4096, .f32⟩
  | .hbm, ⟨2, _⟩ => ⟨S1x4096, .f32⟩
  | .hbm, ⟨3, _⟩ => ⟨S4096, .f32⟩
  | .hbm, ⟨4, _⟩ => ⟨S1x4096, .f32⟩
  | .hbm, ⟨5, _⟩ => ⟨S8192x4096, .bf16⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S512x4096, .bf16⟩
  | .local _ .vmem, ⟨4, _⟩ => ⟨S512x4096, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceNormIdeal.lean ====
abbrev S8192x4096 : Shape := ⟨2, ![8192, 4096]⟩
abbrev S2x4096 : Shape := ⟨2, ![2, 4096]⟩
abbrev S_ : Shape := ⟨0, ![]⟩
abbrev S8192 : Shape := ⟨1, ![8192]⟩
abbrev S8192x1 : Shape := ⟨2, ![8192, 1]⟩
abbrev S1x4096 : Shape := ⟨2, ![1, 4096]⟩
abbrev S4096 : Shape := ⟨1, ![4096]⟩

abbrev nBuf : Space → Nat
  | .hbm => 21
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S2x4096, .f32⟩
  | .hbm, ⟨2, _⟩ => ⟨S8192x4096, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x4096, .f32⟩
  | .hbm, ⟨14, _⟩ => ⟨S8192x4096, .f32⟩
  | .hbm, ⟨15, _⟩ => ⟨S1x4096, .f32⟩
  | .hbm, ⟨16, _⟩ => ⟨S4096, .f32⟩
  | .hbm, ⟨17, _⟩ => ⟨S1x4096, .f32⟩
  | .hbm, ⟨18, _⟩ => ⟨S8192x4096, .f32⟩
  | .hbm, ⟨19, _⟩ => ⟨S8192x4096, .f32⟩
  | .hbm, ⟨20, _⟩ => ⟨S8192x4096, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]
-- ==== KernelLat.lean ====
abbrev S8192x12x192 : Shape := ⟨3, ![8192, 12, 192]⟩
abbrev S8192x12x128 : Shape := ⟨3, ![8192, 12, 128]⟩
abbrev S192 : Shape := ⟨1, ![192]⟩
abbrev S_ : Shape := ⟨0, ![]⟩
abbrev S8192x12x64 : Shape := ⟨3, ![8192, 12, 64]⟩
abbrev S8192x12x256 : Shape := ⟨3, ![8192, 12, 256]⟩
abbrev S16x512x12x256 : Shape := ⟨4, ![16, 512, 12, 256]⟩
abbrev S12x16x256x512 : Shape := ⟨4, ![12, 16, 256, 512]⟩
abbrev S12x8192x256 : Shape := ⟨3, ![12, 8192, 256]⟩
abbrev S16x512x12x128 : Shape := ⟨4, ![16, 512, 12, 128]⟩
abbrev S12x16x128x512 : Shape := ⟨4, ![12, 16, 128, 512]⟩
abbrev S12x16x16x512 : Shape := ⟨4, ![12, 16, 16, 512]⟩
abbrev S12x16x144x512 : Shape := ⟨4, ![12, 16, 144, 512]⟩
abbrev S1x4096 : Shape := ⟨2, ![1, 4096]⟩
abbrev S8192x1536 : Shape := ⟨2, ![8192, 1536]⟩
abbrev S1x16x256x512 : Shape := ⟨4, ![1, 16, 256, 512]⟩
abbrev S1x8192x256 : Shape := ⟨3, ![1, 8192, 256]⟩
abbrev S1x16x144x512 : Shape := ⟨4, ![1, 16, 144, 512]⟩
abbrev S4096x128 : Shape := ⟨2, ![4096, 128]⟩
abbrev S144x4096 : Shape := ⟨2, ![144, 4096]⟩
abbrev S2x512x4096 : Shape := ⟨3, ![2, 512, 4096]⟩
abbrev S2x256x4096 : Shape := ⟨3, ![2, 256, 4096]⟩
abbrev S512x4096 : Shape := ⟨2, ![512, 4096]⟩
abbrev S1x1x256x512 : Shape := ⟨4, ![1, 1, 256, 512]⟩
abbrev S256x512 : Shape := ⟨2, ![256, 512]⟩
abbrev S256x4096 : Shape := ⟨2, ![256, 4096]⟩
abbrev S1x256x4096 : Shape := ⟨3, ![1, 256, 4096]⟩
abbrev S1x512x256 : Shape := ⟨3, ![1, 512, 256]⟩
abbrev S512x256 : Shape := ⟨2, ![512, 256]⟩
abbrev S1x512x4096 : Shape := ⟨3, ![1, 512, 4096]⟩
abbrev S1x1x144x512 : Shape := ⟨4, ![1, 1, 144, 512]⟩
abbrev S144x512 : Shape := ⟨2, ![144, 512]⟩
abbrev S1x1x4096 : Shape := ⟨3, ![1, 1, 4096]⟩
abbrev S1 : Shape := ⟨1, ![1]⟩
abbrev S1x1x1 : Shape := ⟨3, ![1, 1, 1]⟩
abbrev S64x4096 : Shape := ⟨2, ![64, 4096]⟩
abbrev S8x8x4096 : Shape := ⟨3, ![8, 8, 4096]⟩
abbrev S8x4096 : Shape := ⟨2, ![8, 4096]⟩
abbrev S4096 : Shape := ⟨1, ![4096]⟩
abbrev S1x8x4096 : Shape := ⟨3, ![1, 8, 4096]⟩
abbrev S128x4096 : Shape := ⟨2, ![128, 4096]⟩

abbrev nBuf : Space → Nat
  | .hbm => 40
  | .vmem => 15
  | .smem => 0
  | _ => 0

abbrev bufTy : (tb : Table) → Fin (tcTables nBuf tb) → BufTy
  | .hbm, ⟨0, _⟩ => ⟨S8192x12x192, .f32⟩
  | .hbm, ⟨1, _⟩ => ⟨S8192x12x192, .f32⟩
  | .hbm, ⟨2, _⟩ => ⟨S8192x12x128, .f32⟩
  | .hbm, ⟨3, _⟩ => ⟨S192, .f32⟩
  | .hbm, ⟨4, _⟩ => ⟨S192, .f32⟩
  | .hbm, ⟨5, _⟩ => ⟨S_, .bf16⟩
  | .hbm, ⟨6, _⟩ => ⟨S8192x12x64, .bf16⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S8192x12x192, .f32⟩
  | .hbm, ⟨15, _⟩ => ⟨S8192x12x192, .f32⟩
  | .hbm, ⟨16, _⟩ => ⟨S8192x12x192, .bf16⟩
  | .hbm, ⟨17, _⟩ => ⟨S8192x12x256, .bf16⟩
  | .hbm, ⟨18, _⟩ => ⟨S16x512x12x256, .bf16⟩
  | .hbm, ⟨19, _⟩ => ⟨S12x16x256x512, .bf16⟩
  | .hbm, ⟨20, _⟩ => ⟨S8192x12x192, .bf16⟩
  | .hbm, ⟨21, _⟩ => ⟨S8192x12x256, .bf16⟩
  | .hbm, ⟨22, _⟩ => ⟨S12x8192x256, .bf16⟩
  | .hbm, ⟨23, _⟩ => ⟨S8192x12x128, .bf16⟩
  | .hbm, ⟨24, _⟩ => ⟨S16x512x12x128, .bf16⟩
  | .hbm, ⟨25, _⟩ => ⟨S12x16x128x512, .bf16⟩
  | .hbm, ⟨26, _⟩ => ⟨S_, .bf16⟩
  | .hbm, ⟨27, _⟩ => ⟨S12x16x16x512, .bf16⟩
  | .hbm, ⟨28, _⟩ => ⟨S12x16x144x512, .bf16⟩
  | .hbm, ⟨29, _⟩ => ⟨S192, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S192, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S1x4096, .f32⟩
  | .hbm, ⟨39, _⟩ => ⟨S8192x1536, .bf16⟩
  | .local _ .vmem, ⟨0, _⟩ => ⟨S1x16x256x512, .bf16⟩
  | .local _ .vmem, ⟨1, _⟩ => ⟨S1x16x256x512, .bf16⟩
  | .local _ .vmem, ⟨2, _⟩ => ⟨S1x8192x256, .bf16⟩
  | .local _ .vmem, ⟨3, _⟩ => ⟨S1x8192x256, .bf16⟩
  | .local _ .vmem, ⟨4, _⟩ => ⟨S1x16x144x512, .bf16⟩
  | .local _ .vmem, ⟨5, _⟩ => ⟨S1x16x144x512, .bf16⟩
  | .local _ .vmem, ⟨6, _⟩ => ⟨S1x4096, .f32⟩
  | .local _ .vmem, ⟨7, _⟩ => ⟨S4096x128, .bf16⟩
  | .local _ .vmem, ⟨8, _⟩ => ⟨S4096x128, .bf16⟩
  | .local _ .vmem, ⟨9, _⟩ => ⟨S144x4096, .f32⟩
  | .local _ .vmem, ⟨10, _⟩ => ⟨S2x512x4096, .bf16⟩
  | .local _ .vmem, ⟨11, _⟩ => ⟨S2x256x4096, .bf16⟩
  | .local _ .vmem, ⟨12, _⟩ => ⟨S1x4096, .f32⟩
  | .local _ .vmem, ⟨13, _⟩ => ⟨S512x4096, .f32⟩
  | .local _ .vmem, ⟨14, _⟩ => ⟨S512x4096, .bf16⟩
  | _, _ => ⟨S8192x12x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_cst_1 : Ref sig .tc := ⟨.hbm, 9, rfl⟩
abbrev main_v2 : Ref sig .tc := ⟨.hbm, 10, rfl⟩
abbrev main_v3 : Ref sig .tc := ⟨.hbm, 11, rfl⟩
abbrev main_cst_2 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_cst_5 : Ref sig .tc := ⟨.hbm, 32, rfl⟩
abbrev main_v21 : Ref sig .tc := ⟨.hbm, 33, rfl⟩
abbrev main_v22 : Ref sig .tc := ⟨.hbm, 34, rfl⟩
abbrev main_cst_6 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_scratch4 : Ref sig .tc := ⟨.vmem, 13, rfl⟩
abbrev cc0_scratch5 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![12, 2], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_mult1 : BitVec 32 :=
  let c0_i32_71 : BitVec 32 := 0#32
  c0_i32_71
def k0_off1 (i : grid0.Coords) : Fin 3 → Nat :=
  let arg1 : BitVec 32 := BitVec.ofNat 32 (i 1).val
  let c0_i32_69 : BitVec 32 := 0#32
  let v64 : BitVec 32 := Scalar.addi arg1 c0_i32_69
  let c1_i32_70 : BitVec 32 := 1#32
  let v65 : BitVec 32 := Scalar.minsi v64 c1_i32_70
  let v70 : Index := Scalar.indexCast v65
  let c0_74 : Index := 0#32
  let c0_75 : Index := 0#32
  ![v70.toNat, 0, 0]
@[reducible] def k0_t1_loop : Scf.Loop 32 :=
  let c0_i32_2 : BitVec 32 := 0#32
  let c2_i32 : BitVec 32 := 2#32
  let v7 : BitVec 32 := Scalar.addi c0_i32_2 c2_i32
  let c1_i32 : BitVec 32 := 1#32
  ⟨c0_i32_2, v7, c1_i32⟩
def k0_mult2 (k0_t1 : Fin k0_t1_loop.trips) : BitVec 32 :=
  let c0_i32_2 : BitVec 32 := 0#32
  let c1_i32 : BitVec 32 := 1#32
  let arg13 : BitVec 32 := Scf.iv c0_i32_2 c1_i32 k0_t1
  let c8_i32 : BitVec 32 := 8#32
  let v24 : BitVec 32 := Scalar.muli arg13 c8_i32
  let c0_i32_14 : BitVec 32 := 0#32
  let v25 : BitVec 32 := Scalar.addi v24 c0_i32_14
  let c1_i32_15 : BitVec 32 := 1#32
  let v26 : BitVec 32 := Scalar.addi v25 c1_i32_15
  let c15_i32 : BitVec 32 := 15#32
  let v27 : BitVec 32 := Scalar.andi v26 c15_i32
  let c512_i32 : BitVec 32 := 512#32
  let v31 : BitVec 32 := Scalar.muli v27 c512_i32
  v31
def k0_off2 (k0_t1 : Fin k0_t1_loop.trips) (c0_i32_14 : BitVec 32) : Fin 3 → Nat :=
  let c0_17 : Index := 0#32
  let c0_i32_2 : BitVec 32 := 0#32
  let c1_i32 : BitVec 32 := 1#32
  let arg13 : BitVec 32 := Scf.iv c0_i32_2 c1_i32 k0_t1
  let c8_i32 : BitVec 32 := 8#32
  let v24 : BitVec 32 := Scalar.muli arg13 c8_i32
  let v25 : BitVec 32 := Scalar.addi v24 c0_i32_14
  let c1_i32_15 : BitVec 32 := 1#32
  let v26 : BitVec 32 := Scalar.addi v25 c1_i32_15
  let c15_i32 : BitVec 32 := 15#32
  let v27 : BitVec 32 := Scalar.andi v26 c15_i32
  let c512_i32 : BitVec 32 := 512#32
  let v31 : BitVec 32 := Scalar.muli v27 c512_i32
  let v32 : BitVec 32 := v31
  let v33 : Index := Scalar.indexCast v32
  let c0_18 : Index := 0#32
  ![0, v33.toNat, 0]
def k0_off3 (i : grid0.Coords) (k0_t1 : Fin k0_t1_loop.trips) (c0_i32_14 : BitVec 32) : Fin 3 → Nat :=
  let arg1 : BitVec 32 := BitVec.ofNat 32 (i 1).val
  let c0_i32_2 : BitVec 32 := 0#32
  let c1_i32 : BitVec 32 := 1#32
  let arg13 : BitVec 32 := Scf.iv c0_i32_2 c1_i32 k0_t1
  let c8_i32 : BitVec 32 := 8#32
  let v24 : BitVec 32 := Scalar.muli arg13 c8_i32
  let v25 : BitVec 32 := Scalar.addi v24 c0_i32_14
  let c1_i32_15 : BitVec 32 := 1#32
  let v26 : BitVec 32 := Scalar.addi v25 c1_i32_15
  let c4_i32 : BitVec 32 := 4#32
  let v28 : BitVec 32 := Scalar.shrsi v26 c4_i32
  let v29 : BitVec 32 := Scalar.addi arg1 v28
  let c1_i32_16 : BitVec 32 := 1#32
  let v30 : BitVec 32 := Scalar.minsi v29 c1_i32_16
  let v36 : Index := Scalar.indexCast v30
  let c0_19 : Index := 0#32
  let c0_20 : Index := 0#32
  ![v36.toNat, 0, 0]
def k0_off4 (k0_t1 : Fin k0_t1_loop.trips) (c0_i32_14 : BitVec 32) : Fin 4 → Nat :=
  let c0_28 : Index := 0#32
  let c0_i32_2 : BitVec 32 := 0#32
  let c1_i32 : BitVec 32 := 1#32
  let arg13 : BitVec 32 := Scf.iv c0_i32_2 c1_i32 k0_t1
  let c8_i32 : BitVec 32 := 8#32
  let v24 : BitVec 32 := Scalar.muli arg13 c8_i32
  let v25 : BitVec 32 := Scalar.addi v24 c0_i32_14
  let v50 : Index := Scalar.indexCast v25
  let c0_29 : Index := 0#32
  let c0_30 : Index := 0#32
  ![0, v50.toNat, 0, 0]
def k0_mult3 (k0_t1 : Fin k0_t1_loop.trips) : BitVec 32 :=
  let c0_i32_2 : BitVec 32 := 0#32
  let c1_i32 : BitVec 32 := 1#32
  let arg13 : BitVec 32 := Scf.iv c0_i32_2 c1_i32 k0_t1
  let c8_i32_37 : BitVec 32 := 8#32
  let v60 : BitVec 32 := Scalar.muli arg13 c8_i32_37
  let c1_i32_38 : BitVec 32 := 1#32
  let v61 : BitVec 32 := Scalar.addi v60 c1_i32_38
  let c1_i32_39 : BitVec 32 := 1#32
  let v62 : BitVec 32 := Scalar.addi v61 c1_i32_39
  let c15_i32_40 : BitVec 32 := 15#32
  let v63 : BitVec 32 := Scalar.andi v62 c15_i32_40
  let c512_i32_43 : BitVec 32 := 512#32
  let v67 : BitVec 32 := Scalar.muli v63 c512_i32_43
  v67
def k0_mult4 (k0_t1 : Fin k0_t1_loop.trips) : BitVec 32 :=
  let c0_i32_2 : BitVec 32 := 0#32
  let c1_i32 : BitVec 32 := 1#32
  let arg13 : BitVec 32 := Scf.iv c0_i32_2 c1_i32 k0_t1
  let c8_i32_65 : BitVec 32 := 8#32
  let v96 : BitVec 32 := Scalar.muli arg13 c8_i32_65
  let c2_i32_66 : BitVec 32 := 2#32
  let v97 : BitVec 32 := Scalar.addi v96 c2_i32_66
  let c1_i32_67 : BitVec 32 := 1#32
  let v98 : BitVec 32 := Scalar.addi v97 c1_i32_67
  let c15_i32_68 : BitVec 32 := 15#32
  let v99 : BitVec 32 := Scalar.andi v98 c15_i32_68
  let c512_i32_71 : BitVec 32 := 512#32
  let v103 : BitVec 32 := Scalar.muli v99 c512_i32_71
  v103
def k0_mult5 (k0_t1 : Fin k0_t1_loop.trips) : BitVec 32 :=
  let c0_i32_2 : BitVec 32 := 0#32
  let c1_i32 : BitVec 32 := 1#32
  let arg13 : BitVec 32 := Scf.iv c0_i32_2 c1_i32 k0_t1
  let c8_i32_93 : BitVec 32 := 8#32
  let v132 : BitVec 32 := Scalar.muli arg13 c8_i32_93
  let c3_i32 : BitVec 32 := 3#32
  let v133 : BitVec 32 := Scalar.addi v132 c3_i32
  let c1_i32_94 : BitVec 32 := 1#32
  let v134 : BitVec 32 := Scalar.addi v133 c1_i32_94
  let c15_i32_95 : BitVec 32 := 15#32
  let v135 : BitVec 32 := Scalar.andi v134 c15_i32_95
  let c512_i32_98 : BitVec 32 := 512#32
  let v139 : BitVec 32 := Scalar.muli v135 c512_i32_98
  v139
def k0_mult6 (k0_t1 : Fin k0_t1_loop.trips) : BitVec 32 :=
  let c0_i32_2 : BitVec 32 := 0#32
  let c1_i32 : BitVec 32 := 1#32
  let arg13 : BitVec 32 := Scf.iv c0_i32_2 c1_i32 k0_t1
  let c8_i32_120 : BitVec 32 := 8#32
  let v168 : BitVec 32 := Scalar.muli arg13 c8_i32_120
  let c4_i32_121 : BitVec 32 := 4#32
  let v169 : BitVec 32 := Scalar.addi v168 c4_i32_121
  let c1_i32_122 : BitVec 32 := 1#32
  let v170 : BitVec 32 := Scalar.addi v169 c1_i32_122
  let c15_i32_123 : BitVec 32 := 15#32
  let v171 : BitVec 32 := Scalar.andi v170 c15_i32_123
  let c512_i32_126 : BitVec 32 := 512#32
  let v175 : BitVec 32 := Scalar.muli v171 c512_i32_126
  v175
def k0_mult7 (k0_t1 : Fin k0_t1_loop.trips) : BitVec 32 :=
  let c0_i32_2 : BitVec 32 := 0#32
  let c1_i32 : BitVec 32 := 1#32
  let arg13 : BitVec 32 := Scf.iv c0_i32_2 c1_i32 k0_t1
  let c8_i32_148 : BitVec 32 := 8#32
  let v204 : BitVec 32 := Scalar.muli arg13 c8_i32_148
  let c5_i32 : BitVec 32 := 5#32
  let v205 : BitVec 32 := Scalar.addi v204 c5_i32
  let c1_i32_149 : BitVec 32 := 1#32
  let v206 : BitVec 32 := Scalar.addi v205 c1_i32_149
  let c15_i32_150 : BitVec 32 := 15#32
  let v207 : BitVec 32 := Scalar.andi v206 c15_i32_150
  let c512_i32_153 : BitVec 32 := 512#32
  let v211 : BitVec 32 := Scalar.muli v207 c512_i32_153
  v211
def k0_mult8 (k0_t1 : Fin k0_t1_loop.trips) : BitVec 32 :=
  let c0_i32_2 : BitVec 32 := 0#32
  let c1_i32 : BitVec 32 := 1#32
  let arg13 : BitVec 32 := Scf.iv c0_i32_2 c1_i32 k0_t1
  let c8_i32_175 : BitVec 32 := 8#32
  let v240 : BitVec 32 := Scalar.muli arg13 c8_i32_175
  let c6_i32 : BitVec 32 := 6#32
  let v241 : BitVec 32 := Scalar.addi v240 c6_i32
  let c1_i32_176 : BitVec 32 := 1#32
  let v242 : BitVec 32 := Scalar.addi v241 c1_i32_176
  let c15_i32_177 : BitVec 32 := 15#32
  let v243 : BitVec 32 := Scalar.andi v242 c15_i32_177
  let c512_i32_180 : BitVec 32 := 512#32
  let v247 : BitVec 32 := Scalar.muli v243 c512_i32_180
  v247
def k0_mult9 (k0_t1 : Fin k0_t1_loop.trips) : BitVec 32 :=
  let c0_i32_2 : BitVec 32 := 0#32
  let c1_i32 : BitVec 32 := 1#32
  let arg13 : BitVec 32 := Scf.iv c0_i32_2 c1_i32 k0_t1
  let c8_i32_202 : BitVec 32 := 8#32
  let v276 : BitVec 32 := Scalar.muli arg13 c8_i32_202
  let c7_i32 : BitVec 32 := 7#32
  let v277 : BitVec 32 := Scalar.addi v276 c7_i32
  let c1_i32_203 : BitVec 32 := 1#32
  let v278 : BitVec 32 := Scalar.addi v277 c1_i32_203
  let c15_i32_204 : BitVec 32 := 15#32
  let v279 : BitVec 32 := Scalar.andi v278 c15_i32_204
  let c512_i32_207 : BitVec 32 := 512#32
  let v283 : BitVec 32 := Scalar.muli v279 c512_i32_207
  v283
@[reducible] def k0_t2_loop : Scf.Loop 32 :=
  let c0_i32_20 : BitVec 32 := 0#32
  let c16_i32 : BitVec 32 := 16#32
  let v32 : BitVec 32 := Scalar.addi c0_i32_20 c16_i32
  let c1_i32_21 : BitVec 32 := 1#32
  ⟨c0_i32_20, v32, c1_i32_21⟩
def k0_mult10 (k0_t2 : Fin k0_t2_loop.trips) : BitVec 32 :=
  let c0_i32_20 : BitVec 32 := 0#32
  let c1_i32_21 : BitVec 32 := 1#32
  let arg13 : BitVec 32 := Scf.iv c0_i32_20 c1_i32_21 k0_t2
  let c15_i32 : BitVec 32 := 15#32
  let v33 : BitVec 32 := Scalar.andi arg13 c15_i32
  let c512_i32 : BitVec 32 := 512#32
  let v37 : BitVec 32 := Scalar.muli v33 c512_i32
  v37
def k0_off5 (k0_t2 : Fin k0_t2_loop.trips) : Fin 3 → Nat :=
  let c0_24 : Index := 0#32
  let c0_i32_20 : BitVec 32 := 0#32
  let c1_i32_21 : BitVec 32 := 1#32
  let arg13 : BitVec 32 := Scf.iv c0_i32_20 c1_i32_21 k0_t2
  let c15_i32 : BitVec 32 := 15#32
  let v33 : BitVec 32 := Scalar.andi arg13 c15_i32
  let c512_i32 : BitVec 32 := 512#32
  let v37 : BitVec 32 := Scalar.muli v33 c512_i32
  let v38 : BitVec 32 := v37
  let v39 : Index := Scalar.indexCast v38
  let c0_25 : Index := 0#32
  ![0, v39.toNat, 0]
def k0_off6 (i : grid0.Coords) (k0_t2 : Fin k0_t2_loop.trips) : Fin 3 → Nat :=
  let arg1 : BitVec 32 := BitVec.ofNat 32 (i 1).val
  let c0_i32_20 : BitVec 32 := 0#32
  let c1_i32_21 : BitVec 32 := 1#32
  let arg13 : BitVec 32 := Scf.iv c0_i32_20 c1_i32_21 k0_t2
  let c4_i32 : BitVec 32 := 4#32
  let v34 : BitVec 32 := Scalar.shrsi arg13 c4_i32
  let v35 : BitVec 32 := Scalar.addi arg1 v34
  let c1_i32_23 : BitVec 32 := 1#32
  let v36 : BitVec 32 := Scalar.minsi v35 c1_i32_23
  let v42 : Index := Scalar.indexCast v36
  let c0_26 : Index := 0#32
  let c0_27 : Index := 0#32
  ![v42.toNat, 0, 0]
def k0_off7 (k0_t2 : Fin k0_t2_loop.trips) : Fin 4 → Nat :=
  let c0_84 : Index := 0#32
  let c0_i32_20 : BitVec 32 := 0#32
  let c1_i32_21 : BitVec 32 := 1#32
  let arg13 : BitVec 32 := Scf.iv c0_i32_20 c1_i32_21 k0_t2
  let v169 : Index := Scalar.indexCast arg13
  let c0_85 : Index := 0#32
  let c0_86 : Index := 0#32
  ![0, v169.toNat, 0, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  ![v16.toNat, c0_i32_5.toNat, c0_i32_6.toNat]

def cc0_transform_2 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  let c0_i32_8 : BitVec 32 := 0#32
  ![v16.toNat, c0_i32_5.toNat, c0_i32_6.toNat, c0_i32_7.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1x16x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x8192x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x16x144x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceLatIdeal.lean ====
abbrev S8192x12x192 : Shape := ⟨3, ![8192, 12, 192]⟩
abbrev S8192x12x128 : Shape := ⟨3, ![8192, 12, 128]⟩
abbrev S192 : Shape := ⟨1, ![192]⟩
abbrev S12x8192x8192 : Shape := ⟨3, ![12, 8192, 8192]⟩
abbrev S_ : Shape := ⟨0, ![]⟩
abbrev S12x8192 : Shape := ⟨2, ![12, 8192]⟩
abbrev S12x8192x1 : Shape := ⟨3, ![12, 8192, 1]⟩
abbrev S12x128x8192 : Shape := ⟨3, ![12, 128, 8192]⟩
abbrev S8192x1536 : Shape := ⟨2, ![8192, 1536]⟩

abbrev nBuf : Space → Nat
  | .hbm => 30
  | .vmem => 0
  | .smem => 0
  | _ => 0

abbrev bufTy : (tb : Table) → Fin (tcTables nBuf tb) → BufTy
  | .hbm, ⟨0, _⟩ => ⟨S8192x12x192, .f32⟩
  | .hbm, ⟨1, _⟩ => ⟨S8192x12x192, .f32⟩
  | .hbm, ⟨2, _⟩ => ⟨S8192x12x128, .f32⟩
  | .hbm, ⟨3, _⟩ => ⟨S192, .f32⟩
  | .hbm, ⟨4, _⟩ => ⟨S192, .f32⟩
  | .hbm, ⟨5, _⟩ => ⟨S12x8192x8192, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S12x8192x8192, .f32⟩
  | .hbm, ⟨11, _⟩ => ⟨S12x8192x8192, .f32⟩
  | .hbm, ⟨12, _⟩ => ⟨S_, .f32⟩
  | .hbm, ⟨13, _⟩ => ⟨S12x8192, .f32⟩
  | .hbm, ⟨14, _⟩ => ⟨S_, .f32⟩
  | .hbm, ⟨15, _⟩ => ⟨S12x8192, .f32⟩
  | .hbm, ⟨16, _⟩ => ⟨S12x8192, .f32⟩
  | .hbm, ⟨17, _⟩ => ⟨S12x8192x1, .f32⟩
  | .hbm, ⟨18, _⟩ => ⟨S12x8192x8192, .f32⟩
  | .hbm, ⟨19, _⟩ => ⟨S12x8192x8192, .f32⟩
  | .hbm, ⟨20, _⟩ => ⟨S12x8192x8192, .f32⟩
  | .hbm, ⟨21, _⟩ => ⟨S_, .f32⟩
  | .hbm, ⟨22, _⟩ => ⟨S12x8192, .f32⟩
  | .hbm, ⟨23, _⟩ => ⟨S12x8192x1, .f32⟩
  | .hbm, ⟨24, _⟩ => ⟨S12x8192x8192, .f32⟩
  | .hbm, ⟨25, _⟩ => ⟨S12x8192x8192, .f32⟩
  | .hbm, ⟨26, _⟩ => ⟨S12x128x8192, .f32⟩
  | .hbm, ⟨27, _⟩ => ⟨S8192x12x128, .f32⟩
  | .hbm, ⟨28, _⟩ => ⟨S8192x1536, .f32⟩
  | .hbm, ⟨29, _⟩ => ⟨S8192x1536, .bf16⟩
  | _, _ => ⟨S8192x12x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_cst_2 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩

abbrev nD : Nat := 1
abbrev τ : Topo := Topo.v7x

variable {F : FTy → Type} [FloatOps F]
-- ==== KernelDiff.lean ====
abbrev S8192x8x2x64 : Shape := ⟨4, ![8192, 8, 2, 64]⟩
abbrev S8192x8x128 : Shape := ⟨3, ![8192, 8, 128]⟩
abbrev S4x64 : Shape := ⟨2, ![4, 64]⟩
abbrev S128 : Shape := ⟨1, ![128]⟩
abbrev S64 : Shape := ⟨1, ![64]⟩
abbrev S_ : Shape := ⟨0, ![]⟩
abbrev S16x512x8x128 : Shape := ⟨4, ![16, 512, 8, 128]⟩
abbrev S8x16x128x512 : Shape := ⟨4, ![8, 16, 128, 512]⟩
abbrev S8x8192x128 : Shape := ⟨3, ![8, 8192, 128]⟩
abbrev S8x16x16x512 : Shape := ⟨4, ![8, 16, 16, 512]⟩
abbrev S8x16x144x512 : Shape := ⟨4, ![8, 16, 144, 512]⟩
abbrev S1x4096 : Shape := ⟨2, ![1, 4096]⟩
abbrev S128x1 : Shape := ⟨2, ![128, 1]⟩
abbrev S8192x1024 : Shape := ⟨2, ![8192, 1024]⟩
abbrev S1x16x128x512 : Shape := ⟨4, ![1, 16, 128, 512]⟩
abbrev S1x8192x128 : Shape := ⟨3, ![1, 8192, 128]⟩
abbrev S1x16x144x512 : Shape := ⟨4, ![1, 16, 144, 512]⟩
abbrev S2048x128 : Shape := ⟨2, ![2048, 128]⟩
abbrev S144x4096 : Shape := ⟨2, ![144, 4096]⟩
abbrev S2x512x4096 : Shape := ⟨3, ![2, 512, 4096]⟩
abbrev S4x128x4096 : Shape := ⟨3, ![4, 128, 4096]⟩
abbrev S512x4096 : Shape := ⟨2, ![512, 4096]⟩
abbrev S1x1x128x512 : Shape := ⟨4, ![1, 1, 128, 512]⟩
abbrev S128x512 : Shape := ⟨2, ![128, 512]⟩
abbrev S128x2048 : Shape := ⟨2, ![128, 2048]⟩
abbrev S128x4096 : Shape := ⟨2, ![128, 4096]⟩
abbrev S1x128x4096 : Shape := ⟨3, ![1, 128, 4096]⟩
abbrev S1x512x128 : Shape := ⟨3, ![1, 512, 128]⟩
abbrev S512x128 : Shape := ⟨2, ![512, 128]⟩
abbrev S1x512x4096 : Shape := ⟨3, ![1, 512, 4096]⟩
abbrev S1x1x144x512 : Shape := ⟨4, ![1, 1, 144, 512]⟩
abbrev S144x512 : Shape := ⟨2, ![144, 512]⟩
abbrev S1x1x4096 : Shape := ⟨3, ![1, 1, 4096]⟩
abbrev S1 : Shape := ⟨1, ![1]⟩
abbrev S1x1x1 : Shape := ⟨3, ![1, 1, 1]⟩
abbrev S64x4096 : Shape := ⟨2, ![64, 4096]⟩
abbrev S8x8x4096 : Shape := ⟨3, ![8, 8, 4096]⟩
abbrev S8x4096 : Shape := ⟨2, ![8, 4096]⟩
abbrev S4096 : Shape := ⟨1, ![4096]⟩
abbrev S1x8x4096 : Shape := ⟨3, ![1, 8, 4096]⟩
abbrev S1x64 : Shape := ⟨2, ![1, 64]⟩
abbrev S1x1 : Shape := ⟨2, ![1, 1]⟩
abbrev S2048 : Shape := ⟨1, ![2048]⟩
abbrev S1x2048 : Shape := ⟨2, ![1, 2048]⟩

abbrev nBuf : Space → Nat
  | .hbm => 40
  | .vmem => 17
  | .smem => 0
  | _ => 0

abbrev bufTy : (tb : Table) → Fin (tcTables nBuf tb) → BufTy
  | .hbm, ⟨0, _⟩ => ⟨S8192x8x2x64, .f32⟩
  | .hbm, ⟨1, _⟩ => ⟨S8192x8x2x64, .f32⟩
  | .hbm, ⟨2, _⟩ => ⟨S8192x8x128, .f32⟩
  | .hbm, ⟨3, _⟩ => ⟨S4x64, .f32⟩
  | .hbm, ⟨4, _⟩ => ⟨S128, .f32⟩
  | .hbm, ⟨5, _⟩ => ⟨S64, .f32⟩
  | .hbm, ⟨6, _⟩ => ⟨S64, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S8192x8x2x64, .f32⟩
  | .hbm, ⟨15, _⟩ => ⟨S8192x8x2x64, .f32⟩
  | .hbm, ⟨16, _⟩ => ⟨S8192x8x2x64, .bf16⟩
  | .hbm, ⟨17, _⟩ => ⟨S16x512x8x128, .bf16⟩
  | .hbm, ⟨18, _⟩ => ⟨S8x16x128x512, .bf16⟩
  | .hbm, ⟨19, _⟩ => ⟨S8192x8x2x64, .bf16⟩
  | .hbm, ⟨20, _⟩ => ⟨S8192x8x128, .bf16⟩
  | .hbm, ⟨21, _⟩ => ⟨S8x8192x128, .bf16⟩
  | .hbm, ⟨22, _⟩ => ⟨S8192x8x128, .bf16⟩
  | .hbm, ⟨23, _⟩ => ⟨S16x512x8x128, .bf16⟩
  | .hbm, ⟨24, _⟩ => ⟨S8x16x128x512, .bf16⟩
  | .hbm, ⟨25, _⟩ => ⟨S_, .bf16⟩
  | .hbm, ⟨26, _⟩ => ⟨S8x16x16x512, .bf16⟩
  | .hbm, ⟨27, _⟩ => ⟨S8x16x144x512, .bf16⟩
  | .hbm, ⟨28, _⟩ => ⟨S64, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S64, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S1x4096, .f32⟩
  | .hbm, ⟨38, _⟩ => ⟨S128x1, .f32⟩
  | .hbm, ⟨39, _⟩ => ⟨S8192x1024, .bf16⟩
  | .local _ .vmem, ⟨0, _⟩ => ⟨S1x16x128x512, .bf16⟩
  | .local _ .vmem, ⟨1, _⟩ => ⟨S1x16x128x512, .bf16⟩
  | .local _ .vmem, ⟨2, _⟩ => ⟨S1x8192x128, .bf16⟩
  | .local _ .vmem, ⟨3, _⟩ => ⟨S1x8192x128, .bf16⟩
  | .local _ .vmem, ⟨4, _⟩ => ⟨S1x16x144x512, .bf16⟩
  | .local _ .vmem, ⟨5, _⟩ => ⟨S1x16x144x512, .bf16⟩
  | .local _ .vmem, ⟨6, _⟩ => ⟨S1x4096, .f32⟩
  | .local _ .vmem, ⟨7, _⟩ => ⟨S4x64, .f32⟩
  | .local _ .vmem, ⟨8, _⟩ => ⟨S128x1, .f32⟩
  | .local _ .vmem, ⟨9, _⟩ => ⟨S2048x128, .bf16⟩
  | .local _ .vmem, ⟨10, _⟩ => ⟨S2048x128, .bf16⟩
  | .local _ .vmem, ⟨11, _⟩ => ⟨S144x4096, .f32⟩
  | .local _ .vmem, ⟨12, _⟩ => ⟨S2x512x4096, .bf16⟩
  | .local _ .vmem, ⟨13, _⟩ => ⟨S4x128x4096, .bf16⟩
  | .local _ .vmem, ⟨14, _⟩ => ⟨S1x4096, .f32⟩
  | .local _ .vmem, ⟨15, _⟩ => ⟨S512x4096, .f32⟩
  | .local _ .vmem, ⟨16, _⟩ => ⟨S512x4096, .bf16⟩
  | _, _ => ⟨S8192x8x2x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_cst_1 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_scratch4 : Ref sig .tc := ⟨.vmem, 15, rfl⟩
abbrev cc0_scratch5 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![8, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_mult1 : BitVec 32 :=
  let c0_i32_94 : BitVec 32 := 0#32
  c0_i32_94
def k0_off1 (i : grid0.Coords) : Fin 3 → Nat :=
  let arg1 : BitVec 32 := BitVec.ofNat 32 (i 1).val
  let c0_i32_93 : BitVec 32 := 0#32
  let v137 : BitVec 32 := Scalar.addi arg1 c0_i32_93
  let c3_i32 : BitVec 32 := 3#32
  let v138 : BitVec 32 := Scalar.minsi v137 c3_i32
  let v143 : Index := Scalar.indexCast v138
  let c0_97 : Index := 0#32
  let c0_98 : Index := 0#32
  ![v143.toNat, 0, 0]
@[reducible] def k0_t1_loop : Scf.Loop 32 :=
  let c0_i32_2 : BitVec 32 := 0#32
  let c2_i32 : BitVec 32 := 2#32
  let v7 : BitVec 32 := Scalar.addi c0_i32_2 c2_i32
  let c1_i32 : BitVec 32 := 1#32
  ⟨c0_i32_2, v7, c1_i32⟩
def k0_mult2 (k0_t1 : Fin k0_t1_loop.trips) : BitVec 32 :=
  let c0_i32_2 : BitVec 32 := 0#32
  let c1_i32 : BitVec 32 := 1#32
  let arg15 : BitVec 32 := Scf.iv c0_i32_2 c1_i32 k0_t1
  let c8_i32 : BitVec 32 := 8#32
  let v61 : BitVec 32 := Scalar.muli arg15 c8_i32
  let c0_i32_25 : BitVec 32 := 0#32
  let v62 : BitVec 32 := Scalar.addi v61 c0_i32_25
  let c1_i32_26 : BitVec 32 := 1#32
  let v63 : BitVec 32 := Scalar.addi v62 c1_i32_26
  let c15_i32 : BitVec 32 := 15#32
  let v64 : BitVec 32 := Scalar.andi v63 c15_i32
  let c512_i32 : BitVec 32 := 512#32
  let v68 : BitVec 32 := Scalar.muli v64 c512_i32
  v68
def k0_off2 (k0_t1 : Fin k0_t1_loop.trips) (c0_i32_25 : BitVec 32) : Fin 3 → Nat :=
  let c0_27 : Index := 0#32
  let c0_i32_2 : BitVec 32 := 0#32
  let c1_i32 : BitVec 32 := 1#32
  let arg15 : BitVec 32 := Scf.iv c0_i32_2 c1_i32 k0_t1
  let c8_i32 : BitVec 32 := 8#32
  let v61 : BitVec 32 := Scalar.muli arg15 c8_i32
  let v62 : BitVec 32 := Scalar.addi v61 c0_i32_25
  let c1_i32_26 : BitVec 32 := 1#32
  let v63 : BitVec 32 := Scalar.addi v62 c1_i32_26
  let c15_i32 : BitVec 32 := 15#32
  let v64 : BitVec 32 := Scalar.andi v63 c15_i32
  let c512_i32 : BitVec 32 := 512#32
  let v68 : BitVec 32 := Scalar.muli v64 c512_i32
  let v69 : BitVec 32 := v68
  let v70 : Index := Scalar.indexCast v69
  let c0_28 : Index := 0#32
  ![0, v70.toNat, 0]
def k0_off3 (i : grid0.Coords) (k0_t1 : Fin k0_t1_loop.trips) (c0_i32_25 : BitVec 32) : Fin 3 → Nat :=
  let arg1 : BitVec 32 := BitVec.ofNat 32 (i 1).val
  let c0_i32_2 : BitVec 32 := 0#32
  let c1_i32 : BitVec 32 := 1#32
  let arg15 : BitVec 32 := Scf.iv c0_i32_2 c1_i32 k0_t1
  let c8_i32 : BitVec 32 := 8#32
  let v61 : BitVec 32 := Scalar.muli arg15 c8_i32
  let v62 : BitVec 32 := Scalar.addi v61 c0_i32_25
  let c1_i32_26 : BitVec 32 := 1#32
  let v63 : BitVec 32 := Scalar.addi v62 c1_i32_26
  let c4_i32 : BitVec 32 := 4#32
  let v65 : BitVec 32 := Scalar.shrsi v63 c4_i32
  let v66 : BitVec 32 := Scalar.addi arg1 v65
  let c3_i32 : BitVec 32 := 3#32
  let v67 : BitVec 32 := Scalar.minsi v66 c3_i32
  let v73 : Index := Scalar.indexCast v67
  let c0_29 : Index := 0#32
  let c0_30 : Index := 0#32
  ![v73.toNat, 0, 0]
def k0_off4 (k0_t1 : Fin k0_t1_loop.trips) (c0_i32_25 : BitVec 32) : Fin 4 → Nat :=
  let c0_38 : Index := 0#32
  let c0_i32_2 : BitVec 32 := 0#32
  let c1_i32 : BitVec 32 := 1#32
  let arg15 : BitVec 32 := Scf.iv c0_i32_2 c1_i32 k0_t1
  let c8_i32 : BitVec 32 := 8#32
  let v61 : BitVec 32 := Scalar.muli arg15 c8_i32
  let v62 : BitVec 32 := Scalar.addi v61 c0_i32_25
  let v87 : Index := Scalar.indexCast v62
  let c0_39 : Index := 0#32
  let c0_40 : Index := 0#32
  ![0, v87.toNat, 0, 0]
def k0_mult3 (k0_t1 : Fin k0_t1_loop.trips) : BitVec 32 :=
  let c0_i32_2 : BitVec 32 := 0#32
  let c1_i32 : BitVec 32 := 1#32
  let arg15 : BitVec 32 := Scf.iv c0_i32_2 c1_i32 k0_t1
  let c8_i32_47 : BitVec 32 := 8#32
  let v97 : BitVec 32 := Scalar.muli arg15 c8_i32_47
  let c1_i32_48 : BitVec 32 := 1#32
  let v98 : BitVec 32 := Scalar.addi v97 c1_i32_48
  let c1_i32_49 : BitVec 32 := 1#32
  let v99 : BitVec 32 := Scalar.addi v98 c1_i32_49
  let c15_i32_50 : BitVec 32 := 15#32
  let v100 : BitVec 32 := Scalar.andi v99 c15_i32_50
  let c512_i32_53 : BitVec 32 := 512#32
  let v104 : BitVec 32 := Scalar.muli v100 c512_i32_53
  v104
def k0_mult4 (k0_t1 : Fin k0_t1_loop.trips) : BitVec 32 :=
  let c0_i32_2 : BitVec 32 := 0#32
  let c1_i32 : BitVec 32 := 1#32
  let arg15 : BitVec 32 := Scf.iv c0_i32_2 c1_i32 k0_t1
  let c8_i32_75 : BitVec 32 := 8#32
  let v133 : BitVec 32 := Scalar.muli arg15 c8_i32_75
  let c2_i32_76 : BitVec 32 := 2#32
  let v134 : BitVec 32 := Scalar.addi v133 c2_i32_76
  let c1_i32_77 : BitVec 32 := 1#32
  let v135 : BitVec 32 := Scalar.addi v134 c1_i32_77
  let c15_i32_78 : BitVec 32 := 15#32
  let v136 : BitVec 32 := Scalar.andi v135 c15_i32_78
  let c512_i32_81 : BitVec 32 := 512#32
  let v140 : BitVec 32 := Scalar.muli v136 c512_i32_81
  v140
def k0_mult5 (k0_t1 : Fin k0_t1_loop.trips) : BitVec 32 :=
  let c0_i32_2 : BitVec 32 := 0#32
  let c1_i32 : BitVec 32 := 1#32
  let arg15 : BitVec 32 := Scf.iv c0_i32_2 c1_i32 k0_t1
  let c8_i32_103 : BitVec 32 := 8#32
  let v169 : BitVec 32 := Scalar.muli arg15 c8_i32_103
  let c3_i32_104 : BitVec 32 := 3#32
  let v170 : BitVec 32 := Scalar.addi v169 c3_i32_104
  let c1_i32_105 : BitVec 32 := 1#32
  let v171 : BitVec 32 := Scalar.addi v170 c1_i32_105
  let c15_i32_106 : BitVec 32 := 15#32
  let v172 : BitVec 32 := Scalar.andi v171 c15_i32_106
  let c512_i32_109 : BitVec 32 := 512#32
  let v176 : BitVec 32 := Scalar.muli v172 c512_i32_109
  v176
def k0_mult6 (k0_t1 : Fin k0_t1_loop.trips) : BitVec 32 :=
  let c0_i32_2 : BitVec 32 := 0#32
  let c1_i32 : BitVec 32 := 1#32
  let arg15 : BitVec 32 := Scf.iv c0_i32_2 c1_i32 k0_t1
  let c8_i32_131 : BitVec 32 := 8#32
  let v205 : BitVec 32 := Scalar.muli arg15 c8_i32_131
  let c4_i32_132 : BitVec 32 := 4#32
  let v206 : BitVec 32 := Scalar.addi v205 c4_i32_132
  let c1_i32_133 : BitVec 32 := 1#32
  let v207 : BitVec 32 := Scalar.addi v206 c1_i32_133
  let c15_i32_134 : BitVec 32 := 15#32
  let v208 : BitVec 32 := Scalar.andi v207 c15_i32_134
  let c512_i32_137 : BitVec 32 := 512#32
  let v212 : BitVec 32 := Scalar.muli v208 c512_i32_137
  v212
def k0_mult7 (k0_t1 : Fin k0_t1_loop.trips) : BitVec 32 :=
  let c0_i32_2 : BitVec 32 := 0#32
  let c1_i32 : BitVec 32 := 1#32
  let arg15 : BitVec 32 := Scf.iv c0_i32_2 c1_i32 k0_t1
  let c8_i32_159 : BitVec 32 := 8#32
  let v241 : BitVec 32 := Scalar.muli arg15 c8_i32_159
  let c5_i32 : BitVec 32 := 5#32
  let v242 : BitVec 32 := Scalar.addi v241 c5_i32
  let c1_i32_160 : BitVec 32 := 1#32
  let v243 : BitVec 32 := Scalar.addi v242 c1_i32_160
  let c15_i32_161 : BitVec 32 := 15#32
  let v244 : BitVec 32 := Scalar.andi v243 c15_i32_161
  let c512_i32_164 : BitVec 32 := 512#32
  let v248 : BitVec 32 := Scalar.muli v244 c512_i32_164
  v248
def k0_mult8 (k0_t1 : Fin k0_t1_loop.trips) : BitVec 32 :=
  let c0_i32_2 : BitVec 32 := 0#32
  let c1_i32 : BitVec 32 := 1#32
  let arg15 : BitVec 32 := Scf.iv c0_i32_2 c1_i32 k0_t1
  let c8_i32_186 : BitVec 32 := 8#32
  let v277 : BitVec 32 := Scalar.muli arg15 c8_i32_186
  let c6_i32 : BitVec 32 := 6#32
  let v278 : BitVec 32 := Scalar.addi v277 c6_i32
  let c1_i32_187 : BitVec 32 := 1#32
  let v279 : BitVec 32 := Scalar.addi v278 c1_i32_187
  let c15_i32_188 : BitVec 32 := 15#32
  let v280 : BitVec 32 := Scalar.andi v279 c15_i32_188
  let c512_i32_191 : BitVec 32 := 512#32
  let v284 : BitVec 32 := Scalar.muli v280 c512_i32_191
  v284
def k0_mult9 (k0_t1 : Fin k0_t1_loop.trips) : BitVec 32 :=
  let c0_i32_2 : BitVec 32 := 0#32
  let c1_i32 : BitVec 32 := 1#32
  let arg15 : BitVec 32 := Scf.iv c0_i32_2 c1_i32 k0_t1
  let c8_i32_213 : BitVec 32 := 8#32
  let v313 : BitVec 32 := Scalar.muli arg15 c8_i32_213
  let c7_i32 : BitVec 32 := 7#32
  let v314 : BitVec 32 := Scalar.addi v313 c7_i32
  let c1_i32_214 : BitVec 32 := 1#32
  let v315 : BitVec 32 := Scalar.addi v314 c1_i32_214
  let c15_i32_215 : BitVec 32 := 15#32
  let v316 : BitVec 32 := Scalar.andi v315 c15_i32_215
  let c512_i32_218 : BitVec 32 := 512#32
  let v320 : BitVec 32 := Scalar.muli v316 c512_i32_218
  v320
@[reducible] def k0_t2_loop : Scf.Loop 32 :=
  let c0_i32_31 : BitVec 32 := 0#32
  let c16_i32 : BitVec 32 := 16#32
  let v69 : BitVec 32 := Scalar.addi c0_i32_31 c16_i32
  let c1_i32_32 : BitVec 32 := 1#32
  ⟨c0_i32_31, v69, c1_i32_32⟩
def k0_mult10 (k0_t2 : Fin k0_t2_loop.trips) : BitVec 32 :=
  let c0_i32_31 : BitVec 32 := 0#32
  let c1_i32_32 : BitVec 32 := 1#32
  let arg15 : BitVec 32 := Scf.iv c0_i32_31 c1_i32_32 k0_t2
  let c15_i32 : BitVec 32 := 15#32
  let v70 : BitVec 32 := Scalar.andi arg15 c15_i32
  let c512_i32 : BitVec 32 := 512#32
  let v74 : BitVec 32 := Scalar.muli v70 c512_i32
  v74
def k0_off5 (k0_t2 : Fin k0_t2_loop.trips) : Fin 3 → Nat :=
  let c0_34 : Index := 0#32
  let c0_i32_31 : BitVec 32 := 0#32
  let c1_i32_32 : BitVec 32 := 1#32
  let arg15 : BitVec 32 := Scf.iv c0_i32_31 c1_i32_32 k0_t2
  let c15_i32 : BitVec 32 := 15#32
  let v70 : BitVec 32 := Scalar.andi arg15 c15_i32
  let c512_i32 : BitVec 32 := 512#32
  let v74 : BitVec 32 := Scalar.muli v70 c512_i32
  let v75 : BitVec 32 := v74
  let v76 : Index := Scalar.indexCast v75
  let c0_35 : Index := 0#32
  ![0, v76.toNat, 0]
def k0_off6 (i : grid0.Coords) (k0_t2 : Fin k0_t2_loop.trips) : Fin 3 → Nat :=
  let arg1 : BitVec 32 := BitVec.ofNat 32 (i 1).val
  let c0_i32_31 : BitVec 32 := 0#32
  let c1_i32_32 : BitVec 32 := 1#32
  let arg15 : BitVec 32 := Scf.iv c0_i32_31 c1_i32_32 k0_t2
  let c4_i32 : BitVec 32 := 4#32
  let v71 : BitVec 32 := Scalar.shrsi arg15 c4_i32
  let v72 : BitVec 32 := Scalar.addi arg1 v71
  let c3_i32 : BitVec 32 := 3#32
  let v73 : BitVec 32 := Scalar.minsi v72 c3_i32
  let v79 : Index := Scalar.indexCast v73
  let c0_36 : Index := 0#32
  let c0_37 : Index := 0#32
  ![v79.toNat, 0, 0]
def k0_off7 (k0_t2 : Fin k0_t2_loop.trips) : Fin 4 → Nat :=
  let c0_94 : Index := 0#32
  let c0_i32_31 : BitVec 32 := 0#32
  let c1_i32_32 : BitVec 32 := 1#32
  let arg15 : BitVec 32 := Scf.iv c0_i32_31 c1_i32_32 k0_t2
  let v206 : Index := Scalar.indexCast arg15
  let c0_95 : Index := 0#32
  let c0_96 : Index := 0#32
  ![0, v206.toNat, 0, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  ![v16.toNat, c0_i32_5.toNat, c0_i32_6.toNat]

def cc0_transform_2 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  let c0_i32_8 : BitVec 32 := 0#32
  ![v16.toNat, c0_i32_5.toNat, c0_i32_6.toNat, c0_i32_7.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1x16x128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x16x144x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S4x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S2048x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceDiffIdeal.lean ====
abbrev S8192x8x2x64 : Shape := ⟨4, ![8192, 8, 2, 64]⟩
abbrev S8192x8x128 : Shape := ⟨3, ![8192, 8, 128]⟩
abbrev S4x64 : Shape := ⟨2, ![4, 64]⟩
abbrev S128 : Shape := ⟨1, ![128]⟩
abbrev S64 : Shape := ⟨1, ![64]⟩
abbrev S1x64 : Shape := ⟨2, ![1, 64]⟩
abbrev S_ : Shape := ⟨0, ![]⟩
abbrev S8x2x8192x8192 : Shape := ⟨4, ![8, 2, 8192, 8192]⟩
abbrev S8x2x8192 : Shape := ⟨3, ![8, 2, 8192]⟩
abbrev S8x2x8192x1 : Shape := ⟨4, ![8, 2, 8192, 1]⟩
abbrev S8x1x8192x8192 : Shape := ⟨4, ![8, 1, 8192, 8192]⟩
abbrev S8x8192x8192 : Shape := ⟨3, ![8, 8192, 8192]⟩
abbrev S8x128x8192 : Shape := ⟨3, ![8, 128, 8192]⟩
abbrev S8192x8 : Shape := ⟨2, ![8192, 8]⟩
abbrev S8192x8x1 : Shape := ⟨3, ![8192, 8, 1]⟩
abbrev S1x1x128 : Shape := ⟨3, ![1, 1, 128]⟩
abbrev S8192x1024 : Shape := ⟨2, ![8192, 1024]⟩

abbrev nBuf : Space → Nat
  | .hbm => 77
  | .vmem => 0
  | .smem => 0
  | _ => 0

abbrev bufTy : (tb : Table) → Fin (tcTables nBuf tb) → BufTy
  | .hbm, ⟨0, _⟩ => ⟨S8192x8x2x64, .f32⟩
  | .hbm, ⟨1, _⟩ => ⟨S8192x8x2x64, .f32⟩
  | .hbm, ⟨2, _⟩ => ⟨S8192x8x128, .f32⟩
  | .hbm, ⟨3, _⟩ => ⟨S4x64, .f32⟩
  | .hbm, ⟨4, _⟩ => ⟨S128, .f32⟩
  | .hbm, ⟨5, _⟩ => ⟨S64, .f32⟩
  | .hbm, ⟨6, _⟩ => ⟨S64, .f32⟩
  | .hbm, ⟨7, _⟩ => ⟨S1x64, .f32⟩
  | .hbm, ⟨8, _⟩ => ⟨S64, .f32⟩
  | .hbm, ⟨9, _⟩ => ⟨S1x64, .f32⟩
  | .hbm, ⟨10, _⟩ => ⟨S64, .f32⟩
  | .hbm, ⟨11, _⟩ => ⟨S64, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S1x64, .f32⟩
  | .hbm, ⟨16, _⟩ => ⟨S64, .f32⟩
  | .hbm, ⟨17, _⟩ => ⟨S1x64, .f32⟩
  | .hbm, ⟨18, _⟩ => ⟨S64, .f32⟩
  | .hbm, ⟨19, _⟩ => ⟨S64, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S8x2x8192x8192, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S8x2x8192x8192, .f32⟩
  | .hbm, ⟨32, _⟩ => ⟨S8x2x8192x8192, .f32⟩
  | .hbm, ⟨33, _⟩ => ⟨S_, .f32⟩
  | .hbm, ⟨34, _⟩ => ⟨S8x2x8192, .f32⟩
  | .hbm, ⟨35, _⟩ => ⟨S_, .f32⟩
  | .hbm, ⟨36, _⟩ => ⟨S8x2x8192, .f32⟩
  | .hbm, ⟨37, _⟩ => ⟨S8x2x8192, .f32⟩
  | .hbm, ⟨38, _⟩ => ⟨S8x2x8192x1, .f32⟩
  | .hbm, ⟨39, _⟩ => ⟨S8x2x8192x8192, .f32⟩
  | .hbm, ⟨40, _⟩ => ⟨S8x2x8192x8192, .f32⟩
  | .hbm, ⟨41, _⟩ => ⟨S8x2x8192x8192, .f32⟩
  | .hbm, ⟨42, _⟩ => ⟨S_, .f32⟩
  | .hbm, ⟨43, _⟩ => ⟨S8x2x8192, .f32⟩
  | .hbm, ⟨44, _⟩ => ⟨S8x2x8192x1, .f32⟩
  | .hbm, ⟨45, _⟩ => ⟨S8x2x8192x8192, .f32⟩
  | .hbm, ⟨46, _⟩ => ⟨S8x2x8192x8192, .f32⟩
  | .hbm, ⟨47, _⟩ => ⟨S8x1x8192x8192, .f32⟩
  | .hbm, ⟨48, _⟩ => ⟨S8x8192x8192, .f32⟩
  | .hbm, ⟨49, _⟩ => ⟨S8x1x8192x8192, .f32⟩
  | .hbm, ⟨50, _⟩ => ⟨S8x8192x8192, .f32⟩
  | .hbm, ⟨51, _⟩ => ⟨S8x8192x8192, .f32⟩
  | .hbm, ⟨52, _⟩ => ⟨S8x8192x8192, .f32⟩
  | .hbm, ⟨53, _⟩ => ⟨S8x8192x8192, .f32⟩
  | .hbm, ⟨54, _⟩ => ⟨S8x128x8192, .f32⟩
  | .hbm, ⟨55, _⟩ => ⟨S8192x8x128, .f32⟩
  | .hbm, ⟨56, _⟩ => ⟨S8192x8x128, .f32⟩
  | .hbm, ⟨57, _⟩ => ⟨S_, .f32⟩
  | .hbm, ⟨58, _⟩ => ⟨S8192x8, .f32⟩
  | .hbm, ⟨59, _⟩ => ⟨S8192x8x1, .f32⟩
  | .hbm, ⟨60, _⟩ => ⟨S_, .f32⟩
  | .hbm, ⟨61, _⟩ => ⟨S8192x8x1, .f32⟩
  | .hbm, ⟨62, _⟩ => ⟨S8192x8x1, .f32⟩
  | .hbm, ⟨63, _⟩ => ⟨S_, .f32⟩
  | .hbm, ⟨64, _⟩ => ⟨S8192x8x1, .f32⟩
  | .hbm, ⟨65, _⟩ => ⟨S8192x8x1, .f32⟩
  | .hbm, ⟨66, _⟩ => ⟨S8192x8x1, .f32⟩
  | .hbm, ⟨67, _⟩ => ⟨S8192x8x128, .f32⟩
  | .hbm, ⟨68, _⟩ => ⟨S8192x8x128, .f32⟩
  | .hbm, ⟨69, _⟩ => ⟨S1x1x128, .f32⟩
  | .hbm, ⟨70, _⟩ => ⟨S8192x8x128, .f32⟩
  | .hbm, ⟨71, _⟩ => ⟨S8192x8x128, .f32⟩
  | .hbm, ⟨72, _⟩ => ⟨S_, .f32⟩
  | .hbm, ⟨73, _⟩ => ⟨S8192x8x128, .f32⟩
  | .hbm, ⟨74, _⟩ => ⟨S8192x8x128, .f32⟩
  | .hbm, ⟨75, _⟩ => ⟨S8192x1024, .f32⟩
  | .hbm, ⟨76, _⟩ => ⟨S8192x1024, .bf16⟩
  | _, _ => ⟨S8192x8x2x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_cst_5 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_6 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_7 : Ref sig .tc := ⟨.hbm, 57, rfl⟩
abbrev main_v42 : Ref sig .tc := ⟨.hbm, 58, rfl⟩
abbrev main_v43 : Ref sig .tc := ⟨.hbm, 59, rfl⟩
abbrev main_cst_8 : Ref sig .tc := ⟨.hbm, 60, rfl⟩
abbrev main_v44 : Ref sig .tc := ⟨.hbm, 61, rfl⟩
abbrev main_v45 : Ref sig .tc := ⟨.hbm, 62, rfl⟩
abbrev main_cst_9 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_cst_10 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩

abbrev nD : Nat := 1
abbrev τ : Topo := Topo.v7x

variable {F : FTy → Type} [FloatOps F]
-- ==== KernelQu.lean ====
abbrev S8192x1024 : Shape := ⟨2, ![8192, 1024]⟩
abbrev S2x1024x2304 : Shape := ⟨3, ![2, 1024, 2304]⟩
abbrev S1x1024x2304 : Shape := ⟨3, ![1, 1024, 2304]⟩
abbrev S1024x2304 : Shape := ⟨2, ![1024, 2304]⟩
abbrev S1024x12x192 : Shape := ⟨3, ![1024, 12, 192]⟩
abbrev S_ : Shape := ⟨0, ![]⟩
abbrev S1024x12x64 : Shape := ⟨3, ![1024, 12, 64]⟩
abbrev S1024x12x256 : Shape := ⟨3, ![1024, 12, 256]⟩
abbrev S1024x3072 : Shape := ⟨2, ![1024, 3072]⟩
abbrev S8192x3072 : Shape := ⟨2, ![8192, 3072]⟩
abbrev S1024x1024 : Shape := ⟨2, ![1024, 1024]⟩
abbrev S1024x1536 : Shape := ⟨2, ![1024, 1536]⟩

abbrev nBuf : Space → Nat
  | .hbm => 11
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S2x1024x2304, .f32⟩
  | .hbm, ⟨2, _⟩ => ⟨S1x1024x2304, .f32⟩
  | .hbm, ⟨3, _⟩ => ⟨S1024x2304, .f32⟩
  | .hbm, ⟨4, _⟩ => ⟨S1024x2304, .bf16⟩
  | .hbm, ⟨5, _⟩ => ⟨S1024x12x192, .bf16⟩
  | .hbm, ⟨6, _⟩ => ⟨S_, .bf16⟩
  | .hbm, ⟨7, _⟩ => ⟨S1024x12x64, .bf16⟩
  | .hbm, ⟨8, _⟩ => ⟨S1024x12x256, .bf16⟩
  | .hbm, ⟨9, _⟩ => ⟨S1024x3072, .bf16⟩
  | .hbm, ⟨10, _⟩ => ⟨S8192x3072, .f32⟩
  | .local _ .vmem, ⟨0, _⟩ => ⟨S1024x1024, .bf16⟩
  | .local _ .vmem, ⟨1, _⟩ => ⟨S1024x1024, .bf16⟩
  | .local _ .vmem, ⟨2, _⟩ => ⟨S1024x1536, .bf16⟩
  | .local _ .vmem, ⟨3, _⟩ => ⟨S1024x1536, .bf16⟩
  | .local _ .vmem, ⟨4, _⟩ => ⟨S1024x1536, .f32⟩
  | .local _ .vmem, ⟨5, _⟩ => ⟨S1024x1536, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceQuIdeal.lean ====
abbrev S8192x1024 : Shape := ⟨2, ![8192, 1024]⟩
abbrev S2x1024x2304 : Shape := ⟨3, ![2, 1024, 2304]⟩
abbrev S1x1024x2304 : Shape := ⟨3, ![1, 1024, 2304]⟩
abbrev S1024x2304 : Shape := ⟨2, ![1024, 2304]⟩
abbrev S8192x2304 : Shape := ⟨2, ![8192, 2304]⟩
abbrev S8192x12x192 : Shape := ⟨3, ![8192, 12, 192]⟩
abbrev S_ : Shape := ⟨0, ![]⟩
abbrev S8192x12x64 : Shape := ⟨3, ![8192, 12, 64]⟩
abbrev S8192x12x256 : Shape := ⟨3, ![8192, 12, 256]⟩
abbrev S8192x3072 : Shape := ⟨2, ![8192, 3072]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2x1024x2304, .f32⟩
  | .hbm, ⟨2, _⟩ => ⟨S8192x1024, .f32⟩
  | .hbm, ⟨3, _⟩ => ⟨S1x1024x2304, .f32⟩
  | .hbm, ⟨4, _⟩ => ⟨S1024x2304, .f32⟩
  | .hbm, ⟨5, _⟩ => ⟨S8192x2304, .f32⟩
  | .hbm, ⟨6, _⟩ => ⟨S8192x12x192, .f32⟩
  | .hbm, ⟨7, _⟩ => ⟨S_, .f32⟩
  | .hbm, ⟨8, _⟩ => ⟨S8192x12x64, .f32⟩
  | .hbm, ⟨9, _⟩ => ⟨S8192x12x256, .f32⟩
  | .hbm, ⟨10, _⟩ => ⟨S8192x3072, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== KernelKv.lean ====
abbrev S8192x512 : Shape := ⟨2, ![8192, 512]⟩
abbrev S2x512x3072 : Shape := ⟨3, ![2, 512, 3072]⟩
abbrev S1x512x3072 : Shape := ⟨3, ![1, 512, 3072]⟩
abbrev S512x3072 : Shape := ⟨2, ![512, 3072]⟩
abbrev S8192x3072 : Shape := ⟨2, ![8192, 3072]⟩
abbrev S1024x512 : Shape := ⟨2, ![1024, 512]⟩
abbrev S512x1536 : Shape := ⟨2, ![512, 1536]⟩
abbrev S1024x1536 : Shape := ⟨2, ![1024, 1536]⟩

abbrev nBuf : Space → Nat
  | .hbm => 6
  | .vmem => 6
  | .smem => 0
  | _ => 0

abbrev bufTy : (tb : Table) → Fin (tcTables nBuf tb) → BufTy
  | .hbm, ⟨0, _⟩ => ⟨S8192x512, .bf16⟩
  | .hbm, ⟨1, _⟩ => ⟨S2x512x3072, .f32⟩
  | .hbm, ⟨2, _⟩ => ⟨S1x512x3072, .f32⟩
  | .hbm, ⟨3, _⟩ => ⟨S512x3072, .f32⟩
  | .hbm, ⟨4, _⟩ => ⟨S512x3072, .bf16⟩
  | .hbm, ⟨5, _⟩ => ⟨S8192x3072, .f32⟩
  | .local _ .vmem, ⟨0, _⟩ => ⟨S1024x512, .bf16⟩
  | .local _ .vmem, ⟨1, _⟩ => ⟨S1024x512, .bf16⟩
  | .local _ .vmem, ⟨2, _⟩ => ⟨S512x1536, .bf16⟩
  | .local _ .vmem, ⟨3, _⟩ => ⟨S512x1536, .bf16⟩
  | .local _ .vmem, ⟨4, _⟩ => ⟨S1024x1536, .f32⟩
  | .local _ .vmem, ⟨5, _⟩ => ⟨S1024x1536, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceKvIdeal.lean ====
abbrev S8192x512 : Shape := ⟨2, ![8192, 512]⟩
abbrev S2x512x3072 : Shape := ⟨3, ![2, 512, 3072]⟩
abbrev S1x512x3072 : Shape := ⟨3, ![1, 512, 3072]⟩
abbrev S512x3072 : Shape := ⟨2, ![512, 3072]⟩
abbrev S8192x3072 : Shape := ⟨2, ![8192, 3072]⟩

abbrev nBuf : Space → Nat
  | .hbm => 6
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S2x512x3072, .f32⟩
  | .hbm, ⟨2, _⟩ => ⟨S8192x512, .f32⟩
  | .hbm, ⟨3, _⟩ => ⟨S1x512x3072, .f32⟩
  | .hbm, ⟨4, _⟩ => ⟨S512x3072, .f32⟩
  | .hbm, ⟨5, _⟩ => ⟨S8192x3072, .f32⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== KernelKr.lean ====
abbrev S8192x4096 : Shape := ⟨2, ![8192, 4096]⟩
abbrev S2x4096x7232 : Shape := ⟨3, ![2, 4096, 7232]⟩
abbrev S2x7232x4096 : Shape := ⟨3, ![2, 7232, 4096]⟩
abbrev S8192x128 : Shape := ⟨2, ![8192, 128]⟩
abbrev S1024x4096 : Shape := ⟨2, ![1024, 4096]⟩
abbrev S1x64x4096 : Shape := ⟨3, ![1, 64, 4096]⟩
abbrev S1024x128 : Shape := ⟨2, ![1024, 128]⟩
abbrev S64x4096 : Shape := ⟨2, ![64, 4096]⟩
abbrev S128x4096 : Shape := ⟨2, ![128, 4096]⟩

abbrev nBuf : Space → Nat
  | .hbm => 4
  | .vmem => 5
  | .smem => 0
  | _ => 0

abbrev bufTy : (tb : Table) → Fin (tcTables nBuf tb) → BufTy
  | .hbm, ⟨0, _⟩ => ⟨S8192x4096, .bf16⟩
  | .hbm, ⟨1, _⟩ => ⟨S2x4096x7232, .f32⟩
  | .hbm, ⟨2, _⟩ => ⟨S2x7232x4096, .f32⟩
  | .hbm, ⟨3, _⟩ => ⟨S8192x128, .f32⟩
  | .local _ .vmem, ⟨0, _⟩ => ⟨S1024x4096, .bf16⟩
  | .local _ .vmem, ⟨1, _⟩ => ⟨S1024x4096, .bf16⟩
  | .local _ .vmem, ⟨2, _⟩ => ⟨S1x64x4096, .f32⟩
  | .local _ .vmem, ⟨3, _⟩ => ⟨S1024x128, .f32⟩
  | .local _ .vmem, ⟨4, _⟩ => ⟨S1024x128, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c1_i32 : BitVec 32 := 1#32
  let c112_i32 : BitVec 32 := 112#32
  let c0_i32 : BitVec 32 := 0#32
  let c0_i32_0 : BitVec 32 := 0#32
  ![c1_i32.toNat, c112_i32.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x64x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceKrIdeal.lean ====
abbrev S8192x4096 : Shape := ⟨2, ![8192, 4096]⟩
abbrev S2x4096x7232 : Shape := ⟨3, ![2, 4096, 7232]⟩
abbrev S1x4096x7232 : Shape := ⟨3, ![1, 4096, 7232]⟩
abbrev S4096x7232 : Shape := ⟨2, ![4096, 7232]⟩
abbrev S4096x64 : Shape := ⟨2, ![4096, 64]⟩
abbrev S8192x64 : Shape := ⟨2, ![8192, 64]⟩
abbrev S_ : Shape := ⟨0, ![]⟩
abbrev S8192x128 : Shape := ⟨2, ![8192, 128]⟩

abbrev nBuf : Space → Nat
  | .hbm => 10
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S2x4096x7232, .f32⟩
  | .hbm, ⟨2, _⟩ => ⟨S8192x4096, .f32⟩
  | .hbm, ⟨3, _⟩ => ⟨S1x4096x7232, .f32⟩
  | .hbm, ⟨4, _⟩ => ⟨S4096x7232, .f32⟩
  | .hbm, ⟨5, _⟩ => ⟨S4096x64, .f32⟩
  | .hbm, ⟨6, _⟩ => ⟨S8192x64, .f32⟩
  | .hbm, ⟨7, _⟩ => ⟨S_, .f32⟩
  | .hbm, ⟨8, _⟩ => ⟨S8192x64, .f32⟩
  | .hbm, ⟨9, _⟩ => ⟨S8192x128, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Proof.AttnI.lean ====
module

public import proofs.«01_k».proof.Proof.Gen.KernelIdeal.Frame
public import proofs.«01_k».proof.Proof.Gen.KernelIdeal.Skeleton
public import Idealize.ShloMosaic.Lib.Exec
public import Idealize.ShloMosaic.Lib.Pipeline.Value

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (UR sig nD τ) ℕ

/-! ## What one trip computes, as functions of the blocks -/

/-- Rows `512·(n mod 16) …` of the keys. -/
def kCh (K : Vec F S1x8192x128 .bf16) (n : ℕ) : Vec F S1x512x128 .bf16 :=
  View.ld K (Rect.unit (s := S1x8192x128) ![0, 512 * (n % 16), 0] ![1, 512, 128]
    (by have := Nat.mod_lt n (show 0 < 16 by decide); intro a; fin_cases a <;> simp <;> omega))

/-- Chunk `n mod 16` of the values. -/
def vCh (V : Vec F S1x16x144x512 .bf16) (n : ℕ) : Vec F S1x1x144x512 .bf16 :=
  View.ld V (Rect.unit (s := S1x16x144x512) ![0, n % 16, 0, 0] ![1, 1, 144, 512]
    (by have := Nat.mod_lt n (show 0 < 16 by decide); intro a; fin_cases a <;> simp <;> omega))

/-- Block `min b 1` of the queries. -/
def qBl (Q : Vec F S2x128x4096 .bf16) (b : ℕ) : Vec F S1x128x4096 .bf16 :=
  View.ld Q (Rect.unit (s := S2x128x4096) ![min b 1, 0, 0] ![1, 128, 4096]
    (by intro a; fin_cases a <;> simp <;> omega))

/-- The weights of step `n` of query block `i`: its chunk of keys against its block of queries, below the shift. -/
def pr (K : Vec F S1x8192x128 .bf16) (Q : Vec F S2x128x4096 .bf16) (s : Vec F S1x4096 .f32) (i n : ℕ) : Vec F S1x512x4096 .bf16 :=
  k0_pay1 (kCh K n) (qBl Q (i + n / 16)) s

/-- The accumulator after `n` steps. -/
def ac (K : Vec F S1x8192x128 .bf16) (V : Vec F S1x16x144x512 .bf16) (Q : Vec F S2x128x4096 .bf16) (s : Vec F S1x4096 .f32) (i : ℕ) :
    ℕ → Vec F S144x4096 .f32
  | 0 => k0_pay2
  | n + 1 => k0_pay4 (ac K V Q s i n) (vCh V n) (pr K Q s i n)

theorem ac_succ (K : Vec F S1x8192x128 .bf16) (V : Vec F S1x16x144x512 .bf16) (Q : Vec F S2x128x4096 .bf16) (s : Vec F S1x4096 .f32)
    (i n : ℕ) : ac K V Q s i (n + 1) = k0_pay4 (ac K V Q s i n) (vCh V n) (pr K Q s i n) := rfl

theorem ld_off {S : Shape} {e : EltTy} (X : S.Idx → Elt F e) {o o' z : Fin S.rank → ℕ} (h : o = o')
    (p : ∀ a, o a + z a ≤ S.size a) (p' : ∀ a, o' a + z a ≤ S.size a) :
    View.ld X (Rect.unit o z p) = View.ld X (Rect.unit o' z p') := by subst h; rfl

theorem off2_eq : ∀ (k : Fin 2) (c : Fin 8), k0_off2 k (BitVec.ofNat 32 c.val) = ![0, 512 * ((8 * k.val + c.val + 1) % 16), 0] := by
  decide +kernel
theorem off4_eq : ∀ (k : Fin 2) (c : Fin 8), k0_off4 k (BitVec.ofNat 32 c.val) = ![0, (8 * k.val + c.val) % 16, 0, 0] := by
  decide +kernel
theorem off3_eq : ∀ (i : grid0.Coords) (k : Fin 2) (c : Fin 8),
    k0_off3 i k (BitVec.ofNat 32 c.val) = ![min ((i 1).val + (8 * k.val + c.val + 1) / 16) 1, 0, 0] := by
  decide +kernel

section
variable (a : Vec F S1x512x128 .bf16) (b : Vec F S1x128x4096 .bf16) (s : Vec F S1x4096 .f32)
  (x : Vec F S144x4096 .f32) (v : Vec F S1x1x144x512 .bf16) (p : Vec F S1x512x4096 .bf16)
theorem pay3_eq : k0_pay3 a b s = k0_pay1 a b s := rfl
theorem pay12_eq : k0_pay12 a b s = k0_pay1 a b s := rfl
theorem pay15_eq : k0_pay15 a b s = k0_pay1 a b s := rfl
theorem pay18_eq : k0_pay18 a b s = k0_pay1 a b s := rfl
theorem pay21_eq : k0_pay21 (k0_pay20 a b s) = k0_pay1 a b s := rfl
theorem pay24_eq : k0_pay24 (k0_pay23 a b s) = k0_pay1 a b s := rfl
theorem pay27_eq : k0_pay27 (k0_pay26 a b) s = k0_pay1 a b s := rfl
theorem pay30_eq : k0_pay30 (k0_pay29 a) b s = k0_pay1 a b s := rfl
theorem pay14_eq : k0_pay14 x (k0_pay13 v p) = k0_pay4 x v p := rfl
theorem pay17_eq : k0_pay17 x (k0_pay16 v) p = k0_pay4 x v p := rfl
theorem pay19_eq : k0_pay19 x v p = k0_pay4 x v p := rfl
theorem pay22_eq : k0_pay22 x v p = k0_pay4 x v p := rfl
theorem pay25_eq : k0_pay25 x v p = k0_pay4 x v p := rfl
theorem pay28_eq : k0_pay28 x v p = k0_pay4 x v p := rfl
theorem pay31_eq : k0_pay31 x v p = k0_pay4 x v p := rfl
end

/-! ## The loads at the loop's offsets -/

section
variable {sp : Space}
theorem rd2 (v : View sig .tc sp S1x8192x128 .bf16) (X : v.ty.Contents (Elt F)) (k : Fin k0_t1_loop.trips) (w : BitVec 32) (p) (hw : w.toNat < 8) :
    v.readAt (Elt F) (Rect.unit (s := S1x8192x128) (k0_off2 k w) ![1, 512, 128] p).toLoadRect X
      = kCh (v.read (Elt F) X) (8 * k.val + (w.toNat + 1)) := by
  have h := off2_eq k ⟨w.toNat, hw⟩
  rw [show BitVec.ofNat 32 (⟨w.toNat, hw⟩ : Fin 8).val = w from BitVec.ofNat_toNat .. |>.trans (BitVec.setWidth_eq w)] at h
  exact ld_off _ h _ _
theorem rd4 (v : View sig .tc sp S1x16x144x512 .bf16) (X : v.ty.Contents (Elt F)) (k : Fin k0_t1_loop.trips) (w : BitVec 32) (p) (hw : w.toNat < 8) :
    v.readAt (Elt F) (Rect.unit (s := S1x16x144x512) (k0_off4 k w) ![1, 1, 144, 512] p).toLoadRect X
      = vCh (v.read (Elt F) X) (8 * k.val + w.toNat) := by
  have h := off4_eq k ⟨w.toNat, hw⟩
  rw [show BitVec.ofNat 32 (⟨w.toNat, hw⟩ : Fin 8).val = w from BitVec.ofNat_toNat .. |>.trans (BitVec.setWidth_eq w)] at h
  exact ld_off _ h _ _
theorem rd3 (v : View sig .tc sp S2x128x4096 .bf16) (X : v.ty.Contents (Elt F)) (i : grid0.Coords) (k : Fin k0_t1_loop.trips) (w : BitVec 32) (p) (hw : w.toNat < 8) :
    v.readAt (Elt F) (Rect.unit (s := S2x128x4096) (k0_off3 i k w) ![1, 128, 4096] p).toLoadRect X
      = qBl (v.read (Elt F) X) ((i 1).val + (8 * k.val + (w.toNat + 1)) / 16) := by
  have h := off3_eq i k ⟨w.toNat, hw⟩
  rw [show BitVec.ofNat 32 (⟨w.toNat, hw⟩ : Fin 8).val = w from BitVec.ofNat_toNat .. |>.trans (BitVec.setWidth_eq w)] at h
  exact ld_off _ h _ _
theorem rd5 (v : View sig .tc sp S1x4096 .f32) (X : v.ty.Contents (Elt F)) (p) :
    v.readAt (Elt F) (Rect.unit (s := S1x4096) ![0, 0] ![1, 4096] p).toLoadRect X = v.read (Elt F) X :=
  View.ld_unit_zero (by funext a; fin_cases a <;> rfl) p _
theorem rd7 (v : View sig .tc sp S144x4096 .f32) (X : v.ty.Contents (Elt F)) (p) :
    v.readAt (Elt F) (Rect.unit (s := S144x4096) ![0, 0] ![144, 4096] p).toLoadRect X = v.read (Elt F) X :=
  View.ld_unit_zero (by funext a; fin_cases a <;> rfl) p _
theorem rd7w (v : View sig .tc sp S144x4096 .f32) (f : v.ty.Contents (Elt F)) (p) (w) (L) :
    v.read (Elt F) (v.writes (Elt F) f (⟨Rect.unit (s := S144x4096) ![0, 0] ![144, 4096] p, w⟩ :: L)) = w := by
  rw [← rd7 v _ p, View.readAt_rect]
  funext x
  exact View.read_writes_cons_emb _ _ _ _ _ x
end

theorem rd5w {sp : Space} (v : View sig .tc sp S1x4096 .f32) (f : v.ty.Contents (Elt F)) (p) (w) (L) :
    v.read (Elt F) (v.writes (Elt F) f (⟨Rect.unit (s := S1x4096) ![0, 0] ![1, 4096] p, w⟩ :: L)) = w := by
  rw [← rd5 v _ p, View.readAt_rect]
  funext x
  exact View.read_writes_cons_emb _ _ _ _ _ x
theorem rd6w {sp : Space} (v : View sig .tc sp S4096x128 .bf16) (f : v.ty.Contents (Elt F)) (p) (w) (L) :
    v.read (Elt F) (v.writes (Elt F) f (⟨Rect.unit (s := S4096x128) ![0, 0] ![4096, 128] p, w⟩ :: L)) = w := by
  have h := View.ld_unit_zero (S := S4096x128) (off := ![0, 0]) (by funext a; fin_cases a <;> rfl) p
    (v.read (Elt F) (v.writes (Elt F) f (⟨Rect.unit (s := S4096x128) ![0, 0] ![4096, 128] p, w⟩ :: L)))
  rw [← h]
  funext x
  exact View.read_writes_cons_emb _ _ _ _ _ x
theorem rd8w {sp : Space} (v : View sig .tc sp S2x512x4096 .bf16) (f : v.ty.Contents (Elt F)) (r : Rect S2x512x4096) (w) (L) :
    View.ld (v.read (Elt F) (v.writes (Elt F) f (⟨r, w⟩ :: L))) r = w := by
  funext x
  exact View.read_writes_cons_emb _ _ _ _ _ x

/-- Slot 0 of the double buffer. -/
abbrev slot0 : Rect S2x512x4096 := Rect.unit (s := S2x512x4096) ![0, 0, 0] ![1, 512, 4096] inb_S2x512x4096_S1x512x4096_0_0_0
abbrev slot1 : Rect S2x512x4096 := Rect.unit (s := S2x512x4096) ![1, 0, 0] ![1, 512, 4096] inb_S2x512x4096_S1x512x4096_1_0_0

theorem slots_disjoint : Disjoint slot0.set slot1.set :=
  LoadRect.disjoint_of_separated slot0.toLoadRect slot1.toLoadRect 0 (by decide)

theorem rc_skip01 {sp : Space} (v : View sig .tc sp S2x512x4096 .bf16) (w) (L) :
    v.readCov (Val := Elt F) (⟨slot0, w⟩ :: L) slot1.toLoadRect = v.readCov L slot1.toLoadRect :=
  View.readCov_cons_of_disjoint _ _ _ _ slots_disjoint
theorem rc_skip10 {sp : Space} (v : View sig .tc sp S2x512x4096 .bf16) (w) (L) :
    v.readCov (Val := Elt F) (⟨slot1, w⟩ :: L) slot0.toLoadRect = v.readCov L slot0.toLoadRect :=
  View.readCov_cons_of_disjoint _ _ _ _ slots_disjoint.symm

section
variable (𝒱 : Variants) (c : Dev nD) (bd : Option 𝒱.V) (E : Set ℕ) (i : grid0.Coords) (arg2 : Memref sig .tc .vmem S1x16x128x512 .bf16) (harg2 : arg2.IsWhole) (arg3 : Memref sig .tc .vmem S1x8192x128 .bf16) (harg3 : arg3.IsWhole) (arg4 : Memref sig .tc .vmem S1x16x144x512 .bf16) (harg4 : arg4.IsWhole) (arg5 : Memref sig .tc .vmem S1x4096 .f32) (harg5 : arg5.IsWhole) (arg6 : Memref sig .tc .vmem S4096x128 .bf16) (harg6 : arg6.IsWhole) (arg7 : Memref sig .tc .vmem S144x4096 .f32) (harg7 : arg7.IsWhole) (arg8 : Memref sig .tc .vmem S2x512x4096 .bf16) (harg8 : arg8.IsWhole) (arg9 : Memref sig .tc .vmem S2x128x4096 .bf16) (harg9 : arg9.IsWhole) (arg10 : Memref sig .tc .vmem S1x4096 .f32) (harg10 : arg10.IsWhole) (arg11 : Memref sig .tc .vmem S512x4096 .f32) (harg11 : arg11.IsWhole) (arg12 : Memref sig .tc .vmem S512x4096 .bf16) (harg12 : arg12.IsWhole) (arg1 : BitVec 32)
  (X3 : BufTy.Contents (Elt F) arg3.view.ty) (X4 : BufTy.Contents (Elt F) arg4.view.ty) (X5 : BufTy.Contents (Elt F) arg5.view.ty)
  (X9 : BufTy.Contents (Elt F) arg9.view.ty)

/-- The first loop before trip `k`. -/
def inv1 (k : ℕ) : sProp 𝕄 :=
  iprop((arg3.view.loc (c : Thread nD τ) ↦[arg3.view.set]{fullShare} X3) ∗ (arg4.view.loc (c : Thread nD τ) ↦[arg4.view.set]{fullShare} X4)
      ∗ (arg5.view.loc (c : Thread nD τ) ↦[arg5.view.set]{fullShare} X5) ∗ (arg9.view.loc (c : Thread nD τ) ↦[arg9.view.set]{fullShare} X9)
      ∗ (∃ f, (arg7.view.loc (c : Thread nD τ) ↦[arg7.view.set]{fullShare} f)
          ∗ ⌜arg7.view.read (Elt F) f = ac (arg3.view.read (Elt F) X3) (arg4.view.read (Elt F) X4) (arg9.view.read (Elt F) X9) (arg5.view.read (Elt F) X5) (i 1).val (8 * k)⌝)
      ∗ (∃ f, (arg8.view.loc (c : Thread nD τ) ↦[arg8.view.set]{fullShare} f)
          ∗ ⌜View.ld (arg8.view.read (Elt F) f) slot0 = pr (arg3.view.read (Elt F) X3) (arg9.view.read (Elt F) X9) (arg5.view.read (Elt F) X5) (i 1).val (8 * k)⌝))

theorem trip1 (k : Fin k0_t1_loop.trips) :
    inv1 c i arg3 arg4 arg5 arg7 arg8 arg9 X3 X4 X5 X9 k.val
      ⊢ wp frame (wpE (defs₀ (F := F)) 𝒱 (c : Thread nD τ) bd) E (k0_t1_body (F := F) i arg2 harg2 arg3 harg3 arg4 harg4 arg5 harg5 arg6 harg6 arg7 harg7 arg8 harg8 arg9 harg9 arg10 harg10 arg11 harg11 arg12 harg12 arg1 k PUnit.unit)
          (fun _ => inv1 c i arg3 arg4 arg5 arg7 arg8 arg9 X3 X4 X5 X9 (k.val + 1)) := by
  have hk : k.val < 2 := Nat.lt_of_lt_of_le k.isLt k0_t1_abs.2.1
  unfold k0_t1_body inv1
  iintro ⟨H3, H4, H5, H9, ⟨%f7, H7, %h7⟩, ⟨%f8, H8, %h8⟩⟩
  sl_exec
  sl_step
  isplitl [H3]; · iexact H3
  isplitl [H4]; · iexact H4
  isplitl [H5]; · iexact H5
  isplitl [H9]; · iexact H9
  have e0 : ∀ n : ℕ, 8 * k.val + 0 = 8 * k.val := fun _ => rfl
  isplitl [H7]
  · iexists _; isplitl [H7]; · iexact H7
    ipureintro
    rw [rd7w, Nat.mul_succ]
    delta trip1.sl.v301 trip1.sl.H7_7 trip1.sl.v265 trip1.sl.H7_6 trip1.sl.v229 trip1.sl.H7_5 trip1.sl.v193
      trip1.sl.H7_4 trip1.sl.v157 trip1.sl.H7_3 trip1.sl.v121 trip1.sl.H7_2 trip1.sl.v85 trip1.sl.H7_1
      trip1.sl.v305 trip1.sl.v269 trip1.sl.v233 trip1.sl.v197 trip1.sl.v161 trip1.sl.v125 trip1.sl.v89
      trip1.sl.H8_8 trip1.sl.H8_7 trip1.sl.H8_6 trip1.sl.H8_5 trip1.sl.H8_4 trip1.sl.H8_3 trip1.sl.H8_2
      trip1.sl.r_6 trip1.sl.r_5 trip1.sl.r_4 trip1.sl.r_3 trip1.sl.r_2 trip1.sl.r_1 trip1.sl.r
    simp only [View.readCov_cons_toLoadRect, rc_skip01, rc_skip10]
    simp only [pay3_eq, pay12_eq, pay15_eq, pay18_eq, pay21_eq, pay24_eq, pay27_eq, pay30_eq, pay14_eq, pay17_eq, pay19_eq,
      pay22_eq, pay25_eq, pay28_eq, pay31_eq, rd5, rd7, h7]
    rw [rd2 _ _ _ 0#32 _ (by decide), rd2 _ _ _ 1#32 _ (by decide), rd2 _ _ _ 2#32 _ (by decide), rd2 _ _ _ 3#32 _ (by decide),
      rd2 _ _ _ 4#32 _ (by decide), rd2 _ _ _ 5#32 _ (by decide), rd2 _ _ _ 6#32 _ (by decide),
      rd3 _ _ _ _ 0#32 _ (by decide), rd3 _ _ _ _ 1#32 _ (by decide), rd3 _ _ _ _ 2#32 _ (by decide), rd3 _ _ _ _ 3#32 _ (by decide),
      rd3 _ _ _ _ 4#32 _ (by decide), rd3 _ _ _ _ 5#32 _ (by decide), rd3 _ _ _ _ 6#32 _ (by decide),
      rd4 _ _ _ 0#32 _ (by decide), rd4 _ _ _ 1#32 _ (by decide), rd4 _ _ _ 2#32 _ (by decide), rd4 _ _ _ 3#32 _ (by decide),
      rd4 _ _ _ 4#32 _ (by decide), rd4 _ _ _ 5#32 _ (by decide), rd4 _ _ _ 6#32 _ (by decide), rd4 _ _ _ 7#32 _ (by decide)]
    rfl
  iexists _; isplitl [H8]; · iexact H8
  ipureintro
  delta trip1.sl.H8_8
  rw [rd8w, pay3_eq, rd2 _ _ _ 7#32 _ (by decide), rd3 _ _ _ _ 7#32 _ (by decide), rd5]
  rfl
end

/-! ## The second pass, taken where the first pass lost its normaliser -/

/-- Rows `o … o+63`. -/
abbrev rw64 (o : ℕ) (h : ∀ a, (![o, 0] : Fin 2 → ℕ) a + (![64, 4096] : Fin 2 → ℕ) a ≤ S512x4096.size a) : Rect S512x4096 :=
  Rect.unit (s := S512x4096) ![o, 0] ![64, 4096] h

section
variable (S : Vec F S512x4096 .f32) (m : Vec F S1x4096 .f32)
/-- The running maximum after the scores `S`. -/
def mx : Vec F S1x4096 .f32 :=
  k0_pay35 (k0_pay33 (View.ld S (rw64 0 inb_S512x4096_S64x4096_0_0)) (View.ld S (rw64 64 inb_S512x4096_S64x4096_64_0))
      (View.ld S (rw64 128 inb_S512x4096_S64x4096_128_0)) (View.ld S (rw64 192 inb_S512x4096_S64x4096_192_0)))
    (k0_pay34 (View.ld S (rw64 256 inb_S512x4096_S64x4096_256_0))) (View.ld S (rw64 320 inb_S512x4096_S64x4096_320_0))
    (View.ld S (rw64 384 inb_S512x4096_S64x4096_384_0)) (View.ld S (rw64 448 inb_S512x4096_S64x4096_448_0)) m
/-- What the old accumulator is scaled by. -/
def al : Vec F S1x4096 .f32 :=
  k0_pay36 (k0_pay33 (View.ld S (rw64 0 inb_S512x4096_S64x4096_0_0)) (View.ld S (rw64 64 inb_S512x4096_S64x4096_64_0))
      (View.ld S (rw64 128 inb_S512x4096_S64x4096_128_0)) (View.ld S (rw64 192 inb_S512x4096_S64x4096_192_0)))
    (k0_pay34 (View.ld S (rw64 256 inb_S512x4096_S64x4096_256_0))) (View.ld S (rw64 320 inb_S512x4096_S64x4096_320_0))
    (View.ld S (rw64 384 inb_S512x4096_S64x4096_384_0)) (View.ld S (rw64 448 inb_S512x4096_S64x4096_448_0)) m
/-- The running maximum, eight equal rows of it. -/
def mr : Vec F S1x8x4096 .f32 :=
  k0_pay37 (k0_pay33 (View.ld S (rw64 0 inb_S512x4096_S64x4096_0_0)) (View.ld S (rw64 64 inb_S512x4096_S64x4096_64_0))
      (View.ld S (rw64 128 inb_S512x4096_S64x4096_128_0)) (View.ld S (rw64 192 inb_S512x4096_S64x4096_192_0)))
    (k0_pay34 (View.ld S (rw64 256 inb_S512x4096_S64x4096_256_0))) (View.ld S (rw64 320 inb_S512x4096_S64x4096_320_0))
    (View.ld S (rw64 384 inb_S512x4096_S64x4096_384_0)) (View.ld S (rw64 448 inb_S512x4096_S64x4096_448_0)) m
/-- The weights of the scores `S` below the running maximum, eight blocks of 64 rows. -/
def pp : Vec F S512x4096 .bf16 :=
  View.canon (Val := Elt F) (e := .bf16)
    [⟨rw64 448 inb_S512x4096_S64x4096_448_0, k0_pay41 (mr S m) (View.ld S (rw64 448 inb_S512x4096_S64x4096_448_0))⟩,
     ⟨rw64 384 inb_S512x4096_S64x4096_384_0, k0_pay41 (mr S m) (View.ld S (rw64 384 inb_S512x4096_S64x4096_384_0))⟩,
     ⟨rw64 320 inb_S512x4096_S64x4096_320_0, k0_pay41 (mr S m) (View.ld S (rw64 320 inb_S512x4096_S64x4096_320_0))⟩,
     ⟨rw64 256 inb_S512x4096_S64x4096_256_0, k0_pay41 (mr S m) (View.ld S (rw64 256 inb_S512x4096_S64x4096_256_0))⟩,
     ⟨rw64 192 inb_S512x4096_S64x4096_192_0, k0_pay41 (mr S m) (View.ld S (rw64 192 inb_S512x4096_S64x4096_192_0))⟩,
     ⟨rw64 128 inb_S512x4096_S64x4096_128_0, k0_pay41 (mr S m) (View.ld S (rw64 128 inb_S512x4096_S64x4096_128_0))⟩,
     ⟨rw64 64 inb_S512x4096_S64x4096_64_0, k0_pay41 (mr S m) (View.ld S (rw64 64 inb_S512x4096_S64x4096_64_0))⟩,
     ⟨rw64 0 inb_S512x4096_S64x4096_0_0, k0_pay41 (mr S m) (View.ld S (rw64 0 inb_S512x4096_S64x4096_0_0))⟩]
end

/-- The scores of step `n` of query block `i`. -/
def sc (K : Vec F S1x8192x128 .bf16) (Q : Vec F S2x128x4096 .bf16) (i n : ℕ) : Vec F S512x4096 .f32 :=
  k0_pay32 (kCh K n) (qBl Q i)

/-- The running maximum after `n` steps. -/
def rm (K : Vec F S1x8192x128 .bf16) (Q : Vec F S2x128x4096 .bf16) (i : ℕ) : ℕ → Vec F S1x4096 .f32
  | 0 => k0_pay6
  | n + 1 => k0_pay8 (mx (sc K Q i n) (rm K Q i n))

/-- The accumulator after `n` steps. -/
def ra (K : Vec F S1x8192x128 .bf16) (V : Vec F S1x16x144x512 .bf16) (Q : Vec F S2x128x4096 .bf16) (i : ℕ) : ℕ → Vec F S144x4096 .f32
  | 0 => k0_pay7
  | n + 1 => k0_pay48 (al (sc K Q i n) (rm K Q i n)) (vCh V n) (pp (sc K Q i n) (rm K Q i n)) (ra K V Q i n)

theorem off5_eq : ∀ (k : Fin k0_t2_loop.trips), k0_off5 k = ![0, 512 * (k.val % 16), 0] := by decide +kernel
theorem off7_eq : ∀ (k : Fin k0_t2_loop.trips), k0_off7 k = ![0, k.val % 16, 0, 0] := by decide +kernel
theorem off6_eq : ∀ (i : grid0.Coords) (k : Fin k0_t2_loop.trips), k0_off6 i k = ![min (i 1).val 1, 0, 0] := by decide +kernel

section
variable {sp : Space}
theorem rd2' (v : View sig .tc sp S1x8192x128 .bf16) (X : v.ty.Contents (Elt F)) (k : Fin k0_t2_loop.trips) (p) :
    v.readAt (Elt F) (Rect.unit (s := S1x8192x128) (k0_off5 k) ![1, 512, 128] p).toLoadRect X = kCh (v.read (Elt F) X) k.val :=
  ld_off _ (off5_eq k) _ _
theorem rd4' (v : View sig .tc sp S1x16x144x512 .bf16) (X : v.ty.Contents (Elt F)) (k : Fin k0_t2_loop.trips) (p) :
    v.readAt (Elt F) (Rect.unit (s := S1x16x144x512) (k0_off7 k) ![1, 1, 144, 512] p).toLoadRect X = vCh (v.read (Elt F) X) k.val :=
  ld_off _ (off7_eq k) _ _
theorem rd3' (v : View sig .tc sp S2x128x4096 .bf16) (X : v.ty.Contents (Elt F)) (i : grid0.Coords) (k : Fin k0_t2_loop.trips) (p) :
    v.readAt (Elt F) (Rect.unit (s := S2x128x4096) (k0_off6 i k) ![1, 128, 4096] p).toLoadRect X = qBl (v.read (Elt F) X) (i 1).val :=
  ld_off _ (off6_eq i k) _ _
theorem rd11 (v : View sig .tc sp S512x4096 .f32) (w) (p) (o) (h) :
    v.readCov (Val := Elt F) [⟨Rect.unit (s := S512x4096) ![0, 0] ![512, 4096] p, w⟩] (Rect.unit (s := S512x4096) ![o, 0] ![64, 4096] h).toLoadRect
      = View.ld w (rw64 o h) := by
  rw [View.readCov_eq_canon']
  exact congrArg (fun X => View.ld X (rw64 o h)) (View.canon_unit_zero (by funext a; fin_cases a <;> rfl) p w)
theorem rd12 (v : View sig .tc sp S512x4096 .bf16) (L) (p) :
    v.readCov (Val := Elt F) L (Rect.unit (s := S512x4096) ![0, 0] ![512, 4096] p).toLoadRect = View.canon L := by
  rw [View.readCov_eq_canon']
  exact View.ld_unit_zero (by funext a; fin_cases a <;> rfl) p _
end

section
variable (𝒱 : Variants) (c : Dev nD) (bd : Option 𝒱.V) (E : Set ℕ) (i : grid0.Coords) (arg2 : Memref sig .tc .vmem S1x16x128x512 .bf16) (harg2 : arg2.IsWhole) (arg3 : Memref sig .tc .vmem S1x8192x128 .bf16) (harg3 : arg3.IsWhole) (arg4 : Memref sig .tc .vmem S1x16x144x512 .bf16) (harg4 : arg4.IsWhole) (arg5 : Memref sig .tc .vmem S1x4096 .f32) (harg5 : arg5.IsWhole) (arg6 : Memref sig .tc .vmem S4096x128 .bf16) (harg6 : arg6.IsWhole) (arg7 : Memref sig .tc .vmem S144x4096 .f32) (harg7 : arg7.IsWhole) (arg8 : Memref sig .tc .vmem S2x512x4096 .bf16) (harg8 : arg8.IsWhole) (arg9 : Memref sig .tc .vmem S2x128x4096 .bf16) (harg9 : arg9.IsWhole) (arg10 : Memref sig .tc .vmem S1x4096 .f32) (harg10 : arg10.IsWhole) (arg11 : Memref sig .tc .vmem S512x4096 .f32) (harg11 : arg11.IsWhole) (arg12 : Memref sig .tc .vmem S512x4096 .bf16) (harg12 : arg12.IsWhole) (arg1 : BitVec 32)
  (X3 : BufTy.Contents (Elt F) arg3.view.ty) (X4 : BufTy.Contents (Elt F) arg4.view.ty) (X9 : BufTy.Contents (Elt F) arg9.view.ty)

/-- The second loop before trip `k`. -/
def inv2 (k : ℕ) : sProp 𝕄 :=
  iprop((arg3.view.loc (c : Thread nD τ) ↦[arg3.view.set]{fullShare} X3) ∗ (arg4.view.loc (c : Thread nD τ) ↦[arg4.view.set]{fullShare} X4)
      ∗ (arg9.view.loc (c : Thread nD τ) ↦[arg9.view.set]{fullShare} X9)
      ∗ (∃ f, (arg7.view.loc (c : Thread nD τ) ↦[arg7.view.set]{fullShare} f)
          ∗ ⌜arg7.view.read (Elt F) f = ra (arg3.view.read (Elt F) X3) (arg4.view.read (Elt F) X4) (arg9.view.read (Elt F) X9) (i 1).val k⌝)
      ∗ (∃ f, (arg10.view.loc (c : Thread nD τ) ↦[arg10.view.set]{fullShare} f)
          ∗ ⌜arg10.view.read (Elt F) f = rm (arg3.view.read (Elt F) X3) (arg9.view.read (Elt F) X9) (i 1).val k⌝)
      ∗ (∃ f, arg11.view.loc (c : Thread nD τ) ↦[arg11.view.set]{fullShare} f)
      ∗ (∃ f, arg12.view.loc (c : Thread nD τ) ↦[arg12.view.set]{fullShare} f))

theorem trip2 (k : Fin k0_t2_loop.trips) :
    inv2 c i arg3 arg4 arg7 arg9 arg10 arg11 arg12 X3 X4 X9 k.val
      ⊢ wp frame (wpE (defs₀ (F := F)) 𝒱 (c : Thread nD τ) bd) E (k0_t2_body (F := F) i arg2 harg2 arg3 harg3 arg4 harg4 arg5 harg5 arg6 harg6 arg7 harg7 arg8 harg8 arg9 harg9 arg10 harg10 arg11 harg11 arg12 harg12 arg1 k PUnit.unit)
          (fun _ => inv2 c i arg3 arg4 arg7 arg9 arg10 arg11 arg12 X3 X4 X9 (k.val + 1)) := by
  have hk : k.val < 16 := Nat.lt_of_lt_of_le k.isLt k0_t2_abs.2.1
  unfold k0_t2_body inv2
  iintro ⟨H3, H4, H9, ⟨%f7, H7, %h7⟩, ⟨%f10, H10, %h10⟩, ⟨%f11, H11⟩, ⟨%f12, H12⟩⟩
  sl_exec
  sl_step
  isplitl [H3]; · iexact H3
  isplitl [H4]; · iexact H4
  isplitl [H9]; · iexact H9
  isplitl [H7]
  · iexists _; isplitl [H7]; · iexact H7
    ipureintro
    rw [rd7w, rd7, h7]
    delta trip2.sl.r_3 trip2.sl.v172 trip2.sl.H12_8 trip2.sl.r_6 trip2.sl.r_5 trip2.sl.r_4 trip2.sl.r_2 trip2.sl.r_1 trip2.sl.r
      trip2.sl.v49 trip2.sl.v52 trip2.sl.v56 trip2.sl.v60 trip2.sl.v64 trip2.sl.v68 trip2.sl.v72 trip2.sl.v76 trip2.sl.H11_1
    simp only [rd11, rd12, rd5, rd2', rd3', rd4', h10]
    rfl
  isplitl [H10]
  · iexists _; isplitl [H10]; · iexact H10
    ipureintro
    rw [rd5w]
    delta trip2.sl.r_2 trip2.sl.r_1 trip2.sl.r
      trip2.sl.v49 trip2.sl.v52 trip2.sl.v56 trip2.sl.v60 trip2.sl.v64 trip2.sl.v68 trip2.sl.v72 trip2.sl.v76 trip2.sl.H11_1
    simp only [rd11, rd12, rd5, rd2', rd3', rd4', h10]
    rfl
  isplitl [H11]
  · iexists _; iexact H11
  iexists _; iexact H12
end

/-! ## The body -/

/-- The two blocks of queries, each eight tiles side by side. -/
def qq (Q : Vec F S1x16x128x512 .bf16) : Vec F S2x128x4096 .bf16 :=
  View.canon (Val := Elt F) (e := .bf16)
    [⟨Rect.unit (s := S2x128x4096) ![1, 0, 0] S1x128x4096.size inb_S2x128x4096_S1x128x4096_1_0_0,
      k0_pay11 (View.ld Q (Rect.unit (s := S1x16x128x512) ![0, 8, 0, 0] S1x1x128x512.size inb_S1x16x128x512_S1x1x128x512_0_8_0_0))
        (View.ld Q (Rect.unit (s := S1x16x128x512) ![0, 9, 0, 0] S1x1x128x512.size inb_S1x16x128x512_S1x1x128x512_0_9_0_0))
        (View.ld Q (Rect.unit (s := S1x16x128x512) ![0, 10, 0, 0] S1x1x128x512.size inb_S1x16x128x512_S1x1x128x512_0_10_0_0))
        (View.ld Q (Rect.unit (s := S1x16x128x512) ![0, 11, 0, 0] S1x1x128x512.size inb_S1x16x128x512_S1x1x128x512_0_11_0_0))
        (View.ld Q (Rect.unit (s := S1x16x128x512) ![0, 12, 0, 0] S1x1x128x512.size inb_S1x16x128x512_S1x1x128x512_0_12_0_0))
        (View.ld Q (Rect.unit (s := S1x16x128x512) ![0, 13, 0, 0] S1x1x128x512.size inb_S1x16x128x512_S1x1x128x512_0_13_0_0))
        (View.ld Q (Rect.unit (s := S1x16x128x512) ![0, 14, 0, 0] S1x1x128x512.size inb_S1x16x128x512_S1x1x128x512_0_14_0_0))
        (View.ld Q (Rect.unit (s := S1x16x128x512) ![0, 15, 0, 0] S1x1x128x512.size inb_S1x16x128x512_S1x1x128x512_0_15_0_0))⟩,
     ⟨Rect.unit (s := S2x128x4096) ![0, 0, 0] S1x128x4096.size inb_S2x128x4096_S1x128x4096_0_0_0,
      k0_pay10 (View.ld Q (Rect.unit (s := S1x16x128x512) ![0, 0, 0, 0] S1x1x128x512.size inb_S1x16x128x512_S1x1x128x512_0_0_0_0))
        (View.ld Q (Rect.unit (s := S1x16x128x512) ![0, 1, 0, 0] S1x1x128x512.size inb_S1x16x128x512_S1x1x128x512_0_1_0_0))
        (View.ld Q (Rect.unit (s := S1x16x128x512) ![0, 2, 0, 0] S1x1x128x512.size inb_S1x16x128x512_S1x1x128x512_0_2_0_0))
        (View.ld Q (Rect.unit (s := S1x16x128x512) ![0, 3, 0, 0] S1x1x128x512.size inb_S1x16x128x512_S1x1x128x512_0_3_0_0))
        (View.ld Q (Rect.unit (s := S1x16x128x512) ![0, 4, 0, 0] S1x1x128x512.size inb_S1x16x128x512_S1x1x128x512_0_4_0_0))
        (View.ld Q (Rect.unit (s := S1x16x128x512) ![0, 5, 0, 0] S1x1x128x512.size inb_S1x16x128x512_S1x1x128x512_0_5_0_0))
        (View.ld Q (Rect.unit (s := S1x16x128x512) ![0, 6, 0, 0] S1x1x128x512.size inb_S1x16x128x512_S1x1x128x512_0_6_0_0))
        (View.ld Q (Rect.unit (s := S1x16x128x512) ![0, 7, 0, 0] S1x1x128x512.size inb_S1x16x128x512_S1x1x128x512_0_7_0_0))⟩]

/-- The row of normalisers. -/
abbrev nrm (A : Vec F S144x4096 .f32) : Vec F S1x4096 .f32 :=
  View.ld A (Rect.unit (s := S144x4096) ![128, 0] S1x4096.size inb_S144x4096_S1x4096_128_0)
abbrev top (A : Vec F S144x4096 .f32) : Vec F S128x4096 .f32 :=
  View.ld A (Rect.unit (s := S144x4096) ![0, 0] S128x4096.size inb_S144x4096_S128x4096_0_0)

/-- The bit that asks for the second pass: some normaliser is below `2⁻⁶⁰`. -/
def bad (n : Vec F S1x4096 .f32) : BitVec 1 :=
  Scalar.cmpi .ne (Scalar.extui (Scalar.xori (Scalar.cmpf .oge (k0_pay5 n) (Scalar.ofBits .f32 0x21800000#32)) 1#1) : BitVec 32) 0#32

/-- The accumulator the output is read from. -/
def fin (K : Vec F S1x8192x128 .bf16) (V : Vec F S1x16x144x512 .bf16) (Q : Vec F S2x128x4096 .bf16) (s : Vec F S1x4096 .f32) (i : ℕ) :
    Vec F S144x4096 .f32 :=
  if bad (nrm (ac K V Q s i 16)) = 1#1 then ra K V Q i 16 else ac K V Q s i 16

/-- The block of the result. -/
def oBlk (K : Vec F S1x8192x128 .bf16) (V : Vec F S1x16x144x512 .bf16) (Q : Vec F S2x128x4096 .bf16) (s : Vec F S1x4096 .f32) (i : ℕ) :
    Vec F S4096x128 .bf16 :=
  k0_pay9 (top (fin K V Q s i)) (nrm (fin K V Q s i))

theorem off1_eq : ∀ i : grid0.Coords, k0_cond1 i = 1#1 → k0_off1 i = ![min ((i 1).val + 0 / 16) 1, 0, 0] := by decide +kernel
theorem cond1_eq : ∀ i : grid0.Coords, k0_cond1 i = 1#1 ↔ (i 1).val = 0 := by decide +kernel

section
variable (𝒱 : Variants) (c : Dev nD) (bd : Option 𝒱.V) (E : Set ℕ) (i : grid0.Coords) (arg2 : Memref sig .tc .vmem S1x16x128x512 .bf16) (harg2 : arg2.IsWhole) (arg3 : Memref sig .tc .vmem S1x8192x128 .bf16) (harg3 : arg3.IsWhole) (arg4 : Memref sig .tc .vmem S1x16x144x512 .bf16) (harg4 : arg4.IsWhole) (arg5 : Memref sig .tc .vmem S1x4096 .f32) (harg5 : arg5.IsWhole) (arg6 : Memref sig .tc .vmem S4096x128 .bf16) (harg6 : arg6.IsWhole) (arg7 : Memref sig .tc .vmem S144x4096 .f32) (harg7 : arg7.IsWhole) (arg8 : Memref sig .tc .vmem S2x512x4096 .bf16) (harg8 : arg8.IsWhole) (arg9 : Memref sig .tc .vmem S2x128x4096 .bf16) (harg9 : arg9.IsWhole) (arg10 : Memref sig .tc .vmem S1x4096 .f32) (harg10 : arg10.IsWhole) (arg11 : Memref sig .tc .vmem S512x4096 .f32) (harg11 : arg11.IsWhole) (arg12 : Memref sig .tc .vmem S512x4096 .bf16) (harg12 : arg12.IsWhole) (arg1 : BitVec 32)
  (X2 : BufTy.Contents (Elt F) arg2.view.ty) (X3 : BufTy.Contents (Elt F) arg3.view.ty) (X4 : BufTy.Contents (Elt F) arg4.view.ty) (X5 : BufTy.Contents (Elt F) arg5.view.ty)
  (X9 : BufTy.Contents (Elt F) arg9.view.ty)

/-- What the body finds besides the scratch of the queries and the weights. -/
def bPre : sProp 𝕄 :=
  iprop((arg2.view.loc (c : Thread nD τ) ↦[arg2.view.set]{fullShare} X2) ∗ (arg3.view.loc (c : Thread nD τ) ↦[arg3.view.set]{fullShare} X3)
      ∗ (arg4.view.loc (c : Thread nD τ) ↦[arg4.view.set]{fullShare} X4) ∗ (arg5.view.loc (c : Thread nD τ) ↦[arg5.view.set]{fullShare} X5)
      ∗ (∃ f, arg6.view.loc (c : Thread nD τ) ↦[arg6.view.set]{fullShare} f) ∗ (∃ f, arg7.view.loc (c : Thread nD τ) ↦[arg7.view.set]{fullShare} f)
      ∗ (∃ f, arg10.view.loc (c : Thread nD τ) ↦[arg10.view.set]{fullShare} f)
      ∗ (∃ f, arg11.view.loc (c : Thread nD τ) ↦[arg11.view.set]{fullShare} f) ∗ (∃ f, arg12.view.loc (c : Thread nD τ) ↦[arg12.view.set]{fullShare} f))

/-- What the body leaves. -/
def bPost (Q : Vec F S2x128x4096 .bf16) : sProp 𝕄 :=
  iprop((arg2.view.loc (c : Thread nD τ) ↦[arg2.view.set]{fullShare} X2) ∗ (arg3.view.loc (c : Thread nD τ) ↦[arg3.view.set]{fullShare} X3)
      ∗ (arg4.view.loc (c : Thread nD τ) ↦[arg4.view.set]{fullShare} X4) ∗ (arg5.view.loc (c : Thread nD τ) ↦[arg5.view.set]{fullShare} X5)
      ∗ (∃ f, (arg6.view.loc (c : Thread nD τ) ↦[arg6.view.set]{fullShare} f)
          ∗ ⌜arg6.view.read (Elt F) f = oBlk (arg3.view.read (Elt F) X3) (arg4.view.read (Elt F) X4) Q (arg5.view.read (Elt F) X5) (i 1).val⌝)
      ∗ (∃ f, arg7.view.loc (c : Thread nD τ) ↦[arg7.view.set]{fullShare} f)
      ∗ (∃ f, (arg8.view.loc (c : Thread nD τ) ↦[arg8.view.set]{fullShare} f)
          ∗ ⌜View.ld (arg8.view.read (Elt F) f) slot0 = pr (arg3.view.read (Elt F) X3) Q (arg5.view.read (Elt F) X5) (i 1).val 16⌝)
      ∗ (∃ f, (arg9.view.loc (c : Thread nD τ) ↦[arg9.view.set]{fullShare} f) ∗ ⌜arg9.view.read (Elt F) f = Q⌝)
      ∗ (∃ f, arg10.view.loc (c : Thread nD τ) ↦[arg10.view.set]{fullShare} f)
      ∗ (∃ f, arg11.view.loc (c : Thread nD τ) ↦[arg11.view.set]{fullShare} f) ∗ (∃ f, arg12.view.loc (c : Thread nD τ) ↦[arg12.view.set]{fullShare} f))

/-- The first loop before trip `k`, the scratch of the queries holding `Q`. -/
def invA (Q : Vec F S2x128x4096 .bf16) (k : ℕ) : sProp 𝕄 :=
  iprop(∃ X9, ⌜arg9.view.read (Elt F) X9 = Q⌝ ∗ inv1 c i arg3 arg4 arg5 arg7 arg8 arg9 X3 X4 X5 X9 k)

theorem tripA (Q : Vec F S2x128x4096 .bf16) (k : Fin k0_t1_loop.trips) :
    invA c i arg3 arg4 arg5 arg7 arg8 arg9 X3 X4 X5 Q k.val
      ⊢ wp frame (wpE (defs₀ (F := F)) 𝒱 (c : Thread nD τ) bd) E (k0_t1_body (F := F) i arg2 harg2 arg3 harg3 arg4 harg4 arg5 harg5 arg6 harg6 arg7 harg7 arg8 harg8 arg9 harg9 arg10 harg10 arg11 harg11 arg12 harg12 arg1 k PUnit.unit)
          (fun _ => invA c i arg3 arg4 arg5 arg7 arg8 arg9 X3 X4 X5 Q (k.val + 1)) := by
  unfold invA
  iintro ⟨%X9, %hQ, H⟩
  iapply (wp_wand_r Idealize.ShloMosaic.frame (wpE (defs₀ (F := F)) 𝒱 (c : Thread nD τ) bd) E)
  isplitl [H]
  · iapply (trip1 𝒱 c bd E i arg2 harg2 arg3 harg3 arg4 harg4 arg5 harg5 arg6 harg6 arg7 harg7 arg8 harg8 arg9 harg9 arg10 harg10 arg11 harg11 arg12 harg12 arg1 X3 X4 X5 X9 k)
    iexact H
  iintro %v H
  iexists X9
  isplitr; · ipureintro; exact hQ
  iexact H

theorem body1 (h1 : ¬ k0_cond1 i = 1#1) :
    iprop(bPre c arg2 arg3 arg4 arg5 arg6 arg7 arg10 arg11 arg12 X2 X3 X4 X5
        ∗ (∃ f, (arg8.view.loc (c : Thread nD τ) ↦[arg8.view.set]{fullShare} f)
          ∗ ⌜View.ld (arg8.view.read (Elt F) f) slot0 = pr (arg3.view.read (Elt F) X3) (arg9.view.read (Elt F) X9) (arg5.view.read (Elt F) X5) (i 1).val 0⌝)
        ∗ (arg9.view.loc (c : Thread nD τ) ↦[arg9.view.set]{fullShare} X9))
      ⊢ wp frame (wpE (defs₀ (F := F)) 𝒱 (c : Thread nD τ) bd) E (cc0_attn_a (F := F) i arg2 harg2 arg3 harg3 arg4 harg4 arg5 harg5 arg6 harg6 arg7 harg7 arg8 harg8 arg9 harg9 arg10 harg10 arg11 harg11 arg12 harg12)
          (fun _ => bPost c i arg2 arg3 arg4 arg5 arg6 arg7 arg8 arg9 arg10 arg11 arg12 X2 X3 X4 X5 (arg9.view.read (Elt F) X9)) := by
  rw [cc0_attn_a_eq_skeleton]
  unfold cc0_attn_a_skel bPre bPost
  iintro ⟨⟨H2, H3, H4, H5, ⟨%f6, H6⟩, ⟨%f7, H7⟩, ⟨%f10, H10⟩, ⟨%f11, H11⟩, ⟨%f12, H12⟩⟩, ⟨%f8, H8, %h8⟩, H9⟩
  sl_exec
  sl_for (fun k _ => invA c i arg3 arg4 arg5 arg7 arg8 arg9 X3 X4 X5 (arg9.view.read (Elt F) X9) k) $$ [H3 H4 H5 H7 H8 H9]
  · intro k acc
    exact tripA 𝒱 c bd E i arg2 harg2 arg3 harg3 arg4 harg4 arg5 harg5 arg6 harg6 arg7 harg7 arg8 harg8 arg9 harg9 arg10 harg10 arg11 harg11 arg12 harg12 (BitVec.ofNat 32 (i 1).val) X3 X4 X5 (arg9.view.read (Elt F) X9) k
  · unfold invA inv1
    iexists _
    isplitr
    swap
    · isplitl [H3]; · iexact H3
      isplitl [H4]; · iexact H4
      isplitl [H5]; · iexact H5
      isplitl [H9]; · iexact H9
      isplitl [H7]
      · iexists _; isplitl [H7]; · iexact H7
        ipureintro
        delta body1.sl.H7_1
        exact rd7w _ _ _ _ _
      iexists _; isplitl [H8]; · iexact H8
      ipureintro
      exact h8
    ipureintro
    rfl
  unfold invA inv1
  iintro %acc ⟨%Y9, %hQ, H3, H4, H5, H9, ⟨%g7, H7, %e7⟩, ⟨%g8, H8, %e8⟩⟩
  rw [← hQ]
  replace e7 : arg7.view.read (Elt F) g7 = ac (arg3.view.read (Elt F) X3) (arg4.view.read (Elt F) X4) (arg9.view.read (Elt F) Y9) (arg5.view.read (Elt F) X5) (i 1).val 16 := e7
  replace e8 : View.ld (arg8.view.read (Elt F) g8) slot0 = pr (arg3.view.read (Elt F) X3) (arg9.view.read (Elt F) Y9) (arg5.view.read (Elt F) X5) (i 1).val 16 := e8
  by_cases hb : bad (nrm (arg7.view.read (Elt F) g7)) = 1#1
  · have hb' : Scalar.cmpi .ne (Scalar.extui (Scalar.xori (Scalar.cmpf .oge (k0_pay5 (arg7.view.readAt (Elt F) (Rect.unit (s := S144x4096) ![128, 0] S1x4096.size inb_S144x4096_S1x4096_128_0).toLoadRect g7)) (Scalar.ofBits .f32 0x21800000#32)) 1#1) : BitVec 32) 0#32 = 1#1 := hb
    sl_exec
    sl_for (fun k _ => inv2 c i arg3 arg4 arg7 arg9 arg10 arg11 arg12 X3 X4 Y9 k) $$ [H3 H4 H7 H9 H10 H11 H12]
    · intro k acc
      exact trip2 𝒱 c bd E i arg2 harg2 arg3 harg3 arg4 harg4 arg5 harg5 arg6 harg6 arg7 harg7 arg8 harg8 arg9 harg9 arg10 harg10 arg11 harg11 arg12 harg12 (BitVec.ofNat 32 (i 1).val) X3 X4 Y9 k
    · unfold inv2
      isplitl [H3]; · iexact H3
      isplitl [H4]; · iexact H4
      isplitl [H9]; · iexact H9
      isplitl [H7]
      · iexists _; isplitl [H7]; · iexact H7
        ipureintro
        exact rd7w _ _ _ _ _
      isplitl [H10]
      · iexists _; isplitl [H10]; · iexact H10
        ipureintro
        exact rd5w _ _ _ _ _
      isplitl [H11]; · iexists _; iexact H11
      iexists _; iexact H12
    unfold inv2
    iintro %acc2 ⟨H3, H4, H9, ⟨%u7, H7, %d7⟩, ⟨%u10, H10, %d10⟩, ⟨%u11, H11⟩, ⟨%u12, H12⟩⟩
    replace d7 : arg7.view.read (Elt F) u7 = ra (arg3.view.read (Elt F) X3) (arg4.view.read (Elt F) X4) (arg9.view.read (Elt F) Y9) (i 1).val 16 := d7
    sl_exec
    sl_step
    isplitl [H2]; · iexact H2
    isplitl [H3]; · iexact H3
    isplitl [H4]; · iexact H4
    isplitl [H5]; · iexact H5
    isplitl [H6]
    · iexists _; isplitl [H6]; · iexact H6
      ipureintro
      rw [rd6w]
      rw [e7] at hb
      unfold oBlk fin
      rw [if_pos hb, ← d7]
      rfl
    isplitl [H7]; · iexists _; iexact H7
    isplitl [H8]
    · iexists _; isplitl [H8]; · iexact H8
      ipureintro; exact e8
    isplitl [H9]
    · iexists _; isplitl [H9]; · iexact H9
      ipureintro; rfl
    isplitl [H10]; · iexists _; iexact H10
    isplitl [H11]; · iexists _; iexact H11
    iexists _; iexact H12
  · have hb' : ¬ Scalar.cmpi .ne (Scalar.extui (Scalar.xori (Scalar.cmpf .oge (k0_pay5 (arg7.view.readAt (Elt F) (Rect.unit (s := S144x4096) ![128, 0] S1x4096.size inb_S144x4096_S1x4096_128_0).toLoadRect g7)) (Scalar.ofBits .f32 0x21800000#32)) 1#1) : BitVec 32) 0#32 = 1#1 := hb
    sl_exec
    sl_step
    isplitl [H2]; · iexact H2
    isplitl [H3]; · iexact H3
    isplitl [H4]; · iexact H4
    isplitl [H5]; · iexact H5
    isplitl [H6]
    · iexists _; isplitl [H6]; · iexact H6
      ipureintro
      rw [rd6w]
      rw [e7] at hb
      unfold oBlk fin
      rw [if_neg hb, ← e7]
      rfl
    isplitl [H7]; · iexists _; iexact H7
    isplitl [H8]
    · iexists _; isplitl [H8]; · iexact H8
      ipureintro; exact e8
    isplitl [H9]
    · iexists _; isplitl [H9]; · iexact H9
      ipureintro; rfl
    isplitl [H10]; · iexists _; iexact H10
    isplitl [H11]; · iexists _; iexact H11
    iexists _; iexact H12

theorem body0 (h1 : k0_cond1 i = 1#1) :
    iprop(bPre c arg2 arg3 arg4 arg5 arg6 arg7 arg10 arg11 arg12 X2 X3 X4 X5
        ∗ (∃ f, arg8.view.loc (c : Thread nD τ) ↦[arg8.view.set]{fullShare} f)
        ∗ (∃ f, arg9.view.loc (c : Thread nD τ) ↦[arg9.view.set]{fullShare} f))
      ⊢ wp frame (wpE (defs₀ (F := F)) 𝒱 (c : Thread nD τ) bd) E (cc0_attn_a (F := F) i arg2 harg2 arg3 harg3 arg4 harg4 arg5 harg5 arg6 harg6 arg7 harg7 arg8 harg8 arg9 harg9 arg10 harg10 arg11 harg11 arg12 harg12)
          (fun _ => bPost c i arg2 arg3 arg4 arg5 arg6 arg7 arg8 arg9 arg10 arg11 arg12 X2 X3 X4 X5 (qq (arg2.view.read (Elt F) X2))) := by
  rw [cc0_attn_a_eq_skeleton]
  unfold cc0_attn_a_skel bPre bPost
  iintro ⟨⟨H2, H3, H4, H5, ⟨%f6, H6⟩, ⟨%f7, H7⟩, ⟨%f10, H10⟩, ⟨%f11, H11⟩, ⟨%f12, H12⟩⟩, ⟨%f8, H8⟩, ⟨%f9, H9⟩⟩
  sl_exec
  sl_for (fun k _ => invA c i arg3 arg4 arg5 arg7 arg8 arg9 X3 X4 X5 (qq (arg2.view.read (Elt F) X2)) k) $$ [H3 H4 H5 H7 H8 H9]
  · intro k acc
    exact tripA 𝒱 c bd E i arg2 harg2 arg3 harg3 arg4 harg4 arg5 harg5 arg6 harg6 arg7 harg7 arg8 harg8 arg9 harg9 arg10 harg10 arg11 harg11 arg12 harg12 (BitVec.ofNat 32 (i 1).val) X3 X4 X5 (qq (arg2.view.read (Elt F) X2)) k
  · unfold invA inv1
    iexists _
    isplitr
    swap
    · isplitl [H3]; · iexact H3
      isplitl [H4]; · iexact H4
      isplitl [H5]; · iexact H5
      isplitl [H9]; · iexact H9
      isplitl [H7]
      · iexists _; isplitl [H7]; · iexact H7
        ipureintro
        delta body0.sl.H7_1
        exact rd7w _ _ _ _ _
      iexists _; isplitl [H8]; · iexact H8
      ipureintro
      rw [rd8w, rd5]
      exact congr (congrArg k0_pay1 rfl) (ld_off _ (off1_eq i h1) _ _) |> fun e => congrFun e _
    ipureintro
    delta body0.sl.H9_2
    exact View.read_writes_eq_canon _ _ _ (View.cover_of_tiledL _ S1x128x4096.size (by sl_kernel_rfl))
  unfold invA inv1
  iintro %acc ⟨%X9, %hQ, H3, H4, H5, H9, ⟨%g7, H7, %e7⟩, ⟨%g8, H8, %e8⟩⟩
  rw [← hQ]
  replace e7 : arg7.view.read (Elt F) g7 = ac (arg3.view.read (Elt F) X3) (arg4.view.read (Elt F) X4) (arg9.view.read (Elt F) X9) (arg5.view.read (Elt F) X5) (i 1).val 16 := e7
  replace e8 : View.ld (arg8.view.read (Elt F) g8) slot0 = pr (arg3.view.read (Elt F) X3) (arg9.view.read (Elt F) X9) (arg5.view.read (Elt F) X5) (i 1).val 16 := e8
  by_cases hb : bad (nrm (arg7.view.read (Elt F) g7)) = 1#1
  · have hb' : Scalar.cmpi .ne (Scalar.extui (Scalar.xori (Scalar.cmpf .oge (k0_pay5 (arg7.view.readAt (Elt F) (Rect.unit (s := S144x4096) ![128, 0] S1x4096.size inb_S144x4096_S1x4096_128_0).toLoadRect g7)) (Scalar.ofBits .f32 0x21800000#32)) 1#1) : BitVec 32) 0#32 = 1#1 := hb
    sl_exec
    sl_for (fun k _ => inv2 c i arg3 arg4 arg7 arg9 arg10 arg11 arg12 X3 X4 X9 k) $$ [H3 H4 H7 H9 H10 H11 H12]
    · intro k acc
      exact trip2 𝒱 c bd E i arg2 harg2 arg3 harg3 arg4 harg4 arg5 harg5 arg6 harg6 arg7 harg7 arg8 harg8 arg9 harg9 arg10 harg10 arg11 harg11 arg12 harg12 (BitVec.ofNat 32 (i 1).val) X3 X4 X9 k
    · unfold inv2
      isplitl [H3]; · iexact H3
      isplitl [H4]; · iexact H4
      isplitl [H9]; · iexact H9
      isplitl [H7]
      · iexists _; isplitl [H7]; · iexact H7
        ipureintro
        exact rd7w _ _ _ _ _
      isplitl [H10]
      · iexists _; isplitl [H10]; · iexact H10
        ipureintro
        exact rd5w _ _ _ _ _
      isplitl [H11]; · iexists _; iexact H11
      iexists _; iexact H12
    unfold inv2
    iintro %acc2 ⟨H3, H4, H9, ⟨%u7, H7, %d7⟩, ⟨%u10, H10, %d10⟩, ⟨%u11, H11⟩, ⟨%u12, H12⟩⟩
    replace d7 : arg7.view.read (Elt F) u7 = ra (arg3.view.read (Elt F) X3) (arg4.view.read (Elt F) X4) (arg9.view.read (Elt F) X9) (i 1).val 16 := d7
    sl_exec
    sl_step
    isplitl [H2]; · iexact H2
    isplitl [H3]; · iexact H3
    isplitl [H4]; · iexact H4
    isplitl [H5]; · iexact H5
    isplitl [H6]
    · iexists _; isplitl [H6]; · iexact H6
      ipureintro
      rw [rd6w]
      rw [e7] at hb
      unfold oBlk fin
      rw [if_pos hb, ← d7]
      rfl
    isplitl [H7]; · iexists _; iexact H7
    isplitl [H8]
    · iexists _; isplitl [H8]; · iexact H8
      ipureintro; exact e8
    isplitl [H9]
    · iexists _; isplitl [H9]; · iexact H9
      ipureintro; rfl
    isplitl [H10]; · iexists _; iexact H10
    isplitl [H11]; · iexists _; iexact H11
    iexists _; iexact H12
  · have hb' : ¬ Scalar.cmpi .ne (Scalar.extui (Scalar.xori (Scalar.cmpf .oge (k0_pay5 (arg7.view.readAt (Elt F) (Rect.unit (s := S144x4096) ![128, 0] S1x4096.size inb_S144x4096_S1x4096_128_0).toLoadRect g7)) (Scalar.ofBits .f32 0x21800000#32)) 1#1) : BitVec 32) 0#32 = 1#1 := hb
    sl_exec
    sl_step
    isplitl [H2]; · iexact H2
    isplitl [H3]; · iexact H3
    isplitl [H4]; · iexact H4
    isplitl [H5]; · iexact H5
    isplitl [H6]
    · iexists _; isplitl [H6]; · iexact H6
      ipureintro
      rw [rd6w]
      rw [e7] at hb
      unfold oBlk fin
      rw [if_neg hb, ← e7]
      rfl
    isplitl [H7]; · iexists _; iexact H7
    isplitl [H8]
    · iexists _; isplitl [H8]; · iexact H8
      ipureintro; exact e8
    isplitl [H9]
    · iexists _; isplitl [H9]; · iexact H9
      ipureintro; rfl
    isplitl [H10]; · iexists _; iexact H10
    isplitl [H11]; · iexists _; iexact H11
    iexists _; iexact H12

end

end Cert.KernelIdeal.Hand
end
-- ==== Proof.Soft.lean ====
module

public import Idealize.ShloMosaic.PureOps.Ideal
public import Mathlib.Analysis.SpecialFunctions.Pow.Real

@[expose] public section

noncomputable section

/-! # Weighted means over the extended reals

A value is any extended real, a weight a positive real. -/

namespace Cert.Soft

open Idealize.ShloMosaic

/-- The extended real is a real. -/
def IsR (x : EReal) : Prop := ∃ r : ℝ, x = r

theorem IsR.coe (r : ℝ) : IsR (r : EReal) := ⟨r, rfl⟩

theorem IsR.mul {x y : EReal} (hx : IsR x) (hy : IsR y) : IsR (x * y) := by
  obtain ⟨a, rfl⟩ := hx
  obtain ⟨b, rfl⟩ := hy
  exact ⟨a * b, (EReal.coe_mul a b).symm⟩

theorem coe_sum {ι : Type} (s : Finset ι) (f : ι → ℝ) : ((∑ i ∈ s, f i : ℝ) : EReal) = ∑ i ∈ s, (f i : EReal) := by
  classical
  induction s using Finset.induction_on with
  | empty => simp
  | insert x s hx ih => rw [Finset.sum_insert hx, Finset.sum_insert hx, EReal.coe_add, ih]

theorem IsR.sum {ι : Type} (s : Finset ι) (f : ι → EReal) (h : ∀ i, IsR (f i)) : IsR (∑ i ∈ s, f i) := by
  choose g hg using h
  refine ⟨∑ i ∈ s, g i, ?_⟩
  rw [coe_sum]
  exact Finset.sum_congr rfl fun i _ => hg i

theorem IsR.ne_top {x : EReal} (h : IsR x) : x ≠ ⊤ := by
  obtain ⟨r, rfl⟩ := h; exact EReal.coe_ne_top r
theorem IsR.ne_bot {x : EReal} (h : IsR x) : x ≠ ⊥ := by
  obtain ⟨r, rfl⟩ := h; exact EReal.coe_ne_bot r
theorem IsR.of_ne {x : EReal} (ht : x ≠ ⊤) (hb : x ≠ ⊥) : IsR x := ⟨x.toReal, (EReal.coe_toReal ht hb).symm⟩

/-- A maximum with a real, of something below infinity, is real. -/
theorem IsR.max_left {x y : EReal} (hx : x ≠ ⊤) (hy : IsR y) : IsR (max x y) := by
  rcases max_choice x y with h | h
  · refine .of_ne (by rw [h]; exact hx) fun hb => ?_
    exact hy.ne_bot (le_bot_iff.mp ((le_max_right x y).trans hb.le))
  · rw [h]; exact hy

theorem IsR.max {x y : EReal} (hx : IsR x) (hy : IsR y) : IsR (max x y) := .max_left hx.ne_top hy

theorem fold_max_ne_top {ι : Type} (s : Finset ι) (f : ι → EReal) (h : ∀ i, f i ≠ ⊤) : s.fold Max.max ⊥ f ≠ ⊤ := by
  classical
  induction s using Finset.induction_on with
  | empty => simp
  | insert a s ha ih =>
    rw [Finset.fold_insert ha]
    rcases max_choice (f a) (s.fold Max.max ⊥ f) with e | e
    · rw [e]; exact h a
    · rw [e]; exact ih

/-- The maximum of a nonempty family of reals is real. -/
theorem IsR.fold_max {ι : Type} [Fintype ι] [Nonempty ι] (f : ι → EReal) (h : ∀ i, IsR (f i)) :
    IsR (Finset.univ.fold Max.max ⊥ f) := by
  refine .of_ne (fold_max_ne_top _ _ fun i => (h i).ne_top) fun hb => ?_
  have i : ι := Classical.arbitrary ι
  have hi : f i ≤ Finset.univ.fold Max.max ⊥ f := (Finset.le_fold_max (f i)).mpr (.inr ⟨i, Finset.mem_univ i, le_rfl⟩)
  exact (h i).ne_bot (le_bot_iff.mp (hi.trans hb.le))

/-- Multiplying by a nonnegative real distributes over a sum. -/
theorem sum_mul_real {ι : Type} (s : Finset ι) (f : ι → EReal) (a : ℝ) (ha : 0 ≤ a) :
    (∑ i ∈ s, f i) * (a : EReal) = ∑ i ∈ s, f i * a := by
  classical
  induction s using Finset.induction_on with
  | empty => simp
  | insert x s hx ih =>
    rw [Finset.sum_insert hx, Finset.sum_insert hx,
      EReal.right_distrib_of_nonneg_of_ne_top (EReal.coe_nonneg.mpr ha) (EReal.coe_ne_top a), ih]

/-- `2ˣ` of a real. -/
def tw (x : ℝ) : ℝ := Real.rpow 2 x

theorem tw_pos (x : ℝ) : 0 < tw x := Real.rpow_pos_of_pos (by norm_num) x
theorem tw_eq (x : ℝ) : tw x = Real.exp (x * Real.log 2) := by
  show (2 : ℝ) ^ x = _
  rw [Real.rpow_def_of_pos (by norm_num), mul_comm]
theorem tw_mul (x y z : ℝ) : tw (x - y) * tw (y - z) = tw (x - z) := by
  rw [tw_eq, tw_eq, tw_eq, ← Real.exp_add]
  congr 1; ring
theorem exp2_sub (x y : ℝ) : Ideal.exp2 ((x : EReal) - (y : EReal)) = (tw (x - y) : EReal) := by
  rw [← EReal.coe_sub]; rfl
theorem exp_sub (x y : ℝ) : Ideal.exp ((x : EReal) - (y : EReal)) = (Real.exp (x - y) : EReal) := by
  rw [← EReal.coe_sub]; rfl

/-- A mean weighted by powers of two below any real is the mean weighted by a softmax below any real. -/
theorem mean_eq {ι : Type} [Fintype ι] [Nonempty ι] (V : ι → EReal) (S T : ι → ℝ) (hT : ∀ i, T i = S i * Real.log 2) (μ M : ℝ) :
    Ideal.div (∑ i, V i * (tw (S i - μ) : EReal)) (∑ i, (tw (S i - μ) : EReal))
      = ∑ i, V i * Ideal.div (Ideal.exp ((T i : EReal) - (M : EReal))) (∑ k, Ideal.exp ((T k : EReal) - (M : EReal))) := by
  simp only [exp_sub, ← coe_sum]
  have hW : 0 < ∑ k, Real.exp (T k - M) := Finset.sum_pos (fun i _ => Real.exp_pos _) Finset.univ_nonempty
  have ha : 0 < Real.exp (M - μ * Real.log 2) := Real.exp_pos _
  have hw : ∀ i, tw (S i - μ) = Real.exp (T i - M) * Real.exp (M - μ * Real.log 2) := fun i => by
    rw [tw_eq, ← Real.exp_add, hT]
    congr 1; ring
  have hs : ∑ i, tw (S i - μ) = (∑ i, Real.exp (T i - M)) * Real.exp (M - μ * Real.log 2) := by
    rw [Finset.sum_mul]; exact Finset.sum_congr rfl fun i _ => hw i
  have hs0 : 0 < ∑ i, tw (S i - μ) := by rw [hs]; exact mul_pos hW ha
  rw [Ideal.div_coe hs0.ne', sum_mul_real _ _ _ (one_div_pos.mpr hs0).le]
  refine Finset.sum_congr rfl fun i _ => ?_
  rw [Ideal.div_coe hW.ne', mul_assoc, ← EReal.coe_mul, ← EReal.coe_mul, hs, hw]
  congr 2
  field_simp

end Cert.Soft
end
-- ==== Proof.PayI.lean ====
module

public import proofs.«01_k».proof.Proof.AttnI
public import proofs.«01_k».proof.Proof.Soft
public import Idealize.ShloMosaic.Lib.Pointwise
public import Idealize.ShloMosaic.Lib.Pipeline.ValueKit

@[expose] public section

set_option maxRecDepth 16384

noncomputable section

namespace Cert.KernelIdeal.Hand

open Idealize.ShloMosaic
open Cert.KernelIdeal.Gen Cert.Soft

/-! ## The body's values at an index, over the extended reals -/

theorem pay2_at (e : Fin 144) (c : Fin 4096) : (k0_pay2 : FVec Ideal S144x4096 .f32) (ix2 e c) = 0 := by
  pointwise [k0_pay2]

theorem pay7_at (e : Fin 144) (c : Fin 4096) : (k0_pay7 : FVec Ideal S144x4096 .f32) (ix2 e c) = 0 := by
  pointwise [k0_pay7]

theorem ofBits_ninf : Ideal.ofBits .f32 0xFF800000#32 = ⊥ := by simp [Ideal.ofBits, Ideal.ieee]
theorem ofBits_inf : Ideal.ofBits .f32 0x7F800000#32 = ⊤ := by simp [Ideal.ofBits, Ideal.ieee]
theorem ofBits_floor_pos : 0 < Ideal.ofBits .f32 0x21800000#32 := by
  simp [Ideal.ofBits, Ideal.ieee, -EReal.coe_mul]

theorem pay6_at (c : Fin 4096) : (k0_pay6 : FVec Ideal S1x4096 .f32) (ix2 0 c) = ⊥ := by
  pointwise [k0_pay6]
  exact ofBits_ninf

theorem pay1_at (K : Vec Ideal S1x512x128 .bf16) (Q : Vec Ideal S1x128x4096 .bf16) (s : Vec Ideal S1x4096 .f32) (k : Fin 512) (c : Fin 4096) :
    k0_pay1 K Q s (ix3 0 k c) = Ideal.exp2 ((∑ d : Fin 128, K (ix3 0 k d) * Q (ix3 0 d c)) - s (ix2 0 c)) := by
  pointwise [k0_pay1]
  rfl

theorem pay32_at (K : Vec Ideal S1x512x128 .bf16) (Q : Vec Ideal S1x128x4096 .bf16) (k : Fin 512) (c : Fin 4096) :
    k0_pay32 K Q (ix2 k c) = ∑ d : Fin 128, K (ix3 0 k d) * Q (ix3 0 d c) := by
  pointwise [k0_pay32]

theorem pay4_at (A : Vec Ideal S144x4096 .f32) (v : Vec Ideal S1x1x144x512 .bf16) (p : Vec Ideal S1x512x4096 .bf16) (e : Fin 144) (c : Fin 4096) :
    k0_pay4 A v p (ix2 e c) = A (ix2 e c) + ∑ k : Fin 512, v (ix4 0 0 e k) * p (ix3 0 k c) := by
  pointwise [k0_pay4]

theorem pay48_at (a : Vec Ideal S1x4096 .f32) (v : Vec Ideal S1x1x144x512 .bf16) (p : Vec Ideal S512x4096 .bf16) (A : Vec Ideal S144x4096 .f32)
    (e : Fin 144) (c : Fin 4096) :
    k0_pay48 a v p A (ix2 e c) = A (ix2 e c) * a (ix2 0 c) + ∑ k : Fin 512, v (ix4 0 0 e k) * p (ix2 k c) := by
  pointwise [k0_pay48]

theorem pay9_at (T : Vec Ideal S128x4096 .f32) (n : Vec Ideal S1x4096 .f32) (r : Fin 4096) (e : Fin 128) :
    k0_pay9 T n (ix2 r e) = Ideal.div (T (ix2 e r)) (n (ix2 0 r)) := by
  pointwise [k0_pay9]

theorem pay5_le (n : Vec Ideal S1x4096 .f32) (c : Fin 4096) : (k0_pay5 n : EReal) ≤ n (ix2 0 c) := by
  have h : k0_pay5 n = Finset.fold min (Ideal.ofBits FTy.f32 0x7F800000#32) (fun x : Fin 1 × Fin 4096 => n (ix2 0 x.2)) Finset.univ := by
    pointwise [k0_pay5]
  rw [h]
  exact (Finset.fold_min_le (n (ix2 0 c))).mpr (.inr ⟨(0, c), Finset.mem_univ _, le_rfl⟩)

theorem pay41_at (M : Vec Ideal S1x8x4096 .f32) (S : Vec Ideal S64x4096 .f32) (k : Fin 64) (c : Fin 4096) :
    k0_pay41 M S (ix2 k c) = Ideal.exp2 (S (ix2 k c) - M (ix3 0 ⟨k.val % 8, Nat.mod_lt _ (by decide)⟩ c)) := by
  pointwise [k0_pay41]
  rfl

theorem pay37_at (a : FVec Ideal S8x4096 .f32) (b : FVec Ideal S8x8x4096 .f32) (c d e : Vec Ideal S64x4096 .f32) (m : Vec Ideal S1x4096 .f32)
    (g : Fin 8) (j : Fin 4096) : k0_pay37 a b c d e m (ix3 0 g j) = k0_pay35 a b c d e m (ix2 0 j) := by
  pointwise [k0_pay37]

theorem pay36_at (a : FVec Ideal S8x4096 .f32) (b : FVec Ideal S8x8x4096 .f32) (c d e : Vec Ideal S64x4096 .f32) (m : Vec Ideal S1x4096 .f32)
    (j : Fin 4096) : k0_pay36 a b c d e m (ix2 0 j) = Ideal.exp2 (m (ix2 0 j) - k0_pay35 a b c d e m (ix2 0 j)) := by
  pointwise [k0_pay36]
  rfl

theorem pay33_isR (a b c d : Vec Ideal S64x4096 .f32) (g : Fin 8) (j : Fin 4096)
    (ha : ∀ k : Fin 64, IsR (a (ix2 k j))) (hb : ∀ k : Fin 64, IsR (b (ix2 k j)))
    (hc : ∀ k : Fin 64, IsR (c (ix2 k j))) (hd : ∀ k : Fin 64, IsR (d (ix2 k j))) : IsR (k0_pay33 a b c d (ix2 g j)) := by
  pointwise [k0_pay33]
  rw [ofBits_ninf]
  exact (((IsR.fold_max _ fun _ => ha _).max (.fold_max _ fun _ => hb _)).max (.fold_max _ fun _ => hc _)).max (.fold_max _ fun _ => hd _)

theorem pay35_isR (a : FVec Ideal S8x4096 .f32) (b c d e : Vec Ideal S64x4096 .f32) (m : Vec Ideal S1x4096 .f32) (j : Fin 4096)
    (ha : ∀ g : Fin 8, IsR (a (ix2 g j))) (hb : ∀ k : Fin 64, IsR (b (ix2 k j)))
    (hc : ∀ k : Fin 64, IsR (c (ix2 k j))) (hd : ∀ k : Fin 64, IsR (d (ix2 k j))) (he : ∀ k : Fin 64, IsR (e (ix2 k j)))
    (hm : m (ix2 0 j) ≠ (⊤ : EReal)) : IsR (k0_pay35 a (k0_pay34 b) c d e m (ix2 0 j)) := by
  pointwise [k0_pay35, k0_pay34]
  rw [ofBits_ninf]
  exact .max_left hm (.fold_max _ fun _ => ((((ha _).max (.fold_max _ fun _ => hb _)).max (.fold_max _ fun _ => hc _)).max
    (.fold_max _ fun _ => hd _)).max (.fold_max _ fun _ => he _))

theorem ld64_at (S : Vec Ideal S512x4096 .f32) (o : ℕ) (h) (k : Fin 64) (j : Fin 4096) (ho : o + 64 ≤ 512) :
    View.ld S (rw64 o h) (ix2 k j) = S (ix2 ⟨o + k.val, by omega⟩ j) := by
  refine congrArg S (funext fun a => Fin.ext ?_)
  refine (ValueKit.rect_emb_unit_val _ _ _ _ _).trans ?_
  fin_cases a
  · rfl
  · exact Nat.zero_add _

theorem mx_isR (S : Vec Ideal S512x4096 .f32) (m : Vec Ideal S1x4096 .f32) (j : Fin 4096) (hS : ∀ k : Fin 512, IsR (S (ix2 k j)))
    (hm : m (ix2 0 j) ≠ (⊤ : EReal)) : IsR (mx S m (ix2 0 j)) := by
  have h : ∀ (o : ℕ) (h) (ho : o + 64 ≤ 512) (k : Fin 64), IsR (View.ld S (rw64 o h) (ix2 k j)) := fun o h ho k => by
    rw [ld64_at S o h k j ho]; exact hS _
  unfold mx
  exact pay35_isR _ _ _ _ _ _ _ (fun g => pay33_isR _ _ _ _ _ _ (h _ _ (by omega)) (h _ _ (by omega)) (h _ _ (by omega)) (h _ _ (by omega)))
    (h _ _ (by omega)) (h _ _ (by omega)) (h _ _ (by omega)) (h _ _ (by omega)) hm

theorem al_at (S : Vec Ideal S512x4096 .f32) (m : Vec Ideal S1x4096 .f32) (j : Fin 4096) :
    al S m (ix2 0 j) = Ideal.exp2 (m (ix2 0 j) - mx S m (ix2 0 j)) := pay36_at _ _ _ _ _ _ _

theorem mr_at (S : Vec Ideal S512x4096 .f32) (m : Vec Ideal S1x4096 .f32) (g : Fin 8) (j : Fin 4096) :
    mr S m (ix3 0 g j) = mx S m (ix2 0 j) := pay37_at _ _ _ _ _ _ _ _

theorem piece_at (S : Vec Ideal S512x4096 .f32) (m : Vec Ideal S1x4096 .f32) (o : ℕ) (h) (ho : o + 64 ≤ 512) (x : S64x4096.Idx) :
    k0_pay41 (mr S m) (View.ld S (rw64 o h)) x = Ideal.exp2 (S ((rw64 o h).emb x) - mx S m (ix2 0 ((rw64 o h).emb x 1))) := by
  have e : (rw64 o h).emb x 1 = x 1 := Fin.ext ((ValueKit.rect_emb_unit_val _ _ _ _ 1).trans (Nat.zero_add _))
  rw [e]
  obtain ⟨k, j, rfl⟩ : ∃ (k : Fin 64) (j : Fin 4096), x = ix2 k j := ⟨x 0, x 1, by funext a; fin_cases a <;> rfl⟩
  rw [pay41_at, mr_at]
  rfl

theorem pp_at (S : Vec Ideal S512x4096 .f32) (m : Vec Ideal S1x4096 .f32) (k : Fin 512) (j : Fin 4096) :
    pp S m (ix2 k j) = Ideal.exp2 (S (ix2 k j) - mx S m (ix2 0 j)) := by
  unfold pp
  refine View.canon_apply_of_pieces (Val := Elt Ideal) (e := .bf16)
    (fun y => Ideal.exp2 (S y - mx S m (ix2 0 (y 1)))) _ ?_ (ix2 k j) ?_
  · intro p hp x
    simp only [List.mem_cons, List.not_mem_nil, or_false] at hp
    rcases hp with rfl | rfl | rfl | rfl | rfl | rfl | rfl | rfl
    · exact piece_at S m 448 _ (by decide) x
    · exact piece_at S m 384 _ (by decide) x
    · exact piece_at S m 320 _ (by decide) x
    · exact piece_at S m 256 _ (by decide) x
    · exact piece_at S m 192 _ (by decide) x
    · exact piece_at S m 128 _ (by decide) x
    · exact piece_at S m 64 _ (by decide) x
    · exact piece_at S m 0 _ (by decide) x
  · have hk := k.isLt
    have hj := j.isLt
    have key : ∀ (o : ℕ) (h), o ≤ k.val → k.val < o + 64 → (ix2 k j : S512x4096.Idx) ∈ (rw64 o h).set := fun o h h1 h2 =>
      Rect.mem_set_unit.mpr fun a => by
        fin_cases a
        · exact ⟨h1, h2⟩
        · exact ⟨Nat.zero_le _, by show j.val < 0 + 4096; omega⟩
    by_cases h0 : k.val < 64; · exact ⟨_, (List.mem_cons_of_mem _ (List.mem_cons_of_mem _ (List.mem_cons_of_mem _ (List.mem_cons_of_mem _ (List.mem_cons_of_mem _ (List.mem_cons_of_mem _ (List.mem_cons_of_mem _ (List.mem_singleton_self _)))))))), key 0 inb_S512x4096_S64x4096_0_0 (by omega) (by omega)⟩
    by_cases h1 : k.val < 128; · exact ⟨_, (List.mem_cons_of_mem _ (List.mem_cons_of_mem _ (List.mem_cons_of_mem _ (List.mem_cons_of_mem _ (List.mem_cons_of_mem _ (List.mem_cons_of_mem _ List.mem_cons_self)))))), key 64 inb_S512x4096_S64x4096_64_0 (by omega) (by omega)⟩
    by_cases h2 : k.val < 192; · exact ⟨_, (List.mem_cons_of_mem _ (List.mem_cons_of_mem _ (List.mem_cons_of_mem _ (List.mem_cons_of_mem _ (List.mem_cons_of_mem _ List.mem_cons_self))))), key 128 inb_S512x4096_S64x4096_128_0 (by omega) (by omega)⟩
    by_cases h3 : k.val < 256; · exact ⟨_, (List.mem_cons_of_mem _ (List.mem_cons_of_mem _ (List.mem_cons_of_mem _ (List.mem_cons_of_mem _ List.mem_cons_self)))), key 192 inb_S512x4096_S64x4096_192_0 (by omega) (by omega)⟩
    by_cases h4 : k.val < 320; · exact ⟨_, (List.mem_cons_of_mem _ (List.mem_cons_of_mem _ (List.mem_cons_of_mem _ List.mem_cons_self))), key 256 inb_S512x4096_S64x4096_256_0 (by omega) (by omega)⟩
    by_cases h5 : k.val < 384; · exact ⟨_, (List.mem_cons_of_mem _ (List.mem_cons_of_mem _ List.mem_cons_self)), key 320 inb_S512x4096_S64x4096_320_0 (by omega) (by omega)⟩
    by_cases h6 : k.val < 448; · exact ⟨_, (List.mem_cons_of_mem _ List.mem_cons_self), key 384 inb_S512x4096_S64x4096_384_0 (by omega) (by omega)⟩
    exact ⟨_, List.mem_cons_self, key 448 inb_S512x4096_S64x4096_448_0 (by omega) (by omega)⟩

theorem ldq_at (Q : Vec Ideal S1x16x128x512 .bf16) (n : ℕ) (hn : n < 16) (h) (r : Fin 128) (k : Fin 512) :
    View.ld Q (Rect.unit (s := S1x16x128x512) ![0, n, 0, 0] S1x1x128x512.size h) (ix4 0 0 r k) = Q (ix4 0 ⟨n, hn⟩ r k) := by
  refine congrArg Q (funext fun a => Fin.ext ?_)
  refine (ValueKit.rect_emb_unit_val _ _ _ _ _).trans ?_
  fin_cases a
  · rfl
  · rfl
  · exact Nat.zero_add _
  · exact Nat.zero_add _

theorem pay10_at (f : ℕ → Vec Ideal S1x1x128x512 .bf16) (r : Fin 128) (j : Fin 4096) :
    k0_pay10 (f 0) (f 1) (f 2) (f 3) (f 4) (f 5) (f 6) (f 7) (ix3 0 r j) = f (j.val / 512) (ix4 0 0 r ⟨j.val % 512, Nat.mod_lt _ (by decide)⟩) := by
  have hj := j.isLt
  pointwise [k0_pay10]
  split_ifs <;>
    exact congrArg₂ (fun n (k : Fin 512) => f n (ix4 0 0 r k)) (by omega) (Fin.ext (by dsimp only; omega))

theorem pay11_at (f : ℕ → Vec Ideal S1x1x128x512 .bf16) (r : Fin 128) (j : Fin 4096) :
    k0_pay11 (f 0) (f 1) (f 2) (f 3) (f 4) (f 5) (f 6) (f 7) (ix3 0 r j) = f (j.val / 512) (ix4 0 0 r ⟨j.val % 512, Nat.mod_lt _ (by decide)⟩) := by
  have hj := j.isLt
  pointwise [k0_pay11]
  split_ifs <;>
    exact congrArg₂ (fun n (k : Fin 512) => f n (ix4 0 0 r k)) (by omega) (Fin.ext (by dsimp only; omega))

/-- Tile `n` of the queries (of sixteen). -/
def qT (Q : Vec Ideal S1x16x128x512 .bf16) (n : ℕ) : Vec Ideal S1x1x128x512 .bf16 :=
  View.ld Q (Rect.unit (s := S1x16x128x512) ![0, n % 16, 0, 0] S1x1x128x512.size
    (by have := Nat.mod_lt n (show 0 < 16 by decide); intro a; fin_cases a <;> simp <;> omega))

/-- The queries' entry of the two blocks of columns. -/
def qG (Q : Vec Ideal S1x16x128x512 .bf16) (y : S2x128x4096.Idx) : EReal :=
  Q (ix4 0 ⟨8 * (y 0).val + (y 2).val / 512, by have h0 : (y 0).val < 2 := (y 0).isLt; have h2 : (y 2).val < 4096 := (y 2).isLt; omega⟩ (y 1) ⟨(y 2).val % 512, Nat.mod_lt _ (by decide)⟩)

theorem qG_eq (Q : Vec Ideal S1x16x128x512 .bf16) (y : S2x128x4096.Idx) (n : ℕ) (hn : n < 16) (r : Fin 128) (k : Fin 512)
    (h0 : n = 8 * (y 0).val + (y 2).val / 512) (h1 : r.val = (y 1).val) (h2 : k.val = (y 2).val % 512) :
    Q (ix4 0 ⟨n, hn⟩ r k) = qG Q y := by
  unfold qG
  refine congrArg Q (funext fun a => Fin.ext ?_)
  fin_cases a
  · rfl
  · exact h0
  · exact h1
  · exact h2

theorem mem_qq (y : S2x128x4096.Idx) (o : ℕ) (h) (e : (y 0).val = o) : y ∈ (Rect.unit (s := S2x128x4096) ![o, 0, 0] S1x128x4096.size h).set := by
  have h1 : (y 1).val < 128 := (y 1).isLt
  have h2 : (y 2).val < 4096 := (y 2).isLt
  refine Rect.mem_set_unit.mpr fun a => ?_
  fin_cases a
  · exact ⟨e.ge, by rw [show (y ((fun i => i) ⟨0, by decide⟩)).val = o from e]; exact Nat.lt_succ_self o⟩
  · exact ⟨Nat.zero_le _, lt_of_lt_of_eq h1 (Nat.zero_add 128).symm⟩
  · exact ⟨Nat.zero_le _, lt_of_lt_of_eq h2 (Nat.zero_add 4096).symm⟩

theorem piece_q (Q : Vec Ideal S1x16x128x512 .bf16) (o : ℕ) (h) (ho : o < 2) (r : Fin 128) (j : Fin 4096) :
    qT Q (8 * o + j.val / 512) (ix4 0 0 r ⟨j.val % 512, Nat.mod_lt _ (by decide)⟩)
      = qG Q ((Rect.unit (s := S2x128x4096) ![o, 0, 0] S1x128x4096.size h).emb (ix3 0 r j)) := by
  have hj := j.isLt
  have e0 : ((Rect.unit (s := S2x128x4096) ![o, 0, 0] S1x128x4096.size h).emb (ix3 0 r j) 0).val = o + 0 :=
    ValueKit.rect_emb_unit_val _ _ _ _ 0
  have e1 : ((Rect.unit (s := S2x128x4096) ![o, 0, 0] S1x128x4096.size h).emb (ix3 0 r j) 1).val = 0 + r.val :=
    ValueKit.rect_emb_unit_val _ _ _ _ 1
  have e2 : ((Rect.unit (s := S2x128x4096) ![o, 0, 0] S1x128x4096.size h).emb (ix3 0 r j) 2).val = 0 + j.val :=
    ValueKit.rect_emb_unit_val _ _ _ _ 2
  generalize (Rect.unit (s := S2x128x4096) ![o, 0, 0] S1x128x4096.size h).emb (ix3 0 r j) = y at e0 e1 e2 ⊢
  refine (ldq_at Q ((8 * o + j.val / 512) % 16) (Nat.mod_lt _ (by decide)) _ r _).trans (qG_eq Q y _ _ _ _ ?_ ?_ ?_)
  · rw [e0, e2]; omega
  · rw [e1]; omega
  · rw [e2]; show j.val % 512 = _; omega

theorem qq_at (Q : Vec Ideal S1x16x128x512 .bf16) (y : S2x128x4096.Idx) : qq Q y = qG Q y := by
  unfold qq
  refine View.canon_apply_of_pieces (Val := Elt Ideal) (e := .bf16) (qG Q) _ ?_ y ?_
  · intro p hp x
    simp only [List.mem_cons, List.not_mem_nil, or_false] at hp
    rcases hp with rfl | rfl
    · obtain ⟨r, j, rfl⟩ : ∃ (r : Fin 128) (j : Fin 4096), x = ix3 0 r j :=
        ⟨x 1, x 2, by funext a; fin_cases a <;> first | rfl | exact Fin.ext (Nat.lt_one_iff.mp (x 0).isLt)⟩
      exact (pay11_at (fun n => qT Q (8 * 1 + n)) r j).trans (piece_q Q 1 inb_S2x128x4096_S1x128x4096_1_0_0 (by decide) r j)
    · obtain ⟨r, j, rfl⟩ : ∃ (r : Fin 128) (j : Fin 4096), x = ix3 0 r j :=
        ⟨x 1, x 2, by funext a; fin_cases a <;> first | rfl | exact Fin.ext (Nat.lt_one_iff.mp (x 0).isLt)⟩
      exact (pay10_at (fun n => qT Q (8 * 0 + n)) r j).trans (piece_q Q 0 inb_S2x128x4096_S1x128x4096_0_0_0 (by decide) r j)
  · have h0 : (y 0).val < 2 := (y 0).isLt
    by_cases e : (y 0).val = 0
    · exact ⟨_, List.mem_cons_of_mem _ (List.mem_singleton_self _), mem_qq y 0 inb_S2x128x4096_S1x128x4096_0_0_0 e⟩
    · exact ⟨_, List.mem_cons_self, mem_qq y 1 inb_S2x128x4096_S1x128x4096_1_0_0 (by omega)⟩

theorem kCh_at (K : Vec Ideal S1x8192x128 .bf16) (n : ℕ) (hn : n < 16) (k : Fin 512) (d : Fin 128) :
    kCh K n (ix3 0 k d) = K (ix3 0 ⟨n * 512 + k.val, by omega⟩ d) := by
  refine congrArg K (funext fun a => Fin.ext ?_)
  refine (ValueKit.rect_emb_unit_val _ _ _ _ _).trans ?_
  fin_cases a
  · rfl
  · show 512 * (n % 16) + k.val = n * 512 + k.val
    omega
  · exact Nat.zero_add _

theorem vCh_at (V : Vec Ideal S1x16x144x512 .bf16) (n : ℕ) (hn : n < 16) (e : Fin 144) (k : Fin 512) :
    vCh V n (ix4 0 0 e k) = V (ix4 0 ⟨n, hn⟩ e k) := by
  refine congrArg V (funext fun a => Fin.ext ?_)
  refine (ValueKit.rect_emb_unit_val _ _ _ _ _).trans ?_
  fin_cases a
  · rfl
  · show n % 16 + 0 = n
    omega
  · exact Nat.zero_add _
  · exact Nat.zero_add _

theorem qBl_at (Q : Vec Ideal S2x128x4096 .bf16) (b : ℕ) (hb : b < 2) (d : Fin 128) (c : Fin 4096) :
    qBl Q b (ix3 0 d c) = Q (ix3 ⟨b, hb⟩ d c) := by
  refine congrArg Q (funext fun a => Fin.ext ?_)
  refine (ValueKit.rect_emb_unit_val _ _ _ _ _).trans ?_
  fin_cases a
  · show min b 1 + 0 = b
    omega
  · exact Nat.zero_add _
  · exact Nat.zero_add _

theorem nrm_at (A : Vec Ideal S144x4096 .f32) (c : Fin 4096) : nrm A (ix2 0 c) = A (ix2 128 c) := by
  refine congrArg A (funext fun a => Fin.ext ?_)
  refine (ValueKit.rect_emb_unit_val _ _ _ _ _).trans ?_
  fin_cases a
  · rfl
  · exact Nat.zero_add _

theorem top_at (A : Vec Ideal S144x4096 .f32) (e : Fin 128) (c : Fin 4096) : top A (ix2 e c) = A (ix2 ⟨e.val, by omega⟩ c) := by
  refine congrArg A (funext fun a => Fin.ext ?_)
  refine (ValueKit.rect_emb_unit_val _ _ _ _ _).trans ?_
  fin_cases a
  · exact Nat.zero_add _
  · exact Nat.zero_add _

/-- Without the second pass, every normaliser is positive. -/
theorem pos_of_good (n : Vec Ideal S1x4096 .f32) (h : bad n ≠ 1#1) (c : Fin 4096) : (0 : EReal) < n (ix2 0 c) := by
  refine lt_of_lt_of_le ?_ (pay5_le n c)
  by_contra hlt
  refine h ?_
  have key : ∀ b : BitVec 1, b = 0#1 → Scalar.cmpi .ne (Scalar.extui (Scalar.xori b 1#1) : BitVec 32) 0#32 = 1#1 := by
    rintro b rfl
    decide
  refine key _ ?_
  rw [Ideal.scalar_cmpf_def]
  have e : ∀ x y : EReal, ¬ y ≤ x → Ideal.cmp .oge x y = 0#1 := by
    intro x y hxy
    unfold Ideal.cmp
    simp only [hxy, decide_false]
    rfl
  exact e _ _ fun hle => hlt (lt_of_lt_of_le ofBits_floor_pos hle)

end Cert.KernelIdeal.Hand
end
-- ==== Proof.HostI.lean ====
module

public import proofs.«01_k».proof.Proof.Gen.KernelIdeal.Frame
public import proofs.«01_k».proof.Proof.Soft
public import Idealize.ShloMosaic.Lib.Pointwise
public import Idealize.ShloMosaic.Lib.Claim
public import Idealize.ShloMosaic.Lib.IdealHost

@[expose] public section

set_option maxRecDepth 16384

noncomputable section

/-! # The arrays the kernel is called on -/

namespace Cert.KernelIdeal.Hand

open Idealize.ShloMosaic Idealize.ShloMosaic.TcCoe
open Cert.KernelIdeal.Gen Cert.Soft

variable (m : (ℓ : Loc nD τ sig) → Buf (Elt Ideal) ℓ) (c : Dev nD)

abbrev argQ : FVec Ideal S8192x12x128 .f32 := m ((c : Thread nD τ).loc main_arg0)
abbrev argK : FVec Ideal S8192x4x128 .f32 := m ((c : Thread nD τ).loc main_arg1)
abbrev argV : FVec Ideal S8192x4x128 .f32 := m ((c : Thread nD τ).loc main_arg2)
abbrev argG : FVec Ideal S128 .f32 := m ((c : Thread nD τ).loc main_arg3)
abbrev argH : FVec Ideal S128 .f32 := m ((c : Thread nD τ).loc main_arg4)

theorem host_q (h : Fin 12) (n : Fin 16) (d : Fin 128) (r : Fin 512) :
    (V m c main_v8 : FVec Ideal S12x16x128x512 .bf16) (ix4 h n d r)
      = argQ m c (ix3 ⟨n.val * 512 + r.val, by omega⟩ h d)
        * Ideal.div 1 (Ideal.log (Ideal.ofBits .f32 0x40000000#32) * Ideal.sqrt (Ideal.ofBits .f32 0x43000000#32)) := by
  entry_read
  pointwise

theorem host_k (g : Fin 4) (t : Fin 8192) (d : Fin 128) :
    (V m c main_v10 : FVec Ideal S4x8192x128 .bf16) (ix3 g t d) = argK m c (ix3 t g d) := by
  entry_read
  pointwise

theorem host_v (g : Fin 4) (n : Fin 16) (e : Fin 128) (r : Fin 512) :
    (V m c main_v15 : FVec Ideal S4x16x144x512 .bf16) (ix4 g n ⟨e.val, by omega⟩ r) = argV m c (ix3 ⟨n.val * 512 + r.val, by omega⟩ g e) := by
  entry_read
  pointwise

theorem host_one (g : Fin 4) (n : Fin 16) (r : Fin 512) :
    (V m c main_v15 : FVec Ideal S4x16x144x512 .bf16) (ix4 g n 128 r) = (1 : EReal) := by
  entry_read
  pointwise

theorem fold_abs_nonneg (f : Fin 128 → EReal) : (0 : EReal) ≤ Finset.univ.fold max (Ideal.ofBits .f32 0xFF800000#32) fun k => FloatOps.absf (F := Ideal) (φ := .f32) (f k) := by
  refine (Finset.le_fold_max _).mpr (.inr ⟨0, Finset.mem_univ _, ?_⟩)
  show (0 : EReal) ≤ max (f 0) (-f 0)
  rcases le_total 0 (f 0) with h | h
  · exact le_max_of_le_left h
  · exact le_max_of_le_right (EReal.neg_nonneg.mpr h)

theorem host_s (r : Fin 4096) : (V m c main_v22 : FVec Ideal S1x4096 .f32) (ix2 0 r) ≠ (⊥ : EReal) := by
  entry_read
  pointwise
  have hc : (0 : EReal) ≤ Ideal.ofBits .f32 0x4183E235#32 := by
    simp [Ideal.ofBits, Ideal.ieee, -EReal.coe_mul]
    try norm_num
  exact ((lt_of_lt_of_le EReal.bot_lt_zero (mul_nonneg (mul_nonneg hc (fold_abs_nonneg _)) (fold_abs_nonneg _))).ne')

end Cert.KernelIdeal.Hand
end
-- ==== Proof.RefI.lean ====
module

public import proofs.«01_k».proof.Proof.Gen.ReferenceIdeal.Run
public import proofs.«01_k».proof.Proof.Soft
public import Idealize.ShloMosaic.Lib.Pointwise
public import Idealize.ShloMosaic.Lib.IdealHost

@[expose] public section

set_option maxRecDepth 16384

noncomputable section

/-! # The reference at an index -/

namespace Cert.ReferenceIdeal.Hand

open Idealize.ShloMosaic Idealize.ShloMosaic.TcCoe
open Cert.ReferenceIdeal Cert.ReferenceIdeal.Gen Cert.Soft

variable (q : FVec Ideal S8192x12x128 .f32) (k v : FVec Ideal S8192x4x128 .f32)

/-- The scores. -/
def scT : FVec Ideal S4x3x8192x8192 .f32 :=
  mulf (transpose S4x3x8192x8192 [0, 3, 2, 1] (Host.dotGeneral dot_S8192x4x128_S8192x4x3x128_S4x8192x8192x3_2_3_0_02_1_1 none k (shapeCast _ q shapeCasts_S8192x12x128_S8192x4x3x128)) transposes_S4x8192x8192x3_S4x3x8192x8192_0_3_2_1) (broadcastInDim S4x3x8192x8192 ![] bcast_S_S4x3x8192x8192 (Host.divf (constant S_ .f32 0x3F800000#32) (Host.sqrt (constant S_ .f32 0x43000000#32))))
/-- Their largest, along the keys. -/
def mxT : FVec Ideal S4x3x8192 .f32 :=
  maximumf (broadcastInDim S4x3x8192 ![] bcast_S_S4x3x8192 (constant S_ .f32 0xFF800000#32)) (Host.reduce FloatOps.maximumf (scT q k) (constant S_ .f32 0xFF800000#32) reducesTo_S4x3x8192x8192_S4x3x8192_d3 h_S_)
/-- Their exponentials below it. -/
def exT : FVec Ideal S4x3x8192x8192 .f32 :=
  Host.exp (subf (scT q k) (broadcastInDim S4x3x8192x8192 ![0, 1, 2, 3] bcast_S4x3x8192x1_S4x3x8192x8192_0_1_2_3 (broadcastInDim S4x3x8192x1 ![0, 1, 2] bcast_S4x3x8192_S4x3x8192x1_0_1_2 (mxT q k))))
/-- Their sums, along the keys. -/
def smT : FVec Ideal S4x3x8192 .f32 :=
  Host.reduceAdd (exT q k) (constant S_ .f32 0x00000000#32) reducesTo_S4x3x8192x8192_S4x3x8192_d3 h_S_
/-- The result. -/
def outT : FVec Ideal S8192x1536 .bf16 :=
  truncf .bf16 (shapeCast _ (transpose S8192x4x3x128 [3, 0, 2, 1] (Host.dotGeneral dot_S8192x4x128_S4x3x8192x8192_S4x128x3x8192_0_3_2_12_1_0 none v (Host.divf (exT q k) (broadcastInDim S4x3x8192x8192 ![0, 1, 2, 3] bcast_S4x3x8192x1_S4x3x8192x8192_0_1_2_3 (broadcastInDim S4x3x8192x1 ![0, 1, 2] bcast_S4x3x8192_S4x3x8192x1_0_1_2 (smT q k))))) transposes_S4x128x3x8192_S8192x4x3x128_3_0_2_1) shapeCasts_S8192x4x3x128_S8192x1536) bitsLt_bf16_f32

theorem run' (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v21) = outT (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := Value.run m ρ

theorem sc_at (g : Fin 4) (i : Fin 3) (x y : Fin 8192) :
    scT q k (ix4 g i x y) = (∑ d : Fin 128, k (ix3 y g d) * q (ix3 x ⟨g.val * 3 + i.val, by omega⟩ d)) * Ideal.div 1 (Ideal.sqrt (Ideal.ofBits .f32 0x43000000#32)) := by
  pointwise [scT]

theorem maxf_at {s : Shape} (A B : FVec Ideal s .f32) (j : s.Idx) : maximumf A B j = max (A j) (B j) := rfl

theorem red_gen (X : FVec Ideal S4x3x8192x8192 .f32) (g : Fin 4) (i : Fin 3) (x : Fin 8192) :
    (Host.reduce FloatOps.maximumf X (constant S_ .f32 0xFF800000#32) reducesTo_S4x3x8192x8192_S4x3x8192_d3 h_S_ : FVec Ideal S4x3x8192 .f32) (ix3 g i x)
      = Finset.univ.fold max (Ideal.ofBits .f32 0xFF800000#32) fun y : Fin 8192 => X (ix4 g i x y) := by
  pointwise

theorem ninf_gen (j : S4x3x8192.Idx) :
    (broadcastInDim S4x3x8192 ![] bcast_S_S4x3x8192 (constant S_ .f32 0xFF800000#32) : FVec Ideal S4x3x8192 .f32) j = Ideal.ofBits .f32 0xFF800000#32 := rfl

theorem mx_gen (X : FVec Ideal S4x3x8192x8192 .f32) (g : Fin 4) (i : Fin 3) (x : Fin 8192) :
    (maximumf (broadcastInDim S4x3x8192 ![] bcast_S_S4x3x8192 (constant S_ .f32 0xFF800000#32)) (Host.reduce FloatOps.maximumf X (constant S_ .f32 0xFF800000#32) reducesTo_S4x3x8192x8192_S4x3x8192_d3 h_S_) : FVec Ideal S4x3x8192 .f32) (ix3 g i x)
      = max (Ideal.ofBits .f32 0xFF800000#32) (Finset.univ.fold max (Ideal.ofBits .f32 0xFF800000#32) fun y : Fin 8192 => X (ix4 g i x y)) := by
  rw [maxf_at, ninf_gen, red_gen]

theorem ex_gen (X : FVec Ideal S4x3x8192x8192 .f32) (M : FVec Ideal S4x3x8192 .f32) (g : Fin 4) (i : Fin 3) (x y : Fin 8192) :
    (Host.exp (subf X (broadcastInDim S4x3x8192x8192 ![0, 1, 2, 3] bcast_S4x3x8192x1_S4x3x8192x8192_0_1_2_3 (broadcastInDim S4x3x8192x1 ![0, 1, 2] bcast_S4x3x8192_S4x3x8192x1_0_1_2 M))) : FVec Ideal S4x3x8192x8192 .f32) (ix4 g i x y)
      = Ideal.exp (X (ix4 g i x y) - M (ix3 g i x)) := by
  pointwise

theorem sm_gen (X : FVec Ideal S4x3x8192x8192 .f32) (g : Fin 4) (i : Fin 3) (x : Fin 8192) :
    (Host.reduceAdd X (constant S_ .f32 0x00000000#32) reducesTo_S4x3x8192x8192_S4x3x8192_d3 h_S_ : FVec Ideal S4x3x8192 .f32) (ix3 g i x)
      = ∑ y : Fin 8192, X (ix4 g i x y) := by
  pointwise

theorem out_gen (X : FVec Ideal S4x3x8192x8192 .f32) (M : FVec Ideal S4x3x8192 .f32) (g : Fin 4) (i : Fin 3) (x : Fin 8192) (e : Fin 128) :
    (truncf .bf16 (shapeCast _ (transpose S8192x4x3x128 [3, 0, 2, 1] (Host.dotGeneral dot_S8192x4x128_S4x3x8192x8192_S4x128x3x8192_0_3_2_12_1_0 none v (Host.divf X (broadcastInDim S4x3x8192x8192 ![0, 1, 2, 3] bcast_S4x3x8192x1_S4x3x8192x8192_0_1_2_3 (broadcastInDim S4x3x8192x1 ![0, 1, 2] bcast_S4x3x8192_S4x3x8192x1_0_1_2 M)))) transposes_S4x128x3x8192_S8192x4x3x128_3_0_2_1) shapeCasts_S8192x4x3x128_S8192x1536) bitsLt_bf16_f32 : FVec Ideal S8192x1536 .bf16)
      (ix2 x ⟨(g.val * 3 + i.val) * 128 + e.val, by omega⟩)
      = ∑ y : Fin 8192, v (ix3 y g e) * Ideal.div (X (ix4 g i x y)) (M (ix3 g i x)) := by
  pointwise

theorem mx_at (g : Fin 4) (i : Fin 3) (x : Fin 8192) :
    mxT q k (ix3 g i x) = max (Ideal.ofBits .f32 0xFF800000#32) (Finset.univ.fold max (Ideal.ofBits .f32 0xFF800000#32) fun y : Fin 8192 => scT q k (ix4 g i x y)) :=
  mx_gen (scT q k) g i x

theorem ex_at (g : Fin 4) (i : Fin 3) (x y : Fin 8192) :
    exT q k (ix4 g i x y) = Ideal.exp (scT q k (ix4 g i x y) - mxT q k (ix3 g i x)) :=
  ex_gen (scT q k) (mxT q k) g i x y

theorem sm_at (g : Fin 4) (i : Fin 3) (x : Fin 8192) :
    smT q k (ix3 g i x) = ∑ y : Fin 8192, exT q k (ix4 g i x y) :=
  sm_gen (exT q k) g i x

theorem out_at (g : Fin 4) (i : Fin 3) (x : Fin 8192) (e : Fin 128) :
    outT q k v (ix2 x ⟨(g.val * 3 + i.val) * 128 + e.val, by omega⟩)
      = ∑ y : Fin 8192, v (ix3 y g e) * Ideal.div (exT q k (ix4 g i x y)) (smT q k (ix3 g i x)) :=
  out_gen v (exT q k) (smT q k) g i x e

end Cert.ReferenceIdeal.Hand
end
-- ==== Proof.AlgI.lean ====
module

public import proofs.«01_k».proof.Proof.RunI
public import proofs.«01_k».proof.Proof.ValI
public import proofs.«01_k».proof.Proof.HostI
public import proofs.«01_k».proof.Proof.RefI

@[expose] public section

set_option maxRecDepth 16384

noncomputable section

/-! # The kernel's result is the reference's -/

namespace Cert.KernelIdeal.Hand

open Idealize.ShloMosaic Idealize.ShloMosaic.TcCoe
open Cert.KernelIdeal.Gen Cert.Soft

/-! ## The two scales -/

def rA : ℝ := 1 / Real.sqrt 128
def rB : ℝ := 1 / (Real.log 2 * Real.sqrt 128)

theorem ofBits_two : Ideal.ofBits .f32 0x40000000#32 = ((2 : ℝ) : EReal) := by
  simp [Ideal.ofBits, Ideal.ieee, -EReal.coe_mul]; try norm_num
theorem ofBits_128 : Ideal.ofBits .f32 0x43000000#32 = ((128 : ℝ) : EReal) := by
  simp [Ideal.ofBits, Ideal.ieee, -EReal.coe_mul]; try norm_num

theorem sqrt_128 : Ideal.sqrt (Ideal.ofBits .f32 0x43000000#32) = (Real.sqrt 128 : EReal) := by
  rw [ofBits_128]
  exact if_neg (by norm_num)
theorem log_two : Ideal.log (Ideal.ofBits .f32 0x40000000#32) = (Real.log 2 : EReal) := by
  rw [ofBits_two]
  exact if_neg (by norm_num)
theorem sqrt_pos : 0 < Real.sqrt 128 := Real.sqrt_pos.mpr (by norm_num)
theorem log_pos : 0 < Real.log 2 := Real.log_pos (by norm_num)

theorem scale_A : Ideal.div 1 (Ideal.sqrt (Ideal.ofBits .f32 0x43000000#32)) = (rA : EReal) := by
  rw [sqrt_128, Ideal.div_coe sqrt_pos.ne', one_mul]; rfl
theorem scale_B : Ideal.div 1 (Ideal.log (Ideal.ofBits .f32 0x40000000#32) * Ideal.sqrt (Ideal.ofBits .f32 0x43000000#32)) = (rB : EReal) := by
  rw [sqrt_128, log_two, ← EReal.coe_mul, Ideal.div_coe (mul_pos log_pos sqrt_pos).ne', one_mul]; rfl
theorem rA_eq : rA = rB * Real.log 2 := by
  have h1 := sqrt_pos.ne'
  have h2 := log_pos.ne'
  unfold rA rB
  field_simp

/-! ## The blocks at an index -/

variable (m : (ℓ : Loc nD τ sig) → Buf (Elt Ideal) ℓ) (c : Dev nD)

theorem lt24 (t : Fin cfg0.N) : t.val < 24 := lt_of_lt_of_eq t.isLt N_0

theorem qB_at (t : Fin cfg0.N) (n : Fin 16) (d : Fin 128) (r : Fin 512) :
    qB m c t (ix4 0 n d r) = (V m c main_v8 : FVec Ideal S12x16x128x512 .bf16) (ix4 ⟨t.val / 2, by have := lt24 t; omega⟩ n d r) := by
  blk_simp [iblk]
  refine congrArg (V m c main_v8) ?_
  blk_ext [wx0]
theorem kB_at (t : Fin cfg0.N) (y : Fin 8192) (d : Fin 128) :
    kB m c t (ix3 0 y d) = (V m c main_v10 : FVec Ideal S4x8192x128 .bf16) (ix3 ⟨t.val / 6, by have := lt24 t; omega⟩ y d) := by
  blk_simp [iblk]
  refine congrArg (V m c main_v10) ?_
  blk_ext [wx1]
theorem vB_at (t : Fin cfg0.N) (n : Fin 16) (e : Fin 144) (r : Fin 512) :
    vB m c t (ix4 0 n e r) = (V m c main_v15 : FVec Ideal S4x16x144x512 .bf16) (ix4 ⟨t.val / 6, by have := lt24 t; omega⟩ n e r) := by
  blk_simp [iblk]
  refine congrArg (V m c main_v15) ?_
  blk_ext [wx2]
theorem sB_at (t : Fin cfg0.N) (r : Fin 4096) :
    sB m c t (ix2 0 r) = (V m c main_v22 : FVec Ideal S1x4096 .f32) (ix2 0 r) := by
  blk_simp [iblk]
  refine congrArg (V m c main_v22) ?_
  blk_ext [wx3]

open Cert.ReferenceIdeal.Hand (scT mxT exT smT outT)

/-- One entry of the result's block: the reference's entry there. -/
theorem outAt_at (hq : ∀ i, IsR (argQ m c i)) (hk : ∀ i, IsR (argK m c i)) (t : Fin cfg0.N) (r : Fin 4096) (e : Fin 128)
    (g : Fin 4) (i : Fin 3) (x : Fin 8192) (hg : g.val = t.val / 6) (hi : g.val * 3 + i.val = t.val / 2) (hx : x.val = 4096 * (t.val % 2) + r.val) :
    outAt m c t (ix2 r e) = outT (argQ m c) (argK m c) (argV m c) (ix2 x ⟨(g.val * 3 + i.val) * 128 + e.val, by omega⟩) := by
  choose q' hq' using hq
  choose k' hk' using hk
  have ht := lt24 t
  have hr := r.isLt
  let h : Fin 12 := ⟨g.val * 3 + i.val, by omega⟩
  let S : Fin 8192 → ℝ := fun y => ∑ d : Fin 128, k' (ix3 y g d) * (q' (ix3 x h d) * rB)
  let T : Fin 8192 → ℝ := fun y => (∑ d : Fin 128, k' (ix3 y g d) * q' (ix3 x h d)) * rA
  have hT : ∀ y, T y = S y * Real.log 2 := fun y => by
    show (∑ d : Fin 128, k' (ix3 y g d) * q' (ix3 x h d)) * rA = (∑ d : Fin 128, k' (ix3 y g d) * (q' (ix3 x h d) * rB)) * Real.log 2
    rw [Finset.sum_mul, Finset.sum_mul, rA_eq]
    exact Finset.sum_congr rfl fun d _ => by ring
  have hsc : ∀ y, scT (argQ m c) (argK m c) (ix4 g i x y) = (T y : EReal) := fun y => by
    rw [Cert.ReferenceIdeal.Hand.sc_at, scale_A]
    show _ = (((∑ d : Fin 128, k' (ix3 y g d) * q' (ix3 x h d)) * rA : ℝ) : EReal)
    rw [EReal.coe_mul, coe_sum]
    refine congrArg (· * (rA : EReal)) (Finset.sum_congr rfl fun d _ => ?_)
    rw [EReal.coe_mul, ← hk', ← hq']
  obtain ⟨M, hM⟩ : IsR (mxT (argQ m c) (argK m c) (ix3 g i x)) := by
    rw [Cert.ReferenceIdeal.Hand.mx_at, ofBits_ninf]
    exact .max_left bot_ne_top (.fold_max _ fun y => ⟨_, hsc y⟩)
  rw [Cert.ReferenceIdeal.Hand.out_at]
  have hex : ∀ y, exT (argQ m c) (argK m c) (ix4 g i x y) = Ideal.exp ((T y : EReal) - (M : EReal)) := fun y => by
    rw [Cert.ReferenceIdeal.Hand.ex_at, hsc, hM]
  rw [Cert.ReferenceIdeal.Hand.sm_at]
  simp only [hex]
  unfold outAt
  have hg' : (⟨t.val / 6, by omega⟩ : Fin 4) = g := Fin.ext hg.symm
  have hh' : (⟨t.val / 2, by omega⟩ : Fin 12) = h := Fin.ext hi.symm
  refine oBlk_at (kB m c t) (vB m c t) (qq (qB m c t)) (sB m c t) _ r e (fun y => argV m c (ix3 y g e)) S T ?_ ?_ ?_ ?_ hT M
  · intro n hn k
    show _ = ((∑ d : Fin 128, k' (ix3 _ g d) * (q' (ix3 x h d) * rB) : ℝ) : EReal)
    rw [coe_sum]
    refine Finset.sum_congr rfl fun d _ => ?_
    rw [kCh_at _ n hn, qBl_at _ _ (by rw [coord1]; omega), qq_at, kB_at, host_k, EReal.coe_mul, EReal.coe_mul, ← hk', ← hq', hg']
    refine congrArg (argK m c (ix3 _ g d) * ·) ?_
    refine (qB_at m c t ⟨8 * (grid0.coords t 1).val + r.val / 512, by rw [coord1]; omega⟩ d ⟨r.val % 512, Nat.mod_lt _ (by decide)⟩).trans ?_
    rw [host_q, scale_B]
    refine congrArg (· * (rB : EReal)) (congrArg (argQ m c) (funext fun a => Fin.ext ?_))
    fin_cases a
    · show (8 * (grid0.coords t 1).val + r.val / 512) * 512 + r.val % 512 = x.val
      rw [coord1, hx]; omega
    · exact hi.symm
    · rfl
  · intro n hn k
    rw [vCh_at _ n hn, vB_at, host_v, hg']
  · intro n hn k
    rw [vCh_at _ n hn, vB_at, host_one]
  · rw [sB_at]
    exact host_s m c r

/-- The result array after the run. -/
theorem arr_eq (hq : ∀ i, IsR (argQ m c i)) (hk : ∀ i, IsR (argK m c i)) :
    (dats m 0 c).arrAt 4 cfg0.N = outT (argQ m c) (argK m c) (argV m c) := by
  refine (dats m 0 c).arrAt_eq_of_covers 4 _ (by decide +kernel) fun t hf y => ?_
  blk_simp
  rw [after0_4]
  have ht := lt24 t
  obtain ⟨r, e, rfl⟩ : ∃ (r : Fin 4096) (e : Fin 128), y = ix2 r e := ⟨y 0, y 1, by funext a; fin_cases a <;> rfl⟩
  refine (outAt_at m c hq hk t r e ⟨t.val / 6, by omega⟩ ⟨t.val / 2 % 3, by omega⟩ ⟨4096 * (t.val % 2) + r.val, by omega⟩ rfl
    (by show t.val / 6 * 3 + t.val / 2 % 3 = t.val / 2; omega) rfl).trans ?_
  refine congrArg (outT (argQ m c) (argK m c) (argV m c)) ?_
  blk_ext [wx4]

end Cert.KernelIdeal.Hand
end
-- ==== Proof.LatI.lean ====
module

public import proofs.«01_k».proof.Proof.AttnI
public import proofs.«01_k».proof.Proof.Gen.KernelLatIdeal.Frame
public import proofs.«01_k».proof.Proof.Gen.KernelLatIdeal.Skeleton
public import Idealize.ShloMosaic.Lib.Exec
public import Idealize.ShloMosaic.Lib.Pipeline.Value

@[expose] public section

set_option maxRecDepth 16384

noncomputable section

namespace Cert.KernelLatIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelLatIdeal.Gen
open Cert.KernelIdeal.Hand (vCh ld_off slot0 slot1 slots_disjoint rw64 mx al pp nrm top bad)

variable {F : FTy → Type} [FloatOps F]

local notation "𝕄" => MT nD τ sig Unit (Elt F) ℕ (UR sig nD τ) ℕ

/-! ## What one trip computes, as functions of the blocks -/

/-- Rows `512·(n mod 16) …` of the keys. -/
def kCh (K : Vec F S1x8192x256 .bf16) (n : ℕ) : Vec F S1x512x256 .bf16 :=
  View.ld K (Rect.unit (s := S1x8192x256) ![0, 512 * (n % 16), 0] ![1, 512, 256]
    (by have := Nat.mod_lt n (show 0 < 16 by decide); intro a; fin_cases a <;> simp <;> omega))

/-- Block `min b 1` of the queries. -/
def qBl (Q : Vec F S2x256x4096 .bf16) (b : ℕ) : Vec F S1x256x4096 .bf16 :=
  View.ld Q (Rect.unit (s := S2x256x4096) ![min b 1, 0, 0] ![1, 256, 4096]
    (by intro a; fin_cases a <;> simp <;> omega))

/-- The weights of step `n` of query block `i`: its chunk of keys against its block of queries, below the shift. -/
def pr (K : Vec F S1x8192x256 .bf16) (Q : Vec F S2x256x4096 .bf16) (s : Vec F S1x4096 .f32) (i n : ℕ) : Vec F S1x512x4096 .bf16 :=
  k0_pay1 (kCh K n) (qBl Q (i + n / 16)) s

/-- The accumulator after `n` steps. -/
def ac (K : Vec F S1x8192x256 .bf16) (V : Vec F S1x16x144x512 .bf16) (Q : Vec F S2x256x4096 .bf16) (s : Vec F S1x4096 .f32) (i : ℕ) :
    ℕ → Vec F S144x4096 .f32
  | 0 => k0_pay2
  | n + 1 => k0_pay4 (ac K V Q s i n) (vCh V n) (pr K Q s i n)

theorem ac_succ (K : Vec F S1x8192x256 .bf16) (V : Vec F S1x16x144x512 .bf16) (Q : Vec F S2x256x4096 .bf16) (s : Vec F S1x4096 .f32)
    (i n : ℕ) : ac K V Q s i (n + 1) = k0_pay4 (ac K V Q s i n) (vCh V n) (pr K Q s i n) := rfl

theorem off2_eq : ∀ (k : Fin 2) (c : Fin 8), k0_off2 k (BitVec.ofNat 32 c.val) = ![0, 512 * ((8 * k.val + c.val + 1) % 16), 0] := by
  decide +kernel
theorem off4_eq : ∀ (k : Fin 2) (c : Fin 8), k0_off4 k (BitVec.ofNat 32 c.val) = ![0, (8 * k.val + c.val) % 16, 0, 0] := by
  decide +kernel
theorem off3_eq : ∀ (i : grid0.Coords) (k : Fin 2) (c : Fin 8),
    k0_off3 i k (BitVec.ofNat 32 c.val) = ![min ((i 1).val + (8 * k.val + c.val + 1) / 16) 1, 0, 0] := by
  decide +kernel

section
variable (a : Vec F S1x512x256 .bf16) (b : Vec F S1x256x4096 .bf16) (s : Vec F S1x4096 .f32)
  (x : Vec F S144x4096 .f32) (v : Vec F S1x1x144x512 .bf16) (p : Vec F S1x512x4096 .bf16)
theorem pay3_eq : k0_pay3 a b s = k0_pay1 a b s := rfl
theorem pay12_eq : k0_pay12 a b s = k0_pay1 a b s := rfl
theorem pay15_eq : k0_pay15 a b s = k0_pay1 a b s := rfl
theorem pay18_eq : k0_pay18 a b s = k0_pay1 a b s := rfl
theorem pay21_eq : k0_pay21 (k0_pay20 a b s) = k0_pay1 a b s := rfl
theorem pay24_eq : k0_pay24 (k0_pay23 a b s) = k0_pay1 a b s := rfl
theorem pay27_eq : k0_pay27 (k0_pay26 a b) s = k0_pay1 a b s := rfl
theorem pay30_eq : k0_pay30 (k0_pay29 a) b s = k0_pay1 a b s := rfl
theorem pay14_eq : k0_pay14 x (k0_pay13 v p) = k0_pay4 x v p := rfl
theorem pay17_eq : k0_pay17 x (k0_pay16 v) p = k0_pay4 x v p := rfl
theorem pay19_eq : k0_pay19 x v p = k0_pay4 x v p := rfl
theorem pay22_eq : k0_pay22 x v p = k0_pay4 x v p := rfl
theorem pay25_eq : k0_pay25 x v p = k0_pay4 x v p := rfl
theorem pay28_eq : k0_pay28 x v p = k0_pay4 x v p := rfl
theorem pay31_eq : k0_pay31 x v p = k0_pay4 x v p := rfl
end

/-! ## The loads at the loop's offsets -/

section
variable {sp : Space}
theorem rd2 (v : View sig .tc sp S1x8192x256 .bf16) (X : v.ty.Contents (Elt F)) (k : Fin k0_t1_loop.trips) (w : BitVec 32) (p) (hw : w.toNat < 8) :
    v.readAt (Elt F) (Rect.unit (s := S1x8192x256) (k0_off2 k w) ![1, 512, 256] p).toLoadRect X
      = kCh (v.read (Elt F) X) (8 * k.val + (w.toNat + 1)) := by
  have h := off2_eq k ⟨w.toNat, hw⟩
  rw [show BitVec.ofNat 32 (⟨w.toNat, hw⟩ : Fin 8).val = w from BitVec.ofNat_toNat .. |>.trans (BitVec.setWidth_eq w)] at h
  exact ld_off _ h _ _
theorem rd4 (v : View sig .tc sp S1x16x144x512 .bf16) (X : v.ty.Contents (Elt F)) (k : Fin k0_t1_loop.trips) (w : BitVec 32) (p) (hw : w.toNat < 8) :
    v.readAt (Elt F) (Rect.unit (s := S1x16x144x512) (k0_off4 k w) ![1, 1, 144, 512] p).toLoadRect X
      = vCh (v.read (Elt F) X) (8 * k.val + w.toNat) := by
  have h := off4_eq k ⟨w.toNat, hw⟩
  rw [show BitVec.ofNat 32 (⟨w.toNat, hw⟩ : Fin 8).val = w from BitVec.ofNat_toNat .. |>.trans (BitVec.setWidth_eq w)] at h
  exact ld_off _ h _ _
theorem rd3 (v : View sig .tc sp S2x256x4096 .bf16) (X : v.ty.Contents (Elt F)) (i : grid0.Coords) (k : Fin k0_t1_loop.trips) (w : BitVec 32) (p) (hw : w.toNat < 8) :
    v.readAt (Elt F) (Rect.unit (s := S2x256x4096) (k0_off3 i k w) ![1, 256, 4096] p).toLoadRect X
      = qBl (v.read (Elt F) X) ((i 1).val + (8 * k.val + (w.toNat + 1)) / 16) := by
  have h := off3_eq i k ⟨w.toNat, hw⟩
  rw [show BitVec.ofNat 32 (⟨w.toNat, hw⟩ : Fin 8).val = w from BitVec.ofNat_toNat .. |>.trans (BitVec.setWidth_eq w)] at h
  exact ld_off _ h _ _
theorem rd5 (v : View sig .tc sp S1x4096 .f32) (X : v.ty.Contents (Elt F)) (p) :
    v.readAt (Elt F) (Rect.unit (s := S1x4096) ![0, 0] ![1, 4096] p).toLoadRect X = v.read (Elt F) X :=
  View.ld_unit_zero (by funext a; fin_cases a <;> rfl) p _
theorem rd7 (v : View sig .tc sp S144x4096 .f32) (X : v.ty.Contents (Elt F)) (p) :
    v.readAt (Elt F) (Rect.unit (s := S144x4096) ![0, 0] ![144, 4096] p).toLoadRect X = v.read (Elt F) X :=
  View.ld_unit_zero (by funext a; fin_cases a <;> rfl) p _
theorem rd7w (v : View sig .tc sp S144x4096 .f32) (f : v.ty.Contents (Elt F)) (p) (w) (L) :
    v.read (Elt F) (v.writes (Elt F) f (⟨Rect.unit (s := S144x4096) ![0, 0] ![144, 4096] p, w⟩ :: L)) = w := by
  rw [← rd7 v _ p, View.readAt_rect]
  funext x
  exact View.read_writes_cons_emb _ _ _ _ _ x
end

theorem rd5w {sp : Space} (v : View sig .tc sp S1x4096 .f32) (f : v.ty.Contents (Elt F)) (p) (w) (L) :
    v.read (Elt F) (v.writes (Elt F) f (⟨Rect.unit (s := S1x4096) ![0, 0] ![1, 4096] p, w⟩ :: L)) = w := by
  rw [← rd5 v _ p, View.readAt_rect]
  funext x
  exact View.read_writes_cons_emb _ _ _ _ _ x
theorem rd6w {sp : Space} (v : View sig .tc sp S4096x128 .bf16) (f : v.ty.Contents (Elt F)) (p) (w) (L) :
    v.read (Elt F) (v.writes (Elt F) f (⟨Rect.unit (s := S4096x128) ![0, 0] ![4096, 128] p, w⟩ :: L)) = w := by
  have h := View.ld_unit_zero (S := S4096x128) (off := ![0, 0]) (by funext a; fin_cases a <;> rfl) p
    (v.read (Elt F) (v.writes (Elt F) f (⟨Rect.unit (s := S4096x128) ![0, 0] ![4096, 128] p, w⟩ :: L)))
  rw [← h]
  funext x
  exact View.read_writes_cons_emb _ _ _ _ _ x
theorem rd8w {sp : Space} (v : View sig .tc sp S2x512x4096 .bf16) (f : v.ty.Contents (Elt F)) (r : Rect S2x512x4096) (w) (L) :
    View.ld (v.read (Elt F) (v.writes (Elt F) f (⟨r, w⟩ :: L))) r = w := by
  funext x
  exact View.read_writes_cons_emb _ _ _ _ _ x

theorem rc_skip01 {sp : Space} (v : View sig .tc sp S2x512x4096 .bf16) (w) (L) :
    v.readCov (Val := Elt F) (⟨slot0, w⟩ :: L) slot1.toLoadRect = v.readCov L slot1.toLoadRect :=
  View.readCov_cons_of_disjoint _ _ _ _ slots_disjoint
theorem rc_skip10 {sp : Space} (v : View sig .tc sp S2x512x4096 .bf16) (w) (L) :
    v.readCov (Val := Elt F) (⟨slot1, w⟩ :: L) slot0.toLoadRect = v.readCov L slot0.toLoadRect :=
  View.readCov_cons_of_disjoint _ _ _ _ slots_disjoint.symm

section
variable (𝒱 : Variants) (c : Dev nD) (bd : Option 𝒱.V) (E : Set ℕ) (i : grid0.Coords) (arg2 : Memref sig .tc .vmem S1x16x256x512 .bf16) (harg2 : arg2.IsWhole) (arg3 : Memref sig .tc .vmem S1x8192x256 .bf16) (harg3 : arg3.IsWhole) (arg4 : Memref sig .tc .vmem S1x16x144x512 .bf16) (harg4 : arg4.IsWhole) (arg5 : Memref sig .tc .vmem S1x4096 .f32) (harg5 : arg5.IsWhole) (arg6 : Memref sig .tc .vmem S4096x128 .bf16) (harg6 : arg6.IsWhole) (arg7 : Memref sig .tc .vmem S144x4096 .f32) (harg7 : arg7.IsWhole) (arg8 : Memref sig .tc .vmem S2x512x4096 .bf16) (harg8 : arg8.IsWhole) (arg9 : Memref sig .tc .vmem S2x256x4096 .bf16) (harg9 : arg9.IsWhole) (arg10 : Memref sig .tc .vmem S1x4096 .f32) (harg10 : arg10.IsWhole) (arg11 : Memref sig .tc .vmem S512x4096 .f32) (harg11 : arg11.IsWhole) (arg12 : Memref sig .tc .vmem S512x4096 .bf16) (harg12 : arg12.IsWhole) (arg1 : BitVec 32)
  (X3 : BufTy.Contents (Elt F) arg3.view.ty) (X4 : BufTy.Contents (Elt F) arg4.view.ty) (X5 : BufTy.Contents (Elt F) arg5.view.ty)
  (X9 : BufTy.Contents (Elt F) arg9.view.ty)

/-- The first loop before trip `k`. -/
def inv1 (k : ℕ) : sProp 𝕄 :=
  iprop((arg3.view.loc (c : Thread nD τ) ↦[arg3.view.set]{fullShare} X3) ∗ (arg4.view.loc (c : Thread nD τ) ↦[arg4.view.set]{fullShare} X4)
      ∗ (arg5.view.loc (c : Thread nD τ) ↦[arg5.view.set]{fullShare} X5) ∗ (arg9.view.loc (c : Thread nD τ) ↦[arg9.view.set]{fullShare} X9)
      ∗ (∃ f, (arg7.view.loc (c : Thread nD τ) ↦[arg7.view.set]{fullShare} f)
          ∗ ⌜arg7.view.read (Elt F) f = ac (arg3.view.read (Elt F) X3) (arg4.view.read (Elt F) X4) (arg9.view.read (Elt F) X9) (arg5.view.read (Elt F) X5) (i 1).val (8 * k)⌝)
      ∗ (∃ f, (arg8.view.loc (c : Thread nD τ) ↦[arg8.view.set]{fullShare} f)
          ∗ ⌜View.ld (arg8.view.read (Elt F) f) slot0 = pr (arg3.view.read (Elt F) X3) (arg9.view.read (Elt F) X9) (arg5.view.read (Elt F) X5) (i 1).val (8 * k)⌝))

theorem trip1 (k : Fin k0_t1_loop.trips) :
    inv1 c i arg3 arg4 arg5 arg7 arg8 arg9 X3 X4 X5 X9 k.val
      ⊢ wp frame (wpE (defs₀ (F := F)) 𝒱 (c : Thread nD τ) bd) E (k0_t1_body (F := F) i arg2 harg2 arg3 harg3 arg4 harg4 arg5 harg5 arg6 harg6 arg7 harg7 arg8 harg8 arg9 harg9 arg10 harg10 arg11 harg11 arg12 harg12 arg1 k PUnit.unit)
          (fun _ => inv1 c i arg3 arg4 arg5 arg7 arg8 arg9 X3 X4 X5 X9 (k.val + 1)) := by
  have hk : k.val < 2 := Nat.lt_of_lt_of_le k.isLt k0_t1_abs.2.1
  unfold k0_t1_body inv1
  iintro ⟨H3, H4, H5, H9, ⟨%f7, H7, %h7⟩, ⟨%f8, H8, %h8⟩⟩
  sl_exec
  sl_step
  isplitl [H3]; · iexact H3
  isplitl [H4]; · iexact H4
  isplitl [H5]; · iexact H5
  isplitl [H9]; · iexact H9
  have e0 : ∀ n : ℕ, 8 * k.val + 0 = 8 * k.val := fun _ => rfl
  isplitl [H7]
  · iexists _; isplitl [H7]; · iexact H7
    ipureintro
    rw [rd7w, Nat.mul_succ]
    delta trip1.sl.v301 trip1.sl.H7_7 trip1.sl.v265 trip1.sl.H7_6 trip1.sl.v229 trip1.sl.H7_5 trip1.sl.v193
      trip1.sl.H7_4 trip1.sl.v157 trip1.sl.H7_3 trip1.sl.v121 trip1.sl.H7_2 trip1.sl.v85 trip1.sl.H7_1
      trip1.sl.v305 trip1.sl.v269 trip1.sl.v233 trip1.sl.v197 trip1.sl.v161 trip1.sl.v125 trip1.sl.v89
      trip1.sl.H8_8 trip1.sl.H8_7 trip1.sl.H8_6 trip1.sl.H8_5 trip1.sl.H8_4 trip1.sl.H8_3 trip1.sl.H8_2
      trip1.sl.r_6 trip1.sl.r_5 trip1.sl.r_4 trip1.sl.r_3 trip1.sl.r_2 trip1.sl.r_1 trip1.sl.r
    simp only [View.readCov_cons_toLoadRect, rc_skip01, rc_skip10]
    simp only [pay3_eq, pay12_eq, pay15_eq, pay18_eq, pay21_eq, pay24_eq, pay27_eq, pay30_eq, pay14_eq, pay17_eq, pay19_eq,
      pay22_eq, pay25_eq, pay28_eq, pay31_eq, rd5, rd7, h7]
    rw [rd2 _ _ _ 0#32 _ (by decide), rd2 _ _ _ 1#32 _ (by decide), rd2 _ _ _ 2#32 _ (by decide), rd2 _ _ _ 3#32 _ (by decide),
      rd2 _ _ _ 4#32 _ (by decide), rd2 _ _ _ 5#32 _ (by decide), rd2 _ _ _ 6#32 _ (by decide),
      rd3 _ _ _ _ 0#32 _ (by decide), rd3 _ _ _ _ 1#32 _ (by decide), rd3 _ _ _ _ 2#32 _ (by decide), rd3 _ _ _ _ 3#32 _ (by decide),
      rd3 _ _ _ _ 4#32 _ (by decide), rd3 _ _ _ _ 5#32 _ (by decide), rd3 _ _ _ _ 6#32 _ (by decide),
      rd4 _ _ _ 0#32 _ (by decide), rd4 _ _ _ 1#32 _ (by decide), rd4 _ _ _ 2#32 _ (by decide), rd4 _ _ _ 3#32 _ (by decide),
      rd4 _ _ _ 4#32 _ (by decide), rd4 _ _ _ 5#32 _ (by decide), rd4 _ _ _ 6#32 _ (by decide), rd4 _ _ _ 7#32 _ (by decide)]
    rfl
  iexists _; isplitl [H8]; · iexact H8
  ipureintro
  delta trip1.sl.H8_8
  rw [rd8w, pay3_eq, rd2 _ _ _ 7#32 _ (by decide), rd3 _ _ _ _ 7#32 _ (by decide), rd5]
  rfl
end

/-! ## The second pass, taken where the first pass lost its normaliser -/

/-- The scores of step `n` of query block `i`. -/
def sc (K : Vec F S1x8192x256 .bf16) (Q : Vec F S2x256x4096 .bf16) (i n : ℕ) : Vec F S512x4096 .f32 :=
  k0_pay32 (kCh K n) (qBl Q i)

/-- The running maximum after `n` steps. -/
def rm (K : Vec F S1x8192x256 .bf16) (Q : Vec F S2x256x4096 .bf16) (i : ℕ) : ℕ → Vec F S1x4096 .f32
  | 0 => k0_pay6
  | n + 1 => k0_pay8 (mx (sc K Q i n) (rm K Q i n))

/-- The accumulator after `n` steps. -/
def ra (K : Vec F S1x8192x256 .bf16) (V : Vec F S1x16x144x512 .bf16) (Q : Vec F S2x256x4096 .bf16) (i : ℕ) : ℕ → Vec F S144x4096 .f32
  | 0 => k0_pay7
  | n + 1 => k0_pay48 (al (sc K Q i n) (rm K Q i n)) (vCh V n) (pp (sc K Q i n) (rm K Q i n)) (ra K V Q i n)

theorem off5_eq : ∀ (k : Fin k0_t2_loop.trips), k0_off5 k = ![0, 512 * (k.val % 16), 0] := by decide +kernel
theorem off7_eq : ∀ (k : Fin k0_t2_loop.trips), k0_off7 k = ![0, k.val % 16, 0, 0] := by decide +kernel
theorem off6_eq : ∀ (i : grid0.Coords) (k : Fin k0_t2_loop.trips), k0_off6 i k = ![min (i 1).val 1, 0, 0] := by decide +kernel

section
variable {sp : Space}
theorem rd2' (v : View sig .tc sp S1x8192x256 .bf16) (X : v.ty.Contents (Elt F)) (k : Fin k0_t2_loop.trips) (p) :
    v.readAt (Elt F) (Rect.unit (s := S1x8192x256) (k0_off5 k) ![1, 512, 256] p).toLoadRect X = kCh (v.read (Elt F) X) k.val :=
  ld_off _ (off5_eq k) _ _
theorem rd4' (v : View sig .tc sp S1x16x144x512 .bf16) (X : v.ty.Contents (Elt F)) (k : Fin k0_t2_loop.trips) (p) :
    v.readAt (Elt F) (Rect.unit (s := S1x16x144x512) (k0_off7 k) ![1, 1, 144, 512] p).toLoadRect X = vCh (v.read (Elt F) X) k.val :=
  ld_off _ (off7_eq k) _ _
theorem rd3' (v : View sig .tc sp S2x256x4096 .bf16) (X : v.ty.Contents (Elt F)) (i : grid0.Coords) (k : Fin k0_t2_loop.trips) (p) :
    v.readAt (Elt F) (Rect.unit (s := S2x256x4096) (k0_off6 i k) ![1, 256, 4096] p).toLoadRect X = qBl (v.read (Elt F) X) (i 1).val :=
  ld_off _ (off6_eq i k) _ _
theorem rd11 (v : View sig .tc sp S512x4096 .f32) (w) (p) (o) (h) :
    v.readCov (Val := Elt F) [⟨Rect.unit (s := S512x4096) ![0, 0] ![512, 4096] p, w⟩] (Rect.unit (s := S512x4096) ![o, 0] ![64, 4096] h).toLoadRect
      = View.ld w (rw64 o h) := by
  rw [View.readCov_eq_canon']
  exact congrArg (fun X => View.ld X (rw64 o h)) (View.canon_unit_zero (by funext a; fin_cases a <;> rfl) p w)
theorem rd12 (v : View sig .tc sp S512x4096 .bf16) (L) (p) :
    v.readCov (Val := Elt F) L (Rect.unit (s := S512x4096) ![0, 0] ![512, 4096] p).toLoadRect = View.canon L := by
  rw [View.readCov_eq_canon']
  exact View.ld_unit_zero (by funext a; fin_cases a <;> rfl) p _
end

section
variable (𝒱 : Variants) (c : Dev nD) (bd : Option 𝒱.V) (E : Set ℕ) (i : grid0.Coords) (arg2 : Memref sig .tc .vmem S1x16x256x512 .bf16) (harg2 : arg2.IsWhole) (arg3 : Memref sig .tc .vmem S1x8192x256 .bf16) (harg3 : arg3.IsWhole) (arg4 : Memref sig .tc .vmem S1x16x144x512 .bf16) (harg4 : arg4.IsWhole) (arg5 : Memref sig .tc .vmem S1x4096 .f32) (harg5 : arg5.IsWhole) (arg6 : Memref sig .tc .vmem S4096x128 .bf16) (harg6 : arg6.IsWhole) (arg7 : Memref sig .tc .vmem S144x4096 .f32) (harg7 : arg7.IsWhole) (arg8 : Memref sig .tc .vmem S2x512x4096 .bf16) (harg8 : arg8.IsWhole) (arg9 : Memref sig .tc .vmem S2x256x4096 .bf16) (harg9 : arg9.IsWhole) (arg10 : Memref sig .tc .vmem S1x4096 .f32) (harg10 : arg10.IsWhole) (arg11 : Memref sig .tc .vmem S512x4096 .f32) (harg11 : arg11.IsWhole) (arg12 : Memref sig .tc .vmem S512x4096 .bf16) (harg12 : arg12.IsWhole) (arg1 : BitVec 32)
  (X3 : BufTy.Contents (Elt F) arg3.view.ty) (X4 : BufTy.Contents (Elt F) arg4.view.ty) (X9 : BufTy.Contents (Elt F) arg9.view.ty)

/-- The second loop before trip `k`. -/
def inv2 (k : ℕ) : sProp 𝕄 :=
  iprop((arg3.view.loc (c : Thread nD τ) ↦[arg3.view.set]{fullShare} X3) ∗ (arg4.view.loc (c : Thread nD τ) ↦[arg4.view.set]{fullShare} X4)
      ∗ (arg9.view.loc (c : Thread nD τ) ↦[arg9.view.set]{fullShare} X9)
      ∗ (∃ f, (arg7.view.loc (c : Thread nD τ) ↦[arg7.view.set]{fullShare} f)
          ∗ ⌜arg7.view.read (Elt F) f = ra (arg3.view.read (Elt F) X3) (arg4.view.read (Elt F) X4) (arg9.view.read (Elt F) X9) (i 1).val k⌝)
      ∗ (∃ f, (arg10.view.loc (c : Thread nD τ) ↦[arg10.view.set]{fullShare} f)
          ∗ ⌜arg10.view.read (Elt F) f = rm (arg3.view.read (Elt F) X3) (arg9.view.read (Elt F) X9) (i 1).val k⌝)
      ∗ (∃ f, arg11.view.loc (c : Thread nD τ) ↦[arg11.view.set]{fullShare} f)
      ∗ (∃ f, arg12.view.loc (c : Thread nD τ) ↦[arg12.view.set]{fullShare} f))

theorem trip2 (k : Fin k0_t2_loop.trips) :
    inv2 c i arg3 arg4 arg7 arg9 arg10 arg11 arg12 X3 X4 X9 k.val
      ⊢ wp frame (wpE (defs₀ (F := F)) 𝒱 (c : Thread nD τ) bd) E (k0_t2_body (F := F) i arg2 harg2 arg3 harg3 arg4 harg4 arg5 harg5 arg6 harg6 arg7 harg7 arg8 harg8 arg9 harg9 arg10 harg10 arg11 harg11 arg12 harg12 arg1 k PUnit.unit)
          (fun _ => inv2 c i arg3 arg4 arg7 arg9 arg10 arg11 arg12 X3 X4 X9 (k.val + 1)) := by
  have hk : k.val < 16 := Nat.lt_of_lt_of_le k.isLt k0_t2_abs.2.1
  unfold k0_t2_body inv2
  iintro ⟨H3, H4, H9, ⟨%f7, H7, %h7⟩, ⟨%f10, H10, %h10⟩, ⟨%f11, H11⟩, ⟨%f12, H12⟩⟩
  sl_exec
  sl_step
  isplitl [H3]; · iexact H3
  isplitl [H4]; · iexact H4
  isplitl [H9]; · iexact H9
  isplitl [H7]
  · iexists _; isplitl [H7]; · iexact H7
    ipureintro
    rw [rd7w, rd7, h7]
    delta trip2.sl.r_3 trip2.sl.v172 trip2.sl.H12_8 trip2.sl.r_6 trip2.sl.r_5 trip2.sl.r_4 trip2.sl.r_2 trip2.sl.r_1 trip2.sl.r
      trip2.sl.v49 trip2.sl.v52 trip2.sl.v56 trip2.sl.v60 trip2.sl.v64 trip2.sl.v68 trip2.sl.v72 trip2.sl.v76 trip2.sl.H11_1
    simp only [rd11, rd12, rd5, rd2', rd3', rd4', h10]
    rfl
  isplitl [H10]
  · iexists _; isplitl [H10]; · iexact H10
    ipureintro
    rw [rd5w]
    delta trip2.sl.r_2 trip2.sl.r_1 trip2.sl.r
      trip2.sl.v49 trip2.sl.v52 trip2.sl.v56 trip2.sl.v60 trip2.sl.v64 trip2.sl.v68 trip2.sl.v72 trip2.sl.v76 trip2.sl.H11_1
    simp only [rd11, rd12, rd5, rd2', rd3', rd4', h10]
    rfl
  isplitl [H11]
  · iexists _; iexact H11
  iexists _; iexact H12
end

/-! ## The body -/

/-- The two blocks of queries, each eight tiles side by side. -/
def qq (Q : Vec F S1x16x256x512 .bf16) : Vec F S2x256x4096 .bf16 :=
  View.canon (Val := Elt F) (e := .bf16)
    [⟨Rect.unit (s := S2x256x4096) ![1, 0, 0] S1x256x4096.size inb_S2x256x4096_S1x256x4096_1_0_0,
      k0_pay11 (View.ld Q (Rect.unit (s := S1x16x256x512) ![0, 8, 0, 0] S1x1x256x512.size inb_S1x16x256x512_S1x1x256x512_0_8_0_0))
        (View.ld Q (Rect.unit (s := S1x16x256x512) ![0, 9, 0, 0] S1x1x256x512.size inb_S1x16x256x512_S1x1x256x512_0_9_0_0))
        (View.ld Q (Rect.unit (s := S1x16x256x512) ![0, 10, 0, 0] S1x1x256x512.size inb_S1x16x256x512_S1x1x256x512_0_10_0_0))
        (View.ld Q (Rect.unit (s := S1x16x256x512) ![0, 11, 0, 0] S1x1x256x512.size inb_S1x16x256x512_S1x1x256x512_0_11_0_0))
        (View.ld Q (Rect.unit (s := S1x16x256x512) ![0, 12, 0, 0] S1x1x256x512.size inb_S1x16x256x512_S1x1x256x512_0_12_0_0))
        (View.ld Q (Rect.unit (s := S1x16x256x512) ![0, 13, 0, 0] S1x1x256x512.size inb_S1x16x256x512_S1x1x256x512_0_13_0_0))
        (View.ld Q (Rect.unit (s := S1x16x256x512) ![0, 14, 0, 0] S1x1x256x512.size inb_S1x16x256x512_S1x1x256x512_0_14_0_0))
        (View.ld Q (Rect.unit (s := S1x16x256x512) ![0, 15, 0, 0] S1x1x256x512.size inb_S1x16x256x512_S1x1x256x512_0_15_0_0))⟩,
     ⟨Rect.unit (s := S2x256x4096) ![0, 0, 0] S1x256x4096.size inb_S2x256x4096_S1x256x4096_0_0_0,
      k0_pay10 (View.ld Q (Rect.unit (s := S1x16x256x512) ![0, 0, 0, 0] S1x1x256x512.size inb_S1x16x256x512_S1x1x256x512_0_0_0_0))
        (View.ld Q (Rect.unit (s := S1x16x256x512) ![0, 1, 0, 0] S1x1x256x512.size inb_S1x16x256x512_S1x1x256x512_0_1_0_0))
        (View.ld Q (Rect.unit (s := S1x16x256x512) ![0, 2, 0, 0] S1x1x256x512.size inb_S1x16x256x512_S1x1x256x512_0_2_0_0))
        (View.ld Q (Rect.unit (s := S1x16x256x512) ![0, 3, 0, 0] S1x1x256x512.size inb_S1x16x256x512_S1x1x256x512_0_3_0_0))
        (View.ld Q (Rect.unit (s := S1x16x256x512) ![0, 4, 0, 0] S1x1x256x512.size inb_S1x16x256x512_S1x1x256x512_0_4_0_0))
        (View.ld Q (Rect.unit (s := S1x16x256x512) ![0, 5, 0, 0] S1x1x256x512.size inb_S1x16x256x512_S1x1x256x512_0_5_0_0))
        (View.ld Q (Rect.unit (s := S1x16x256x512) ![0, 6, 0, 0] S1x1x256x512.size inb_S1x16x256x512_S1x1x256x512_0_6_0_0))
        (View.ld Q (Rect.unit (s := S1x16x256x512) ![0, 7, 0, 0] S1x1x256x512.size inb_S1x16x256x512_S1x1x256x512_0_7_0_0))⟩]

/-- The accumulator the output is read from. -/
def fin (K : Vec F S1x8192x256 .bf16) (V : Vec F S1x16x144x512 .bf16) (Q : Vec F S2x256x4096 .bf16) (s : Vec F S1x4096 .f32) (i : ℕ) :
    Vec F S144x4096 .f32 :=
  if bad (nrm (ac K V Q s i 16)) = 1#1 then ra K V Q i 16 else ac K V Q s i 16

/-- The block of the result. -/
def oBlk (K : Vec F S1x8192x256 .bf16) (V : Vec F S1x16x144x512 .bf16) (Q : Vec F S2x256x4096 .bf16) (s : Vec F S1x4096 .f32) (i : ℕ) :
    Vec F S4096x128 .bf16 :=
  k0_pay9 (top (fin K V Q s i)) (nrm (fin K V Q s i))

theorem off1_eq : ∀ i : grid0.Coords, k0_cond1 i = 1#1 → k0_off1 i = ![min ((i 1).val + 0 / 16) 1, 0, 0] := by decide +kernel
theorem cond1_eq : ∀ i : grid0.Coords, k0_cond1 i = 1#1 ↔ (i 1).val = 0 := by decide +kernel

section
variable (𝒱 : Variants) (c : Dev nD) (bd : Option 𝒱.V) (E : Set ℕ) (i : grid0.Coords) (arg2 : Memref sig .tc .vmem S1x16x256x512 .bf16) (harg2 : arg2.IsWhole) (arg3 : Memref sig .tc .vmem S1x8192x256 .bf16) (harg3 : arg3.IsWhole) (arg4 : Memref sig .tc .vmem S1x16x144x512 .bf16) (harg4 : arg4.IsWhole) (arg5 : Memref sig .tc .vmem S1x4096 .f32) (harg5 : arg5.IsWhole) (arg6 : Memref sig .tc .vmem S4096x128 .bf16) (harg6 : arg6.IsWhole) (arg7 : Memref sig .tc .vmem S144x4096 .f32) (harg7 : arg7.IsWhole) (arg8 : Memref sig .tc .vmem S2x512x4096 .bf16) (harg8 : arg8.IsWhole) (arg9 : Memref sig .tc .vmem S2x256x4096 .bf16) (harg9 : arg9.IsWhole) (arg10 : Memref sig .tc .vmem S1x4096 .f32) (harg10 : arg10.IsWhole) (arg11 : Memref sig .tc .vmem S512x4096 .f32) (harg11 : arg11.IsWhole) (arg12 : Memref sig .tc .vmem S512x4096 .bf16) (harg12 : arg12.IsWhole) (arg1 : BitVec 32)
  (X2 : BufTy.Contents (Elt F) arg2.view.ty) (X3 : BufTy.Contents (Elt F) arg3.view.ty) (X4 : BufTy.Contents (Elt F) arg4.view.ty) (X5 : BufTy.Contents (Elt F) arg5.view.ty)
  (X9 : BufTy.Contents (Elt F) arg9.view.ty)

/-- What the body finds besides the scratch of the queries and the weights. -/
def bPre : sProp 𝕄 :=
  iprop((arg2.view.loc (c : Thread nD τ) ↦[arg2.view.set]{fullShare} X2) ∗ (arg3.view.loc (c : Thread nD τ) ↦[arg3.view.set]{fullShare} X3)
      ∗ (arg4.view.loc (c : Thread nD τ) ↦[arg4.view.set]{fullShare} X4) ∗ (arg5.view.loc (c : Thread nD τ) ↦[arg5.view.set]{fullShare} X5)
      ∗ (∃ f, arg6.view.loc (c : Thread nD τ) ↦[arg6.view.set]{fullShare} f) ∗ (∃ f, arg7.view.loc (c : Thread nD τ) ↦[arg7.view.set]{fullShare} f)
      ∗ (∃ f, arg10.view.loc (c : Thread nD τ) ↦[arg10.view.set]{fullShare} f)
      ∗ (∃ f, arg11.view.loc (c : Thread nD τ) ↦[arg11.view.set]{fullShare} f) ∗ (∃ f, arg12.view.loc (c : Thread nD τ) ↦[arg12.view.set]{fullShare} f))

/-- What the body leaves. -/
def bPost (Q : Vec F S2x256x4096 .bf16) : sProp 𝕄 :=
  iprop((arg2.view.loc (c : Thread nD τ) ↦[arg2.view.set]{fullShare} X2) ∗ (arg3.view.loc (c : Thread nD τ) ↦[arg3.view.set]{fullShare} X3)
      ∗ (arg4.view.loc (c : Thread nD τ) ↦[arg4.view.set]{fullShare} X4) ∗ (arg5.view.loc (c : Thread nD τ) ↦[arg5.view.set]{fullShare} X5)
      ∗ (∃ f, (arg6.view.loc (c : Thread nD τ) ↦[arg6.view.set]{fullShare} f)
          ∗ ⌜arg6.view.read (Elt F) f = oBlk (arg3.view.read (Elt F) X3) (arg4.view.read (Elt F) X4) Q (arg5.view.read (Elt F) X5) (i 1).val⌝)
      ∗ (∃ f, arg7.view.loc (c : Thread nD τ) ↦[arg7.view.set]{fullShare} f)
      ∗ (∃ f, (arg8.view.loc (c : Thread nD τ) ↦[arg8.view.set]{fullShare} f)
          ∗ ⌜View.ld (arg8.view.read (Elt F) f) slot0 = pr (arg3.view.read (Elt F) X3) Q (arg5.view.read (Elt F) X5) (i 1).val 16⌝)
      ∗ (∃ f, (arg9.view.loc (c : Thread nD τ) ↦[arg9.view.set]{fullShare} f) ∗ ⌜arg9.view.read (Elt F) f = Q⌝)
      ∗ (∃ f, arg10.view.loc (c : Thread nD τ) ↦[arg10.view.set]{fullShare} f)
      ∗ (∃ f, arg11.view.loc (c : Thread nD τ) ↦[arg11.view.set]{fullShare} f) ∗ (∃ f, arg12.view.loc (c : Thread nD τ) ↦[arg12.view.set]{fullShare} f))

/-- The first loop before trip `k`, the scratch of the queries holding `Q`. -/
def invA (Q : Vec F S2x256x4096 .bf16) (k : ℕ) : sProp 𝕄 :=
  iprop(∃ X9, ⌜arg9.view.read (Elt F) X9 = Q⌝ ∗ inv1 c i arg3 arg4 arg5 arg7 arg8 arg9 X3 X4 X5 X9 k)

theorem tripA (Q : Vec F S2x256x4096 .bf16) (k : Fin k0_t1_loop.trips) :
    invA c i arg3 arg4 arg5 arg7 arg8 arg9 X3 X4 X5 Q k.val
      ⊢ wp frame (wpE (defs₀ (F := F)) 𝒱 (c : Thread nD τ) bd) E (k0_t1_body (F := F) i arg2 harg2 arg3 harg3 arg4 harg4 arg5 harg5 arg6 harg6 arg7 harg7 arg8 harg8 arg9 harg9 arg10 harg10 arg11 harg11 arg12 harg12 arg1 k PUnit.unit)
          (fun _ => invA c i arg3 arg4 arg5 arg7 arg8 arg9 X3 X4 X5 Q (k.val + 1)) := by
  unfold invA
  iintro ⟨%X9, %hQ, H⟩
  iapply (wp_wand_r Idealize.ShloMosaic.frame (wpE (defs₀ (F := F)) 𝒱 (c : Thread nD τ) bd) E)
  isplitl [H]
  · iapply (trip1 𝒱 c bd E i arg2 harg2 arg3 harg3 arg4 harg4 arg5 harg5 arg6 harg6 arg7 harg7 arg8 harg8 arg9 harg9 arg10 harg10 arg11 harg11 arg12 harg12 arg1 X3 X4 X5 X9 k)
    iexact H
  iintro %v H
  iexists X9
  isplitr; · ipureintro; exact hQ
  iexact H

theorem body1 (h1 : ¬ k0_cond1 i = 1#1) :
    iprop(bPre c arg2 arg3 arg4 arg5 arg6 arg7 arg10 arg11 arg12 X2 X3 X4 X5
        ∗ (∃ f, (arg8.view.loc (c : Thread nD τ) ↦[arg8.view.set]{fullShare} f)
          ∗ ⌜View.ld (arg8.view.read (Elt F) f) slot0 = pr (arg3.view.read (Elt F) X3) (arg9.view.read (Elt F) X9) (arg5.view.read (Elt F) X5) (i 1).val 0⌝)
        ∗ (arg9.view.loc (c : Thread nD τ) ↦[arg9.view.set]{fullShare} X9))
      ⊢ wp frame (wpE (defs₀ (F := F)) 𝒱 (c : Thread nD τ) bd) E (cc0_attn_c (F := F) i arg2 harg2 arg3 harg3 arg4 harg4 arg5 harg5 arg6 harg6 arg7 harg7 arg8 harg8 arg9 harg9 arg10 harg10 arg11 harg11 arg12 harg12)
          (fun _ => bPost c i arg2 arg3 arg4 arg5 arg6 arg7 arg8 arg9 arg10 arg11 arg12 X2 X3 X4 X5 (arg9.view.read (Elt F) X9)) := by
  rw [cc0_attn_c_eq_skeleton]
  unfold cc0_attn_c_skel bPre bPost
  iintro ⟨⟨H2, H3, H4, H5, ⟨%f6, H6⟩, ⟨%f7, H7⟩, ⟨%f10, H10⟩, ⟨%f11, H11⟩, ⟨%f12, H12⟩⟩, ⟨%f8, H8, %h8⟩, H9⟩
  sl_exec
  sl_for (fun k _ => invA c i arg3 arg4 arg5 arg7 arg8 arg9 X3 X4 X5 (arg9.view.read (Elt F) X9) k) $$ [H3 H4 H5 H7 H8 H9]
  · intro k acc
    exact tripA 𝒱 c bd E i arg2 harg2 arg3 harg3 arg4 harg4 arg5 harg5 arg6 harg6 arg7 harg7 arg8 harg8 arg9 harg9 arg10 harg10 arg11 harg11 arg12 harg12 (BitVec.ofNat 32 (i 1).val) X3 X4 X5 (arg9.view.read (Elt F) X9) k
  · unfold invA inv1
    iexists _
    isplitr
    swap
    · isplitl [H3]; · iexact H3
      isplitl [H4]; · iexact H4
      isplitl [H5]; · iexact H5
      isplitl [H9]; · iexact H9
      isplitl [H7]
      · iexists _; isplitl [H7]; · iexact H7
        ipureintro
        delta body1.sl.H7_1
        exact rd7w _ _ _ _ _
      iexists _; isplitl [H8]; · iexact H8
      ipureintro
      exact h8
    ipureintro
    rfl
  unfold invA inv1
  iintro %acc ⟨%Y9, %hQ, H3, H4, H5, H9, ⟨%g7, H7, %e7⟩, ⟨%g8, H8, %e8⟩⟩
  rw [← hQ]
  replace e7 : arg7.view.read (Elt F) g7 = ac (arg3.view.read (Elt F) X3) (arg4.view.read (Elt F) X4) (arg9.view.read (Elt F) Y9) (arg5.view.read (Elt F) X5) (i 1).val 16 := e7
  replace e8 : View.ld (arg8.view.read (Elt F) g8) slot0 = pr (arg3.view.read (Elt F) X3) (arg9.view.read (Elt F) Y9) (arg5.view.read (Elt F) X5) (i 1).val 16 := e8
  by_cases hb : bad (nrm (arg7.view.read (Elt F) g7)) = 1#1
  · have hb' : Scalar.cmpi .ne (Scalar.extui (Scalar.xori (Scalar.cmpf .oge (k0_pay5 (arg7.view.readAt (Elt F) (Rect.unit (s := S144x4096) ![128, 0] S1x4096.size inb_S144x4096_S1x4096_128_0).toLoadRect g7)) (Scalar.ofBits .f32 0x21800000#32)) 1#1) : BitVec 32) 0#32 = 1#1 := hb
    sl_exec
    sl_for (fun k _ => inv2 c i arg3 arg4 arg7 arg9 arg10 arg11 arg12 X3 X4 Y9 k) $$ [H3 H4 H7 H9 H10 H11 H12]
    · intro k acc
      exact trip2 𝒱 c bd E i arg2 harg2 arg3 harg3 arg4 harg4 arg5 harg5 arg6 harg6 arg7 harg7 arg8 harg8 arg9 harg9 arg10 harg10 arg11 harg11 arg12 harg12 (BitVec.ofNat 32 (i 1).val) X3 X4 Y9 k
    · unfold inv2
      isplitl [H3]; · iexact H3
      isplitl [H4]; · iexact H4
      isplitl [H9]; · iexact H9
      isplitl [H7]
      · iexists _; isplitl [H7]; · iexact H7
        ipureintro
        exact rd7w _ _ _ _ _
      isplitl [H10]
      · iexists _; isplitl [H10]; · iexact H10
        ipureintro
        exact rd5w _ _ _ _ _
      isplitl [H11]; · iexists _; iexact H11
      iexists _; iexact H12
    unfold inv2
    iintro %acc2 ⟨H3, H4, H9, ⟨%u7, H7, %d7⟩, ⟨%u10, H10, %d10⟩, ⟨%u11, H11⟩, ⟨%u12, H12⟩⟩
    replace d7 : arg7.view.read (Elt F) u7 = ra (arg3.view.read (Elt F) X3) (arg4.view.read (Elt F) X4) (arg9.view.read (Elt F) Y9) (i 1).val 16 := d7
    sl_exec
    sl_step
    isplitl [H2]; · iexact H2
    isplitl [H3]; · iexact H3
    isplitl [H4]; · iexact H4
    isplitl [H5]; · iexact H5
    isplitl [H6]
    · iexists _; isplitl [H6]; · iexact H6
      ipureintro
      rw [rd6w]
      rw [e7] at hb
      unfold oBlk fin
      rw [if_pos hb, ← d7]
      rfl
    isplitl [H7]; · iexists _; iexact H7
    isplitl [H8]
    · iexists _; isplitl [H8]; · iexact H8
      ipureintro; exact e8
    isplitl [H9]
    · iexists _; isplitl [H9]; · iexact H9
      ipureintro; rfl
    isplitl [H10]; · iexists _; iexact H10
    isplitl [H11]; · iexists _; iexact H11
    iexists _; iexact H12
  · have hb' : ¬ Scalar.cmpi .ne (Scalar.extui (Scalar.xori (Scalar.cmpf .oge (k0_pay5 (arg7.view.readAt (Elt F) (Rect.unit (s := S144x4096) ![128, 0] S1x4096.size inb_S144x4096_S1x4096_128_0).toLoadRect g7)) (Scalar.ofBits .f32 0x21800000#32)) 1#1) : BitVec 32) 0#32 = 1#1 := hb
    sl_exec
    sl_step
    isplitl [H2]; · iexact H2
    isplitl [H3]; · iexact H3
    isplitl [H4]; · iexact H4
    isplitl [H5]; · iexact H5
    isplitl [H6]
    · iexists _; isplitl [H6]; · iexact H6
      ipureintro
      rw [rd6w]
      rw [e7] at hb
      unfold oBlk fin
      rw [if_neg hb, ← e7]
      rfl
    isplitl [H7]; · iexists _; iexact H7
    isplitl [H8]
    · iexists _; isplitl [H8]; · iexact H8
      ipureintro; exact e8
    isplitl [H9]
    · iexists _; isplitl [H9]; · iexact H9
      ipureintro; rfl
    isplitl [H10]; · iexists _; iexact H10
    isplitl [H11]; · iexists _; iexact H11
    iexists _; iexact H12

theorem body0 (h1 : k0_cond1 i = 1#1) :
    iprop(bPre c arg2 arg3 arg4 arg5 arg6 arg7 arg10 arg11 arg12 X2 X3 X4 X5
        ∗ (∃ f, arg8.view.loc (c : Thread nD τ) ↦[arg8.view.set]{fullShare} f)
        ∗ (∃ f, arg9.view.loc (c : Thread nD τ) ↦[arg9.view.set]{fullShare} f))
      ⊢ wp frame (wpE (defs₀ (F := F)) 𝒱 (c : Thread nD τ) bd) E (cc0_attn_c (F := F) i arg2 harg2 arg3 harg3 arg4 harg4 arg5 harg5 arg6 harg6 arg7 harg7 arg8 harg8 arg9 harg9 arg10 harg10 arg11 harg11 arg12 harg12)
          (fun _ => bPost c i arg2 arg3 arg4 arg5 arg6 arg7 arg8 arg9 arg10 arg11 arg12 X2 X3 X4 X5 (qq (arg2.view.read (Elt F) X2))) := by
  rw [cc0_attn_c_eq_skeleton]
  unfold cc0_attn_c_skel bPre bPost
  iintro ⟨⟨H2, H3, H4, H5, ⟨%f6, H6⟩, ⟨%f7, H7⟩, ⟨%f10, H10⟩, ⟨%f11, H11⟩, ⟨%f12, H12⟩⟩, ⟨%f8, H8⟩, ⟨%f9, H9⟩⟩
  sl_exec
  sl_for (fun k _ => invA c i arg3 arg4 arg5 arg7 arg8 arg9 X3 X4 X5 (qq (arg2.view.read (Elt F) X2)) k) $$ [H3 H4 H5 H7 H8 H9]
  · intro k acc
    exact tripA 𝒱 c bd E i arg2 harg2 arg3 harg3 arg4 harg4 arg5 harg5 arg6 harg6 arg7 harg7 arg8 harg8 arg9 harg9 arg10 harg10 arg11 harg11 arg12 harg12 (BitVec.ofNat 32 (i 1).val) X3 X4 X5 (qq (arg2.view.read (Elt F) X2)) k
  · unfold invA inv1
    iexists _
    isplitr
    swap
    · isplitl [H3]; · iexact H3
      isplitl [H4]; · iexact H4
      isplitl [H5]; · iexact H5
      isplitl [H9]; · iexact H9
      isplitl [H7]
      · iexists _; isplitl [H7]; · iexact H7
        ipureintro
        delta body0.sl.H7_1
        exact rd7w _ _ _ _ _
      iexists _; isplitl [H8]; · iexact H8
      ipureintro
      rw [rd8w, rd5]
      exact congr (congrArg k0_pay1 rfl) (ld_off _ (off1_eq i h1) _ _) |> fun e => congrFun e _
    ipureintro
    delta body0.sl.H9_2
    exact View.read_writes_eq_canon _ _ _ (View.cover_of_tiledL _ S1x256x4096.size (by sl_kernel_rfl))
  unfold invA inv1
  iintro %acc ⟨%X9, %hQ, H3, H4, H5, H9, ⟨%g7, H7, %e7⟩, ⟨%g8, H8, %e8⟩⟩
  rw [← hQ]
  replace e7 : arg7.view.read (Elt F) g7 = ac (arg3.view.read (Elt F) X3) (arg4.view.read (Elt F) X4) (arg9.view.read (Elt F) X9) (arg5.view.read (Elt F) X5) (i 1).val 16 := e7
  replace e8 : View.ld (arg8.view.read (Elt F) g8) slot0 = pr (arg3.view.read (Elt F) X3) (arg9.view.read (Elt F) X9) (arg5.view.read (Elt F) X5) (i 1).val 16 := e8
  by_cases hb : bad (nrm (arg7.view.read (Elt F) g7)) = 1#1
  · have hb' : Scalar.cmpi .ne (Scalar.extui (Scalar.xori (Scalar.cmpf .oge (k0_pay5 (arg7.view.readAt (Elt F) (Rect.unit (s := S144x4096) ![128, 0] S1x4096.size inb_S144x4096_S1x4096_128_0).toLoadRect g7)) (Scalar.ofBits .f32 0x21800000#32)) 1#1) : BitVec 32) 0#32 = 1#1 := hb
    sl_exec
    sl_for (fun k _ => inv2 c i arg3 arg4 arg7 arg9 arg10 arg11 arg12 X3 X4 X9 k) $$ [H3 H4 H7 H9 H10 H11 H12]
    · intro k acc
      exact trip2 𝒱 c bd E i arg2 harg2 arg3 harg3 arg4 harg4 arg5 harg5 arg6 harg6 arg7 harg7 arg8 harg8 arg9 harg9 arg10 harg10 arg11 harg11 arg12 harg12 (BitVec.ofNat 32 (i 1).val) X3 X4 X9 k
    · unfold inv2
      isplitl [H3]; · iexact H3
      isplitl [H4]; · iexact H4
      isplitl [H9]; · iexact H9
      isplitl [H7]
      · iexists _; isplitl [H7]; · iexact H7
        ipureintro
        exact rd7w _ _ _ _ _
      isplitl [H10]
      · iexists _; isplitl [H10]; · iexact H10
        ipureintro
        exact rd5w _ _ _ _ _
      isplitl [H11]; · iexists _; iexact H11
      iexists _; iexact H12
    unfold inv2
    iintro %acc2 ⟨H3, H4, H9, ⟨%u7, H7, %d7⟩, ⟨%u10, H10, %d10⟩, ⟨%u11, H11⟩, ⟨%u12, H12⟩⟩
    replace d7 : arg7.view.read (Elt F) u7 = ra (arg3.view.read (Elt F) X3) (arg4.view.read (Elt F) X4) (arg9.view.read (Elt F) X9) (i 1).val 16 := d7
    sl_exec
    sl_step
    isplitl [H2]; · iexact H2
    isplitl [H3]; · iexact H3
    isplitl [H4]; · iexact H4
    isplitl [H5]; · iexact H5
    isplitl [H6]
    · iexists _; isplitl [H6]; · iexact H6
      ipureintro
      rw [rd6w]
      rw [e7] at hb
      unfold oBlk fin
      rw [if_pos hb, ← d7]
      rfl
    isplitl [H7]; · iexists _; iexact H7
    isplitl [H8]
    · iexists _; isplitl [H8]; · iexact H8
      ipureintro; exact e8
    isplitl [H9]
    · iexists _; isplitl [H9]; · iexact H9
      ipureintro; rfl
    isplitl [H10]; · iexists _; iexact H10
    isplitl [H11]; · iexists _; iexact H11
    iexists _; iexact H12
  · have hb' : ¬ Scalar.cmpi .ne (Scalar.extui (Scalar.xori (Scalar.cmpf .oge (k0_pay5 (arg7.view.readAt (Elt F) (Rect.unit (s := S144x4096) ![128, 0] S1x4096.size inb_S144x4096_S1x4096_128_0).toLoadRect g7)) (Scalar.ofBits .f32 0x21800000#32)) 1#1) : BitVec 32) 0#32 = 1#1 := hb
    sl_exec
    sl_step
    isplitl [H2]; · iexact H2
    isplitl [H3]; · iexact H3
    isplitl [H4]; · iexact H4
    isplitl [H5]; · iexact H5
    isplitl [H6]
    · iexists _; isplitl [H6]; · iexact H6
      ipureintro
      rw [rd6w]
      rw [e7] at hb
      unfold oBlk fin
      rw [if_neg hb, ← e7]
      rfl
    isplitl [H7]; · iexists _; iexact H7
    isplitl [H8]
    · iexists _; isplitl [H8]; · iexact H8
      ipureintro; exact e8
    isplitl [H9]
    · iexists _; isplitl [H9]; · iexact H9
      ipureintro; rfl
    isplitl [H10]; · iexists _; iexact H10
    isplitl [H11]; · iexists _; iexact H11
    iexists _; iexact H12

end

end Cert.KernelLatIdeal.Hand
end
-- ==== Proof.LatRunI.lean ====
module

public import proofs.«01_k».proof.Proof.LatI
public import Idealize.ShloMosaic.Lib.Pipeline.ValueKit
public import Idealize.ShloMosaic.Lib.Pipeline.Quiescent

@[expose] public section

set_option maxRecDepth 16384

noncomputable section

namespace Cert.KernelLatIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelLatIdeal.Gen
open Cert.KernelIdeal.Hand (slot0)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The blocks at a point -/

abbrev qB (c : Dev nD) (t : Fin cfg0.N) : Vec F S1x16x256x512 .bf16 := iblk m c 0 t
abbrev kB (c : Dev nD) (t : Fin cfg0.N) : Vec F S1x8192x256 .bf16 := iblk m c 1 t
abbrev vB (c : Dev nD) (t : Fin cfg0.N) : Vec F S1x16x144x512 .bf16 := iblk m c 2 t
abbrev sB (c : Dev nD) (t : Fin cfg0.N) : Vec F S1x4096 .f32 := iblk m c 3 t

/-- The result's block at point `t`. -/
def outAt (c : Dev nD) (t : Fin cfg0.N) : Vec F S4096x128 .bf16 :=
  oBlk (kB m c t) (vB m c t) (qq (qB m c t)) (sB m c t) (grid0.coords t 1).val

/-- Buffer `b` held whole, at something. -/
def anyB (c : Dev nD) (b : Ref sig .tc) : sProp 𝕄 :=
  iprop(∃ f, (Memref.whole b).view.loc (c : Thread nD τ) ↦[(Memref.whole b).view.set]{fullShare} f)

theorem anyB_eq (c : Dev nD) (b : Ref sig .tc) :
    (anyB c b : sProp 𝕄) = iprop(∃ f : Buf (Elt F) ((c : Thread nD τ).loc b), ((c : Thread nD τ).loc b) ↦{fullShare} f) := by
  unfold anyB
  rw [show (Memref.whole b).view.set = Finset.univ from View.set_whole b]

theorem scratch_eq (c : Dev nD) : (Pipeline.scopedRest spec0 c : sProp 𝕄)
    = iprop(anyB c cc0_scratch0 ∗ anyB c cc0_scratch1 ∗ anyB c cc0_scratch2 ∗ anyB c cc0_scratch3 ∗ anyB c cc0_scratch4 ∗ anyB c cc0_scratch5) := by
  simp only [scopedRest0_eq, anyB_eq]

/-- The scratch between the two points of a head: the queries and the first weights of the second query block. -/
def ΦB (c : Dev nD) (t : Fin cfg0.N) : sProp 𝕄 :=
  iprop((anyB c cc0_scratch0
      ∗ (∃ f, ((Memref.whole cc0_scratch1).view.loc (c : Thread nD τ) ↦[(Memref.whole cc0_scratch1).view.set]{fullShare} f)
          ∗ ⌜View.ld ((Memref.whole cc0_scratch1).view.read (Elt F) f) slot0 = pr (kB m c t) (qq (qB m c t)) (sB m c t) 1 0⌝)
      ∗ (∃ f, ((Memref.whole cc0_scratch2).view.loc (c : Thread nD τ) ↦[(Memref.whole cc0_scratch2).view.set]{fullShare} f)
          ∗ ⌜(Memref.whole cc0_scratch2).view.read (Elt F) f = qq (qB m c t)⌝)
      ∗ anyB c cc0_scratch3
      ∗ anyB c cc0_scratch4
      ∗ anyB c cc0_scratch5)
    ∗ ∃ r, prngReg c r)

/-- The scratch before point `t`. -/
def ΦI (c : Dev nD) (t : ℕ) : sProp 𝕄 :=
  if h : t % 2 = 1 ∧ t < cfg0.N then ΦB m c ⟨t, h.2⟩ else Pipeline.ΦA spec0 c

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
  Φ t := ΦI m c t.val
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = outAt m c t := by dsimp only [dats]

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

theorem coord1 : ∀ t : Fin grid0.N, (grid0.coords t 1).val = t.val % 2 := by decide +kernel
theorem coord0 : ∀ t : Fin grid0.N, (grid0.coords t 0).val = t.val / 2 := by decide +kernel

theorem wx0 : ∀ t : Fin grid0.N, win0_0.index t = ![t.val / 2, 0, 0, 0] := by decide +kernel
theorem wx1 : ∀ t : Fin grid0.N, win0_1.index t = ![t.val / 2, 0, 0] := by decide +kernel
theorem wx2 : ∀ t : Fin grid0.N, win0_2.index t = ![t.val / 2, 0, 0, 0] := by decide +kernel
theorem wx3 : ∀ t : Fin grid0.N, win0_3.index t = ![0, 0] := by decide +kernel
theorem wx4 : ∀ t : Fin grid0.N, win0_4.index t = ![t.val % 2, t.val / 2] := by decide +kernel

theorem emb0_next (t : Fin cfg0.N) (h : t.val % 2 = 0) (h' : t.val + 1 < cfg0.N) (y : S1x16x256x512.Idx) :
    ((((cfg0.win 0).blk ⟨t.val + 1, h'⟩).view.emb y : S12x16x256x512.Idx)) = ((cfg0.win 0).blk t).view.emb y := by
  have e2 : (t.val + 1) / 2 = t.val / 2 := by omega
  blk_ext [wx0, e2]
theorem emb1_next (t : Fin cfg0.N) (h : t.val % 2 = 0) (h' : t.val + 1 < cfg0.N) (y : S1x8192x256.Idx) :
    ((((cfg0.win 1).blk ⟨t.val + 1, h'⟩).view.emb y : S12x8192x256.Idx)) = ((cfg0.win 1).blk t).view.emb y := by
  have e2 : (t.val + 1) / 2 = t.val / 2 := by omega
  blk_ext [wx1, e2]
theorem emb3_next (t : Fin cfg0.N) (h' : t.val + 1 < cfg0.N) (y : S1x4096.Idx) :
    ((((cfg0.win 3).blk ⟨t.val + 1, h'⟩).view.emb y : S1x4096.Idx)) = ((cfg0.win 3).blk t).view.emb y := by
  blk_ext [wx3]

theorem read0_next (c : Dev nD) (A : Buf (Elt F) ((c : Thread nD τ).loc (Pipeline.arrRef spec0 0))) (t : Fin cfg0.N) (h : t.val % 2 = 0) (h' : t.val + 1 < cfg0.N) :
    (((cfg0.win 0).blk ⟨t.val + 1, h'⟩).view.read (Elt F) A : Vec F S1x16x256x512 .bf16) = ((cfg0.win 0).blk t).view.read (Elt F) A :=
  funext fun y => congrArg A (emb0_next t h h' y)
theorem read1_next (c : Dev nD) (A : Buf (Elt F) ((c : Thread nD τ).loc (Pipeline.arrRef spec0 1))) (t : Fin cfg0.N) (h : t.val % 2 = 0) (h' : t.val + 1 < cfg0.N) :
    (((cfg0.win 1).blk ⟨t.val + 1, h'⟩).view.read (Elt F) A : Vec F S1x8192x256 .bf16) = ((cfg0.win 1).blk t).view.read (Elt F) A :=
  funext fun y => congrArg A (emb1_next t h h' y)
theorem read3_next (c : Dev nD) (A : Buf (Elt F) ((c : Thread nD τ).loc (Pipeline.arrRef spec0 3))) (t : Fin cfg0.N) (h' : t.val + 1 < cfg0.N) :
    (((cfg0.win 3).blk ⟨t.val + 1, h'⟩).view.read (Elt F) A : Vec F S1x4096 .f32) = ((cfg0.win 3).blk t).view.read (Elt F) A :=
  funext fun y => congrArg A (emb3_next t h' y)

/-- The blocks of queries, keys and the shift do not move between the two points of a head. -/
theorem block_next (c : Dev nD) (t : Fin cfg0.N) (h : t.val % 2 = 0) (h' : t.val + 1 < cfg0.N) :
    qB m c ⟨t.val + 1, h'⟩ = qB m c t ∧ kB m c ⟨t.val + 1, h'⟩ = kB m c t ∧ sB m c ⟨t.val + 1, h'⟩ = sB m c t := by
  unfold qB kB sB iblk
  exact ⟨read0_next c _ t h h', read1_next c _ t h h', read3_next c _ t h'⟩

set_option maxHeartbeats 1000000 in
theorem sound_even (c : Dev nD) (t : Fin cfg0.N) (h : t.val % 2 = 0) :
    bodyPre m c t ⊢ wp frame (wpE (defs₀ (F := F)) Variants.none c none) Set.univ (bodyAt0 t) (fun _ => bodyPost m c t) := by
  have hN : t.val + 1 < cfg0.N := by
    have := t.isLt
    have e : cfg0.N = 24 := N_0
    omega
  have hi : (grid0.coords t 1).val = 0 := (coord1 t).trans h
  obtain ⟨hq, hk, hs⟩ := block_next m c t h hN
  unfold bodyPre bodyPost bodyAt0
  rw [show (dats m 0 c).Φ t.succ = ΦB m c ⟨t.val + 1, hN⟩ from dif_pos ⟨by simp only [Fin.val_succ]; omega, hN⟩,
    show (dats m 0 c).Φ t.castSucc = Pipeline.ΦA spec0 c from dif_neg (by simp only [Fin.val_castSucc]; omega),
    after0_0, after0_1, after0_2, after0_3, after0_4]
  unfold Pipeline.ΦA ΦB Dat.owesAt Pipeline.owesWithin outAt
  rw [scratch_eq, hq, hk, hs, hi]
  rw [show (dats m 0 c).owed t.castSucc = 0 from rfl, show (dats m 0 c).owed t.succ = 0 from rfl]
  simp only [before0_0_of m (dats m 0 c) (A_eq m c 0) (after0_0 m c), before0_1_of m (dats m 0 c) (A_eq m c 1) (after0_1 m c),
    before0_2_of m (dats m 0 c) (A_eq m c 2) (after0_2 m c), before0_3_of m (dats m 0 c) (A_eq m c 3) (after0_3 m c)]
  unfold owns anyB
  iintro ⟨⟨⟨HS0, ⟨%s1, HS1⟩, ⟨%s2, HS2⟩, HS3, HS4, HS5⟩, Hg⟩, ⟨%W, -, HW⟩, ⟨%d0, ⟨%f0, %e0, H0⟩⟩, ⟨%d1, ⟨%f1, %e1, H1⟩⟩, ⟨%d2, ⟨%f2, %e2, H2⟩⟩, ⟨%d3, ⟨%f3, %e3, H3⟩⟩, ⟨%d4, ⟨%f4, %e4, H4⟩⟩⟩
  iapply (wp_wand_r Idealize.ShloMosaic.frame (wpE (defs₀ (F := F)) Variants.none (c : Thread nD τ) none) Set.univ)
  isplitl [HS0 HS1 HS2 HS3 HS4 HS5 H0 H1 H2 H3 H4]
  · iapply (body0 Variants.none c none Set.univ (grid0.coords t) (st0_0 t) (hstage0_0 ((cfg0.slots t 0).cast nbuf0_0)) (st0_1 t) (hstage0_1 ((cfg0.slots t 1).cast nbuf0_1))
      (st0_2 t) (hstage0_2 ((cfg0.slots t 2).cast nbuf0_2)) (st0_3 t) (hstage0_3 ((cfg0.slots t 3).cast nbuf0_3)) (st0_4 t) (hstage0_4 ((cfg0.slots t 4).cast nbuf0_4))
      (Memref.whole cc0_scratch0) (Memref.isWhole_whole _) (Memref.whole cc0_scratch1) (Memref.isWhole_whole _) (Memref.whole cc0_scratch2) (Memref.isWhole_whole _)
      (Memref.whole cc0_scratch3) (Memref.isWhole_whole _) (Memref.whole cc0_scratch4) (Memref.isWhole_whole _) (Memref.whole cc0_scratch5) (Memref.isWhole_whole _)
      f0 f1 f2 f3 ((cond1_eq _).mpr hi))
    unfold bPre
    isplitl [HS0 HS3 HS4 HS5 H0 H1 H2 H3 H4]
    · isplitl [H0]; · iexact H0
      isplitl [H1]; · iexact H1
      isplitl [H2]; · iexact H2
      isplitl [H3]; · iexact H3
      isplitl [H4]; · iexists _; iexact H4
      isplitl [HS0]; · iexact HS0
      isplitl [HS3]; · iexact HS3
      isplitl [HS4]; · iexact HS4
      iexact HS5
    isplitl [HS1]; · iexists _; iexact HS1
    iexists _; iexact HS2
  unfold bPost
  rw [e0, e1, e2, e3, hi]
  iintro %_ ⟨H0, H1, H2, H3, ⟨%f6, H6, %e6⟩, HS0, HS1, HS2, HS3, HS4, HS5⟩
  isplitl [HS0 HS1 HS2 HS3 HS4 HS5 Hg]
  · isplitr [Hg]
    · isplitl [HS0]; · iexact HS0
      isplitl [HS1]; · iexact HS1
      isplitl [HS2]; · iexact HS2
      isplitl [HS3]; · iexact HS3
      isplitl [HS4]; · iexact HS4
      iexact HS5
    iexact Hg
  isplitl [HW]
  · iexists W; isplitr; · ipureintro; exact fun _ _ => Or.inl trivial
    iexact HW
  isplitl [H0]; · iexists _; isplitr; swap; · iexact H0
                  ipureintro; exact e0
  isplitl [H1]; · iexists _; isplitr; swap; · iexact H1
                  ipureintro; exact e1
  isplitl [H2]; · iexists _; isplitr; swap; · iexact H2
                  ipureintro; exact e2
  isplitl [H3]; · iexists _; isplitr; swap; · iexact H3
                  ipureintro; exact e3
  iexists _; isplitr; swap; · iexact H6
  ipureintro; exact e6

set_option maxHeartbeats 1000000 in
theorem sound_odd (c : Dev nD) (t : Fin cfg0.N) (h : t.val % 2 = 1) :
    bodyPre m c t ⊢ wp frame (wpE (defs₀ (F := F)) Variants.none c none) Set.univ (bodyAt0 t) (fun _ => bodyPost m c t) := by
  have hi : (grid0.coords t 1).val = 1 := (coord1 t).trans h
  unfold bodyPre bodyPost bodyAt0
  rw [show (dats m 0 c).Φ t.castSucc = ΦB m c t from dif_pos ⟨h, t.isLt⟩,
    show (dats m 0 c).Φ t.succ = Pipeline.ΦA spec0 c from dif_neg (by simp only [Fin.val_succ]; omega),
    after0_0, after0_1, after0_2, after0_3, after0_4]
  unfold Pipeline.ΦA ΦB Dat.owesAt Pipeline.owesWithin outAt
  rw [scratch_eq, hi]
  rw [show (dats m 0 c).owed t.castSucc = 0 from rfl, show (dats m 0 c).owed t.succ = 0 from rfl]
  simp only [before0_0_of m (dats m 0 c) (A_eq m c 0) (after0_0 m c), before0_1_of m (dats m 0 c) (A_eq m c 1) (after0_1 m c),
    before0_2_of m (dats m 0 c) (A_eq m c 2) (after0_2 m c), before0_3_of m (dats m 0 c) (A_eq m c 3) (after0_3 m c)]
  unfold owns anyB
  iintro ⟨⟨⟨HS0, ⟨%s1, HS1, %hs1⟩, ⟨%s2, HS2, %hs2⟩, HS3, HS4, HS5⟩, Hg⟩, ⟨%W, -, HW⟩, ⟨%d0, ⟨%f0, %e0, H0⟩⟩, ⟨%d1, ⟨%f1, %e1, H1⟩⟩, ⟨%d2, ⟨%f2, %e2, H2⟩⟩, ⟨%d3, ⟨%f3, %e3, H3⟩⟩, ⟨%d4, ⟨%f4, %e4, H4⟩⟩⟩
  iapply (wp_wand_r Idealize.ShloMosaic.frame (wpE (defs₀ (F := F)) Variants.none (c : Thread nD τ) none) Set.univ)
  isplitl [HS0 HS1 HS2 HS3 HS4 HS5 H0 H1 H2 H3 H4]
  · iapply (body1 Variants.none c none Set.univ (grid0.coords t) (st0_0 t) (hstage0_0 ((cfg0.slots t 0).cast nbuf0_0)) (st0_1 t) (hstage0_1 ((cfg0.slots t 1).cast nbuf0_1))
      (st0_2 t) (hstage0_2 ((cfg0.slots t 2).cast nbuf0_2)) (st0_3 t) (hstage0_3 ((cfg0.slots t 3).cast nbuf0_3)) (st0_4 t) (hstage0_4 ((cfg0.slots t 4).cast nbuf0_4))
      (Memref.whole cc0_scratch0) (Memref.isWhole_whole _) (Memref.whole cc0_scratch1) (Memref.isWhole_whole _) (Memref.whole cc0_scratch2) (Memref.isWhole_whole _)
      (Memref.whole cc0_scratch3) (Memref.isWhole_whole _) (Memref.whole cc0_scratch4) (Memref.isWhole_whole _) (Memref.whole cc0_scratch5) (Memref.isWhole_whole _)
      f0 f1 f2 f3 s2 (fun h0 => by have := (cond1_eq _).mp h0; omega))
    unfold bPre
    isplitl [HS0 HS3 HS4 HS5 H0 H1 H2 H3 H4]
    · isplitl [H0]; · iexact H0
      isplitl [H1]; · iexact H1
      isplitl [H2]; · iexact H2
      isplitl [H3]; · iexact H3
      isplitl [H4]; · iexists _; iexact H4
      isplitl [HS0]; · iexact HS0
      isplitl [HS3]; · iexact HS3
      isplitl [HS4]; · iexact HS4
      iexact HS5
    isplitl [HS1]
    · iexists _; isplitl [HS1]; · iexact HS1
      ipureintro; rw [e1, e3, hs2, hi]; exact hs1
    iexact HS2
  unfold bPost
  rw [hs2, e1, e2, e3, hi]
  iintro %_ ⟨H0, H1, H2, H3, ⟨%f6, H6, %e6⟩, HS0, ⟨%u1, HS1, -⟩, ⟨%u2, HS2, -⟩, HS3, HS4, HS5⟩
  isplitl [HS0 HS1 HS2 HS3 HS4 HS5 Hg]
  · isplitr [Hg]
    · isplitl [HS0]; · iexact HS0
      isplitl [HS1]; · iexists _; iexact HS1
      isplitl [HS2]; · iexists _; iexact HS2
      isplitl [HS3]; · iexact HS3
      isplitl [HS4]; · iexact HS4
      iexact HS5
    iexact Hg
  isplitl [HW]
  · iexists W; isplitr; · ipureintro; exact fun _ _ => Or.inl trivial
    iexact HW
  isplitl [H0]; · iexists _; isplitr; swap; · iexact H0
                  ipureintro; exact e0
  isplitl [H1]; · iexists _; isplitr; swap; · iexact H1
                  ipureintro; exact e1
  isplitl [H2]; · iexists _; isplitr; swap; · iexact H2
                  ipureintro; exact e2
  isplitl [H3]; · iexists _; isplitr; swap; · iexact H3
                  ipureintro; exact e3
  iexists _; isplitr; swap; · iexact H6
  ipureintro; exact e6

theorem sound_body (c : Dev nD) (t : Fin cfg0.N) :
    bodyPre m c t ⊢ wp frame (wpE (defs₀ (F := F)) Variants.none c none) Set.univ (bodyAt0 t) (fun _ => bodyPost m c t) := by
  rcases Nat.mod_two_eq_zero_or_one t.val with h | h
  · exact sound_even m c t h
  · exact sound_odd m c t h

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
theorem run_main : θ_run defs (onTc (τ := τ) (main (F := F))) (s₀ m ρ)
    (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun _ => .rfl) (hout := fun _ => .rfl)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_with_sems (frame_of m ρ (dats m) (A_eq m)) (run_main m ρ)

end Cert.KernelLatIdeal.Hand
end
-- ==== Proof.LatPayI.lean ====
module

public import proofs.«01_k».proof.Proof.LatI
public import proofs.«01_k».proof.Proof.PayI
public import Idealize.ShloMosaic.Lib.Pointwise
public import Idealize.ShloMosaic.Lib.Pipeline.ValueKit

@[expose] public section

set_option maxRecDepth 16384

noncomputable section

namespace Cert.KernelLatIdeal.Hand

open Idealize.ShloMosaic
open Cert.KernelLatIdeal.Gen Cert.Soft

/-! ## The body's values at an index, over the extended reals -/

theorem pay2_at (e : Fin 144) (c : Fin 4096) : (k0_pay2 : FVec Ideal S144x4096 .f32) (ix2 e c) = 0 := Cert.KernelIdeal.Hand.pay2_at e c

theorem pay7_at (e : Fin 144) (c : Fin 4096) : (k0_pay7 : FVec Ideal S144x4096 .f32) (ix2 e c) = 0 := Cert.KernelIdeal.Hand.pay7_at e c

theorem pay6_at (c : Fin 4096) : (k0_pay6 : FVec Ideal S1x4096 .f32) (ix2 0 c) = ⊥ := Cert.KernelIdeal.Hand.pay6_at c

theorem pay1_at (K : Vec Ideal S1x512x256 .bf16) (Q : Vec Ideal S1x256x4096 .bf16) (s : Vec Ideal S1x4096 .f32) (k : Fin 512) (c : Fin 4096) :
    k0_pay1 K Q s (ix3 0 k c) = Ideal.exp2 ((∑ d : Fin 256, K (ix3 0 k d) * Q (ix3 0 d c)) - s (ix2 0 c)) := by
  pointwise [k0_pay1]
  rfl

theorem pay32_at (K : Vec Ideal S1x512x256 .bf16) (Q : Vec Ideal S1x256x4096 .bf16) (k : Fin 512) (c : Fin 4096) :
    k0_pay32 K Q (ix2 k c) = ∑ d : Fin 256, K (ix3 0 k d) * Q (ix3 0 d c) := by
  pointwise [k0_pay32]

theorem pay4_at (A : Vec Ideal S144x4096 .f32) (v : Vec Ideal S1x1x144x512 .bf16) (p : Vec Ideal S1x512x4096 .bf16) (e : Fin 144) (c : Fin 4096) :
    k0_pay4 A v p (ix2 e c) = A (ix2 e c) + ∑ k : Fin 512, v (ix4 0 0 e k) * p (ix3 0 k c) :=
  Cert.KernelIdeal.Hand.pay4_at A v p e c

theorem pay48_at (a : Vec Ideal S1x4096 .f32) (v : Vec Ideal S1x1x144x512 .bf16) (p : Vec Ideal S512x4096 .bf16) (A : Vec Ideal S144x4096 .f32)
    (e : Fin 144) (c : Fin 4096) :
    k0_pay48 a v p A (ix2 e c) = A (ix2 e c) * a (ix2 0 c) + ∑ k : Fin 512, v (ix4 0 0 e k) * p (ix2 k c) :=
  Cert.KernelIdeal.Hand.pay48_at a v p A e c

theorem pay9_at (T : Vec Ideal S128x4096 .f32) (n : Vec Ideal S1x4096 .f32) (r : Fin 4096) (e : Fin 128) :
    k0_pay9 T n (ix2 r e) = Ideal.div (T (ix2 e r)) (n (ix2 0 r)) :=
  Cert.KernelIdeal.Hand.pay9_at T n r e

theorem ldq_at (Q : Vec Ideal S1x16x256x512 .bf16) (n : ℕ) (hn : n < 16) (h) (r : Fin 256) (k : Fin 512) :
    View.ld Q (Rect.unit (s := S1x16x256x512) ![0, n, 0, 0] S1x1x256x512.size h) (ix4 0 0 r k) = Q (ix4 0 ⟨n, hn⟩ r k) := by
  refine congrArg Q (funext fun a => Fin.ext ?_)
  refine (ValueKit.rect_emb_unit_val _ _ _ _ _).trans ?_
  fin_cases a
  · rfl
  · rfl
  · exact Nat.zero_add _
  · exact Nat.zero_add _

theorem pay10_at (f : ℕ → Vec Ideal S1x1x256x512 .bf16) (r : Fin 256) (j : Fin 4096) :
    k0_pay10 (f 0) (f 1) (f 2) (f 3) (f 4) (f 5) (f 6) (f 7) (ix3 0 r j) = f (j.val / 512) (ix4 0 0 r ⟨j.val % 512, Nat.mod_lt _ (by decide)⟩) := by
  have hj := j.isLt
  pointwise [k0_pay10]
  split_ifs <;>
    exact congrArg₂ (fun n (k : Fin 512) => f n (ix4 0 0 r k)) (by omega) (Fin.ext (by dsimp only; omega))

theorem pay11_at (f : ℕ → Vec Ideal S1x1x256x512 .bf16) (r : Fin 256) (j : Fin 4096) :
    k0_pay11 (f 0) (f 1) (f 2) (f 3) (f 4) (f 5) (f 6) (f 7) (ix3 0 r j) = f (j.val / 512) (ix4 0 0 r ⟨j.val % 512, Nat.mod_lt _ (by decide)⟩) := by
  have hj := j.isLt
  pointwise [k0_pay11]
  split_ifs <;>
    exact congrArg₂ (fun n (k : Fin 512) => f n (ix4 0 0 r k)) (by omega) (Fin.ext (by dsimp only; omega))

/-- Tile `n` of the queries (of sixteen). -/
def qT (Q : Vec Ideal S1x16x256x512 .bf16) (n : ℕ) : Vec Ideal S1x1x256x512 .bf16 :=
  View.ld Q (Rect.unit (s := S1x16x256x512) ![0, n % 16, 0, 0] S1x1x256x512.size
    (by have := Nat.mod_lt n (show 0 < 16 by decide); intro a; fin_cases a <;> simp <;> omega))

/-- The queries' entry of the two blocks of columns. -/
def qG (Q : Vec Ideal S1x16x256x512 .bf16) (y : S2x256x4096.Idx) : EReal :=
  Q (ix4 0 ⟨8 * (y 0).val + (y 2).val / 512, by have h0 : (y 0).val < 2 := (y 0).isLt; have h2 : (y 2).val < 4096 := (y 2).isLt; omega⟩ (y 1) ⟨(y 2).val % 512, Nat.mod_lt _ (by decide)⟩)

theorem qG_eq (Q : Vec Ideal S1x16x256x512 .bf16) (y : S2x256x4096.Idx) (n : ℕ) (hn : n < 16) (r : Fin 256) (k : Fin 512)
    (h0 : n = 8 * (y 0).val + (y 2).val / 512) (h1 : r.val = (y 1).val) (h2 : k.val = (y 2).val % 512) :
    Q (ix4 0 ⟨n, hn⟩ r k) = qG Q y := by
  unfold qG
  refine congrArg Q (funext fun a => Fin.ext ?_)
  fin_cases a
  · rfl
  · exact h0
  · exact h1
  · exact h2

theorem mem_qq (y : S2x256x4096.Idx) (o : ℕ) (h) (e : (y 0).val = o) : y ∈ (Rect.unit (s := S2x256x4096) ![o, 0, 0] S1x256x4096.size h).set := by
  have h1 : (y 1).val < 256 := (y 1).isLt
  have h2 : (y 2).val < 4096 := (y 2).isLt
  refine Rect.mem_set_unit.mpr fun a => ?_
  fin_cases a
  · exact ⟨e.ge, by rw [show (y ((fun i => i) ⟨0, by decide⟩)).val = o from e]; exact Nat.lt_succ_self o⟩
  · exact ⟨Nat.zero_le _, lt_of_lt_of_eq h1 (Nat.zero_add 256).symm⟩
  · exact ⟨Nat.zero_le _, lt_of_lt_of_eq h2 (Nat.zero_add 4096).symm⟩

theorem piece_q (Q : Vec Ideal S1x16x256x512 .bf16) (o : ℕ) (h) (ho : o < 2) (r : Fin 256) (j : Fin 4096) :
    qT Q (8 * o + j.val / 512) (ix4 0 0 r ⟨j.val % 512, Nat.mod_lt _ (by decide)⟩)
      = qG Q ((Rect.unit (s := S2x256x4096) ![o, 0, 0] S1x256x4096.size h).emb (ix3 0 r j)) := by
  have hj := j.isLt
  have e0 : ((Rect.unit (s := S2x256x4096) ![o, 0, 0] S1x256x4096.size h).emb (ix3 0 r j) 0).val = o + 0 :=
    ValueKit.rect_emb_unit_val _ _ _ _ 0
  have e1 : ((Rect.unit (s := S2x256x4096) ![o, 0, 0] S1x256x4096.size h).emb (ix3 0 r j) 1).val = 0 + r.val :=
    ValueKit.rect_emb_unit_val _ _ _ _ 1
  have e2 : ((Rect.unit (s := S2x256x4096) ![o, 0, 0] S1x256x4096.size h).emb (ix3 0 r j) 2).val = 0 + j.val :=
    ValueKit.rect_emb_unit_val _ _ _ _ 2
  generalize (Rect.unit (s := S2x256x4096) ![o, 0, 0] S1x256x4096.size h).emb (ix3 0 r j) = y at e0 e1 e2 ⊢
  refine (ldq_at Q ((8 * o + j.val / 512) % 16) (Nat.mod_lt _ (by decide)) _ r _).trans (qG_eq Q y _ _ _ _ ?_ ?_ ?_)
  · rw [e0, e2]; omega
  · rw [e1]; omega
  · rw [e2]; show j.val % 512 = _; omega

theorem qq_at (Q : Vec Ideal S1x16x256x512 .bf16) (y : S2x256x4096.Idx) : qq Q y = qG Q y := by
  unfold qq
  refine View.canon_apply_of_pieces (Val := Elt Ideal) (e := .bf16) (qG Q) _ ?_ y ?_
  · intro p hp x
    simp only [List.mem_cons, List.not_mem_nil, or_false] at hp
    rcases hp with rfl | rfl
    · obtain ⟨r, j, rfl⟩ : ∃ (r : Fin 256) (j : Fin 4096), x = ix3 0 r j :=
        ⟨x 1, x 2, by funext a; fin_cases a <;> first | rfl | exact Fin.ext (Nat.lt_one_iff.mp (x 0).isLt)⟩
      exact (pay11_at (fun n => qT Q (8 * 1 + n)) r j).trans (piece_q Q 1 inb_S2x256x4096_S1x256x4096_1_0_0 (by decide) r j)
    · obtain ⟨r, j, rfl⟩ : ∃ (r : Fin 256) (j : Fin 4096), x = ix3 0 r j :=
        ⟨x 1, x 2, by funext a; fin_cases a <;> first | rfl | exact Fin.ext (Nat.lt_one_iff.mp (x 0).isLt)⟩
      exact (pay10_at (fun n => qT Q (8 * 0 + n)) r j).trans (piece_q Q 0 inb_S2x256x4096_S1x256x4096_0_0_0 (by decide) r j)
  · have h0 : (y 0).val < 2 := (y 0).isLt
    by_cases e : (y 0).val = 0
    · exact ⟨_, List.mem_cons_of_mem _ (List.mem_singleton_self _), mem_qq y 0 inb_S2x256x4096_S1x256x4096_0_0_0 e⟩
    · exact ⟨_, List.mem_cons_self, mem_qq y 1 inb_S2x256x4096_S1x256x4096_1_0_0 (by omega)⟩

theorem kCh_at (K : Vec Ideal S1x8192x256 .bf16) (n : ℕ) (hn : n < 16) (k : Fin 512) (d : Fin 256) :
    kCh K n (ix3 0 k d) = K (ix3 0 ⟨n * 512 + k.val, by omega⟩ d) := by
  refine congrArg K (funext fun a => Fin.ext ?_)
  refine (ValueKit.rect_emb_unit_val _ _ _ _ _).trans ?_
  fin_cases a
  · rfl
  · show 512 * (n % 16) + k.val = n * 512 + k.val
    omega
  · exact Nat.zero_add _

theorem qBl_at (Q : Vec Ideal S2x256x4096 .bf16) (b : ℕ) (hb : b < 2) (d : Fin 256) (c : Fin 4096) :
    qBl Q b (ix3 0 d c) = Q (ix3 ⟨b, hb⟩ d c) := by
  refine congrArg Q (funext fun a => Fin.ext ?_)
  refine (ValueKit.rect_emb_unit_val _ _ _ _ _).trans ?_
  fin_cases a
  · show min b 1 + 0 = b
    omega
  · exact Nat.zero_add _
  · exact Nat.zero_add _

end Cert.KernelLatIdeal.Hand
end
-- ==== Proof.LatValI.lean ====
module

public import proofs.«01_k».proof.Proof.LatPayI

@[expose] public section

set_option maxRecDepth 16384

noncomputable section

/-! # The value of one block of the result

One column of scores, all real: both passes leave the values summed with weights `2^(score - μ)`, for some real `μ`,
and the quotient of two such sums does not depend on `μ`. -/

namespace Cert.KernelLatIdeal.Hand

open Idealize.ShloMosaic
open Cert.KernelLatIdeal.Gen Cert.Soft
open Cert.KernelIdeal.Hand (vCh mx al pp mx_isR al_at pp_at nrm_at top_at pos_of_good)

section
variable (K : Vec Ideal S1x8192x256 .bf16) (V : Vec Ideal S1x16x144x512 .bf16) (Q : Vec Ideal S2x256x4096 .bf16)
  (s : Vec Ideal S1x4096 .f32) (i : ℕ) (c : Fin 4096) (S : ℕ → Fin 512 → ℝ)
  (hS : ∀ n, n < 16 → ∀ k : Fin 512, ∑ d : Fin 256, kCh K n (ix3 0 k d) * qBl Q i (ix3 0 d c) = (S n k : EReal))

include hS in
theorem ac_at (e : Fin 144) : ∀ n, n ≤ 16 → ac K V Q s i n (ix2 e c)
    = ∑ j ∈ Finset.range n, ∑ k : Fin 512, vCh V j (ix4 0 0 e k) * Ideal.exp2 ((S j k : EReal) - s (ix2 0 c))
  | 0, _ => by rw [Finset.sum_range_zero]; exact pay2_at e c
  | n + 1, h => by
    have hq : i + n / 16 = i := by omega
    rw [ac_succ, pay4_at, ac_at e n (by omega), Finset.sum_range_succ]
    refine congrArg _ (Finset.sum_congr rfl fun k _ => ?_)
    unfold pr
    rw [pay1_at, hq, hS n (by omega)]

theorem pay8_eq (m : FVec Ideal S1x4096 .f32) : k0_pay8 m = m := by
  funext j; pointwise [k0_pay8]

include hS in
theorem sc_at (n : ℕ) (hn : n < 16) (k : Fin 512) : sc K Q i n (ix2 k c) = (S n k : EReal) := (pay32_at _ _ k c).trans (hS n hn k)

include hS in
theorem rm_at : ∀ n, n < 16 → rm K Q i n (ix2 0 c) ≠ (⊤ : EReal) ∧ IsR (rm K Q i (n + 1) (ix2 0 c))
  | 0, h => by
    have h0 : rm K Q i 0 (ix2 0 c) ≠ (⊤ : EReal) := by
      rw [show rm K Q i 0 (ix2 0 c) = (⊥ : EReal) from pay6_at c]; exact bot_ne_top
    refine ⟨h0, ?_⟩
    show IsR (k0_pay8 (mx (sc K Q i 0) (rm K Q i 0)) (ix2 0 c))
    rw [pay8_eq]
    exact mx_isR _ _ _ (fun k => ⟨_, sc_at K Q i c S hS 0 h k⟩) h0
  | n + 1, h => by
    have h0 := (rm_at n (by omega)).2.ne_top
    refine ⟨h0, ?_⟩
    show IsR (k0_pay8 (mx (sc K Q i (n + 1)) (rm K Q i (n + 1))) (ix2 0 c))
    rw [pay8_eq]
    exact mx_isR _ _ _ (fun k => ⟨_, sc_at K Q i c S hS (n + 1) h k⟩) h0

include hS in
theorem ra_at : ∀ n, n < 16 → ∃ μ : ℝ, rm K Q i (n + 1) (ix2 0 c) = (μ : EReal) ∧ ∀ e : Fin 144, ra K V Q i (n + 1) (ix2 e c)
    = ∑ j ∈ Finset.range (n + 1), ∑ k : Fin 512, vCh V j (ix4 0 0 e k) * (tw (S j k - μ) : EReal)
  | 0, h => by
    obtain ⟨μ, hμ⟩ := (rm_at K Q i c S hS 0 h).2
    have hm : mx (sc K Q i 0) (rm K Q i 0) (ix2 0 c) = (μ : EReal) := by
      rw [← hμ]; exact (congrFun (pay8_eq _) _).symm
    refine ⟨μ, hμ, fun e => ?_⟩
    show k0_pay48 (al (sc K Q i 0) (rm K Q i 0)) (vCh V 0) (pp (sc K Q i 0) (rm K Q i 0)) (ra K V Q i 0) (ix2 e c) = _
    rw [pay48_at, show ra K V Q i 0 (ix2 e c) = (0 : EReal) from pay7_at e c, zero_mul, zero_add, Finset.sum_range_succ, Finset.sum_range_zero, zero_add]
    refine Finset.sum_congr rfl fun k _ => ?_
    rw [pp_at, hm, sc_at K Q i c S hS 0 h, exp2_sub]
  | n + 1, h => by
    obtain ⟨ν, hν, ih⟩ := ra_at n (by omega)
    obtain ⟨μ, hμ⟩ := (rm_at K Q i c S hS (n + 1) h).2
    have hm : mx (sc K Q i (n + 1)) (rm K Q i (n + 1)) (ix2 0 c) = (μ : EReal) := by
      rw [← hμ]; exact (congrFun (pay8_eq _) _).symm
    refine ⟨μ, hμ, fun e => ?_⟩
    show k0_pay48 (al (sc K Q i (n + 1)) (rm K Q i (n + 1))) (vCh V (n + 1)) (pp (sc K Q i (n + 1)) (rm K Q i (n + 1))) (ra K V Q i (n + 1)) (ix2 e c) = _
    rw [pay48_at, al_at, hm, hν, exp2_sub, ih, Finset.sum_range_succ (n := n + 1), sum_mul_real _ _ _ (tw_pos _).le]
    refine congrArg₂ _ (Finset.sum_congr rfl fun j _ => ?_) (Finset.sum_congr rfl fun k _ => ?_)
    · rw [sum_mul_real _ _ _ (tw_pos _).le]
      refine Finset.sum_congr rfl fun k _ => ?_
      rw [mul_assoc, ← EReal.coe_mul, tw_mul]
    · rw [pp_at, hm, sc_at K Q i c S hS (n + 1) h, exp2_sub]

include hS in
/-- What the output is read from: the values, weighted below some real. -/
theorem fin_at (hs : s (ix2 0 c) ≠ (⊥ : EReal)) : ∃ μ : ℝ, ∀ e : Fin 144, fin K V Q s i (ix2 e c)
    = ∑ j ∈ Finset.range 16, ∑ k : Fin 512, vCh V j (ix4 0 0 e k) * (tw (S j k - μ) : EReal) := by
  unfold fin
  split_ifs with hb
  · obtain ⟨μ, -, h⟩ := ra_at K V Q i c S hS 15 (by decide)
    exact ⟨μ, h⟩
  · have hp := pos_of_good _ hb c
    rw [nrm_at, ac_at K V Q s i c S hS 128 16 le_rfl] at hp
    have ht : s (ix2 0 c) ≠ (⊤ : EReal) := by
      intro ht
      refine hp.ne' (Finset.sum_eq_zero fun j _ => Finset.sum_eq_zero fun k _ => ?_)
      rw [ht, show ((S j k : EReal) - ⊤ : EReal) = ⊥ from rfl]
      exact mul_zero _
    obtain ⟨σ, hσ⟩ := IsR.of_ne ht hs
    refine ⟨σ, fun e => ?_⟩
    rw [ac_at K V Q s i c S hS e 16 le_rfl, hσ]
    simp only [exp2_sub]
end

/-- One entry of the block: the softmax of a row of scores against one column of values. The bank of values carries a row
of ones, whose sum is the normaliser. -/
theorem oBlk_at (K : Vec Ideal S1x8192x256 .bf16) (V : Vec Ideal S1x16x144x512 .bf16) (Q : Vec Ideal S2x256x4096 .bf16)
    (s : Vec Ideal S1x4096 .f32) (i : ℕ) (c : Fin 4096) (e : Fin 128) (W : Fin 8192 → EReal) (S T : Fin 8192 → ℝ)
    (hS : ∀ n (hn : n < 16) (k : Fin 512), ∑ d : Fin 256, kCh K n (ix3 0 k d) * qBl Q i (ix3 0 d c) = (S ⟨n * 512 + k.val, by omega⟩ : EReal))
    (hW : ∀ n (hn : n < 16) (k : Fin 512), vCh V n (ix4 0 0 ⟨e.val, by omega⟩ k) = W ⟨n * 512 + k.val, by omega⟩)
    (h1 : ∀ n, n < 16 → ∀ k : Fin 512, vCh V n (ix4 0 0 128 k) = (1 : EReal))
    (hs : s (ix2 0 c) ≠ (⊥ : EReal)) (hT : ∀ t, T t = S t * Real.log 2) (M : ℝ) :
    oBlk K V Q s i (ix2 c e)
      = ∑ t : Fin 8192, W t * Ideal.div (Ideal.exp ((T t : EReal) - (M : EReal))) (∑ k, Ideal.exp ((T k : EReal) - (M : EReal))) := by
  obtain ⟨μ, h⟩ := fin_at K V Q s i c (fun n k => S ⟨(n % 16) * 512 + k.val, by omega⟩)
    (fun n hn k => (hS n hn k).trans (congrArg (fun t => (S t : EReal)) (Fin.ext (by show n * 512 + k.val = n % 16 * 512 + k.val; rw [Nat.mod_eq_of_lt hn])))) hs
  have hsum : ∀ (f : Fin 8192 → EReal) (g : ℕ → Fin 512 → EReal), (∀ n (hn : n < 16) (k : Fin 512), g n k = f ⟨n * 512 + k.val, by omega⟩) →
      ∑ j ∈ Finset.range 16, ∑ k : Fin 512, g j k = ∑ t, f t := fun f g hg => by
    rw [Fin.sum_univ_tiles 16 512 (by decide) f, Finset.sum_range]
    exact Finset.sum_congr rfl fun j _ => Finset.sum_congr rfl fun k _ => hg j j.isLt k
  have he : ∀ n (hn : n < 16) (k : Fin 512), (⟨n % 16 * 512 + k.val, by omega⟩ : Fin 8192) = ⟨n * 512 + k.val, by omega⟩ :=
    fun n hn k => Fin.ext (by show n % 16 * 512 + k.val = n * 512 + k.val; rw [Nat.mod_eq_of_lt hn])
  unfold oBlk
  rw [pay9_at, top_at, nrm_at, h, h,
    hsum (fun t => W t * (tw (S t - μ) : EReal)) _ (fun n hn k => by
      rw [hW n hn]
      exact congrArg (fun t => W ⟨n * 512 + k.val, by omega⟩ * (tw (S t - μ) : EReal)) (he n hn k)),
    hsum (fun t => (tw (S t - μ) : EReal)) _ (fun n hn k => by
      rw [h1 n hn, one_mul]
      exact congrArg (fun t => (tw (S t - μ) : EReal)) (he n hn k))]
  exact mean_eq W S T hT μ M

end Cert.KernelLatIdeal.Hand
end
-- ==== Proof.LatHostI.lean ====
module

public import proofs.«01_k».proof.Proof.Gen.KernelLatIdeal.Frame
public import proofs.«01_k».proof.Proof.Soft
public import Idealize.ShloMosaic.Lib.Pointwise
public import Idealize.ShloMosaic.Lib.Claim
public import Idealize.ShloMosaic.Lib.IdealHost
public import Idealize.ShloMosaic.Lib.KernelVsHost

@[expose] public section

set_option maxRecDepth 16384

noncomputable section

/-! # The arrays the kernel of attention C is called on -/

namespace Cert.KernelLatIdeal.Hand

open Idealize.ShloMosaic Idealize.ShloMosaic.TcCoe
open Cert.KernelLatIdeal.Gen Cert.Soft

variable (m : (ℓ : Loc nD τ sig) → Buf (Elt Ideal) ℓ) (c : Dev nD)

abbrev argQ : FVec Ideal S8192x12x192 .f32 := m ((c : Thread nD τ).loc main_arg0)
abbrev argK : FVec Ideal S8192x12x192 .f32 := m ((c : Thread nD τ).loc main_arg1)
abbrev argV : FVec Ideal S8192x12x128 .f32 := m ((c : Thread nD τ).loc main_arg2)
abbrev argG : FVec Ideal S192 .f32 := m ((c : Thread nD τ).loc main_arg3)
abbrev argH : FVec Ideal S192 .f32 := m ((c : Thread nD τ).loc main_arg4)

theorem host_q (h : Fin 12) (n : Fin 16) (d : Fin 192) (r : Fin 512) :
    (V m c main_v10 : FVec Ideal S12x16x256x512 .bf16) (ix4 h n ⟨d.val, by omega⟩ r)
      = argQ m c (ix3 ⟨n.val * 512 + r.val, by omega⟩ h d)
        * Ideal.div 1 (Ideal.log (Ideal.ofBits .f32 0x40000000#32) * Ideal.sqrt (Ideal.ofBits .f32 0x43400000#32)) := by
  entry_read
  pointwise

theorem host_q0 (h : Fin 12) (n : Fin 16) (d : Fin 64) (r : Fin 512) :
    (V m c main_v10 : FVec Ideal S12x16x256x512 .bf16) (ix4 h n ⟨192 + d.val, by omega⟩ r) = (0 : EReal) := by
  entry_read
  pointwise

theorem host_k (g : Fin 12) (t : Fin 8192) (d : Fin 192) :
    (V m c main_v13 : FVec Ideal S12x8192x256 .bf16) (ix3 g t ⟨d.val, by omega⟩) = argK m c (ix3 t g d) := by
  entry_read
  pointwise

theorem host_v (g : Fin 12) (n : Fin 16) (e : Fin 128) (r : Fin 512) :
    (V m c main_v18 : FVec Ideal S12x16x144x512 .bf16) (ix4 g n ⟨e.val, by omega⟩ r) = argV m c (ix3 ⟨n.val * 512 + r.val, by omega⟩ g e) := by
  entry_read
  pointwise

theorem host_one (g : Fin 12) (n : Fin 16) (r : Fin 512) :
    (V m c main_v18 : FVec Ideal S12x16x144x512 .bf16) (ix4 g n 128 r) = (1 : EReal) := by
  entry_read
  pointwise

theorem fold_abs_nonneg (f : Fin 192 → EReal) : (0 : EReal) ≤ Finset.univ.fold max (Ideal.ofBits .f32 0xFF800000#32) fun k => FloatOps.absf (F := Ideal) (φ := .f32) (f k) := by
  refine (Finset.le_fold_max _).mpr (.inr ⟨0, Finset.mem_univ _, ?_⟩)
  show (0 : EReal) ≤ max (f 0) (-f 0)
  rcases le_total 0 (f 0) with h | h
  · exact le_max_of_le_left h
  · exact le_max_of_le_right (EReal.neg_nonneg.mpr h)

theorem host_s (r : Fin 4096) : (V m c main_v25 : FVec Ideal S1x4096 .f32) (ix2 0 r) ≠ (⊥ : EReal) := by
  entry_read
  pointwise
  have hc : (0 : EReal) ≤ Ideal.ofBits .f32 0x41A18618#32 := by
    simp [Ideal.ofBits, Ideal.ieee, -EReal.coe_mul]
    try norm_num
  exact ((lt_of_lt_of_le EReal.bot_lt_zero (mul_nonneg (mul_nonneg hc (fold_abs_nonneg _)) (fold_abs_nonneg _))).ne')

end Cert.KernelLatIdeal.Hand
end
-- ==== Proof.LatRefI.lean ====
module

public import proofs.«01_k».proof.Proof.Gen.ReferenceLatIdeal.Run
public import proofs.«01_k».proof.Proof.Soft
public import Idealize.ShloMosaic.Lib.Pointwise
public import Idealize.ShloMosaic.Lib.IdealHost

@[expose] public section

set_option maxRecDepth 16384

noncomputable section

/-! # The reference of attention C at an index -/

namespace Cert.ReferenceLatIdeal.Hand

open Idealize.ShloMosaic Idealize.ShloMosaic.TcCoe
open Cert.ReferenceLatIdeal Cert.ReferenceLatIdeal.Gen Cert.Soft

variable (q k : FVec Ideal S8192x12x192 .f32) (v : FVec Ideal S8192x12x128 .f32)

/-- The scores. -/
def scT : FVec Ideal S12x8192x8192 .f32 :=
  mulf (Host.dotGeneral dot_S8192x12x192_S8192x12x192_S12x8192x8192_2_2_0_0_1_1 none q k) (broadcastInDim S12x8192x8192 ![] bcast_S_S12x8192x8192 (Host.divf (constant S_ .f32 0x3F800000#32) (Host.sqrt (constant S_ .f32 0x43400000#32))))
/-- Their largest, along the keys. -/
def mxT : FVec Ideal S12x8192 .f32 :=
  maximumf (broadcastInDim S12x8192 ![] bcast_S_S12x8192 (constant S_ .f32 0xFF800000#32)) (Host.reduce FloatOps.maximumf (scT q k) (constant S_ .f32 0xFF800000#32) reducesTo_S12x8192x8192_S12x8192_d2 h_S_)
/-- Their exponentials below it. -/
def exT : FVec Ideal S12x8192x8192 .f32 :=
  Host.exp (subf (scT q k) (broadcastInDim S12x8192x8192 ![0, 1, 2] bcast_S12x8192x1_S12x8192x8192_0_1_2 (broadcastInDim S12x8192x1 ![0, 1] bcast_S12x8192_S12x8192x1_0_1 (mxT q k))))
/-- Their sums, along the keys. -/
def smT : FVec Ideal S12x8192 .f32 :=
  Host.reduceAdd (exT q k) (constant S_ .f32 0x00000000#32) reducesTo_S12x8192x8192_S12x8192_d2 h_S_
/-- The result. -/
def outT : FVec Ideal S8192x1536 .bf16 :=
  truncf .bf16 (shapeCast _ (transpose S8192x12x128 [2, 0, 1] (Host.dotGeneral dot_S8192x12x128_S12x8192x8192_S12x128x8192_0_2_2_1_1_0 none v (Host.divf (exT q k) (broadcastInDim S12x8192x8192 ![0, 1, 2] bcast_S12x8192x1_S12x8192x8192_0_1_2 (broadcastInDim S12x8192x1 ![0, 1] bcast_S12x8192_S12x8192x1_0_1 (smT q k))))) transposes_S12x128x8192_S8192x12x128_2_0_1) shapeCasts_S8192x12x128_S8192x1536) bitsLt_bf16_f32

theorem run' (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v19) = outT (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := Value.run m ρ

theorem sc_at (h : Fin 12) (x y : Fin 8192) :
    scT q k (ix3 h x y) = (∑ d : Fin 192, q (ix3 x h d) * k (ix3 y h d)) * Ideal.div 1 (Ideal.sqrt (Ideal.ofBits .f32 0x43400000#32)) := by
  pointwise [scT]

theorem maxf_at {s : Shape} (A B : FVec Ideal s .f32) (j : s.Idx) : maximumf A B j = max (A j) (B j) := rfl

theorem red_gen (X : FVec Ideal S12x8192x8192 .f32) (h : Fin 12) (x : Fin 8192) :
    (Host.reduce FloatOps.maximumf X (constant S_ .f32 0xFF800000#32) reducesTo_S12x8192x8192_S12x8192_d2 h_S_ : FVec Ideal S12x8192 .f32) (ix2 h x)
      = Finset.univ.fold max (Ideal.ofBits .f32 0xFF800000#32) fun y : Fin 8192 => X (ix3 h x y) := by
  pointwise

theorem ninf_gen (j : S12x8192.Idx) :
    (broadcastInDim S12x8192 ![] bcast_S_S12x8192 (constant S_ .f32 0xFF800000#32) : FVec Ideal S12x8192 .f32) j = Ideal.ofBits .f32 0xFF800000#32 := rfl

theorem mx_gen (X : FVec Ideal S12x8192x8192 .f32) (h : Fin 12) (x : Fin 8192) :
    (maximumf (broadcastInDim S12x8192 ![] bcast_S_S12x8192 (constant S_ .f32 0xFF800000#32)) (Host.reduce FloatOps.maximumf X (constant S_ .f32 0xFF800000#32) reducesTo_S12x8192x8192_S12x8192_d2 h_S_) : FVec Ideal S12x8192 .f32) (ix2 h x)
      = max (Ideal.ofBits .f32 0xFF800000#32) (Finset.univ.fold max (Ideal.ofBits .f32 0xFF800000#32) fun y : Fin 8192 => X (ix3 h x y)) := by
  rw [maxf_at, ninf_gen, red_gen]

theorem ex_gen (X : FVec Ideal S12x8192x8192 .f32) (M : FVec Ideal S12x8192 .f32) (h : Fin 12) (x y : Fin 8192) :
    (Host.exp (subf X (broadcastInDim S12x8192x8192 ![0, 1, 2] bcast_S12x8192x1_S12x8192x8192_0_1_2 (broadcastInDim S12x8192x1 ![0, 1] bcast_S12x8192_S12x8192x1_0_1 M))) : FVec Ideal S12x8192x8192 .f32) (ix3 h x y)
      = Ideal.exp (X (ix3 h x y) - M (ix2 h x)) := by
  pointwise

theorem sm_gen (X : FVec Ideal S12x8192x8192 .f32) (h : Fin 12) (x : Fin 8192) :
    (Host.reduceAdd X (constant S_ .f32 0x00000000#32) reducesTo_S12x8192x8192_S12x8192_d2 h_S_ : FVec Ideal S12x8192 .f32) (ix2 h x)
      = ∑ y : Fin 8192, X (ix3 h x y) := by
  pointwise

theorem out_gen (X : FVec Ideal S12x8192x8192 .f32) (M : FVec Ideal S12x8192 .f32) (h : Fin 12) (x : Fin 8192) (e : Fin 128) :
    (truncf .bf16 (shapeCast _ (transpose S8192x12x128 [2, 0, 1] (Host.dotGeneral dot_S8192x12x128_S12x8192x8192_S12x128x8192_0_2_2_1_1_0 none v (Host.divf X (broadcastInDim S12x8192x8192 ![0, 1, 2] bcast_S12x8192x1_S12x8192x8192_0_1_2 (broadcastInDim S12x8192x1 ![0, 1] bcast_S12x8192_S12x8192x1_0_1 M)))) transposes_S12x128x8192_S8192x12x128_2_0_1) shapeCasts_S8192x12x128_S8192x1536) bitsLt_bf16_f32 : FVec Ideal S8192x1536 .bf16)
      (ix2 x ⟨h.val * 128 + e.val, by omega⟩)
      = ∑ y : Fin 8192, v (ix3 y h e) * Ideal.div (X (ix3 h x y)) (M (ix2 h x)) := by
  pointwise

theorem mx_at (h : Fin 12) (x : Fin 8192) :
    mxT q k (ix2 h x) = max (Ideal.ofBits .f32 0xFF800000#32) (Finset.univ.fold max (Ideal.ofBits .f32 0xFF800000#32) fun y : Fin 8192 => scT q k (ix3 h x y)) :=
  mx_gen (scT q k) h x

theorem ex_at (h : Fin 12) (x y : Fin 8192) :
    exT q k (ix3 h x y) = Ideal.exp (scT q k (ix3 h x y) - mxT q k (ix2 h x)) :=
  ex_gen (scT q k) (mxT q k) h x y

theorem sm_at (h : Fin 12) (x : Fin 8192) :
    smT q k (ix2 h x) = ∑ y : Fin 8192, exT q k (ix3 h x y) :=
  sm_gen (exT q k) h x

theorem out_at (h : Fin 12) (x : Fin 8192) (e : Fin 128) :
    outT q k v (ix2 x ⟨h.val * 128 + e.val, by omega⟩)
      = ∑ y : Fin 8192, v (ix3 y h e) * Ideal.div (exT q k (ix3 h x y)) (smT q k (ix2 h x)) :=
  out_gen v (exT q k) (smT q k) h x e

end Cert.ReferenceLatIdeal.Hand
end
-- ==== Proof.LatAlgI.lean ====
module

public import proofs.«01_k».proof.Proof.AlgI
public import proofs.«01_k».proof.Proof.LatRunI
public import proofs.«01_k».proof.Proof.LatValI
public import proofs.«01_k».proof.Proof.LatHostI
public import proofs.«01_k».proof.Proof.LatRefI

@[expose] public section

set_option maxRecDepth 16384

noncomputable section

/-! # The kernel's result of attention C is the reference's -/

namespace Cert.KernelLatIdeal.Hand

open Idealize.ShloMosaic Idealize.ShloMosaic.TcCoe
open Cert.KernelLatIdeal.Gen Cert.Soft
open Cert.KernelIdeal.Hand (log_two log_pos vCh_at ofBits_ninf)

/-! ## The two scales -/

def rA : ℝ := 1 / Real.sqrt 192
def rB : ℝ := 1 / (Real.log 2 * Real.sqrt 192)

theorem ofBits_192 : Ideal.ofBits .f32 0x43400000#32 = ((192 : ℝ) : EReal) := by
  simp [Ideal.ofBits, Ideal.ieee, -EReal.coe_mul]; try norm_num

theorem sqrt_192 : Ideal.sqrt (Ideal.ofBits .f32 0x43400000#32) = (Real.sqrt 192 : EReal) := by
  rw [ofBits_192]
  exact if_neg (by norm_num)
theorem sqrt_pos : 0 < Real.sqrt 192 := Real.sqrt_pos.mpr (by norm_num)

theorem scale_A : Ideal.div 1 (Ideal.sqrt (Ideal.ofBits .f32 0x43400000#32)) = (rA : EReal) := by
  rw [sqrt_192, Ideal.div_coe sqrt_pos.ne', one_mul]; rfl
theorem scale_B : Ideal.div 1 (Ideal.log (Ideal.ofBits .f32 0x40000000#32) * Ideal.sqrt (Ideal.ofBits .f32 0x43400000#32)) = (rB : EReal) := by
  rw [sqrt_192, log_two, ← EReal.coe_mul, Ideal.div_coe (mul_pos log_pos sqrt_pos).ne', one_mul]; rfl
theorem rA_eq : rA = rB * Real.log 2 := by
  have h1 := sqrt_pos.ne'
  have h2 := log_pos.ne'
  unfold rA rB
  field_simp

/-- A sum over a padded axis whose last 64 terms are zero. -/
theorem sum_pad (f : Fin 256 → EReal) (h : ∀ d : Fin 64, f ⟨192 + d.val, by omega⟩ = 0) :
    ∑ d, f d = ∑ d : Fin 192, f ⟨d.val, by omega⟩ := by
  refine (Fin.sum_univ_add (a := 192) (b := 64) f).trans ?_
  exact (congrArg₂ (· + ·) rfl (Finset.sum_eq_zero fun d _ => h d)).trans (add_zero _)

/-! ## The blocks at an index -/

variable (m : (ℓ : Loc nD τ sig) → Buf (Elt Ideal) ℓ) (c : Dev nD)

theorem lt24 (t : Fin cfg0.N) : t.val < 24 := lt_of_lt_of_eq t.isLt N_0

theorem read0_at (A : Buf (Elt Ideal) ((c : Thread nD τ).loc (Pipeline.arrRef spec0 0))) (t : Fin cfg0.N) (n : Fin 16) (d : Fin 256) (r : Fin 512) :
    (((cfg0.win 0).blk t).view.read (Elt Ideal) A : FVec Ideal S1x16x256x512 .bf16) (ix4 0 n d r) = (A : FVec Ideal S12x16x256x512 .bf16) (ix4 ⟨t.val / 2, by have := lt24 t; omega⟩ n d r) := by
  refine congrArg A ?_
  blk_ext [wx0]
theorem qB_at (t : Fin cfg0.N) (n : Fin 16) (d : Fin 256) (r : Fin 512) :
    qB m c t (ix4 0 n d r) = (V m c main_v10 : FVec Ideal S12x16x256x512 .bf16) (ix4 ⟨t.val / 2, by have := lt24 t; omega⟩ n d r) :=
  read0_at c (V m c main_v10) t n d r
theorem read1_at (A : Buf (Elt Ideal) ((c : Thread nD τ).loc (Pipeline.arrRef spec0 1))) (t : Fin cfg0.N) (y : Fin 8192) (d : Fin 256) :
    (((cfg0.win 1).blk t).view.read (Elt Ideal) A : FVec Ideal S1x8192x256 .bf16) (ix3 0 y d) = (A : FVec Ideal S12x8192x256 .bf16) (ix3 ⟨t.val / 2, by have := lt24 t; omega⟩ y d) := by
  refine congrArg A ?_
  blk_ext [wx1]
theorem kB_at (t : Fin cfg0.N) (y : Fin 8192) (d : Fin 256) :
    kB m c t (ix3 0 y d) = (V m c main_v13 : FVec Ideal S12x8192x256 .bf16) (ix3 ⟨t.val / 2, by have := lt24 t; omega⟩ y d) :=
  read1_at c (V m c main_v13) t y d
theorem read2_at (A : Buf (Elt Ideal) ((c : Thread nD τ).loc (Pipeline.arrRef spec0 2))) (t : Fin cfg0.N) (n : Fin 16) (e : Fin 144) (r : Fin 512) :
    (((cfg0.win 2).blk t).view.read (Elt Ideal) A : FVec Ideal S1x16x144x512 .bf16) (ix4 0 n e r) = (A : FVec Ideal S12x16x144x512 .bf16) (ix4 ⟨t.val / 2, by have := lt24 t; omega⟩ n e r) := by
  refine congrArg A ?_
  blk_ext [wx2]
theorem vB_at (t : Fin cfg0.N) (n : Fin 16) (e : Fin 144) (r : Fin 512) :
    vB m c t (ix4 0 n e r) = (V m c main_v18 : FVec Ideal S12x16x144x512 .bf16) (ix4 ⟨t.val / 2, by have := lt24 t; omega⟩ n e r) :=
  read2_at c (V m c main_v18) t n e r
theorem read3_at (A : Buf (Elt Ideal) ((c : Thread nD τ).loc (Pipeline.arrRef spec0 3))) (t : Fin cfg0.N) (r : Fin 4096) :
    (((cfg0.win 3).blk t).view.read (Elt Ideal) A : FVec Ideal S1x4096 .f32) (ix2 0 r) = (A : FVec Ideal S1x4096 .f32) (ix2 0 r) := by
  refine congrArg A ?_
  blk_ext [wx3]
theorem sB_at (t : Fin cfg0.N) (r : Fin 4096) :
    sB m c t (ix2 0 r) = (V m c main_v25 : FVec Ideal S1x4096 .f32) (ix2 0 r) :=
  read3_at c (V m c main_v25) t r

open Cert.ReferenceLatIdeal.Hand (scT mxT exT smT outT)

/-- One entry of the result's block: the reference's entry there. -/
theorem outAt_at (hq : ∀ i, IsR (argQ m c i)) (hk : ∀ i, IsR (argK m c i)) (t : Fin cfg0.N) (r : Fin 4096) (e : Fin 128)
    (h : Fin 12) (x : Fin 8192) (hh : h.val = t.val / 2) (hx : x.val = 4096 * (t.val % 2) + r.val) :
    outAt m c t (ix2 r e) = outT (argQ m c) (argK m c) (argV m c) (ix2 x ⟨h.val * 128 + e.val, by omega⟩) := by
  choose q' hq' using hq
  choose k' hk' using hk
  have ht := lt24 t
  have hr := r.isLt
  let S : Fin 8192 → ℝ := fun y => ∑ d : Fin 192, k' (ix3 y h d) * (q' (ix3 x h d) * rB)
  let T : Fin 8192 → ℝ := fun y => (∑ d : Fin 192, q' (ix3 x h d) * k' (ix3 y h d)) * rA
  have hT : ∀ y, T y = S y * Real.log 2 := fun y => by
    show (∑ d : Fin 192, q' (ix3 x h d) * k' (ix3 y h d)) * rA = (∑ d : Fin 192, k' (ix3 y h d) * (q' (ix3 x h d) * rB)) * Real.log 2
    rw [Finset.sum_mul, Finset.sum_mul, rA_eq]
    exact Finset.sum_congr rfl fun d _ => by ring
  have hsc : ∀ y, scT (argQ m c) (argK m c) (ix3 h x y) = (T y : EReal) := fun y => by
    rw [Cert.ReferenceLatIdeal.Hand.sc_at, scale_A]
    show _ = (((∑ d : Fin 192, q' (ix3 x h d) * k' (ix3 y h d)) * rA : ℝ) : EReal)
    rw [EReal.coe_mul, coe_sum]
    refine congrArg (· * (rA : EReal)) (Finset.sum_congr rfl fun d _ => ?_)
    rw [EReal.coe_mul, ← hk', ← hq']
  obtain ⟨M, hM⟩ : IsR (mxT (argQ m c) (argK m c) (ix2 h x)) := by
    rw [Cert.ReferenceLatIdeal.Hand.mx_at, ofBits_ninf]
    exact .max_left bot_ne_top (.fold_max _ fun y => ⟨_, hsc y⟩)
  rw [Cert.ReferenceLatIdeal.Hand.out_at]
  have hex : ∀ y, exT (argQ m c) (argK m c) (ix3 h x y) = Ideal.exp ((T y : EReal) - (M : EReal)) := fun y => by
    rw [Cert.ReferenceLatIdeal.Hand.ex_at, hsc, hM]
  rw [Cert.ReferenceLatIdeal.Hand.sm_at]
  simp only [hex]
  unfold outAt
  have hh' : (⟨t.val / 2, by omega⟩ : Fin 12) = h := Fin.ext hh.symm
  have hqd : ∀ d : Fin 256, qBl (qq (qB m c t)) (grid0.coords t 1).val (ix3 0 d r)
      = (V m c main_v10 : FVec Ideal S12x16x256x512 .bf16) (ix4 h ⟨x.val / 512, by omega⟩ d ⟨x.val % 512, Nat.mod_lt _ (by decide)⟩) := fun d => by
    rw [qBl_at _ _ (by rw [coord1]; omega), qq_at]
    refine (qB_at m c t ⟨8 * (grid0.coords t 1).val + r.val / 512, by rw [coord1]; omega⟩ d ⟨r.val % 512, Nat.mod_lt _ (by decide)⟩).trans ?_
    refine congrArg (V m c main_v10) (funext fun a => Fin.ext ?_)
    fin_cases a
    · exact hh.symm
    · show 8 * (grid0.coords t 1).val + r.val / 512 = x.val / 512
      rw [coord1, hx]; omega
    · rfl
    · show r.val % 512 = x.val % 512
      rw [hx]; omega
  have hx' : (⟨x.val / 512 * 512 + x.val % 512, by omega⟩ : Fin 8192) = x := Fin.ext (by show x.val / 512 * 512 + x.val % 512 = x.val; omega)
  refine oBlk_at (kB m c t) (vB m c t) (qq (qB m c t)) (sB m c t) _ r e (fun y => argV m c (ix3 y h e)) S T ?_ ?_ ?_ ?_ hT M
  · intro n hn k
    show _ = ((∑ d : Fin 192, k' (ix3 _ h d) * (q' (ix3 x h d) * rB) : ℝ) : EReal)
    rw [coe_sum]
    refine (sum_pad _ fun d => ?_).trans (Finset.sum_congr rfl fun d _ => ?_)
    · rw [hqd, host_q0, mul_zero]
    · rw [hqd, host_q _ _ _ _ d, hx', scale_B, kCh_at _ n hn, kB_at, host_k _ _ _ _ d, hh', EReal.coe_mul, EReal.coe_mul, ← hk', ← hq']
  · intro n hn k
    rw [vCh_at _ n hn, vB_at, host_v, hh']
  · intro n hn k
    rw [vCh_at _ n hn, vB_at, host_one]
  · rw [sB_at]
    exact host_s m c r

/-- The result array after the run. -/
theorem arr_eq (hq : ∀ i, IsR (argQ m c i)) (hk : ∀ i, IsR (argK m c i)) :
    (dats m 0 c).arrAt 4 cfg0.N = outT (argQ m c) (argK m c) (argV m c) := by
  refine (dats m 0 c).arrAt_eq_of_covers 4 _ (by decide +kernel) fun t hf y => ?_
  blk_simp
  rw [after0_4]
  have ht := lt24 t
  obtain ⟨r, e, rfl⟩ : ∃ (r : Fin 4096) (e : Fin 128), y = ix2 r e := ⟨y 0, y 1, by funext a; fin_cases a <;> rfl⟩
  refine (outAt_at m c hq hk t r e ⟨t.val / 2, by omega⟩ ⟨4096 * (t.val % 2) + r.val, by omega⟩ rfl rfl).trans ?_
  refine congrArg (outT (argQ m c) (argK m c) (argV m c)) ?_
  blk_ext [wx4]

end Cert.KernelLatIdeal.Hand
end
-- ==== Proof.PreI.lean ====
module

public import proofs.«01_k».proof.Proof.Gen.Pre_finite_q_k
public import proofs.«01_k».proof.Proof.Soft
public import Idealize.ShloMosaic.Lib.Pointwise
public import Idealize.ShloMosaic.Lib.ReduceAll

@[expose] public section

set_option maxRecDepth 16384

noncomputable section

/-! # The precondition: the queries and the keys are real -/

namespace Cert.Pre_finite_q_k.Hand

open Idealize.ShloMosaic Cert.Pre_finite_q_k Cert.Pre_finite_q_k.Gen Cert.Soft

theorem isR_of_lt {x y : EReal} (hy : y = ⊤) (h : Ideal.cmp .olt (max x (-x)) y = 1#1) : IsR x := by
  subst hy
  have hlt : max x (-x) < ⊤ := by
    by_contra hn
    unfold Ideal.cmp at h
    simp only [hn, decide_false] at h
    exact absurd h (by decide)
  refine .of_ne (fun e => ?_) (fun e => ?_)
  · subst e; exact (lt_irrefl _ (lt_of_le_of_lt (le_max_left _ _) hlt))
  · subst e; exact (lt_irrefl _ (lt_of_le_of_lt (le_max_right _ _) hlt))

theorem ofBits_inf : Ideal.ofBits .f32 0x7F800000#32 = (⊤ : EReal) := by simp [Ideal.ofBits, Ideal.ieee]

theorem reals (q : FVec Ideal S8192x12x128 .f32) (k v : FVec Ideal S8192x4x128 .f32) (a b : FVec Ideal S128 .f32)
    (h : fn (F := Ideal) q k v a b = fun _ => 1#1) : (∀ i, IsR (q i)) ∧ ∀ i, IsR (k i) := by
  have h0 := congrFun h (fun a => a.elim0)
  unfold fn at h0
  have h1 := IntOp.andi_eq_one.mp h0
  exact ⟨fun i => isR_of_lt ofBits_inf (Host.reduce_andi_all _ _ _ _ _ h1.1 i), fun i => isR_of_lt ofBits_inf (Host.reduce_andi_all _ _ _ _ _ h1.2 i)⟩

end Cert.Pre_finite_q_k.Hand
end
-- ==== Proof.LatPreI.lean ====
module

public import proofs.«01_k».proof.Proof.Gen.Pre_finite_q_k_c
public import proofs.«01_k».proof.Proof.PreI
public import Idealize.ShloMosaic.Lib.Pointwise
public import Idealize.ShloMosaic.Lib.ReduceAll

@[expose] public section

set_option maxRecDepth 16384

noncomputable section

/-! # The precondition of attention C: the queries and the keys are real -/

namespace Cert.Pre_finite_q_k_c.Hand

open Idealize.ShloMosaic Cert.Pre_finite_q_k_c Cert.Pre_finite_q_k_c.Gen Cert.Soft
open Cert.Pre_finite_q_k.Hand (isR_of_lt ofBits_inf)

theorem reals (q k : FVec Ideal S8192x12x192 .f32) (v : FVec Ideal S8192x12x128 .f32) (a b : FVec Ideal S192 .f32)
    (h : fn (F := Ideal) q k v a b = fun _ => 1#1) : (∀ i, IsR (q i)) ∧ ∀ i, IsR (k i) := by
  have h0 := congrFun h (fun a => a.elim0)
  unfold fn at h0
  have h1 := IntOp.andi_eq_one.mp h0
  exact ⟨fun i => isR_of_lt ofBits_inf (Host.reduce_andi_all _ _ _ _ _ h1.1 i), fun i => isR_of_lt ofBits_inf (Host.reduce_andi_all _ _ _ _ _ h1.2 i)⟩

end Cert.Pre_finite_q_k_c.Hand
end
-- ==== Proof.DiffI.lean ====
module

public import proofs.«01_k».proof.Proof.AttnI
public import proofs.«01_k».proof.Proof.Gen.KernelDiffIdeal.Frame
public import proofs.«01_k».proof.Proof.Gen.KernelDiffIdeal.Skeleton
public import Idealize.ShloMosaic.Lib.Exec
public import Idealize.ShloMosaic.Lib.Pipeline.Value

@[expose] public section

set_option maxRecDepth 16384

noncomputable section

namespace Cert.KernelDiffIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelDiffIdeal.Gen
open Cert.KernelIdeal.Hand (vCh ld_off slot0 slot1 slots_disjoint rw64 mx al pp nrm top bad)

variable {F : FTy → Type} [FloatOps F]

local notation "𝕄" => MT nD τ sig Unit (Elt F) ℕ (UR sig nD τ) ℕ

/-! ## What one trip computes, as functions of the blocks -/

/-- Rows `512·(n mod 16) …` of the keys. -/
def kCh (K : Vec F S1x8192x128 .bf16) (n : ℕ) : Vec F S1x512x128 .bf16 :=
  View.ld K (Rect.unit (s := S1x8192x128) ![0, 512 * (n % 16), 0] ![1, 512, 128]
    (by have := Nat.mod_lt n (show 0 < 16 by decide); intro a; fin_cases a <;> simp <;> omega))

/-- Block `min b 3` of the queries. -/
def qBl (Q : Vec F S4x128x4096 .bf16) (b : ℕ) : Vec F S1x128x4096 .bf16 :=
  View.ld Q (Rect.unit (s := S4x128x4096) ![min b 3, 0, 0] ![1, 128, 4096]
    (by intro a; fin_cases a <;> simp <;> omega))

/-- The weights of step `n` of query block `i`: its chunk of keys against its block of queries, below the shift. -/
def pr (K : Vec F S1x8192x128 .bf16) (Q : Vec F S4x128x4096 .bf16) (s : Vec F S1x4096 .f32) (i n : ℕ) : Vec F S1x512x4096 .bf16 :=
  k0_pay51 (kCh K n) (qBl Q (i + n / 16)) s

/-- The accumulator after `n` steps. -/
def ac (K : Vec F S1x8192x128 .bf16) (V : Vec F S1x16x144x512 .bf16) (Q : Vec F S4x128x4096 .bf16) (s : Vec F S1x4096 .f32) (i : ℕ) :
    ℕ → Vec F S144x4096 .f32
  | 0 => k0_pay50
  | n + 1 => k0_pay52 (ac K V Q s i n) (vCh V n) (pr K Q s i n)

theorem ac_succ (K : Vec F S1x8192x128 .bf16) (V : Vec F S1x16x144x512 .bf16) (Q : Vec F S4x128x4096 .bf16) (s : Vec F S1x4096 .f32)
    (i n : ℕ) : ac K V Q s i (n + 1) = k0_pay52 (ac K V Q s i n) (vCh V n) (pr K Q s i n) := rfl

theorem off2_eq : ∀ (k : Fin 2) (c : Fin 8), k0_off2 k (BitVec.ofNat 32 c.val) = ![0, 512 * ((8 * k.val + c.val + 1) % 16), 0] := by
  decide +kernel
theorem off4_eq : ∀ (k : Fin 2) (c : Fin 8), k0_off4 k (BitVec.ofNat 32 c.val) = ![0, (8 * k.val + c.val) % 16, 0, 0] := by
  decide +kernel
theorem off3_eq : ∀ (i : grid0.Coords) (k : Fin 2) (c : Fin 8),
    k0_off3 i k (BitVec.ofNat 32 c.val) = ![min ((i 1).val + (8 * k.val + c.val + 1) / 16) 3, 0, 0] := by
  decide +kernel

section
variable (a : Vec F S1x512x128 .bf16) (b : Vec F S1x128x4096 .bf16) (s : Vec F S1x4096 .f32)
  (x : Vec F S144x4096 .f32) (v : Vec F S1x1x144x512 .bf16) (p : Vec F S1x512x4096 .bf16)
theorem pay49_eq : k0_pay49 (k0_pay10 a) (k0_pay11 b) s = k0_pay51 a b s := rfl
theorem pay12_eq : k0_pay12 a b s = k0_pay51 a b s := rfl
theorem pay15_eq : k0_pay15 a b s = k0_pay51 a b s := rfl
theorem pay18_eq : k0_pay18 a b s = k0_pay51 a b s := rfl
theorem pay21_eq : k0_pay21 (k0_pay20 a b s) = k0_pay51 a b s := rfl
theorem pay24_eq : k0_pay24 (k0_pay23 a b s) = k0_pay51 a b s := rfl
theorem pay27_eq : k0_pay27 (k0_pay26 a b) s = k0_pay51 a b s := rfl
theorem pay30_eq : k0_pay30 (k0_pay29 a) b s = k0_pay51 a b s := rfl
theorem pay14_eq : k0_pay14 x (k0_pay13 v p) = k0_pay52 x v p := rfl
theorem pay17_eq : k0_pay17 x (k0_pay16 v) p = k0_pay52 x v p := rfl
theorem pay19_eq : k0_pay19 x v p = k0_pay52 x v p := rfl
theorem pay22_eq : k0_pay22 x v p = k0_pay52 x v p := rfl
theorem pay25_eq : k0_pay25 x v p = k0_pay52 x v p := rfl
theorem pay28_eq : k0_pay28 x v p = k0_pay52 x v p := rfl
theorem pay31_eq : k0_pay31 x v p = k0_pay52 x v p := rfl
end

/-! ## The loads at the loop's offsets -/

section
variable {sp : Space}
theorem rd2 (v : View sig .tc sp S1x8192x128 .bf16) (X : v.ty.Contents (Elt F)) (k : Fin k0_t1_loop.trips) (w : BitVec 32) (p) (hw : w.toNat < 8) :
    v.readAt (Elt F) (Rect.unit (s := S1x8192x128) (k0_off2 k w) ![1, 512, 128] p).toLoadRect X
      = kCh (v.read (Elt F) X) (8 * k.val + (w.toNat + 1)) := by
  have h := off2_eq k ⟨w.toNat, hw⟩
  rw [show BitVec.ofNat 32 (⟨w.toNat, hw⟩ : Fin 8).val = w from BitVec.ofNat_toNat .. |>.trans (BitVec.setWidth_eq w)] at h
  exact ld_off _ h _ _
theorem rd4 (v : View sig .tc sp S1x16x144x512 .bf16) (X : v.ty.Contents (Elt F)) (k : Fin k0_t1_loop.trips) (w : BitVec 32) (p) (hw : w.toNat < 8) :
    v.readAt (Elt F) (Rect.unit (s := S1x16x144x512) (k0_off4 k w) ![1, 1, 144, 512] p).toLoadRect X
      = vCh (v.read (Elt F) X) (8 * k.val + w.toNat) := by
  have h := off4_eq k ⟨w.toNat, hw⟩
  rw [show BitVec.ofNat 32 (⟨w.toNat, hw⟩ : Fin 8).val = w from BitVec.ofNat_toNat .. |>.trans (BitVec.setWidth_eq w)] at h
  exact ld_off _ h _ _
theorem rd3 (v : View sig .tc sp S4x128x4096 .bf16) (X : v.ty.Contents (Elt F)) (i : grid0.Coords) (k : Fin k0_t1_loop.trips) (w : BitVec 32) (p) (hw : w.toNat < 8) :
    v.readAt (Elt F) (Rect.unit (s := S4x128x4096) (k0_off3 i k w) ![1, 128, 4096] p).toLoadRect X
      = qBl (v.read (Elt F) X) ((i 1).val + (8 * k.val + (w.toNat + 1)) / 16) := by
  have h := off3_eq i k ⟨w.toNat, hw⟩
  rw [show BitVec.ofNat 32 (⟨w.toNat, hw⟩ : Fin 8).val = w from BitVec.ofNat_toNat .. |>.trans (BitVec.setWidth_eq w)] at h
  exact ld_off _ h _ _
theorem rd5 (v : View sig .tc sp S1x4096 .f32) (X : v.ty.Contents (Elt F)) (p) :
    v.readAt (Elt F) (Rect.unit (s := S1x4096) ![0, 0] ![1, 4096] p).toLoadRect X = v.read (Elt F) X :=
  View.ld_unit_zero (by funext a; fin_cases a <;> rfl) p _
theorem rd7 (v : View sig .tc sp S144x4096 .f32) (X : v.ty.Contents (Elt F)) (p) :
    v.readAt (Elt F) (Rect.unit (s := S144x4096) ![0, 0] ![144, 4096] p).toLoadRect X = v.read (Elt F) X :=
  View.ld_unit_zero (by funext a; fin_cases a <;> rfl) p _
theorem rd7w (v : View sig .tc sp S144x4096 .f32) (f : v.ty.Contents (Elt F)) (p) (w) (L) :
    v.read (Elt F) (v.writes (Elt F) f (⟨Rect.unit (s := S144x4096) ![0, 0] ![144, 4096] p, w⟩ :: L)) = w := by
  rw [← rd7 v _ p, View.readAt_rect]
  funext x
  exact View.read_writes_cons_emb _ _ _ _ _ x
end

theorem rd5w {sp : Space} (v : View sig .tc sp S1x4096 .f32) (f : v.ty.Contents (Elt F)) (p) (w) (L) :
    v.read (Elt F) (v.writes (Elt F) f (⟨Rect.unit (s := S1x4096) ![0, 0] ![1, 4096] p, w⟩ :: L)) = w := by
  rw [← rd5 v _ p, View.readAt_rect]
  funext x
  exact View.read_writes_cons_emb _ _ _ _ _ x
theorem rdl {sp : Space} (v : View sig .tc sp S4x64 .f32) (X : v.ty.Contents (Elt F)) :
    v.read (Elt F) X = v.readAt (Elt F) (Rect.unit (s := S4x64) ![0, 0] S4x64.size inb_S4x64_S4x64_0_0).toLoadRect X :=
  (View.ld_unit_zero (S := S4x64) (off := ![0, 0]) (by funext a; fin_cases a <;> rfl) inb_S4x64_S4x64_0_0 (v.read (Elt F) X)).symm
theorem rdg {sp : Space} (v : View sig .tc sp S128x1 .f32) (X : v.ty.Contents (Elt F)) :
    v.read (Elt F) X = v.readAt (Elt F) (Rect.unit (s := S128x1) ![0, 0] S128x1.size inb_S128x1_S128x1_0_0).toLoadRect X :=
  (View.ld_unit_zero (S := S128x1) (off := ![0, 0]) (by funext a; fin_cases a <;> rfl) inb_S128x1_S128x1_0_0 (v.read (Elt F) X)).symm
theorem rd6w {sp : Space} (v : View sig .tc sp S2048x128 .bf16) (f : v.ty.Contents (Elt F)) (p) (w) (L) :
    v.read (Elt F) (v.writes (Elt F) f (⟨Rect.unit (s := S2048x128) ![0, 0] ![2048, 128] p, w⟩ :: L)) = w := by
  have h := View.ld_unit_zero (S := S2048x128) (off := ![0, 0]) (by funext a; fin_cases a <;> rfl) p
    (v.read (Elt F) (v.writes (Elt F) f (⟨Rect.unit (s := S2048x128) ![0, 0] ![2048, 128] p, w⟩ :: L)))
  rw [← h]
  funext x
  exact View.read_writes_cons_emb _ _ _ _ _ x
theorem rd8w {sp : Space} (v : View sig .tc sp S2x512x4096 .bf16) (f : v.ty.Contents (Elt F)) (r : Rect S2x512x4096) (w) (L) :
    View.ld (v.read (Elt F) (v.writes (Elt F) f (⟨r, w⟩ :: L))) r = w := by
  funext x
  exact View.read_writes_cons_emb _ _ _ _ _ x

theorem rc_skip01 {sp : Space} (v : View sig .tc sp S2x512x4096 .bf16) (w) (L) :
    v.readCov (Val := Elt F) (⟨slot0, w⟩ :: L) slot1.toLoadRect = v.readCov L slot1.toLoadRect :=
  View.readCov_cons_of_disjoint _ _ _ _ slots_disjoint
theorem rc_skip10 {sp : Space} (v : View sig .tc sp S2x512x4096 .bf16) (w) (L) :
    v.readCov (Val := Elt F) (⟨slot1, w⟩ :: L) slot0.toLoadRect = v.readCov L slot0.toLoadRect :=
  View.readCov_cons_of_disjoint _ _ _ _ slots_disjoint.symm

section
variable (𝒱 : Variants) (c : Dev nD) (bd : Option 𝒱.V) (E : Set ℕ) (i : grid0.Coords) (arg2 : Memref sig .tc .vmem S1x16x128x512 .bf16) (harg2 : arg2.IsWhole) (arg3 : Memref sig .tc .vmem S1x8192x128 .bf16) (harg3 : arg3.IsWhole) (arg4 : Memref sig .tc .vmem S1x16x144x512 .bf16) (harg4 : arg4.IsWhole) (arg5 : Memref sig .tc .vmem S1x4096 .f32) (harg5 : arg5.IsWhole) (arg6 : Memref sig .tc .vmem S4x64 .f32) (harg6 : arg6.IsWhole) (arg7 : Memref sig .tc .vmem S128x1 .f32) (harg7 : arg7.IsWhole) (arg8 : Memref sig .tc .vmem S2048x128 .bf16) (harg8 : arg8.IsWhole) (arg9 : Memref sig .tc .vmem S144x4096 .f32) (harg9 : arg9.IsWhole) (arg10 : Memref sig .tc .vmem S2x512x4096 .bf16) (harg10 : arg10.IsWhole) (arg11 : Memref sig .tc .vmem S4x128x4096 .bf16) (harg11 : arg11.IsWhole) (arg12 : Memref sig .tc .vmem S1x4096 .f32) (harg12 : arg12.IsWhole) (arg13 : Memref sig .tc .vmem S512x4096 .f32) (harg13 : arg13.IsWhole) (arg14 : Memref sig .tc .vmem S512x4096 .bf16) (harg14 : arg14.IsWhole) (arg1 : BitVec 32)
  (X3 : BufTy.Contents (Elt F) arg3.view.ty) (X4 : BufTy.Contents (Elt F) arg4.view.ty) (X5 : BufTy.Contents (Elt F) arg5.view.ty)
  (X11 : BufTy.Contents (Elt F) arg11.view.ty)

/-- The first loop before trip `k`. -/
def inv1 (k : ℕ) : sProp 𝕄 :=
  iprop((arg3.view.loc (c : Thread nD τ) ↦[arg3.view.set]{fullShare} X3) ∗ (arg4.view.loc (c : Thread nD τ) ↦[arg4.view.set]{fullShare} X4)
      ∗ (arg5.view.loc (c : Thread nD τ) ↦[arg5.view.set]{fullShare} X5) ∗ (arg11.view.loc (c : Thread nD τ) ↦[arg11.view.set]{fullShare} X11)
      ∗ (∃ f, (arg9.view.loc (c : Thread nD τ) ↦[arg9.view.set]{fullShare} f)
          ∗ ⌜arg9.view.read (Elt F) f = ac (arg3.view.read (Elt F) X3) (arg4.view.read (Elt F) X4) (arg11.view.read (Elt F) X11) (arg5.view.read (Elt F) X5) (i 1).val (8 * k)⌝)
      ∗ (∃ f, (arg10.view.loc (c : Thread nD τ) ↦[arg10.view.set]{fullShare} f)
          ∗ ⌜View.ld (arg10.view.read (Elt F) f) slot0 = pr (arg3.view.read (Elt F) X3) (arg11.view.read (Elt F) X11) (arg5.view.read (Elt F) X5) (i 1).val (8 * k)⌝))

theorem trip1 (k : Fin k0_t1_loop.trips) :
    inv1 c i arg3 arg4 arg5 arg9 arg10 arg11 X3 X4 X5 X11 k.val
      ⊢ wp frame (wpE (defs₀ (F := F)) 𝒱 (c : Thread nD τ) bd) E (k0_t1_body (F := F) i arg2 harg2 arg3 harg3 arg4 harg4 arg5 harg5 arg6 harg6 arg7 harg7 arg8 harg8 arg9 harg9 arg10 harg10 arg11 harg11 arg12 harg12 arg13 harg13 arg14 harg14 arg1 k PUnit.unit)
          (fun _ => inv1 c i arg3 arg4 arg5 arg9 arg10 arg11 X3 X4 X5 X11 (k.val + 1)) := by
  have hk : k.val < 2 := Nat.lt_of_lt_of_le k.isLt k0_t1_abs.2.1
  unfold k0_t1_body inv1
  iintro ⟨H3, H4, H5, H11, ⟨%f9, H9, %h9⟩, ⟨%f10, H10, %h10⟩⟩
  sl_exec
  sl_step
  isplitl [H3]; · iexact H3
  isplitl [H4]; · iexact H4
  isplitl [H5]; · iexact H5
  isplitl [H11]; · iexact H11
  have e0 : ∀ n : ℕ, 8 * k.val + 0 = 8 * k.val := fun _ => rfl
  isplitl [H9]
  · iexists _; isplitl [H9]; · iexact H9
    ipureintro
    rw [rd7w, Nat.mul_succ]
    delta trip1.sl.v338 trip1.sl.H9_7 trip1.sl.v302 trip1.sl.H9_6 trip1.sl.v266 trip1.sl.H9_5 trip1.sl.v230
      trip1.sl.H9_4 trip1.sl.v194 trip1.sl.H9_3 trip1.sl.v158 trip1.sl.H9_2 trip1.sl.v122 trip1.sl.H9_1
      trip1.sl.v342 trip1.sl.v306 trip1.sl.v270 trip1.sl.v234 trip1.sl.v198 trip1.sl.v162 trip1.sl.v126
      trip1.sl.H10_8 trip1.sl.H10_7 trip1.sl.H10_6 trip1.sl.H10_5 trip1.sl.H10_4 trip1.sl.H10_3 trip1.sl.H10_2
      trip1.sl.r_6 trip1.sl.r_5 trip1.sl.r_4 trip1.sl.r_3 trip1.sl.r_2 trip1.sl.r_1 trip1.sl.r
    simp only [View.readCov_cons_toLoadRect, rc_skip01, rc_skip10]
    simp only [pay12_eq, pay15_eq, pay18_eq, pay21_eq, pay24_eq, pay27_eq, pay30_eq, pay14_eq, pay17_eq, pay19_eq,
      pay22_eq, pay25_eq, pay28_eq, pay31_eq, rd5, rd7, h9]
    rw [rd2 _ _ _ 0#32 _ (by decide), rd2 _ _ _ 1#32 _ (by decide), rd2 _ _ _ 2#32 _ (by decide), rd2 _ _ _ 3#32 _ (by decide),
      rd2 _ _ _ 4#32 _ (by decide), rd2 _ _ _ 5#32 _ (by decide), rd2 _ _ _ 6#32 _ (by decide),
      rd3 _ _ _ _ 0#32 _ (by decide), rd3 _ _ _ _ 1#32 _ (by decide), rd3 _ _ _ _ 2#32 _ (by decide), rd3 _ _ _ _ 3#32 _ (by decide),
      rd3 _ _ _ _ 4#32 _ (by decide), rd3 _ _ _ _ 5#32 _ (by decide), rd3 _ _ _ _ 6#32 _ (by decide),
      rd4 _ _ _ 0#32 _ (by decide), rd4 _ _ _ 1#32 _ (by decide), rd4 _ _ _ 2#32 _ (by decide), rd4 _ _ _ 3#32 _ (by decide),
      rd4 _ _ _ 4#32 _ (by decide), rd4 _ _ _ 5#32 _ (by decide), rd4 _ _ _ 6#32 _ (by decide), rd4 _ _ _ 7#32 _ (by decide)]
    rfl
  iexists _; isplitl [H10]; · iexact H10
  ipureintro
  delta trip1.sl.H10_8
  rw [rd8w, rd2 _ _ _ 7#32 _ (by decide), rd3 _ _ _ _ 7#32 _ (by decide), rd5]
  rfl
end

/-! ## The second pass, taken where the first pass lost its normaliser -/

/-- The scores of step `n` of query block `i`. -/
def sc (K : Vec F S1x8192x128 .bf16) (Q : Vec F S4x128x4096 .bf16) (i n : ℕ) : Vec F S512x4096 .f32 :=
  k0_pay32 (kCh K n) (qBl Q i)

/-- The running maximum after `n` steps. -/
def rm (K : Vec F S1x8192x128 .bf16) (Q : Vec F S4x128x4096 .bf16) (i : ℕ) : ℕ → Vec F S1x4096 .f32
  | 0 => k0_pay54
  | n + 1 => k0_pay56 (mx (sc K Q i n) (rm K Q i n))

/-- The accumulator after `n` steps. -/
def ra (K : Vec F S1x8192x128 .bf16) (V : Vec F S1x16x144x512 .bf16) (Q : Vec F S4x128x4096 .bf16) (i : ℕ) : ℕ → Vec F S144x4096 .f32
  | 0 => k0_pay55
  | n + 1 => k0_pay48 (al (sc K Q i n) (rm K Q i n)) (vCh V n) (pp (sc K Q i n) (rm K Q i n)) (ra K V Q i n)

theorem off5_eq : ∀ (k : Fin k0_t2_loop.trips), k0_off5 k = ![0, 512 * (k.val % 16), 0] := by decide +kernel
theorem off7_eq : ∀ (k : Fin k0_t2_loop.trips), k0_off7 k = ![0, k.val % 16, 0, 0] := by decide +kernel
theorem off6_eq : ∀ (i : grid0.Coords) (k : Fin k0_t2_loop.trips), k0_off6 i k = ![min (i 1).val 3, 0, 0] := by decide +kernel

section
variable {sp : Space}
theorem rd2' (v : View sig .tc sp S1x8192x128 .bf16) (X : v.ty.Contents (Elt F)) (k : Fin k0_t2_loop.trips) (p) :
    v.readAt (Elt F) (Rect.unit (s := S1x8192x128) (k0_off5 k) ![1, 512, 128] p).toLoadRect X = kCh (v.read (Elt F) X) k.val :=
  ld_off _ (off5_eq k) _ _
theorem rd4' (v : View sig .tc sp S1x16x144x512 .bf16) (X : v.ty.Contents (Elt F)) (k : Fin k0_t2_loop.trips) (p) :
    v.readAt (Elt F) (Rect.unit (s := S1x16x144x512) (k0_off7 k) ![1, 1, 144, 512] p).toLoadRect X = vCh (v.read (Elt F) X) k.val :=
  ld_off _ (off7_eq k) _ _
theorem rd3' (v : View sig .tc sp S4x128x4096 .bf16) (X : v.ty.Contents (Elt F)) (i : grid0.Coords) (k : Fin k0_t2_loop.trips) (p) :
    v.readAt (Elt F) (Rect.unit (s := S4x128x4096) (k0_off6 i k) ![1, 128, 4096] p).toLoadRect X = qBl (v.read (Elt F) X) (i 1).val :=
  ld_off _ (off6_eq i k) _ _
theorem rd11 (v : View sig .tc sp S512x4096 .f32) (w) (p) (o) (h) :
    v.readCov (Val := Elt F) [⟨Rect.unit (s := S512x4096) ![0, 0] ![512, 4096] p, w⟩] (Rect.unit (s := S512x4096) ![o, 0] ![64, 4096] h).toLoadRect
      = View.ld w (rw64 o h) := by
  rw [View.readCov_eq_canon']
  exact congrArg (fun X => View.ld X (rw64 o h)) (View.canon_unit_zero (by funext a; fin_cases a <;> rfl) p w)
theorem rd12 (v : View sig .tc sp S512x4096 .bf16) (L) (p) :
    v.readCov (Val := Elt F) L (Rect.unit (s := S512x4096) ![0, 0] ![512, 4096] p).toLoadRect = View.canon L := by
  rw [View.readCov_eq_canon']
  exact View.ld_unit_zero (by funext a; fin_cases a <;> rfl) p _
end

section
variable (𝒱 : Variants) (c : Dev nD) (bd : Option 𝒱.V) (E : Set ℕ) (i : grid0.Coords) (arg2 : Memref sig .tc .vmem S1x16x128x512 .bf16) (harg2 : arg2.IsWhole) (arg3 : Memref sig .tc .vmem S1x8192x128 .bf16) (harg3 : arg3.IsWhole) (arg4 : Memref sig .tc .vmem S1x16x144x512 .bf16) (harg4 : arg4.IsWhole) (arg5 : Memref sig .tc .vmem S1x4096 .f32) (harg5 : arg5.IsWhole) (arg6 : Memref sig .tc .vmem S4x64 .f32) (harg6 : arg6.IsWhole) (arg7 : Memref sig .tc .vmem S128x1 .f32) (harg7 : arg7.IsWhole) (arg8 : Memref sig .tc .vmem S2048x128 .bf16) (harg8 : arg8.IsWhole) (arg9 : Memref sig .tc .vmem S144x4096 .f32) (harg9 : arg9.IsWhole) (arg10 : Memref sig .tc .vmem S2x512x4096 .bf16) (harg10 : arg10.IsWhole) (arg11 : Memref sig .tc .vmem S4x128x4096 .bf16) (harg11 : arg11.IsWhole) (arg12 : Memref sig .tc .vmem S1x4096 .f32) (harg12 : arg12.IsWhole) (arg13 : Memref sig .tc .vmem S512x4096 .f32) (harg13 : arg13.IsWhole) (arg14 : Memref sig .tc .vmem S512x4096 .bf16) (harg14 : arg14.IsWhole) (arg1 : BitVec 32)
  (X3 : BufTy.Contents (Elt F) arg3.view.ty) (X4 : BufTy.Contents (Elt F) arg4.view.ty) (X11 : BufTy.Contents (Elt F) arg11.view.ty)

/-- The second loop before trip `k`. -/
def inv2 (k : ℕ) : sProp 𝕄 :=
  iprop((arg3.view.loc (c : Thread nD τ) ↦[arg3.view.set]{fullShare} X3) ∗ (arg4.view.loc (c : Thread nD τ) ↦[arg4.view.set]{fullShare} X4)
      ∗ (arg11.view.loc (c : Thread nD τ) ↦[arg11.view.set]{fullShare} X11)
      ∗ (∃ f, (arg9.view.loc (c : Thread nD τ) ↦[arg9.view.set]{fullShare} f)
          ∗ ⌜arg9.view.read (Elt F) f = ra (arg3.view.read (Elt F) X3) (arg4.view.read (Elt F) X4) (arg11.view.read (Elt F) X11) (i 1).val k⌝)
      ∗ (∃ f, (arg12.view.loc (c : Thread nD τ) ↦[arg12.view.set]{fullShare} f)
          ∗ ⌜arg12.view.read (Elt F) f = rm (arg3.view.read (Elt F) X3) (arg11.view.read (Elt F) X11) (i 1).val k⌝)
      ∗ (∃ f, arg13.view.loc (c : Thread nD τ) ↦[arg13.view.set]{fullShare} f)
      ∗ (∃ f, arg14.view.loc (c : Thread nD τ) ↦[arg14.view.set]{fullShare} f))

theorem trip2 (k : Fin k0_t2_loop.trips) :
    inv2 c i arg3 arg4 arg9 arg11 arg12 arg13 arg14 X3 X4 X11 k.val
      ⊢ wp frame (wpE (defs₀ (F := F)) 𝒱 (c : Thread nD τ) bd) E (k0_t2_body (F := F) i arg2 harg2 arg3 harg3 arg4 harg4 arg5 harg5 arg6 harg6 arg7 harg7 arg8 harg8 arg9 harg9 arg10 harg10 arg11 harg11 arg12 harg12 arg13 harg13 arg14 harg14 arg1 k PUnit.unit)
          (fun _ => inv2 c i arg3 arg4 arg9 arg11 arg12 arg13 arg14 X3 X4 X11 (k.val + 1)) := by
  have hk : k.val < 16 := Nat.lt_of_lt_of_le k.isLt k0_t2_abs.2.1
  unfold k0_t2_body inv2
  iintro ⟨H3, H4, H11, ⟨%f9, H9, %h9⟩, ⟨%f12, H12, %h12⟩, ⟨%f13, H13⟩, ⟨%f14, H14⟩⟩
  sl_exec
  sl_step
  isplitl [H3]; · iexact H3
  isplitl [H4]; · iexact H4
  isplitl [H11]; · iexact H11
  isplitl [H9]
  · iexists _; isplitl [H9]; · iexact H9
    ipureintro
    rw [rd7w, rd7, h9]
    delta trip2.sl.r_3 trip2.sl.v209 trip2.sl.H14_8 trip2.sl.r_6 trip2.sl.r_5 trip2.sl.r_4 trip2.sl.r_2 trip2.sl.r_1 trip2.sl.r
      trip2.sl.v86 trip2.sl.v89 trip2.sl.v93 trip2.sl.v97 trip2.sl.v101 trip2.sl.v105 trip2.sl.v109 trip2.sl.v113 trip2.sl.H13_1
    simp only [rd11, rd12, rd5, rd2', rd3', rd4', h12]
    rfl
  isplitl [H12]
  · iexists _; isplitl [H12]; · iexact H12
    ipureintro
    rw [rd5w]
    delta trip2.sl.r_2 trip2.sl.r_1 trip2.sl.r
      trip2.sl.v86 trip2.sl.v89 trip2.sl.v93 trip2.sl.v97 trip2.sl.v101 trip2.sl.v105 trip2.sl.v109 trip2.sl.v113 trip2.sl.H13_1
    simp only [rd11, rd12, rd5, rd2', rd3', rd4', h12]
    rfl
  isplitl [H13]
  · iexists _; iexact H13
  iexists _; iexact H14
end

/-! ## The body -/

/-- The four blocks of queries, each the two maps of four tiles side by side. -/
def qq (Q : Vec F S1x16x128x512 .bf16) : Vec F S4x128x4096 .bf16 :=
  View.canon (Val := Elt F) (e := .bf16)
    [⟨Rect.unit (s := S4x128x4096) ![3, 0, 0] S1x128x4096.size inb_S4x128x4096_S1x128x4096_3_0_0,
      k0_pay2 (View.ld Q (Rect.unit (s := S1x16x128x512) ![0, 12, 0, 0] S1x1x128x512.size inb_S1x16x128x512_S1x1x128x512_0_12_0_0))
        (View.ld Q (Rect.unit (s := S1x16x128x512) ![0, 13, 0, 0] S1x1x128x512.size inb_S1x16x128x512_S1x1x128x512_0_13_0_0))
        (View.ld Q (Rect.unit (s := S1x16x128x512) ![0, 14, 0, 0] S1x1x128x512.size inb_S1x16x128x512_S1x1x128x512_0_14_0_0))
        (View.ld Q (Rect.unit (s := S1x16x128x512) ![0, 15, 0, 0] S1x1x128x512.size inb_S1x16x128x512_S1x1x128x512_0_15_0_0))⟩,
     ⟨Rect.unit (s := S4x128x4096) ![2, 0, 0] S1x128x4096.size inb_S4x128x4096_S1x128x4096_2_0_0,
      k0_pay2 (View.ld Q (Rect.unit (s := S1x16x128x512) ![0, 8, 0, 0] S1x1x128x512.size inb_S1x16x128x512_S1x1x128x512_0_8_0_0))
        (View.ld Q (Rect.unit (s := S1x16x128x512) ![0, 9, 0, 0] S1x1x128x512.size inb_S1x16x128x512_S1x1x128x512_0_9_0_0))
        (View.ld Q (Rect.unit (s := S1x16x128x512) ![0, 10, 0, 0] S1x1x128x512.size inb_S1x16x128x512_S1x1x128x512_0_10_0_0))
        (View.ld Q (Rect.unit (s := S1x16x128x512) ![0, 11, 0, 0] S1x1x128x512.size inb_S1x16x128x512_S1x1x128x512_0_11_0_0))⟩,
     ⟨Rect.unit (s := S4x128x4096) ![1, 0, 0] S1x128x4096.size inb_S4x128x4096_S1x128x4096_1_0_0,
      k0_pay2 (View.ld Q (Rect.unit (s := S1x16x128x512) ![0, 4, 0, 0] S1x1x128x512.size inb_S1x16x128x512_S1x1x128x512_0_4_0_0))
        (View.ld Q (Rect.unit (s := S1x16x128x512) ![0, 5, 0, 0] S1x1x128x512.size inb_S1x16x128x512_S1x1x128x512_0_5_0_0))
        (View.ld Q (Rect.unit (s := S1x16x128x512) ![0, 6, 0, 0] S1x1x128x512.size inb_S1x16x128x512_S1x1x128x512_0_6_0_0))
        (View.ld Q (Rect.unit (s := S1x16x128x512) ![0, 7, 0, 0] S1x1x128x512.size inb_S1x16x128x512_S1x1x128x512_0_7_0_0))⟩,
     ⟨Rect.unit (s := S4x128x4096) ![0, 0, 0] S1x128x4096.size inb_S4x128x4096_S1x128x4096_0_0_0,
      k0_pay2 (View.ld Q (Rect.unit (s := S1x16x128x512) ![0, 0, 0, 0] S1x1x128x512.size inb_S1x16x128x512_S1x1x128x512_0_0_0_0))
        (View.ld Q (Rect.unit (s := S1x16x128x512) ![0, 1, 0, 0] S1x1x128x512.size inb_S1x16x128x512_S1x1x128x512_0_1_0_0))
        (View.ld Q (Rect.unit (s := S1x16x128x512) ![0, 2, 0, 0] S1x1x128x512.size inb_S1x16x128x512_S1x1x128x512_0_2_0_0))
        (View.ld Q (Rect.unit (s := S1x16x128x512) ![0, 3, 0, 0] S1x1x128x512.size inb_S1x16x128x512_S1x1x128x512_0_3_0_0))⟩]

/-- The accumulator the output is read from. -/
def fin (K : Vec F S1x8192x128 .bf16) (V : Vec F S1x16x144x512 .bf16) (Q : Vec F S4x128x4096 .bf16) (s : Vec F S1x4096 .f32) (i : ℕ) :
    Vec F S144x4096 .f32 :=
  if bad (nrm (ac K V Q s i 16)) = 1#1 then ra K V Q i 16 else ac K V Q s i 16

/-- The block of the result. -/
def oBlk (K : Vec F S1x8192x128 .bf16) (V : Vec F S1x16x144x512 .bf16) (Q : Vec F S4x128x4096 .bf16) (s : Vec F S1x4096 .f32)
    (l : Vec F S4x64 .f32) (g : Vec F S128x1 .f32) (i : ℕ) : Vec F S2048x128 .bf16 :=
  k0_pay1 (k0_pay57 (top (fin K V Q s i)) (nrm (fin K V Q s i))) (k0_pay58 l) (k0_pay59 l) g

theorem off1_eq : ∀ i : grid0.Coords, k0_cond1 i = 1#1 → k0_off1 i = ![min ((i 1).val + 0 / 16) 3, 0, 0] := by decide +kernel
theorem cond1_eq : ∀ i : grid0.Coords, k0_cond1 i = 1#1 ↔ (i 1).val = 0 := by decide +kernel

section
variable (𝒱 : Variants) (c : Dev nD) (bd : Option 𝒱.V) (E : Set ℕ) (i : grid0.Coords) (arg2 : Memref sig .tc .vmem S1x16x128x512 .bf16) (harg2 : arg2.IsWhole) (arg3 : Memref sig .tc .vmem S1x8192x128 .bf16) (harg3 : arg3.IsWhole) (arg4 : Memref sig .tc .vmem S1x16x144x512 .bf16) (harg4 : arg4.IsWhole) (arg5 : Memref sig .tc .vmem S1x4096 .f32) (harg5 : arg5.IsWhole) (arg6 : Memref sig .tc .vmem S4x64 .f32) (harg6 : arg6.IsWhole) (arg7 : Memref sig .tc .vmem S128x1 .f32) (harg7 : arg7.IsWhole) (arg8 : Memref sig .tc .vmem S2048x128 .bf16) (harg8 : arg8.IsWhole) (arg9 : Memref sig .tc .vmem S144x4096 .f32) (harg9 : arg9.IsWhole) (arg10 : Memref sig .tc .vmem S2x512x4096 .bf16) (harg10 : arg10.IsWhole) (arg11 : Memref sig .tc .vmem S4x128x4096 .bf16) (harg11 : arg11.IsWhole) (arg12 : Memref sig .tc .vmem S1x4096 .f32) (harg12 : arg12.IsWhole) (arg13 : Memref sig .tc .vmem S512x4096 .f32) (harg13 : arg13.IsWhole) (arg14 : Memref sig .tc .vmem S512x4096 .bf16) (harg14 : arg14.IsWhole) (arg1 : BitVec 32)
  (X2 : BufTy.Contents (Elt F) arg2.view.ty) (X3 : BufTy.Contents (Elt F) arg3.view.ty) (X4 : BufTy.Contents (Elt F) arg4.view.ty) (X5 : BufTy.Contents (Elt F) arg5.view.ty)
  (X6 : BufTy.Contents (Elt F) arg6.view.ty) (X7 : BufTy.Contents (Elt F) arg7.view.ty) (X11 : BufTy.Contents (Elt F) arg11.view.ty)

/-- What the body finds besides the scratch of the queries and the weights. -/
def bPre : sProp 𝕄 :=
  iprop((arg2.view.loc (c : Thread nD τ) ↦[arg2.view.set]{fullShare} X2) ∗ (arg3.view.loc (c : Thread nD τ) ↦[arg3.view.set]{fullShare} X3)
      ∗ (arg4.view.loc (c : Thread nD τ) ↦[arg4.view.set]{fullShare} X4) ∗ (arg5.view.loc (c : Thread nD τ) ↦[arg5.view.set]{fullShare} X5)
      ∗ (arg6.view.loc (c : Thread nD τ) ↦[arg6.view.set]{fullShare} X6) ∗ (arg7.view.loc (c : Thread nD τ) ↦[arg7.view.set]{fullShare} X7)
      ∗ (∃ f, arg8.view.loc (c : Thread nD τ) ↦[arg8.view.set]{fullShare} f) ∗ (∃ f, arg9.view.loc (c : Thread nD τ) ↦[arg9.view.set]{fullShare} f)
      ∗ (∃ f, arg12.view.loc (c : Thread nD τ) ↦[arg12.view.set]{fullShare} f)
      ∗ (∃ f, arg13.view.loc (c : Thread nD τ) ↦[arg13.view.set]{fullShare} f) ∗ (∃ f, arg14.view.loc (c : Thread nD τ) ↦[arg14.view.set]{fullShare} f))

/-- What the body leaves. -/
def bPost (Q : Vec F S4x128x4096 .bf16) : sProp 𝕄 :=
  iprop((arg2.view.loc (c : Thread nD τ) ↦[arg2.view.set]{fullShare} X2) ∗ (arg3.view.loc (c : Thread nD τ) ↦[arg3.view.set]{fullShare} X3)
      ∗ (arg4.view.loc (c : Thread nD τ) ↦[arg4.view.set]{fullShare} X4) ∗ (arg5.view.loc (c : Thread nD τ) ↦[arg5.view.set]{fullShare} X5)
      ∗ (arg6.view.loc (c : Thread nD τ) ↦[arg6.view.set]{fullShare} X6) ∗ (arg7.view.loc (c : Thread nD τ) ↦[arg7.view.set]{fullShare} X7)
      ∗ (∃ f, (arg8.view.loc (c : Thread nD τ) ↦[arg8.view.set]{fullShare} f)
          ∗ ⌜arg8.view.read (Elt F) f = oBlk (arg3.view.read (Elt F) X3) (arg4.view.read (Elt F) X4) Q (arg5.view.read (Elt F) X5) (arg6.view.read (Elt F) X6) (arg7.view.read (Elt F) X7) (i 1).val⌝)
      ∗ (∃ f, arg9.view.loc (c : Thread nD τ) ↦[arg9.view.set]{fullShare} f)
      ∗ (∃ f, (arg10.view.loc (c : Thread nD τ) ↦[arg10.view.set]{fullShare} f)
          ∗ ⌜View.ld (arg10.view.read (Elt F) f) slot0 = pr (arg3.view.read (Elt F) X3) Q (arg5.view.read (Elt F) X5) (i 1).val 16⌝)
      ∗ (∃ f, (arg11.view.loc (c : Thread nD τ) ↦[arg11.view.set]{fullShare} f) ∗ ⌜arg11.view.read (Elt F) f = Q⌝)
      ∗ (∃ f, arg12.view.loc (c : Thread nD τ) ↦[arg12.view.set]{fullShare} f)
      ∗ (∃ f, arg13.view.loc (c : Thread nD τ) ↦[arg13.view.set]{fullShare} f) ∗ (∃ f, arg14.view.loc (c : Thread nD τ) ↦[arg14.view.set]{fullShare} f))

/-- The first loop before trip `k`, the scratch of the queries holding `Q`. -/
def invA (Q : Vec F S4x128x4096 .bf16) (k : ℕ) : sProp 𝕄 :=
  iprop(∃ X11, ⌜arg11.view.read (Elt F) X11 = Q⌝ ∗ inv1 c i arg3 arg4 arg5 arg9 arg10 arg11 X3 X4 X5 X11 k)

theorem tripA (Q : Vec F S4x128x4096 .bf16) (k : Fin k0_t1_loop.trips) :
    invA c i arg3 arg4 arg5 arg9 arg10 arg11 X3 X4 X5 Q k.val
      ⊢ wp frame (wpE (defs₀ (F := F)) 𝒱 (c : Thread nD τ) bd) E (k0_t1_body (F := F) i arg2 harg2 arg3 harg3 arg4 harg4 arg5 harg5 arg6 harg6 arg7 harg7 arg8 harg8 arg9 harg9 arg10 harg10 arg11 harg11 arg12 harg12 arg13 harg13 arg14 harg14 arg1 k PUnit.unit)
          (fun _ => invA c i arg3 arg4 arg5 arg9 arg10 arg11 X3 X4 X5 Q (k.val + 1)) := by
  unfold invA
  iintro ⟨%X11, %hQ, H⟩
  iapply (wp_wand_r Idealize.ShloMosaic.frame (wpE (defs₀ (F := F)) 𝒱 (c : Thread nD τ) bd) E)
  isplitl [H]
  · iapply (trip1 𝒱 c bd E i arg2 harg2 arg3 harg3 arg4 harg4 arg5 harg5 arg6 harg6 arg7 harg7 arg8 harg8 arg9 harg9 arg10 harg10 arg11 harg11 arg12 harg12 arg13 harg13 arg14 harg14 arg1 X3 X4 X5 X11 k)
    iexact H
  iintro %v H
  iexists X11
  isplitr; · ipureintro; exact hQ
  iexact H

theorem body1 (h1 : ¬ k0_cond1 i = 1#1) :
    iprop(bPre c arg2 arg3 arg4 arg5 arg6 arg7 arg8 arg9 arg12 arg13 arg14 X2 X3 X4 X5 X6 X7
        ∗ (∃ f, (arg10.view.loc (c : Thread nD τ) ↦[arg10.view.set]{fullShare} f)
          ∗ ⌜View.ld (arg10.view.read (Elt F) f) slot0 = pr (arg3.view.read (Elt F) X3) (arg11.view.read (Elt F) X11) (arg5.view.read (Elt F) X5) (i 1).val 0⌝)
        ∗ (arg11.view.loc (c : Thread nD τ) ↦[arg11.view.set]{fullShare} X11))
      ⊢ wp frame (wpE (defs₀ (F := F)) 𝒱 (c : Thread nD τ) bd) E (cc0_attn_b (F := F) i arg2 harg2 arg3 harg3 arg4 harg4 arg5 harg5 arg6 harg6 arg7 harg7 arg8 harg8 arg9 harg9 arg10 harg10 arg11 harg11 arg12 harg12 arg13 harg13 arg14 harg14)
          (fun _ => bPost c i arg2 arg3 arg4 arg5 arg6 arg7 arg8 arg9 arg10 arg11 arg12 arg13 arg14 X2 X3 X4 X5 X6 X7 (arg11.view.read (Elt F) X11)) := by
  rw [cc0_attn_b_eq_skeleton]
  unfold cc0_attn_b_skel
  rw [k0_part16_eq_skeleton]
  unfold k0_part16_skel bPre bPost
  iintro ⟨⟨H2, H3, H4, H5, H6, H7, ⟨%f8, H8⟩, ⟨%f9, H9⟩, ⟨%f12, H12⟩, ⟨%f13, H13⟩, ⟨%f14, H14⟩⟩, ⟨%f10, H10, %h10⟩, H11⟩
  sl_exec
  rw [bind_assoc]
  sl_for (fun k _ => invA c i arg3 arg4 arg5 arg9 arg10 arg11 X3 X4 X5 (arg11.view.read (Elt F) X11) k) $$ [H3 H4 H5 H9 H10 H11]
  · intro k acc
    exact tripA 𝒱 c bd E i arg2 harg2 arg3 harg3 arg4 harg4 arg5 harg5 arg6 harg6 arg7 harg7 arg8 harg8 arg9 harg9 arg10 harg10 arg11 harg11 arg12 harg12 arg13 harg13 arg14 harg14 (BitVec.ofNat 32 (i 1).val) X3 X4 X5 (arg11.view.read (Elt F) X11) k
  · unfold invA inv1
    iexists _
    isplitr
    swap
    · isplitl [H3]; · iexact H3
      isplitl [H4]; · iexact H4
      isplitl [H5]; · iexact H5
      isplitl [H11]; · iexact H11
      isplitl [H9]
      · iexists _; isplitl [H9]; · iexact H9
        ipureintro
        exact rd7w _ _ _ _ _
      iexists _; isplitl [H10]; · iexact H10
      ipureintro
      exact h10
    ipureintro
    rfl
  unfold invA inv1
  iintro %acc ⟨%Y11, %hQ, H3, H4, H5, H11, ⟨%g9, H9, %e9⟩, ⟨%g10, H10, %e10⟩⟩
  rw [← hQ]
  replace e9 : arg9.view.read (Elt F) g9 = ac (arg3.view.read (Elt F) X3) (arg4.view.read (Elt F) X4) (arg11.view.read (Elt F) Y11) (arg5.view.read (Elt F) X5) (i 1).val 16 := e9
  replace e10 : View.ld (arg10.view.read (Elt F) g10) slot0 = pr (arg3.view.read (Elt F) X3) (arg11.view.read (Elt F) Y11) (arg5.view.read (Elt F) X5) (i 1).val 16 := e10
  by_cases hb : bad (nrm (arg9.view.read (Elt F) g9)) = 1#1
  · have hb' : Scalar.cmpi .ne (Scalar.extui (Scalar.xori (Scalar.cmpf .oge (k0_pay53 (arg9.view.readAt (Elt F) (Rect.unit (s := S144x4096) ![128, 0] S1x4096.size inb_S144x4096_S1x4096_128_0).toLoadRect g9)) (Scalar.ofBits .f32 0x21800000#32)) 1#1) : BitVec 32) 0#32 = 1#1 := hb
    sl_exec
    rw [bind_assoc]
    sl_for (fun k _ => inv2 c i arg3 arg4 arg9 arg11 arg12 arg13 arg14 X3 X4 Y11 k) $$ [H3 H4 H9 H11 H12 H13 H14]
    · intro k acc
      exact trip2 𝒱 c bd E i arg2 harg2 arg3 harg3 arg4 harg4 arg5 harg5 arg6 harg6 arg7 harg7 arg8 harg8 arg9 harg9 arg10 harg10 arg11 harg11 arg12 harg12 arg13 harg13 arg14 harg14 (BitVec.ofNat 32 (i 1).val) X3 X4 Y11 k
    · unfold inv2
      isplitl [H3]; · iexact H3
      isplitl [H4]; · iexact H4
      isplitl [H11]; · iexact H11
      isplitl [H9]
      · iexists _; isplitl [H9]; · iexact H9
        ipureintro
        exact rd7w _ _ _ _ _
      isplitl [H12]
      · iexists _; isplitl [H12]; · iexact H12
        ipureintro
        exact rd5w _ _ _ _ _
      isplitl [H13]; · iexists _; iexact H13
      iexists _; iexact H14
    unfold inv2
    iintro %acc2 ⟨H3, H4, H11, ⟨%u9, H9, %d9⟩, ⟨%u12, H12, %d12⟩, ⟨%u13, H13⟩, ⟨%u14, H14⟩⟩
    replace d9 : arg9.view.read (Elt F) u9 = ra (arg3.view.read (Elt F) X3) (arg4.view.read (Elt F) X4) (arg11.view.read (Elt F) Y11) (i 1).val 16 := d9
    sl_exec
    sl_step
    isplitl [H2]; · iexact H2
    isplitl [H3]; · iexact H3
    isplitl [H4]; · iexact H4
    isplitl [H5]; · iexact H5
    isplitl [H6]; · iexact H6
    isplitl [H7]; · iexact H7
    isplitl [H8]
    · iexists _; isplitl [H8]; · iexact H8
      ipureintro
      rw [rd6w]
      rw [e9] at hb
      unfold oBlk fin
      rw [if_pos hb, ← d9, rdl, rdg]
      rfl
    isplitl [H9]; · iexists _; iexact H9
    isplitl [H10]
    · iexists _; isplitl [H10]; · iexact H10
      ipureintro; exact e10
    isplitl [H11]
    · iexists _; isplitl [H11]; · iexact H11
      ipureintro; rfl
    isplitl [H12]; · iexists _; iexact H12
    isplitl [H13]; · iexists _; iexact H13
    iexists _; iexact H14
  · have hb' : ¬ Scalar.cmpi .ne (Scalar.extui (Scalar.xori (Scalar.cmpf .oge (k0_pay53 (arg9.view.readAt (Elt F) (Rect.unit (s := S144x4096) ![128, 0] S1x4096.size inb_S144x4096_S1x4096_128_0).toLoadRect g9)) (Scalar.ofBits .f32 0x21800000#32)) 1#1) : BitVec 32) 0#32 = 1#1 := hb
    sl_exec
    sl_step
    isplitl [H2]; · iexact H2
    isplitl [H3]; · iexact H3
    isplitl [H4]; · iexact H4
    isplitl [H5]; · iexact H5
    isplitl [H6]; · iexact H6
    isplitl [H7]; · iexact H7
    isplitl [H8]
    · iexists _; isplitl [H8]; · iexact H8
      ipureintro
      rw [rd6w]
      rw [e9] at hb
      unfold oBlk fin
      rw [if_neg hb, ← e9, rdl, rdg]
      rfl
    isplitl [H9]; · iexists _; iexact H9
    isplitl [H10]
    · iexists _; isplitl [H10]; · iexact H10
      ipureintro; exact e10
    isplitl [H11]
    · iexists _; isplitl [H11]; · iexact H11
      ipureintro; rfl
    isplitl [H12]; · iexists _; iexact H12
    isplitl [H13]; · iexists _; iexact H13
    iexists _; iexact H14

theorem body0 (h1 : k0_cond1 i = 1#1) :
    iprop(bPre c arg2 arg3 arg4 arg5 arg6 arg7 arg8 arg9 arg12 arg13 arg14 X2 X3 X4 X5 X6 X7
        ∗ (∃ f, arg10.view.loc (c : Thread nD τ) ↦[arg10.view.set]{fullShare} f)
        ∗ (∃ f, arg11.view.loc (c : Thread nD τ) ↦[arg11.view.set]{fullShare} f))
      ⊢ wp frame (wpE (defs₀ (F := F)) 𝒱 (c : Thread nD τ) bd) E (cc0_attn_b (F := F) i arg2 harg2 arg3 harg3 arg4 harg4 arg5 harg5 arg6 harg6 arg7 harg7 arg8 harg8 arg9 harg9 arg10 harg10 arg11 harg11 arg12 harg12 arg13 harg13 arg14 harg14)
          (fun _ => bPost c i arg2 arg3 arg4 arg5 arg6 arg7 arg8 arg9 arg10 arg11 arg12 arg13 arg14 X2 X3 X4 X5 X6 X7 (qq (arg2.view.read (Elt F) X2))) := by
  rw [cc0_attn_b_eq_skeleton]
  unfold cc0_attn_b_skel
  rw [k0_part16_eq_skeleton]
  unfold k0_part16_skel bPre bPost
  iintro ⟨⟨H2, H3, H4, H5, H6, H7, ⟨%f8, H8⟩, ⟨%f9, H9⟩, ⟨%f12, H12⟩, ⟨%f13, H13⟩, ⟨%f14, H14⟩⟩, ⟨%f10, H10⟩, ⟨%f11, H11⟩⟩
  sl_exec
  rw [bind_assoc]
  sl_for (fun k _ => invA c i arg3 arg4 arg5 arg9 arg10 arg11 X3 X4 X5 (qq (arg2.view.read (Elt F) X2)) k) $$ [H3 H4 H5 H9 H10 H11]
  · intro k acc
    exact tripA 𝒱 c bd E i arg2 harg2 arg3 harg3 arg4 harg4 arg5 harg5 arg6 harg6 arg7 harg7 arg8 harg8 arg9 harg9 arg10 harg10 arg11 harg11 arg12 harg12 arg13 harg13 arg14 harg14 (BitVec.ofNat 32 (i 1).val) X3 X4 X5 (qq (arg2.view.read (Elt F) X2)) k
  · unfold invA inv1
    iexists _
    isplitr
    swap
    · isplitl [H3]; · iexact H3
      isplitl [H4]; · iexact H4
      isplitl [H5]; · iexact H5
      isplitl [H11]; · iexact H11
      isplitl [H9]
      · iexists _; isplitl [H9]; · iexact H9
        ipureintro
        exact rd7w _ _ _ _ _
      iexists _; isplitl [H10]; · iexact H10
      ipureintro
      rw [rd8w, rd5]
      delta body0.sl.r_4 body0.sl.r_5
      rw [pay49_eq]
      exact congr (congrArg k0_pay51 rfl) (ld_off _ (off1_eq i h1) _ _) |> fun e => congrFun e _
    ipureintro
    delta body0.sl.H11_4
    exact View.read_writes_eq_canon _ _ _ (View.cover_of_tiledL _ S1x128x4096.size (by sl_kernel_rfl))
  unfold invA inv1
  iintro %acc ⟨%X11, %hQ, H3, H4, H5, H11, ⟨%g9, H9, %e9⟩, ⟨%g10, H10, %e10⟩⟩
  rw [← hQ]
  replace e9 : arg9.view.read (Elt F) g9 = ac (arg3.view.read (Elt F) X3) (arg4.view.read (Elt F) X4) (arg11.view.read (Elt F) X11) (arg5.view.read (Elt F) X5) (i 1).val 16 := e9
  replace e10 : View.ld (arg10.view.read (Elt F) g10) slot0 = pr (arg3.view.read (Elt F) X3) (arg11.view.read (Elt F) X11) (arg5.view.read (Elt F) X5) (i 1).val 16 := e10
  by_cases hb : bad (nrm (arg9.view.read (Elt F) g9)) = 1#1
  · have hb' : Scalar.cmpi .ne (Scalar.extui (Scalar.xori (Scalar.cmpf .oge (k0_pay53 (arg9.view.readAt (Elt F) (Rect.unit (s := S144x4096) ![128, 0] S1x4096.size inb_S144x4096_S1x4096_128_0).toLoadRect g9)) (Scalar.ofBits .f32 0x21800000#32)) 1#1) : BitVec 32) 0#32 = 1#1 := hb
    sl_exec
    rw [bind_assoc]
    sl_for (fun k _ => inv2 c i arg3 arg4 arg9 arg11 arg12 arg13 arg14 X3 X4 X11 k) $$ [H3 H4 H9 H11 H12 H13 H14]
    · intro k acc
      exact trip2 𝒱 c bd E i arg2 harg2 arg3 harg3 arg4 harg4 arg5 harg5 arg6 harg6 arg7 harg7 arg8 harg8 arg9 harg9 arg10 harg10 arg11 harg11 arg12 harg12 arg13 harg13 arg14 harg14 (BitVec.ofNat 32 (i 1).val) X3 X4 X11 k
    · unfold inv2
      isplitl [H3]; · iexact H3
      isplitl [H4]; · iexact H4
      isplitl [H11]; · iexact H11
      isplitl [H9]
      · iexists _; isplitl [H9]; · iexact H9
        ipureintro
        exact rd7w _ _ _ _ _
      isplitl [H12]
      · iexists _; isplitl [H12]; · iexact H12
        ipureintro
        exact rd5w _ _ _ _ _
      isplitl [H13]; · iexists _; iexact H13
      iexists _; iexact H14
    unfold inv2
    iintro %acc2 ⟨H3, H4, H11, ⟨%u9, H9, %d9⟩, ⟨%u12, H12, %d12⟩, ⟨%u13, H13⟩, ⟨%u14, H14⟩⟩
    replace d9 : arg9.view.read (Elt F) u9 = ra (arg3.view.read (Elt F) X3) (arg4.view.read (Elt F) X4) (arg11.view.read (Elt F) X11) (i 1).val 16 := d9
    sl_exec
    sl_step
    isplitl [H2]; · iexact H2
    isplitl [H3]; · iexact H3
    isplitl [H4]; · iexact H4
    isplitl [H5]; · iexact H5
    isplitl [H6]; · iexact H6
    isplitl [H7]; · iexact H7
    isplitl [H8]
    · iexists _; isplitl [H8]; · iexact H8
      ipureintro
      rw [rd6w]
      rw [e9] at hb
      unfold oBlk fin
      rw [if_pos hb, ← d9, rdl, rdg]
      rfl
    isplitl [H9]; · iexists _; iexact H9
    isplitl [H10]
    · iexists _; isplitl [H10]; · iexact H10
      ipureintro; exact e10
    isplitl [H11]
    · iexists _; isplitl [H11]; · iexact H11
      ipureintro; rfl
    isplitl [H12]; · iexists _; iexact H12
    isplitl [H13]; · iexists _; iexact H13
    iexists _; iexact H14
  · have hb' : ¬ Scalar.cmpi .ne (Scalar.extui (Scalar.xori (Scalar.cmpf .oge (k0_pay53 (arg9.view.readAt (Elt F) (Rect.unit (s := S144x4096) ![128, 0] S1x4096.size inb_S144x4096_S1x4096_128_0).toLoadRect g9)) (Scalar.ofBits .f32 0x21800000#32)) 1#1) : BitVec 32) 0#32 = 1#1 := hb
    sl_exec
    sl_step
    isplitl [H2]; · iexact H2
    isplitl [H3]; · iexact H3
    isplitl [H4]; · iexact H4
    isplitl [H5]; · iexact H5
    isplitl [H6]; · iexact H6
    isplitl [H7]; · iexact H7
    isplitl [H8]
    · iexists _; isplitl [H8]; · iexact H8
      ipureintro
      rw [rd6w]
      rw [e9] at hb
      unfold oBlk fin
      rw [if_neg hb, ← e9, rdl, rdg]
      rfl
    isplitl [H9]; · iexists _; iexact H9
    isplitl [H10]
    · iexists _; isplitl [H10]; · iexact H10
      ipureintro; exact e10
    isplitl [H11]
    · iexists _; isplitl [H11]; · iexact H11
      ipureintro; rfl
    isplitl [H12]; · iexists _; iexact H12
    isplitl [H13]; · iexists _; iexact H13
    iexists _; iexact H14

end

end Cert.KernelDiffIdeal.Hand
end
-- ==== Proof.DiffRunI.lean ====
module

public import proofs.«01_k».proof.Proof.DiffI
public import Idealize.ShloMosaic.Lib.Pipeline.ValueKit
public import Idealize.ShloMosaic.Lib.Pipeline.Quiescent

@[expose] public section

set_option maxRecDepth 16384

noncomputable section

namespace Cert.KernelDiffIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelDiffIdeal.Gen
open Cert.KernelIdeal.Hand (slot0)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The blocks at a point -/

abbrev qB (c : Dev nD) (t : Fin cfg0.N) : Vec F S1x16x128x512 .bf16 := iblk m c 0 t
abbrev kB (c : Dev nD) (t : Fin cfg0.N) : Vec F S1x8192x128 .bf16 := iblk m c 1 t
abbrev vB (c : Dev nD) (t : Fin cfg0.N) : Vec F S1x16x144x512 .bf16 := iblk m c 2 t
abbrev sB (c : Dev nD) (t : Fin cfg0.N) : Vec F S1x4096 .f32 := iblk m c 3 t
abbrev lB (c : Dev nD) (t : Fin cfg0.N) : Vec F S4x64 .f32 := iblk m c 4 t
abbrev gB (c : Dev nD) (t : Fin cfg0.N) : Vec F S128x1 .f32 := iblk m c 5 t

/-- The result's block at point `t`. -/
def outAt (c : Dev nD) (t : Fin cfg0.N) : Vec F S2048x128 .bf16 :=
  oBlk (kB m c t) (vB m c t) (qq (qB m c t)) (sB m c t) (lB m c t) (gB m c t) (grid0.coords t 1).val

/-- Buffer `b` held whole, at something. -/
def anyB (c : Dev nD) (b : Ref sig .tc) : sProp 𝕄 :=
  iprop(∃ f, (Memref.whole b).view.loc (c : Thread nD τ) ↦[(Memref.whole b).view.set]{fullShare} f)

theorem anyB_eq (c : Dev nD) (b : Ref sig .tc) :
    (anyB c b : sProp 𝕄) = iprop(∃ f : Buf (Elt F) ((c : Thread nD τ).loc b), ((c : Thread nD τ).loc b) ↦{fullShare} f) := by
  unfold anyB
  rw [show (Memref.whole b).view.set = Finset.univ from View.set_whole b]

theorem scratch_eq (c : Dev nD) : (Pipeline.scopedRest spec0 c : sProp 𝕄)
    = iprop(anyB c cc0_scratch0 ∗ anyB c cc0_scratch1 ∗ anyB c cc0_scratch2 ∗ anyB c cc0_scratch3 ∗ anyB c cc0_scratch4 ∗ anyB c cc0_scratch5) := by
  simp only [scopedRest0_eq, anyB_eq]

/-- The scratch between two points of a head: the queries and the first weights of query block `i`. -/
def ΦB (c : Dev nD) (t : Fin cfg0.N) (i : ℕ) : sProp 𝕄 :=
  iprop((anyB c cc0_scratch0
      ∗ (∃ f, ((Memref.whole cc0_scratch1).view.loc (c : Thread nD τ) ↦[(Memref.whole cc0_scratch1).view.set]{fullShare} f)
          ∗ ⌜View.ld ((Memref.whole cc0_scratch1).view.read (Elt F) f) slot0 = pr (kB m c t) (qq (qB m c t)) (sB m c t) i 0⌝)
      ∗ (∃ f, ((Memref.whole cc0_scratch2).view.loc (c : Thread nD τ) ↦[(Memref.whole cc0_scratch2).view.set]{fullShare} f)
          ∗ ⌜(Memref.whole cc0_scratch2).view.read (Elt F) f = qq (qB m c t)⌝)
      ∗ anyB c cc0_scratch3
      ∗ anyB c cc0_scratch4
      ∗ anyB c cc0_scratch5)
    ∗ ∃ r, prngReg c r)

/-- The scratch before point `t`. -/
def ΦI (c : Dev nD) (t : ℕ) : sProp 𝕄 :=
  if h : t % 4 ≠ 0 ∧ t < cfg0.N then ΦB m c ⟨t, h.2⟩ (t % 4) else Pipeline.ΦA spec0 c

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outAt m c t
  Φ t := ΦI m c t.val
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = outAt m c t := by dsimp only [dats]

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

theorem coord1 : ∀ t : Fin grid0.N, (grid0.coords t 1).val = t.val % 4 := by decide +kernel
theorem coord0 : ∀ t : Fin grid0.N, (grid0.coords t 0).val = t.val / 4 := by decide +kernel

theorem wx0 : ∀ t : Fin grid0.N, win0_0.index t = ![t.val / 4, 0, 0, 0] := by decide +kernel
theorem wx1 : ∀ t : Fin grid0.N, win0_1.index t = ![t.val / 4, 0, 0] := by decide +kernel
theorem wx2 : ∀ t : Fin grid0.N, win0_2.index t = ![t.val / 4, 0, 0, 0] := by decide +kernel
theorem wx3 : ∀ t : Fin grid0.N, win0_3.index t = ![0, 0] := by decide +kernel
theorem wx4 : ∀ t : Fin grid0.N, win0_4.index t = ![0, 0] := by decide +kernel
theorem wx5 : ∀ t : Fin grid0.N, win0_5.index t = ![0, 0] := by decide +kernel
theorem wx6 : ∀ t : Fin grid0.N, win0_6.index t = ![t.val % 4, t.val / 4] := by decide +kernel

theorem emb0_next (t : Fin cfg0.N) (h : t.val % 4 ≠ 3) (h' : t.val + 1 < cfg0.N) (y : S1x16x128x512.Idx) :
    ((((cfg0.win 0).blk ⟨t.val + 1, h'⟩).view.emb y : S8x16x128x512.Idx)) = ((cfg0.win 0).blk t).view.emb y := by
  have e2 : (t.val + 1) / 4 = t.val / 4 := by omega
  blk_ext [wx0, e2]
theorem emb1_next (t : Fin cfg0.N) (h : t.val % 4 ≠ 3) (h' : t.val + 1 < cfg0.N) (y : S1x8192x128.Idx) :
    ((((cfg0.win 1).blk ⟨t.val + 1, h'⟩).view.emb y : S8x8192x128.Idx)) = ((cfg0.win 1).blk t).view.emb y := by
  have e2 : (t.val + 1) / 4 = t.val / 4 := by omega
  blk_ext [wx1, e2]
theorem emb3_next (t : Fin cfg0.N) (h' : t.val + 1 < cfg0.N) (y : S1x4096.Idx) :
    ((((cfg0.win 3).blk ⟨t.val + 1, h'⟩).view.emb y : S1x4096.Idx)) = ((cfg0.win 3).blk t).view.emb y := by
  blk_ext [wx3]

theorem read0_next (c : Dev nD) (A : Buf (Elt F) ((c : Thread nD τ).loc (Pipeline.arrRef spec0 0))) (t : Fin cfg0.N) (h : t.val % 4 ≠ 3) (h' : t.val + 1 < cfg0.N) :
    (((cfg0.win 0).blk ⟨t.val + 1, h'⟩).view.read (Elt F) A : Vec F S1x16x128x512 .bf16) = ((cfg0.win 0).blk t).view.read (Elt F) A :=
  funext fun y => congrArg A (emb0_next t h h' y)
theorem read1_next (c : Dev nD) (A : Buf (Elt F) ((c : Thread nD τ).loc (Pipeline.arrRef spec0 1))) (t : Fin cfg0.N) (h : t.val % 4 ≠ 3) (h' : t.val + 1 < cfg0.N) :
    (((cfg0.win 1).blk ⟨t.val + 1, h'⟩).view.read (Elt F) A : Vec F S1x8192x128 .bf16) = ((cfg0.win 1).blk t).view.read (Elt F) A :=
  funext fun y => congrArg A (emb1_next t h h' y)
theorem read3_next (c : Dev nD) (A : Buf (Elt F) ((c : Thread nD τ).loc (Pipeline.arrRef spec0 3))) (t : Fin cfg0.N) (h' : t.val + 1 < cfg0.N) :
    (((cfg0.win 3).blk ⟨t.val + 1, h'⟩).view.read (Elt F) A : Vec F S1x4096 .f32) = ((cfg0.win 3).blk t).view.read (Elt F) A :=
  funext fun y => congrArg A (emb3_next t h' y)

/-- The blocks of queries, keys and the shift do not move between two points of a head. -/
theorem block_next (c : Dev nD) (t : Fin cfg0.N) (h : t.val % 4 ≠ 3) (h' : t.val + 1 < cfg0.N) :
    qB m c ⟨t.val + 1, h'⟩ = qB m c t ∧ kB m c ⟨t.val + 1, h'⟩ = kB m c t ∧ sB m c ⟨t.val + 1, h'⟩ = sB m c t := by
  unfold qB kB sB iblk
  exact ⟨read0_next c _ t h h', read1_next c _ t h h', read3_next c _ t h'⟩

set_option maxHeartbeats 1000000 in
theorem sound_first (c : Dev nD) (t : Fin cfg0.N) (h : t.val % 4 = 0) :
    bodyPre m c t ⊢ wp frame (wpE (defs₀ (F := F)) Variants.none c none) Set.univ (bodyAt0 t) (fun _ => bodyPost m c t) := by
  have hN : t.val + 1 < cfg0.N := by
    have := t.isLt
    have e : cfg0.N = 32 := N_0
    omega
  have hi : (grid0.coords t 1).val = t.val % 4 := coord1 t
  obtain ⟨hq, hk, hs⟩ := block_next m c t (by omega) hN
  unfold bodyPre bodyPost bodyAt0
  rw [show (dats m 0 c).Φ t.succ = ΦB m c ⟨t.val + 1, hN⟩ (t.val % 4 + 1) from
      (dif_pos ⟨by simp only [Fin.val_succ]; omega, hN⟩).trans (congrArg (ΦB m c ⟨t.val + 1, hN⟩) (show (t.val + 1) % 4 = t.val % 4 + 1 by omega)),
    show (dats m 0 c).Φ t.castSucc = Pipeline.ΦA spec0 c from dif_neg (by simp only [Fin.val_castSucc]; omega),
    after0_0, after0_1, after0_2, after0_3, after0_4, after0_5, after0_6]
  unfold Pipeline.ΦA ΦB Dat.owesAt Pipeline.owesWithin outAt
  rw [scratch_eq, hq, hk, hs, hi]
  rw [show (dats m 0 c).owed t.castSucc = 0 from rfl, show (dats m 0 c).owed t.succ = 0 from rfl]
  simp only [before0_0_of m (dats m 0 c) (A_eq m c 0) (after0_0 m c), before0_1_of m (dats m 0 c) (A_eq m c 1) (after0_1 m c),
    before0_2_of m (dats m 0 c) (A_eq m c 2) (after0_2 m c), before0_3_of m (dats m 0 c) (A_eq m c 3) (after0_3 m c),
    before0_4_of m (dats m 0 c) (A_eq m c 4) (after0_4 m c), before0_5_of m (dats m 0 c) (A_eq m c 5) (after0_5 m c)]
  unfold owns anyB
  iintro ⟨⟨⟨HS0, ⟨%s1, HS1⟩, ⟨%s2, HS2⟩, HS3, HS4, HS5⟩, Hg⟩, ⟨%W, -, HW⟩, ⟨%d0, ⟨%f0, %e0, H0⟩⟩, ⟨%d1, ⟨%f1, %e1, H1⟩⟩, ⟨%d2, ⟨%f2, %e2, H2⟩⟩, ⟨%d3, ⟨%f3, %e3, H3⟩⟩, ⟨%d4, ⟨%f4, %e4, H4⟩⟩, ⟨%d5, ⟨%f5, %e5, H5⟩⟩, ⟨%d6, ⟨%f6, %e6, H6⟩⟩⟩
  iapply (wp_wand_r Idealize.ShloMosaic.frame (wpE (defs₀ (F := F)) Variants.none (c : Thread nD τ) none) Set.univ)
  isplitl [HS0 HS1 HS2 HS3 HS4 HS5 H0 H1 H2 H3 H4 H5 H6]
  · iapply (body0 Variants.none c none Set.univ (grid0.coords t) (st0_0 t) (hstage0_0 ((cfg0.slots t 0).cast nbuf0_0)) (st0_1 t) (hstage0_1 ((cfg0.slots t 1).cast nbuf0_1))
      (st0_2 t) (hstage0_2 ((cfg0.slots t 2).cast nbuf0_2)) (st0_3 t) (hstage0_3 ((cfg0.slots t 3).cast nbuf0_3)) (st0_4 t) (hstage0_4 ((cfg0.slots t 4).cast nbuf0_4))
      (st0_5 t) (hstage0_5 ((cfg0.slots t 5).cast nbuf0_5)) (st0_6 t) (hstage0_6 ((cfg0.slots t 6).cast nbuf0_6))
      (Memref.whole cc0_scratch0) (Memref.isWhole_whole _) (Memref.whole cc0_scratch1) (Memref.isWhole_whole _) (Memref.whole cc0_scratch2) (Memref.isWhole_whole _)
      (Memref.whole cc0_scratch3) (Memref.isWhole_whole _) (Memref.whole cc0_scratch4) (Memref.isWhole_whole _) (Memref.whole cc0_scratch5) (Memref.isWhole_whole _)
      f0 f1 f2 f3 f4 f5 ((cond1_eq _).mpr (hi.trans h)))
    unfold bPre
    isplitl [HS0 HS3 HS4 HS5 H0 H1 H2 H3 H4 H5 H6]
    · isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      isplitl [HS3]; · iexact HS3
      isplitl [HS4]; · iexact HS4
      iexact HS5
    isplitl [HS1]; · iexists _; iexact HS1
    iexists _; iexact HS2
  unfold bPost
  rw [e0, e1, e2, e3, e4, e5, hi]
  iintro %_ ⟨H0, H1, H2, H3, H4, H5, ⟨%f8, H8, %e8⟩, HS0, HS1, HS2, HS3, HS4, HS5⟩
  isplitl [HS0 HS1 HS2 HS3 HS4 HS5 Hg]
  · isplitr [Hg]
    · isplitl [HS0]; · iexact HS0
      isplitl [HS1]; · iexact HS1
      isplitl [HS2]; · iexact HS2
      isplitl [HS3]; · iexact HS3
      isplitl [HS4]; · iexact HS4
      iexact HS5
    iexact Hg
  isplitl [HW]
  · iexists W; isplitr; · ipureintro; exact fun _ _ => Or.inl trivial
    iexact HW
  isplitl [H0]; · iexists _; isplitr; swap; · iexact H0
                  ipureintro; exact e0
  isplitl [H1]; · iexists _; isplitr; swap; · iexact H1
                  ipureintro; exact e1
  isplitl [H2]; · iexists _; isplitr; swap; · iexact H2
                  ipureintro; exact e2
  isplitl [H3]; · iexists _; isplitr; swap; · iexact H3
                  ipureintro; exact e3
  isplitl [H4]; · iexists _; isplitr; swap; · iexact H4
                  ipureintro; exact e4
  isplitl [H5]; · iexists _; isplitr; swap; · iexact H5
                  ipureintro; exact e5
  iexists _; isplitr; swap; · iexact H8
  ipureintro; exact e8

set_option maxHeartbeats 1000000 in
theorem sound_mid (c : Dev nD) (t : Fin cfg0.N) (h : t.val % 4 ≠ 0) (h3 : t.val % 4 ≠ 3) :
    bodyPre m c t ⊢ wp frame (wpE (defs₀ (F := F)) Variants.none c none) Set.univ (bodyAt0 t) (fun _ => bodyPost m c t) := by
  have hN : t.val + 1 < cfg0.N := by
    have := t.isLt
    have e : cfg0.N = 32 := N_0
    omega
  have hi : (grid0.coords t 1).val = t.val % 4 := coord1 t
  obtain ⟨hq, hk, hs⟩ := block_next m c t h3 hN
  unfold bodyPre bodyPost bodyAt0
  rw [show (dats m 0 c).Φ t.succ = ΦB m c ⟨t.val + 1, hN⟩ (t.val % 4 + 1) from
      (dif_pos ⟨by simp only [Fin.val_succ]; omega, hN⟩).trans (congrArg (ΦB m c ⟨t.val + 1, hN⟩) (show (t.val + 1) % 4 = t.val % 4 + 1 by omega)),
    show (dats m 0 c).Φ t.castSucc = ΦB m c t (t.val % 4) from dif_pos ⟨h, t.isLt⟩,
    after0_0, after0_1, after0_2, after0_3, after0_4, after0_5, after0_6]
  unfold ΦB Dat.owesAt Pipeline.owesWithin outAt
  rw [hq, hk, hs, hi]
  rw [show (dats m 0 c).owed t.castSucc = 0 from rfl, show (dats m 0 c).owed t.succ = 0 from rfl]
  simp only [before0_0_of m (dats m 0 c) (A_eq m c 0) (after0_0 m c), before0_1_of m (dats m 0 c) (A_eq m c 1) (after0_1 m c),
    before0_2_of m (dats m 0 c) (A_eq m c 2) (after0_2 m c), before0_3_of m (dats m 0 c) (A_eq m c 3) (after0_3 m c),
    before0_4_of m (dats m 0 c) (A_eq m c 4) (after0_4 m c), before0_5_of m (dats m 0 c) (A_eq m c 5) (after0_5 m c)]
  unfold owns anyB
  iintro ⟨⟨⟨HS0, ⟨%s1, HS1, %hs1⟩, ⟨%s2, HS2, %hs2⟩, HS3, HS4, HS5⟩, Hg⟩, ⟨%W, -, HW⟩, ⟨%d0, ⟨%f0, %e0, H0⟩⟩, ⟨%d1, ⟨%f1, %e1, H1⟩⟩, ⟨%d2, ⟨%f2, %e2, H2⟩⟩, ⟨%d3, ⟨%f3, %e3, H3⟩⟩, ⟨%d4, ⟨%f4, %e4, H4⟩⟩, ⟨%d5, ⟨%f5, %e5, H5⟩⟩, ⟨%d6, ⟨%f6, %e6, H6⟩⟩⟩
  iapply (wp_wand_r Idealize.ShloMosaic.frame (wpE (defs₀ (F := F)) Variants.none (c : Thread nD τ) none) Set.univ)
  isplitl [HS0 HS1 HS2 HS3 HS4 HS5 H0 H1 H2 H3 H4 H5 H6]
  · iapply (body1 Variants.none c none Set.univ (grid0.coords t) (st0_0 t) (hstage0_0 ((cfg0.slots t 0).cast nbuf0_0)) (st0_1 t) (hstage0_1 ((cfg0.slots t 1).cast nbuf0_1))
      (st0_2 t) (hstage0_2 ((cfg0.slots t 2).cast nbuf0_2)) (st0_3 t) (hstage0_3 ((cfg0.slots t 3).cast nbuf0_3)) (st0_4 t) (hstage0_4 ((cfg0.slots t 4).cast nbuf0_4))
      (st0_5 t) (hstage0_5 ((cfg0.slots t 5).cast nbuf0_5)) (st0_6 t) (hstage0_6 ((cfg0.slots t 6).cast nbuf0_6))
      (Memref.whole cc0_scratch0) (Memref.isWhole_whole _) (Memref.whole cc0_scratch1) (Memref.isWhole_whole _) (Memref.whole cc0_scratch2) (Memref.isWhole_whole _)
      (Memref.whole cc0_scratch3) (Memref.isWhole_whole _) (Memref.whole cc0_scratch4) (Memref.isWhole_whole _) (Memref.whole cc0_scratch5) (Memref.isWhole_whole _)
      f0 f1 f2 f3 f4 f5 s2 (fun h0 => by have := (cond1_eq _).mp h0; omega))
    unfold bPre
    isplitl [HS0 HS3 HS4 HS5 H0 H1 H2 H3 H4 H5 H6]
    · isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      isplitl [HS3]; · iexact HS3
      isplitl [HS4]; · iexact HS4
      iexact HS5
    isplitl [HS1]
    · iexists _; isplitl [HS1]; · iexact HS1
      ipureintro; rw [e1, e3, hs2, hi]; exact hs1
    iexact HS2
  unfold bPost
  rw [hs2, e1, e2, e3, e4, e5, hi]
  iintro %_ ⟨H0, H1, H2, H3, H4, H5, ⟨%f8, H8, %e8⟩, HS0, HS1, HS2, HS3, HS4, HS5⟩
  isplitl [HS0 HS1 HS2 HS3 HS4 HS5 Hg]
  · isplitr [Hg]
    · isplitl [HS0]; · iexact HS0
      isplitl [HS1]; · iexact HS1
      isplitl [HS2]; · iexact HS2
      isplitl [HS3]; · iexact HS3
      isplitl [HS4]; · iexact HS4
      iexact HS5
    iexact Hg
  isplitl [HW]
  · iexists W; isplitr; · ipureintro; exact fun _ _ => Or.inl trivial
    iexact HW
  isplitl [H0]; · iexists _; isplitr; swap; · iexact H0
                  ipureintro; exact e0
  isplitl [H1]; · iexists _; isplitr; swap; · iexact H1
                  ipureintro; exact e1
  isplitl [H2]; · iexists _; isplitr; swap; · iexact H2
                  ipureintro; exact e2
  isplitl [H3]; · iexists _; isplitr; swap; · iexact H3
                  ipureintro; exact e3
  isplitl [H4]; · iexists _; isplitr; swap; · iexact H4
                  ipureintro; exact e4
  isplitl [H5]; · iexists _; isplitr; swap; · iexact H5
                  ipureintro; exact e5
  iexists _; isplitr; swap; · iexact H8
  ipureintro; exact e8

set_option maxHeartbeats 1000000 in
theorem sound_last (c : Dev nD) (t : Fin cfg0.N) (h : t.val % 4 = 3) :
    bodyPre m c t ⊢ wp frame (wpE (defs₀ (F := F)) Variants.none c none) Set.univ (bodyAt0 t) (fun _ => bodyPost m c t) := by
  have hi : (grid0.coords t 1).val = t.val % 4 := coord1 t
  unfold bodyPre bodyPost bodyAt0
  rw [show (dats m 0 c).Φ t.castSucc = ΦB m c t (t.val % 4) from dif_pos ⟨show t.val % 4 ≠ 0 by omega, t.isLt⟩,
    show (dats m 0 c).Φ t.succ = Pipeline.ΦA spec0 c from dif_neg (by simp only [Fin.val_succ]; omega),
    after0_0, after0_1, after0_2, after0_3, after0_4, after0_5, after0_6]
  unfold Pipeline.ΦA ΦB Dat.owesAt Pipeline.owesWithin outAt
  rw [scratch_eq, hi]
  rw [show (dats m 0 c).owed t.castSucc = 0 from rfl, show (dats m 0 c).owed t.succ = 0 from rfl]
  simp only [before0_0_of m (dats m 0 c) (A_eq m c 0) (after0_0 m c), before0_1_of m (dats m 0 c) (A_eq m c 1) (after0_1 m c),
    before0_2_of m (dats m 0 c) (A_eq m c 2) (after0_2 m c), before0_3_of m (dats m 0 c) (A_eq m c 3) (after0_3 m c),
    before0_4_of m (dats m 0 c) (A_eq m c 4) (after0_4 m c), before0_5_of m (dats m 0 c) (A_eq m c 5) (after0_5 m c)]
  unfold owns anyB
  iintro ⟨⟨⟨HS0, ⟨%s1, HS1, %hs1⟩, ⟨%s2, HS2, %hs2⟩, HS3, HS4, HS5⟩, Hg⟩, ⟨%W, -, HW⟩, ⟨%d0, ⟨%f0, %e0, H0⟩⟩, ⟨%d1, ⟨%f1, %e1, H1⟩⟩, ⟨%d2, ⟨%f2, %e2, H2⟩⟩, ⟨%d3, ⟨%f3, %e3, H3⟩⟩, ⟨%d4, ⟨%f4, %e4, H4⟩⟩, ⟨%d5, ⟨%f5, %e5, H5⟩⟩, ⟨%d6, ⟨%f6, %e6, H6⟩⟩⟩
  iapply (wp_wand_r Idealize.ShloMosaic.frame (wpE (defs₀ (F := F)) Variants.none (c : Thread nD τ) none) Set.univ)
  isplitl [HS0 HS1 HS2 HS3 HS4 HS5 H0 H1 H2 H3 H4 H5 H6]
  · iapply (body1 Variants.none c none Set.univ (grid0.coords t) (st0_0 t) (hstage0_0 ((cfg0.slots t 0).cast nbuf0_0)) (st0_1 t) (hstage0_1 ((cfg0.slots t 1).cast nbuf0_1))
      (st0_2 t) (hstage0_2 ((cfg0.slots t 2).cast nbuf0_2)) (st0_3 t) (hstage0_3 ((cfg0.slots t 3).cast nbuf0_3)) (st0_4 t) (hstage0_4 ((cfg0.slots t 4).cast nbuf0_4))
      (st0_5 t) (hstage0_5 ((cfg0.slots t 5).cast nbuf0_5)) (st0_6 t) (hstage0_6 ((cfg0.slots t 6).cast nbuf0_6))
      (Memref.whole cc0_scratch0) (Memref.isWhole_whole _) (Memref.whole cc0_scratch1) (Memref.isWhole_whole _) (Memref.whole cc0_scratch2) (Memref.isWhole_whole _)
      (Memref.whole cc0_scratch3) (Memref.isWhole_whole _) (Memref.whole cc0_scratch4) (Memref.isWhole_whole _) (Memref.whole cc0_scratch5) (Memref.isWhole_whole _)
      f0 f1 f2 f3 f4 f5 s2 (fun h0 => by have := (cond1_eq _).mp h0; omega))
    unfold bPre
    isplitl [HS0 HS3 HS4 HS5 H0 H1 H2 H3 H4 H5 H6]
    · isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      isplitl [HS3]; · iexact HS3
      isplitl [HS4]; · iexact HS4
      iexact HS5
    isplitl [HS1]
    · iexists _; isplitl [HS1]; · iexact HS1
      ipureintro; rw [e1, e3, hs2, hi]; exact hs1
    iexact HS2
  unfold bPost
  rw [hs2, e1, e2, e3, e4, e5, hi]
  iintro %_ ⟨H0, H1, H2, H3, H4, H5, ⟨%f8, H8, %e8⟩, HS0, ⟨%u1, HS1, -⟩, ⟨%u2, HS2, -⟩, HS3, HS4, HS5⟩
  isplitl [HS0 HS1 HS2 HS3 HS4 HS5 Hg]
  · isplitr [Hg]
    · isplitl [HS0]; · iexact HS0
      isplitl [HS1]; · iexists _; iexact HS1
      isplitl [HS2]; · iexists _; iexact HS2
      isplitl [HS3]; · iexact HS3
      isplitl [HS4]; · iexact HS4
      iexact HS5
    iexact Hg
  isplitl [HW]
  · iexists W; isplitr; · ipureintro; exact fun _ _ => Or.inl trivial
    iexact HW
  isplitl [H0]; · iexists _; isplitr; swap; · iexact H0
                  ipureintro; exact e0
  isplitl [H1]; · iexists _; isplitr; swap; · iexact H1
                  ipureintro; exact e1
  isplitl [H2]; · iexists _; isplitr; swap; · iexact H2
                  ipureintro; exact e2
  isplitl [H3]; · iexists _; isplitr; swap; · iexact H3
                  ipureintro; exact e3
  isplitl [H4]; · iexists _; isplitr; swap; · iexact H4
                  ipureintro; exact e4
  isplitl [H5]; · iexists _; isplitr; swap; · iexact H5
                  ipureintro; exact e5
  iexists _; isplitr; swap; · iexact H8
  ipureintro; exact e8

theorem sound_body (c : Dev nD) (t : Fin cfg0.N) :
    bodyPre m c t ⊢ wp frame (wpE (defs₀ (F := F)) Variants.none c none) Set.univ (bodyAt0 t) (fun _ => bodyPost m c t) := by
  by_cases h : t.val % 4 = 0
  · exact sound_first m c t h
  by_cases h3 : t.val % 4 = 3
  · exact sound_last m c t h3
  · exact sound_mid m c t h h3

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
theorem run_main : θ_run defs (onTc (τ := τ) (main (F := F))) (s₀ m ρ)
    (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun _ => .rfl) (hout := fun _ => .rfl)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_with_sems (frame_of m ρ (dats m) (A_eq m)) (run_main m ρ)

end Cert.KernelDiffIdeal.Hand
end
-- ==== Proof.DiffPayI.lean ====
module

public import proofs.«01_k».proof.Proof.DiffI
public import proofs.«01_k».proof.Proof.PayI
public import Idealize.ShloMosaic.Lib.Pointwise
public import Idealize.ShloMosaic.Lib.Pipeline.ValueKit

@[expose] public section

set_option maxRecDepth 16384

noncomputable section

namespace Cert.KernelDiffIdeal.Hand

open Idealize.ShloMosaic
open Cert.KernelDiffIdeal.Gen Cert.Soft

/-! ## The body's values at an index, over the extended reals -/

theorem pay50_at (e : Fin 144) (c : Fin 4096) : (k0_pay50 : FVec Ideal S144x4096 .f32) (ix2 e c) = 0 := Cert.KernelIdeal.Hand.pay2_at e c

theorem pay55_at (e : Fin 144) (c : Fin 4096) : (k0_pay55 : FVec Ideal S144x4096 .f32) (ix2 e c) = 0 := Cert.KernelIdeal.Hand.pay7_at e c

theorem pay54_at (c : Fin 4096) : (k0_pay54 : FVec Ideal S1x4096 .f32) (ix2 0 c) = ⊥ := Cert.KernelIdeal.Hand.pay6_at c

theorem pay51_at (K : Vec Ideal S1x512x128 .bf16) (Q : Vec Ideal S1x128x4096 .bf16) (s : Vec Ideal S1x4096 .f32) (k : Fin 512) (c : Fin 4096) :
    k0_pay51 K Q s (ix3 0 k c) = Ideal.exp2 ((∑ d : Fin 128, K (ix3 0 k d) * Q (ix3 0 d c)) - s (ix2 0 c)) :=
  Cert.KernelIdeal.Hand.pay1_at K Q s k c

theorem pay32_at (K : Vec Ideal S1x512x128 .bf16) (Q : Vec Ideal S1x128x4096 .bf16) (k : Fin 512) (c : Fin 4096) :
    k0_pay32 K Q (ix2 k c) = ∑ d : Fin 128, K (ix3 0 k d) * Q (ix3 0 d c) :=
  Cert.KernelIdeal.Hand.pay32_at K Q k c

theorem pay52_at (A : Vec Ideal S144x4096 .f32) (v : Vec Ideal S1x1x144x512 .bf16) (p : Vec Ideal S1x512x4096 .bf16) (e : Fin 144) (c : Fin 4096) :
    k0_pay52 A v p (ix2 e c) = A (ix2 e c) + ∑ k : Fin 512, v (ix4 0 0 e k) * p (ix3 0 k c) :=
  Cert.KernelIdeal.Hand.pay4_at A v p e c

theorem pay48_at (a : Vec Ideal S1x4096 .f32) (v : Vec Ideal S1x1x144x512 .bf16) (p : Vec Ideal S512x4096 .bf16) (A : Vec Ideal S144x4096 .f32)
    (e : Fin 144) (c : Fin 4096) :
    k0_pay48 a v p A (ix2 e c) = A (ix2 e c) * a (ix2 0 c) + ∑ k : Fin 512, v (ix4 0 0 e k) * p (ix2 k c) :=
  Cert.KernelIdeal.Hand.pay48_at a v p A e c

theorem pay57_at (T : Vec Ideal S128x4096 .f32) (n : Vec Ideal S1x4096 .f32) (e : Fin 128) (c : Fin 4096) :
    k0_pay57 T n (ix2 e c) = Ideal.div (T (ix2 e c)) (n (ix2 0 c)) := by
  pointwise [k0_pay57]

theorem pay58_at (l : Vec Ideal S4x64 .f32) : k0_pay58 l (ix2 0 0) = Ideal.exp (∑ j : Fin 64, l (ix2 0 j) * l (ix2 1 j)) := by
  pointwise [k0_pay58]

theorem pay59_at (l : Vec Ideal S4x64 .f32) (j : Fin 64) : k0_pay59 l (ix2 0 j) = l (ix2 2 j) * l (ix2 3 j) := by
  pointwise [k0_pay59]

/-- The weight of the second map. -/
def lam (l : Vec Ideal S4x64 .f32) : EReal :=
  Ideal.exp (∑ j : Fin 64, l (ix2 0 j) * l (ix2 1 j)) - Ideal.exp (∑ j : Fin 64, l (ix2 2 j) * l (ix2 3 j)) + Ideal.ofBits .f32 0x3EB60549#32

/-- The difference of the two maps. -/
def dif (x : Vec Ideal S128x4096 .f32) (a : EReal) (r : Fin 2048) (e : Fin 128) : EReal :=
  x (ix2 e ⟨r.val, by omega⟩) - a * x (ix2 e ⟨2048 + r.val, by omega⟩)

theorem pay1_at (x : Vec Ideal S128x4096 .f32) (a : Vec Ideal S1x1 .f32) (b : Vec Ideal S1x64 .f32) (g : Vec Ideal S128x1 .f32) (r : Fin 2048) (e : Fin 128)
    (la : EReal) (hl : a (ix2 0 0) - Ideal.exp (∑ j : Fin 64, b (ix2 0 j)) + Ideal.ofBits .f32 0x3EB60549#32 = la) :
    k0_pay1 x a b g (ix2 r e)
      = dif x la r e * Ideal.rsqrt (Ideal.div (∑ j : Fin 128, dif x la r j * dif x la r j) (Ideal.ofBits .f32 0x43000000#32) + Ideal.ofBits .f32 0x358637BD#32)
        * g (ix2 e 0) * Ideal.ofBits .f32 0x3F24FD5C#32 := by
  subst hl
  unfold dif
  pointwise [k0_pay1]

theorem ldq_at (Q : Vec Ideal S1x16x128x512 .bf16) (n : ℕ) (hn : n < 16) (h) (r : Fin 128) (k : Fin 512) :
    View.ld Q (Rect.unit (s := S1x16x128x512) ![0, n, 0, 0] S1x1x128x512.size h) (ix4 0 0 r k) = Q (ix4 0 ⟨n, hn⟩ r k) :=
  Cert.KernelIdeal.Hand.ldq_at Q n hn h r k

theorem sel_lo : ∀ r : Fin 128, r.val < 64 → IntOp.cmpi CmpIPredicate.slt (BitVec.ofNat 32 r.val) 64#32 = 1#1 := by decide +kernel
theorem sel_hi : ∀ r : Fin 128, ¬ r.val < 64 → IntOp.cmpi CmpIPredicate.slt (BitVec.ofNat 32 r.val) 64#32 = 0#1 := by decide +kernel
theorem sel_one (a b : EReal) : Scalar.select (1#1) a b = a := rfl
theorem sel_zero (a b : EReal) : Scalar.select (0#1) a b = b := rfl

theorem pay2_at (f : ℕ → Vec Ideal S1x1x128x512 .bf16) (r : Fin 128) (j : Fin 4096) :
    k0_pay2 (f 0) (f 1) (f 2) (f 3) (ix3 0 r j)
      = if r.val / 64 = j.val / 2048 then f (j.val % 2048 / 512) (ix4 0 0 r ⟨j.val % 512, Nat.mod_lt _ (by decide)⟩) else (0 : EReal) := by
  have hj := j.isLt
  pointwise [k0_pay2]
  have hr := r.isLt
  have key : ∀ (n n' : ℕ) (k k' : Fin 512), n = n' → k.val = k'.val → f n (ix4 0 0 r k) = f n' (ix4 0 0 r k') := fun n n' k k' hn hk => by
    rw [hn, Fin.ext hk]
  by_cases h : r.val < 64
  · rw [sel_lo r h]
    simp only [sel_one]
    by_cases h2 : j.val < 2048
    · refine (dif_pos h2).trans (Eq.trans ?_ (if_pos (by omega)).symm)
      split_ifs
      all_goals exact key _ _ _ _ (by omega) (by show _ = j.val % 512; first | omega | (dsimp only; omega))
    · exact (dif_neg h2).trans (if_neg (by omega)).symm
  · rw [sel_hi r h]
    simp only [sel_zero]
    by_cases h2 : j.val < 2048
    · exact (dif_pos h2).trans (if_neg (by omega)).symm
    · refine (dif_neg h2).trans (Eq.trans ?_ (if_pos (by omega)).symm)
      split_ifs
      all_goals exact key _ _ _ _ (by omega) (by show _ = j.val % 512; first | omega | (dsimp only; omega))

/-- Tile `n` of the queries (of sixteen). -/
def qT (Q : Vec Ideal S1x16x128x512 .bf16) (n : ℕ) : Vec Ideal S1x1x128x512 .bf16 :=
  View.ld Q (Rect.unit (s := S1x16x128x512) ![0, n % 16, 0, 0] S1x1x128x512.size
    (by have := Nat.mod_lt n (show 0 < 16 by decide); intro a; fin_cases a <;> simp <;> omega))

/-- The queries' entry of the four blocks of columns: the first 64 rows in the first half of the columns, the others in the second. -/
def qG (Q : Vec Ideal S1x16x128x512 .bf16) (y : S4x128x4096.Idx) : EReal :=
  if (y 1).val / 64 = (y 2).val / 2048 then
    Q (ix4 0 ⟨4 * (y 0).val + (y 2).val % 2048 / 512, by have h0 : (y 0).val < 4 := (y 0).isLt; omega⟩ (y 1) ⟨(y 2).val % 512, Nat.mod_lt _ (by decide)⟩)
  else 0

theorem qG_eq (Q : Vec Ideal S1x16x128x512 .bf16) (y : S4x128x4096.Idx) (n : ℕ) (hn : n < 16) (r : Fin 128) (k : Fin 512) (j : ℕ)
    (h0 : n = 4 * (y 0).val + (y 2).val % 2048 / 512) (h1 : r.val = (y 1).val) (h2 : k.val = (y 2).val % 512) (h3 : j = (y 2).val) :
    (if r.val / 64 = j / 2048 then Q (ix4 0 ⟨n, hn⟩ r k) else (0 : EReal)) = qG Q y := by
  unfold qG
  rw [h1, h3]
  split_ifs
  · refine congrArg Q (funext fun a => Fin.ext ?_)
    fin_cases a
    · rfl
    · exact h0
    · exact h1
    · exact h2
  · rfl

theorem mem_qq (y : S4x128x4096.Idx) (o : ℕ) (h) (e : (y 0).val = o) : y ∈ (Rect.unit (s := S4x128x4096) ![o, 0, 0] S1x128x4096.size h).set := by
  have h1 : (y 1).val < 128 := (y 1).isLt
  have h2 : (y 2).val < 4096 := (y 2).isLt
  refine Rect.mem_set_unit.mpr fun a => ?_
  fin_cases a
  · exact ⟨e.ge, by rw [show (y ((fun i => i) ⟨0, by decide⟩)).val = o from e]; exact Nat.lt_succ_self o⟩
  · exact ⟨Nat.zero_le _, lt_of_lt_of_eq h1 (Nat.zero_add 128).symm⟩
  · exact ⟨Nat.zero_le _, lt_of_lt_of_eq h2 (Nat.zero_add 4096).symm⟩

theorem piece_q (Q : Vec Ideal S1x16x128x512 .bf16) (o : ℕ) (h) (ho : o < 4) (r : Fin 128) (j : Fin 4096) :
    (if r.val / 64 = j.val / 2048 then qT Q (4 * o + j.val % 2048 / 512) (ix4 0 0 r ⟨j.val % 512, Nat.mod_lt _ (by decide)⟩) else (0 : EReal))
      = qG Q ((Rect.unit (s := S4x128x4096) ![o, 0, 0] S1x128x4096.size h).emb (ix3 0 r j)) := by
  have hj := j.isLt
  have e0 : ((Rect.unit (s := S4x128x4096) ![o, 0, 0] S1x128x4096.size h).emb (ix3 0 r j) 0).val = o + 0 :=
    ValueKit.rect_emb_unit_val _ _ _ _ 0
  have e1 : ((Rect.unit (s := S4x128x4096) ![o, 0, 0] S1x128x4096.size h).emb (ix3 0 r j) 1).val = 0 + r.val :=
    ValueKit.rect_emb_unit_val _ _ _ _ 1
  have e2 : ((Rect.unit (s := S4x128x4096) ![o, 0, 0] S1x128x4096.size h).emb (ix3 0 r j) 2).val = 0 + j.val :=
    ValueKit.rect_emb_unit_val _ _ _ _ 2
  generalize (Rect.unit (s := S4x128x4096) ![o, 0, 0] S1x128x4096.size h).emb (ix3 0 r j) = y at e0 e1 e2 ⊢
  unfold qT
  rw [ldq_at Q ((4 * o + j.val % 2048 / 512) % 16) (Nat.mod_lt _ (by decide)) _ r _]
  refine qG_eq Q y _ _ _ _ _ ?_ ?_ ?_ ?_
  · rw [e0, e2]; omega
  · rw [e1]; omega
  · rw [e2]; show j.val % 512 = _; omega
  · rw [e2]; omega

theorem qq_at (Q : Vec Ideal S1x16x128x512 .bf16) (y : S4x128x4096.Idx) : qq Q y = qG Q y := by
  unfold qq
  refine View.canon_apply_of_pieces (Val := Elt Ideal) (e := .bf16) (qG Q) _ ?_ y ?_
  · intro p hp x
    simp only [List.mem_cons, List.not_mem_nil, or_false] at hp
    rcases hp with rfl | rfl | rfl | rfl
    · obtain ⟨r, j, rfl⟩ : ∃ (r : Fin 128) (j : Fin 4096), x = ix3 0 r j :=
        ⟨x 1, x 2, by funext a; fin_cases a <;> first | rfl | exact Fin.ext (Nat.lt_one_iff.mp (x 0).isLt)⟩
      exact (pay2_at (fun n => qT Q (4 * 3 + n)) r j).trans (piece_q Q 3 inb_S4x128x4096_S1x128x4096_3_0_0 (by decide) r j)
    · obtain ⟨r, j, rfl⟩ : ∃ (r : Fin 128) (j : Fin 4096), x = ix3 0 r j :=
        ⟨x 1, x 2, by funext a; fin_cases a <;> first | rfl | exact Fin.ext (Nat.lt_one_iff.mp (x 0).isLt)⟩
      exact (pay2_at (fun n => qT Q (4 * 2 + n)) r j).trans (piece_q Q 2 inb_S4x128x4096_S1x128x4096_2_0_0 (by decide) r j)
    · obtain ⟨r, j, rfl⟩ : ∃ (r : Fin 128) (j : Fin 4096), x = ix3 0 r j :=
        ⟨x 1, x 2, by funext a; fin_cases a <;> first | rfl | exact Fin.ext (Nat.lt_one_iff.mp (x 0).isLt)⟩
      exact (pay2_at (fun n => qT Q (4 * 1 + n)) r j).trans (piece_q Q 1 inb_S4x128x4096_S1x128x4096_1_0_0 (by decide) r j)
    · obtain ⟨r, j, rfl⟩ : ∃ (r : Fin 128) (j : Fin 4096), x = ix3 0 r j :=
        ⟨x 1, x 2, by funext a; fin_cases a <;> first | rfl | exact Fin.ext (Nat.lt_one_iff.mp (x 0).isLt)⟩
      exact (pay2_at (fun n => qT Q (4 * 0 + n)) r j).trans (piece_q Q 0 inb_S4x128x4096_S1x128x4096_0_0_0 (by decide) r j)
  · have h0 : (y 0).val < 4 := (y 0).isLt
    by_cases e0 : (y 0).val = 0
    · exact ⟨_, List.mem_cons_of_mem _ (List.mem_cons_of_mem _ (List.mem_cons_of_mem _ List.mem_cons_self)), mem_qq y 0 inb_S4x128x4096_S1x128x4096_0_0_0 e0⟩
    by_cases e1 : (y 0).val = 1
    · exact ⟨_, List.mem_cons_of_mem _ (List.mem_cons_of_mem _ List.mem_cons_self), mem_qq y 1 inb_S4x128x4096_S1x128x4096_1_0_0 e1⟩
    by_cases e2 : (y 0).val = 2
    · exact ⟨_, List.mem_cons_of_mem _ List.mem_cons_self, mem_qq y 2 inb_S4x128x4096_S1x128x4096_2_0_0 e2⟩
    · exact ⟨_, List.mem_cons_self, mem_qq y 3 inb_S4x128x4096_S1x128x4096_3_0_0 (by omega)⟩

theorem kCh_at (K : Vec Ideal S1x8192x128 .bf16) (n : ℕ) (hn : n < 16) (k : Fin 512) (d : Fin 128) :
    kCh K n (ix3 0 k d) = K (ix3 0 ⟨n * 512 + k.val, by omega⟩ d) := by
  refine congrArg K (funext fun a => Fin.ext ?_)
  refine (ValueKit.rect_emb_unit_val _ _ _ _ _).trans ?_
  fin_cases a
  · rfl
  · show 512 * (n % 16) + k.val = n * 512 + k.val
    omega
  · exact Nat.zero_add _

theorem qBl_at (Q : Vec Ideal S4x128x4096 .bf16) (b : ℕ) (hb : b < 4) (d : Fin 128) (c : Fin 4096) :
    qBl Q b (ix3 0 d c) = Q (ix3 ⟨b, hb⟩ d c) := by
  refine congrArg Q (funext fun a => Fin.ext ?_)
  refine (ValueKit.rect_emb_unit_val _ _ _ _ _).trans ?_
  fin_cases a
  · show min b 3 + 0 = b
    omega
  · exact Nat.zero_add _
  · exact Nat.zero_add _

end Cert.KernelDiffIdeal.Hand
end
-- ==== Proof.DiffValI.lean ====
module

public import proofs.«01_k».proof.Proof.DiffPayI

@[expose] public section

set_option maxRecDepth 16384

noncomputable section

/-! # The value of one block of the two maps of attention B

One column of scores, all real: both passes leave the values summed with weights `2^(score - μ)`, for some real `μ`,
and the quotient of two such sums does not depend on `μ`. -/

namespace Cert.KernelDiffIdeal.Hand

open Idealize.ShloMosaic
open Cert.KernelDiffIdeal.Gen Cert.Soft
open Cert.KernelIdeal.Hand (vCh mx al pp nrm top mx_isR al_at pp_at nrm_at top_at pos_of_good)

section
variable (K : Vec Ideal S1x8192x128 .bf16) (V : Vec Ideal S1x16x144x512 .bf16) (Q : Vec Ideal S4x128x4096 .bf16)
  (s : Vec Ideal S1x4096 .f32) (i : ℕ) (c : Fin 4096) (S : ℕ → Fin 512 → ℝ)
  (hS : ∀ n, n < 16 → ∀ k : Fin 512, ∑ d : Fin 128, kCh K n (ix3 0 k d) * qBl Q i (ix3 0 d c) = (S n k : EReal))

include hS in
theorem ac_at (e : Fin 144) : ∀ n, n ≤ 16 → ac K V Q s i n (ix2 e c)
    = ∑ j ∈ Finset.range n, ∑ k : Fin 512, vCh V j (ix4 0 0 e k) * Ideal.exp2 ((S j k : EReal) - s (ix2 0 c))
  | 0, _ => by rw [Finset.sum_range_zero]; exact pay50_at e c
  | n + 1, h => by
    have hq : i + n / 16 = i := by omega
    rw [ac_succ, pay52_at, ac_at e n (by omega), Finset.sum_range_succ]
    refine congrArg _ (Finset.sum_congr rfl fun k _ => ?_)
    unfold pr
    rw [pay51_at, hq, hS n (by omega)]

theorem pay56_eq (m : FVec Ideal S1x4096 .f32) : k0_pay56 m = m := by
  funext j; pointwise [k0_pay56]

include hS in
theorem sc_at (n : ℕ) (hn : n < 16) (k : Fin 512) : sc K Q i n (ix2 k c) = (S n k : EReal) := (pay32_at _ _ k c).trans (hS n hn k)

include hS in
theorem rm_at : ∀ n, n < 16 → rm K Q i n (ix2 0 c) ≠ (⊤ : EReal) ∧ IsR (rm K Q i (n + 1) (ix2 0 c))
  | 0, h => by
    have h0 : rm K Q i 0 (ix2 0 c) ≠ (⊤ : EReal) := by
      rw [show rm K Q i 0 (ix2 0 c) = (⊥ : EReal) from pay54_at c]; exact bot_ne_top
    refine ⟨h0, ?_⟩
    show IsR (k0_pay56 (mx (sc K Q i 0) (rm K Q i 0)) (ix2 0 c))
    rw [pay56_eq]
    exact mx_isR _ _ _ (fun k => ⟨_, sc_at K Q i c S hS 0 h k⟩) h0
  | n + 1, h => by
    have h0 := (rm_at n (by omega)).2.ne_top
    refine ⟨h0, ?_⟩
    show IsR (k0_pay56 (mx (sc K Q i (n + 1)) (rm K Q i (n + 1))) (ix2 0 c))
    rw [pay56_eq]
    exact mx_isR _ _ _ (fun k => ⟨_, sc_at K Q i c S hS (n + 1) h k⟩) h0

include hS in
theorem ra_at : ∀ n, n < 16 → ∃ μ : ℝ, rm K Q i (n + 1) (ix2 0 c) = (μ : EReal) ∧ ∀ e : Fin 144, ra K V Q i (n + 1) (ix2 e c)
    = ∑ j ∈ Finset.range (n + 1), ∑ k : Fin 512, vCh V j (ix4 0 0 e k) * (tw (S j k - μ) : EReal)
  | 0, h => by
    obtain ⟨μ, hμ⟩ := (rm_at K Q i c S hS 0 h).2
    have hm : mx (sc K Q i 0) (rm K Q i 0) (ix2 0 c) = (μ : EReal) := by
      rw [← hμ]; exact (congrFun (pay56_eq _) _).symm
    refine ⟨μ, hμ, fun e => ?_⟩
    show k0_pay48 (al (sc K Q i 0) (rm K Q i 0)) (vCh V 0) (pp (sc K Q i 0) (rm K Q i 0)) (ra K V Q i 0) (ix2 e c) = _
    rw [pay48_at, show ra K V Q i 0 (ix2 e c) = (0 : EReal) from pay55_at e c, zero_mul, zero_add, Finset.sum_range_succ, Finset.sum_range_zero, zero_add]
    refine Finset.sum_congr rfl fun k _ => ?_
    rw [pp_at, hm, sc_at K Q i c S hS 0 h, exp2_sub]
  | n + 1, h => by
    obtain ⟨ν, hν, ih⟩ := ra_at n (by omega)
    obtain ⟨μ, hμ⟩ := (rm_at K Q i c S hS (n + 1) h).2
    have hm : mx (sc K Q i (n + 1)) (rm K Q i (n + 1)) (ix2 0 c) = (μ : EReal) := by
      rw [← hμ]; exact (congrFun (pay56_eq _) _).symm
    refine ⟨μ, hμ, fun e => ?_⟩
    show k0_pay48 (al (sc K Q i (n + 1)) (rm K Q i (n + 1))) (vCh V (n + 1)) (pp (sc K Q i (n + 1)) (rm K Q i (n + 1))) (ra K V Q i (n + 1)) (ix2 e c) = _
    rw [pay48_at, al_at, hm, hν, exp2_sub, ih, Finset.sum_range_succ (n := n + 1), sum_mul_real _ _ _ (tw_pos _).le]
    refine congrArg₂ _ (Finset.sum_congr rfl fun j _ => ?_) (Finset.sum_congr rfl fun k _ => ?_)
    · rw [sum_mul_real _ _ _ (tw_pos _).le]
      refine Finset.sum_congr rfl fun k _ => ?_
      rw [mul_assoc, ← EReal.coe_mul, tw_mul]
    · rw [pp_at, hm, sc_at K Q i c S hS (n + 1) h, exp2_sub]

include hS in
/-- What the output is read from: the values, weighted below some real. -/
theorem fin_at (hs : s (ix2 0 c) ≠ (⊥ : EReal)) : ∃ μ : ℝ, ∀ e : Fin 144, fin K V Q s i (ix2 e c)
    = ∑ j ∈ Finset.range 16, ∑ k : Fin 512, vCh V j (ix4 0 0 e k) * (tw (S j k - μ) : EReal) := by
  unfold fin
  split_ifs with hb
  · obtain ⟨μ, -, h⟩ := ra_at K V Q i c S hS 15 (by decide)
    exact ⟨μ, h⟩
  · have hp := pos_of_good _ hb c
    rw [nrm_at, ac_at K V Q s i c S hS 128 16 le_rfl] at hp
    have ht : s (ix2 0 c) ≠ (⊤ : EReal) := by
      intro ht
      refine hp.ne' (Finset.sum_eq_zero fun j _ => Finset.sum_eq_zero fun k _ => ?_)
      rw [ht, show ((S j k : EReal) - ⊤ : EReal) = ⊥ from rfl]
      exact mul_zero _
    obtain ⟨σ, hσ⟩ := IsR.of_ne ht hs
    refine ⟨σ, fun e => ?_⟩
    rw [ac_at K V Q s i c S hS e 16 le_rfl, hσ]
    simp only [exp2_sub]
end

/-- One entry of the quotient: the softmax of a row of scores against one column of values. The bank of values carries a row
of ones, whose sum is the normaliser. -/
theorem quot_at (K : Vec Ideal S1x8192x128 .bf16) (V : Vec Ideal S1x16x144x512 .bf16) (Q : Vec Ideal S4x128x4096 .bf16)
    (s : Vec Ideal S1x4096 .f32) (i : ℕ) (c : Fin 4096) (e : Fin 128) (W : Fin 8192 → EReal) (S T : Fin 8192 → ℝ)
    (hS : ∀ n (hn : n < 16) (k : Fin 512), ∑ d : Fin 128, kCh K n (ix3 0 k d) * qBl Q i (ix3 0 d c) = (S ⟨n * 512 + k.val, by omega⟩ : EReal))
    (hW : ∀ n (hn : n < 16) (k : Fin 512), vCh V n (ix4 0 0 ⟨e.val, by omega⟩ k) = W ⟨n * 512 + k.val, by omega⟩)
    (h1 : ∀ n, n < 16 → ∀ k : Fin 512, vCh V n (ix4 0 0 128 k) = (1 : EReal))
    (hs : s (ix2 0 c) ≠ (⊥ : EReal)) (hT : ∀ t, T t = S t * Real.log 2) (M : ℝ) :
    k0_pay57 (top (fin K V Q s i)) (nrm (fin K V Q s i)) (ix2 e c)
      = ∑ t : Fin 8192, W t * Ideal.div (Ideal.exp ((T t : EReal) - (M : EReal))) (∑ k, Ideal.exp ((T k : EReal) - (M : EReal))) := by
  obtain ⟨μ, h⟩ := fin_at K V Q s i c (fun n k => S ⟨(n % 16) * 512 + k.val, by omega⟩)
    (fun n hn k => (hS n hn k).trans (congrArg (fun t => (S t : EReal)) (Fin.ext (by show n * 512 + k.val = n % 16 * 512 + k.val; rw [Nat.mod_eq_of_lt hn])))) hs
  have hsum : ∀ (f : Fin 8192 → EReal) (g : ℕ → Fin 512 → EReal), (∀ n (hn : n < 16) (k : Fin 512), g n k = f ⟨n * 512 + k.val, by omega⟩) →
      ∑ j ∈ Finset.range 16, ∑ k : Fin 512, g j k = ∑ t, f t := fun f g hg => by
    rw [Fin.sum_univ_tiles 16 512 (by decide) f, Finset.sum_range]
    exact Finset.sum_congr rfl fun j _ => Finset.sum_congr rfl fun k _ => hg j j.isLt k
  have he : ∀ n (hn : n < 16) (k : Fin 512), (⟨n % 16 * 512 + k.val, by omega⟩ : Fin 8192) = ⟨n * 512 + k.val, by omega⟩ :=
    fun n hn k => Fin.ext (by show n % 16 * 512 + k.val = n * 512 + k.val; rw [Nat.mod_eq_of_lt hn])
  rw [pay57_at, top_at, nrm_at, h, h,
    hsum (fun t => W t * (tw (S t - μ) : EReal)) _ (fun n hn k => by
      rw [hW n hn]
      exact congrArg (fun t => W ⟨n * 512 + k.val, by omega⟩ * (tw (S t - μ) : EReal)) (he n hn k)),
    hsum (fun t => (tw (S t - μ) : EReal)) _ (fun n hn k => by
      rw [h1 n hn, one_mul]
      exact congrArg (fun t => (tw (S t - μ) : EReal)) (he n hn k))]
  exact mean_eq W S T hT μ M

end Cert.KernelDiffIdeal.Hand
end
-- ==== Proof.DiffHostI.lean ====
module

public import proofs.«01_k».proof.Proof.Gen.KernelDiffIdeal.Frame
public import proofs.«01_k».proof.Proof.Soft
public import Idealize.ShloMosaic.Lib.Pointwise
public import Idealize.ShloMosaic.Lib.Claim
public import Idealize.ShloMosaic.Lib.IdealHost
public import Idealize.ShloMosaic.Lib.KernelVsHost

@[expose] public section

set_option maxRecDepth 16384

noncomputable section

/-! # The arrays the kernel of attention B is called on -/

namespace Cert.KernelDiffIdeal.Hand

open Idealize.ShloMosaic Idealize.ShloMosaic.TcCoe
open Cert.KernelDiffIdeal.Gen Cert.Soft

variable (m : (ℓ : Loc nD τ sig) → Buf (Elt Ideal) ℓ) (c : Dev nD)

abbrev argQ : FVec Ideal S8192x8x2x64 .f32 := m ((c : Thread nD τ).loc main_arg0)
abbrev argK : FVec Ideal S8192x8x2x64 .f32 := m ((c : Thread nD τ).loc main_arg1)
abbrev argV : FVec Ideal S8192x8x128 .f32 := m ((c : Thread nD τ).loc main_arg2)
abbrev argL : FVec Ideal S4x64 .f32 := m ((c : Thread nD τ).loc main_arg3)
abbrev argS : FVec Ideal S128 .f32 := m ((c : Thread nD τ).loc main_arg4)
abbrev argG : FVec Ideal S64 .f32 := m ((c : Thread nD τ).loc main_arg5)
abbrev argH : FVec Ideal S64 .f32 := m ((c : Thread nD τ).loc main_arg6)

theorem host_q (h : Fin 8) (n : Fin 16) (w : Fin 2) (d : Fin 64) (r : Fin 512) :
    (V m c main_v8 : FVec Ideal S8x16x128x512 .bf16) (ix4 h n ⟨w.val * 64 + d.val, by omega⟩ r)
      = argQ m c (ix4 ⟨n.val * 512 + r.val, by omega⟩ h w d)
        * Ideal.div 1 (Ideal.log (Ideal.ofBits .f32 0x40000000#32) * Ideal.sqrt (Ideal.ofBits .f32 0x42800000#32)) := by
  have h1 : (w.val * 64 + d.val) / 64 = w.val := by omega
  have h2 : (w.val * 64 + d.val) % 64 = d.val := by omega
  entry_read
  pointwise
  simp only [h1, h2]

theorem host_k (g : Fin 8) (t : Fin 8192) (w : Fin 2) (d : Fin 64) :
    (V m c main_v11 : FVec Ideal S8x8192x128 .bf16) (ix3 g t ⟨w.val * 64 + d.val, by omega⟩) = argK m c (ix4 t g w d) := by
  have h1 : (w.val * 64 + d.val) / 64 = w.val := by omega
  have h2 : (w.val * 64 + d.val) % 64 = d.val := by omega
  entry_read
  pointwise
  simp only [h1, h2]

theorem host_v (g : Fin 8) (n : Fin 16) (e : Fin 128) (r : Fin 512) :
    (V m c main_v16 : FVec Ideal S8x16x144x512 .bf16) (ix4 g n ⟨e.val, by omega⟩ r) = argV m c (ix3 ⟨n.val * 512 + r.val, by omega⟩ g e) := by
  entry_read
  pointwise

theorem host_one (g : Fin 8) (n : Fin 16) (r : Fin 512) :
    (V m c main_v16 : FVec Ideal S8x16x144x512 .bf16) (ix4 g n 128 r) = (1 : EReal) := by
  entry_read
  pointwise

theorem host_g (e : Fin 128) : (V m c main_v24 : FVec Ideal S128x1 .f32) (ix2 e 0) = argS m c (ix1 e) := by
  entry_read
  pointwise

theorem fold_abs_nonneg (f : Fin 64 → EReal) : (0 : EReal) ≤ Finset.univ.fold max (Ideal.ofBits .f32 0xFF800000#32) fun k => FloatOps.absf (F := Ideal) (φ := .f32) (f k) := by
  refine (Finset.le_fold_max _).mpr (.inr ⟨0, Finset.mem_univ _, ?_⟩)
  show (0 : EReal) ≤ max (f 0) (-f 0)
  rcases le_total 0 (f 0) with h | h
  · exact le_max_of_le_left h
  · exact le_max_of_le_right (EReal.neg_nonneg.mpr h)

theorem host_s (r : Fin 4096) : (V m c main_v23 : FVec Ideal S1x4096 .f32) (ix2 0 r) ≠ (⊥ : EReal) := by
  entry_read
  pointwise
  have hc : (0 : EReal) ≤ Ideal.ofBits .f32 0x413A82F9#32 := by
    simp [Ideal.ofBits, Ideal.ieee, -EReal.coe_mul]
    try norm_num
  exact ((lt_of_lt_of_le EReal.bot_lt_zero (mul_nonneg (mul_nonneg hc (fold_abs_nonneg _)) (fold_abs_nonneg _))).ne')

end Cert.KernelDiffIdeal.Hand
end
-- ==== Proof.DiffRefI.lean ====
module

public import proofs.«01_k».proof.Proof.Gen.ReferenceDiffIdeal.Run
public import proofs.«01_k».proof.Proof.Soft
public import Idealize.ShloMosaic.Lib.Pointwise
public import Idealize.ShloMosaic.Lib.IdealHost

@[expose] public section

set_option maxRecDepth 16384

noncomputable section

/-! # The reference of attention B at an index -/

namespace Cert.ReferenceDiffIdeal.Hand

open Idealize.ShloMosaic Idealize.ShloMosaic.TcCoe
open Cert.ReferenceDiffIdeal Cert.ReferenceDiffIdeal.Gen Cert.Soft

variable (q k : FVec Ideal S8192x8x2x64 .f32) (v : FVec Ideal S8192x8x128 .f32) (l : FVec Ideal S4x64 .f32) (g : FVec Ideal S128 .f32)

/-- The scores of the two maps. -/
def scT : FVec Ideal S8x2x8192x8192 .f32 :=
  mulf (Host.dotGeneral dot_S8192x8x2x64_S8192x8x2x64_S8x2x8192x8192_3_3_0_0_12_12 none q k) (broadcastInDim S8x2x8192x8192 ![] bcast_S_S8x2x8192x8192 (Host.divf (constant S_ .f32 0x3F800000#32) (Host.sqrt (constant S_ .f32 0x42800000#32))))
/-- Their largest, along the keys. -/
def mxT : FVec Ideal S8x2x8192 .f32 :=
  maximumf (broadcastInDim S8x2x8192 ![] bcast_S_S8x2x8192 (constant S_ .f32 0xFF800000#32)) (Host.reduce FloatOps.maximumf (scT q k) (constant S_ .f32 0xFF800000#32) reducesTo_S8x2x8192x8192_S8x2x8192_d3 h_S_)
/-- Their exponentials below it. -/
def exT : FVec Ideal S8x2x8192x8192 .f32 :=
  Host.exp (subf (scT q k) (broadcastInDim S8x2x8192x8192 ![0, 1, 2, 3] bcast_S8x2x8192x1_S8x2x8192x8192_0_1_2_3 (broadcastInDim S8x2x8192x1 ![0, 1, 2] bcast_S8x2x8192_S8x2x8192x1_0_1_2 (mxT q k))))
/-- Their sums, along the keys. -/
def smT : FVec Ideal S8x2x8192 .f32 :=
  Host.reduceAdd (exT q k) (constant S_ .f32 0x00000000#32) reducesTo_S8x2x8192x8192_S8x2x8192_d3 h_S_
/-- The two softmaxes. -/
def prT : FVec Ideal S8x2x8192x8192 .f32 :=
  Host.divf (exT q k) (broadcastInDim S8x2x8192x8192 ![0, 1, 2, 3] bcast_S8x2x8192x1_S8x2x8192x8192_0_1_2_3 (broadcastInDim S8x2x8192x1 ![0, 1, 2] bcast_S8x2x8192_S8x2x8192x1_0_1_2 (smT q k)))
/-- The weight of the second map. -/
def laT : FVec Ideal S_ .f32 :=
  addf (subf (Host.exp (Host.reduceAdd (mulf (shapeCast _ (extractStridedSlice S1x64 ![0, 0] l slices_S4x64_S1x64_0_0) shapeCasts_S1x64_S64) (shapeCast _ (extractStridedSlice S1x64 ![1, 0] l slices_S4x64_S1x64_1_0) shapeCasts_S1x64_S64)) (constant S_ .f32 0x00000000#32) reducesTo_S64_S_d0 h_S_)) (Host.exp (Host.reduceAdd (mulf (shapeCast _ (extractStridedSlice S1x64 ![2, 0] l slices_S4x64_S1x64_2_0) shapeCasts_S1x64_S64) (shapeCast _ (extractStridedSlice S1x64 ![3, 0] l slices_S4x64_S1x64_3_0) shapeCasts_S1x64_S64)) (constant S_ .f32 0x00000000#32) reducesTo_S64_S_d0 h_S_))) (constant S_ .f32 0x3EB60549#32)
/-- The values weighted by the difference of the two maps. -/
def oT : FVec Ideal S8192x8x128 .f32 :=
  transpose S8192x8x128 [2, 0, 1] (Host.dotGeneral dot_S8192x8x128_S8x8192x8192_S8x128x8192_0_2_2_1_1_0 none v (subf (shapeCast _ (extractStridedSlice S8x1x8192x8192 ![0, 0, 0, 0] (prT q k) slices_S8x2x8192x8192_S8x1x8192x8192_0_0_0_0) shapeCasts_S8x1x8192x8192_S8x8192x8192) (mulf (broadcastInDim S8x8192x8192 ![] bcast_S_S8x8192x8192 (laT l)) (shapeCast _ (extractStridedSlice S8x1x8192x8192 ![0, 1, 0, 0] (prT q k) slices_S8x2x8192x8192_S8x1x8192x8192_0_1_0_0) shapeCasts_S8x1x8192x8192_S8x8192x8192)))) transposes_S8x128x8192_S8192x8x128_2_0_1
/-- The result. -/
def outT : FVec Ideal S8192x1024 .bf16 :=
  truncf .bf16 (shapeCast _ (mulf (mulf (mulf (oT q k v l) (broadcastInDim S8192x8x128 ![0, 1, 2] bcast_S8192x8x1_S8192x8x128_0_1_2 (Host.rsqrt (addf (Host.divf (broadcastInDim S8192x8x1 ![0, 1] bcast_S8192x8_S8192x8x1_0_1 (Host.reduceAdd (mulf (oT q k v l) (oT q k v l)) (constant S_ .f32 0x00000000#32) reducesTo_S8192x8x128_S8192x8_d2 h_S_)) (broadcastInDim S8192x8x1 ![] bcast_S_S8192x8x1 (constant S_ .f32 0x43000000#32))) (broadcastInDim S8192x8x1 ![] bcast_S_S8192x8x1 (constant S_ .f32 0x358637BD#32)))))) (broadcastInDim S8192x8x128 ![0, 1, 2] bcast_S1x1x128_S8192x8x128_0_1_2 (broadcastInDim S1x1x128 ![2] bcast_S128_S1x1x128_2 g))) (broadcastInDim S8192x8x128 ![] bcast_S_S8192x8x128 (constant S_ .f32 0x3F24FD5C#32))) shapeCasts_S8192x8x128_S8192x1024) bitsLt_bf16_f32

theorem run' (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v57) = outT (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := Value.run m ρ

theorem sc_at (h : Fin 8) (w : Fin 2) (x y : Fin 8192) :
    scT q k (ix4 h w x y) = (∑ d : Fin 64, q (ix4 x h w d) * k (ix4 y h w d)) * Ideal.div 1 (Ideal.sqrt (Ideal.ofBits .f32 0x42800000#32)) := by
  pointwise [scT]

theorem maxf_at {s : Shape} (A B : FVec Ideal s .f32) (j : s.Idx) : maximumf A B j = max (A j) (B j) := rfl

theorem red_gen (X : FVec Ideal S8x2x8192x8192 .f32) (h : Fin 8) (w : Fin 2) (x : Fin 8192) :
    (Host.reduce FloatOps.maximumf X (constant S_ .f32 0xFF800000#32) reducesTo_S8x2x8192x8192_S8x2x8192_d3 h_S_ : FVec Ideal S8x2x8192 .f32) (ix3 h w x)
      = Finset.univ.fold max (Ideal.ofBits .f32 0xFF800000#32) fun y : Fin 8192 => X (ix4 h w x y) := by
  pointwise

theorem ninf_gen (j : S8x2x8192.Idx) :
    (broadcastInDim S8x2x8192 ![] bcast_S_S8x2x8192 (constant S_ .f32 0xFF800000#32) : FVec Ideal S8x2x8192 .f32) j = Ideal.ofBits .f32 0xFF800000#32 := rfl

theorem ex_gen (X : FVec Ideal S8x2x8192x8192 .f32) (M : FVec Ideal S8x2x8192 .f32) (h : Fin 8) (w : Fin 2) (x y : Fin 8192) :
    (Host.exp (subf X (broadcastInDim S8x2x8192x8192 ![0, 1, 2, 3] bcast_S8x2x8192x1_S8x2x8192x8192_0_1_2_3 (broadcastInDim S8x2x8192x1 ![0, 1, 2] bcast_S8x2x8192_S8x2x8192x1_0_1_2 M))) : FVec Ideal S8x2x8192x8192 .f32) (ix4 h w x y)
      = Ideal.exp (X (ix4 h w x y) - M (ix3 h w x)) := by
  pointwise

theorem sm_gen (X : FVec Ideal S8x2x8192x8192 .f32) (h : Fin 8) (w : Fin 2) (x : Fin 8192) :
    (Host.reduceAdd X (constant S_ .f32 0x00000000#32) reducesTo_S8x2x8192x8192_S8x2x8192_d3 h_S_ : FVec Ideal S8x2x8192 .f32) (ix3 h w x)
      = ∑ y : Fin 8192, X (ix4 h w x y) := by
  pointwise

theorem pr_gen (X : FVec Ideal S8x2x8192x8192 .f32) (M : FVec Ideal S8x2x8192 .f32) (h : Fin 8) (w : Fin 2) (x y : Fin 8192) :
    (Host.divf X (broadcastInDim S8x2x8192x8192 ![0, 1, 2, 3] bcast_S8x2x8192x1_S8x2x8192x8192_0_1_2_3 (broadcastInDim S8x2x8192x1 ![0, 1, 2] bcast_S8x2x8192_S8x2x8192x1_0_1_2 M)) : FVec Ideal S8x2x8192x8192 .f32) (ix4 h w x y)
      = Ideal.div (X (ix4 h w x y)) (M (ix3 h w x)) := by
  pointwise

theorem la_at : laT l ix0 = Ideal.exp (∑ j : Fin 64, l (ix2 0 j) * l (ix2 1 j)) - Ideal.exp (∑ j : Fin 64, l (ix2 2 j) * l (ix2 3 j)) + Ideal.ofBits .f32 0x3EB60549#32 := by
  pointwise [laT]

theorem o_gen (P : FVec Ideal S8x2x8192x8192 .f32) (la : FVec Ideal S_ .f32) (h : Fin 8) (x : Fin 8192) (e : Fin 128) :
    (transpose S8192x8x128 [2, 0, 1] (Host.dotGeneral dot_S8192x8x128_S8x8192x8192_S8x128x8192_0_2_2_1_1_0 none v (subf (shapeCast _ (extractStridedSlice S8x1x8192x8192 ![0, 0, 0, 0] P slices_S8x2x8192x8192_S8x1x8192x8192_0_0_0_0) shapeCasts_S8x1x8192x8192_S8x8192x8192) (mulf (broadcastInDim S8x8192x8192 ![] bcast_S_S8x8192x8192 la) (shapeCast _ (extractStridedSlice S8x1x8192x8192 ![0, 1, 0, 0] P slices_S8x2x8192x8192_S8x1x8192x8192_0_1_0_0) shapeCasts_S8x1x8192x8192_S8x8192x8192)))) transposes_S8x128x8192_S8192x8x128_2_0_1 : FVec Ideal S8192x8x128 .f32)
      (ix3 x h e)
      = ∑ y : Fin 8192, v (ix3 y h e) * (P (ix4 h 0 x y) - la ix0 * P (ix4 h 1 x y)) := by
  pointwise

theorem out_gen (O : FVec Ideal S8192x8x128 .f32) (h : Fin 8) (x : Fin 8192) (e : Fin 128) :
    (truncf .bf16 (shapeCast _ (mulf (mulf (mulf O (broadcastInDim S8192x8x128 ![0, 1, 2] bcast_S8192x8x1_S8192x8x128_0_1_2 (Host.rsqrt (addf (Host.divf (broadcastInDim S8192x8x1 ![0, 1] bcast_S8192x8_S8192x8x1_0_1 (Host.reduceAdd (mulf O O) (constant S_ .f32 0x00000000#32) reducesTo_S8192x8x128_S8192x8_d2 h_S_)) (broadcastInDim S8192x8x1 ![] bcast_S_S8192x8x1 (constant S_ .f32 0x43000000#32))) (broadcastInDim S8192x8x1 ![] bcast_S_S8192x8x1 (constant S_ .f32 0x358637BD#32)))))) (broadcastInDim S8192x8x128 ![0, 1, 2] bcast_S1x1x128_S8192x8x128_0_1_2 (broadcastInDim S1x1x128 ![2] bcast_S128_S1x1x128_2 g))) (broadcastInDim S8192x8x128 ![] bcast_S_S8192x8x128 (constant S_ .f32 0x3F24FD5C#32))) shapeCasts_S8192x8x128_S8192x1024) bitsLt_bf16_f32 : FVec Ideal S8192x1024 .bf16)
      (ix2 x ⟨h.val * 128 + e.val, by omega⟩)
      = O (ix3 x h e) * Ideal.rsqrt (Ideal.div (∑ j : Fin 128, O (ix3 x h j) * O (ix3 x h j)) (Ideal.ofBits .f32 0x43000000#32) + Ideal.ofBits .f32 0x358637BD#32)
        * g (ix1 e) * Ideal.ofBits .f32 0x3F24FD5C#32 := by
  pointwise

theorem mx_at (h : Fin 8) (w : Fin 2) (x : Fin 8192) :
    mxT q k (ix3 h w x) = max (Ideal.ofBits .f32 0xFF800000#32) (Finset.univ.fold max (Ideal.ofBits .f32 0xFF800000#32) fun y : Fin 8192 => scT q k (ix4 h w x y)) := by
  unfold mxT
  rw [maxf_at, ninf_gen, red_gen]

theorem pr_at (h : Fin 8) (w : Fin 2) (x y : Fin 8192) :
    prT q k (ix4 h w x y) = Ideal.div (Ideal.exp (scT q k (ix4 h w x y) - mxT q k (ix3 h w x))) (∑ z : Fin 8192, Ideal.exp (scT q k (ix4 h w x z) - mxT q k (ix3 h w x))) := by
  have hex : ∀ z, exT q k (ix4 h w x z) = Ideal.exp (scT q k (ix4 h w x z) - mxT q k (ix3 h w x)) := fun z => ex_gen (scT q k) (mxT q k) h w x z
  refine (pr_gen (exT q k) (smT q k) h w x y).trans ?_
  rw [hex, show smT q k (ix3 h w x) = _ from sm_gen (exT q k) h w x]
  simp only [hex]

theorem o_at (h : Fin 8) (x : Fin 8192) (e : Fin 128) :
    oT q k v l (ix3 x h e) = ∑ y : Fin 8192, v (ix3 y h e) * (prT q k (ix4 h 0 x y) - laT l ix0 * prT q k (ix4 h 1 x y)) :=
  o_gen v (prT q k) (laT l) h x e

theorem out_at (h : Fin 8) (x : Fin 8192) (e : Fin 128) :
    outT q k v l g (ix2 x ⟨h.val * 128 + e.val, by omega⟩)
      = oT q k v l (ix3 x h e) * Ideal.rsqrt (Ideal.div (∑ j : Fin 128, oT q k v l (ix3 x h j) * oT q k v l (ix3 x h j)) (Ideal.ofBits .f32 0x43000000#32) + Ideal.ofBits .f32 0x358637BD#32)
        * g (ix1 e) * Ideal.ofBits .f32 0x3F24FD5C#32 :=
  out_gen g (oT q k v l) h x e

end Cert.ReferenceDiffIdeal.Hand
end
-- ==== Proof.DiffAlgI.lean ====
module

public import proofs.«01_k».proof.Proof.AlgI
public import proofs.«01_k».proof.Proof.DiffRunI
public import proofs.«01_k».proof.Proof.DiffValI
public import proofs.«01_k».proof.Proof.DiffHostI
public import proofs.«01_k».proof.Proof.DiffRefI

@[expose] public section

set_option maxRecDepth 16384

noncomputable section

/-! # The kernel's result of attention B is the reference's -/

namespace Cert.KernelDiffIdeal.Hand

open Idealize.ShloMosaic Idealize.ShloMosaic.TcCoe
open Cert.KernelDiffIdeal.Gen Cert.Soft
open Cert.KernelIdeal.Hand (nrm top log_two log_pos vCh_at ofBits_ninf)

/-! ## The two scales -/

def rA : ℝ := 1 / Real.sqrt 64
def rB : ℝ := 1 / (Real.log 2 * Real.sqrt 64)

theorem ofBits_64 : Ideal.ofBits .f32 0x42800000#32 = ((64 : ℝ) : EReal) := by
  simp [Ideal.ofBits, Ideal.ieee, -EReal.coe_mul]; try norm_num

theorem sqrt_64 : Ideal.sqrt (Ideal.ofBits .f32 0x42800000#32) = (Real.sqrt 64 : EReal) := by
  rw [ofBits_64]
  exact if_neg (by norm_num)
theorem sqrt_pos : 0 < Real.sqrt 64 := Real.sqrt_pos.mpr (by norm_num)

theorem scale_A : Ideal.div 1 (Ideal.sqrt (Ideal.ofBits .f32 0x42800000#32)) = (rA : EReal) := by
  rw [sqrt_64, Ideal.div_coe sqrt_pos.ne', one_mul]; rfl
theorem scale_B : Ideal.div 1 (Ideal.log (Ideal.ofBits .f32 0x40000000#32) * Ideal.sqrt (Ideal.ofBits .f32 0x42800000#32)) = (rB : EReal) := by
  rw [sqrt_64, log_two, ← EReal.coe_mul, Ideal.div_coe (mul_pos log_pos sqrt_pos).ne', one_mul]; rfl
theorem rA_eq : rA = rB * Real.log 2 := by
  have h1 := sqrt_pos.ne'
  have h2 := log_pos.ne'
  unfold rA rB
  field_simp

/-! ## Sums -/

/-- A sum over the dimensions of both maps whose terms of the other map are zero. -/
theorem sum_half (f : Fin 128 → EReal) (w : Fin 2) (h : ∀ d : Fin 128, d.val / 64 ≠ w.val → f d = 0) :
    ∑ d, f d = ∑ d : Fin 64, f ⟨w.val * 64 + d.val, by omega⟩ := by
  refine (Fin.sum_univ_add (a := 64) (b := 64) f).trans ?_
  rcases Nat.lt_or_ge w.val 1 with hw | hw
  · refine (congrArg₂ (· + ·) (Finset.sum_congr rfl fun d _ => congrArg f (Fin.ext ?_)) (Finset.sum_eq_zero fun d _ => h _ ?_)).trans (add_zero _)
    · show d.val = w.val * 64 + d.val
      omega
    · show (64 + d.val) / 64 ≠ w.val
      omega
  · refine (congrArg₂ (· + ·) (Finset.sum_eq_zero fun d _ => h _ ?_) (Finset.sum_congr rfl fun d _ => congrArg f (Fin.ext ?_))).trans (zero_add _)
    · show d.val / 64 ≠ w.val
      omega
    · show 64 + d.val = w.val * 64 + d.val
      omega

/-- Over the reals, the values weighted by a difference are the difference of the values weighted. -/
theorem sum_dif {ι : Type} [Fintype ι] (v p p' : ι → EReal) (a : EReal) (hv : ∀ i, IsR (v i)) (hp : ∀ i, IsR (p i)) (hp' : ∀ i, IsR (p' i)) (ha : IsR a) :
    (∑ i, v i * p i) - a * (∑ i, v i * p' i) = ∑ i, v i * (p i - a * p' i) := by
  choose v₁ hv₁ using hv
  choose p₁ hp₁ using hp
  choose q₁ hq₁ using hp'
  obtain ⟨b, rfl⟩ := ha
  simp only [hv₁, hp₁, hq₁, ← EReal.coe_mul, ← EReal.coe_sub, ← coe_sum]
  refine congrArg _ ?_
  rw [Finset.mul_sum, ← Finset.sum_sub_distrib]
  exact Finset.sum_congr rfl fun i _ => by ring

theorem isR_exp {x : EReal} (h : IsR x) : IsR (Ideal.exp x) := by
  obtain ⟨a, rfl⟩ := h
  exact ⟨Real.exp a, rfl⟩

theorem isR_c : IsR (Ideal.ofBits .f32 0x3EB60549#32) := by
  simp [Ideal.ofBits, Ideal.ieee, -EReal.coe_mul]
  exact .coe _

theorem lam_isR (l : Vec Ideal S4x64 .f32) (h : ∀ i, IsR (l i)) : IsR (lam l) := by
  obtain ⟨a, ha⟩ := isR_exp (IsR.sum Finset.univ (fun j : Fin 64 => l (ix2 0 j) * l (ix2 1 j)) fun j => (h _).mul (h _))
  obtain ⟨b, hb⟩ := isR_exp (IsR.sum Finset.univ (fun j : Fin 64 => l (ix2 2 j) * l (ix2 3 j)) fun j => (h _).mul (h _))
  obtain ⟨c, hc⟩ := isR_c
  unfold lam
  rw [ha, hb, hc]
  exact ⟨a - b + c, by rw [EReal.coe_add, EReal.coe_sub]⟩

/-! ## The blocks at an index -/

variable (m : (ℓ : Loc nD τ sig) → Buf (Elt Ideal) ℓ) (c : Dev nD)

theorem lt32 (t : Fin cfg0.N) : t.val < 32 := lt_of_lt_of_eq t.isLt N_0

theorem read0_at (A : Buf (Elt Ideal) ((c : Thread nD τ).loc (Pipeline.arrRef spec0 0))) (t : Fin cfg0.N) (n : Fin 16) (d : Fin 128) (r : Fin 512) :
    (((cfg0.win 0).blk t).view.read (Elt Ideal) A : FVec Ideal S1x16x128x512 .bf16) (ix4 0 n d r) = (A : FVec Ideal S8x16x128x512 .bf16) (ix4 ⟨t.val / 4, by have := lt32 t; omega⟩ n d r) := by
  refine congrArg A ?_
  blk_ext [wx0]
theorem qB_at (t : Fin cfg0.N) (n : Fin 16) (d : Fin 128) (r : Fin 512) :
    qB m c t (ix4 0 n d r) = (V m c main_v8 : FVec Ideal S8x16x128x512 .bf16) (ix4 ⟨t.val / 4, by have := lt32 t; omega⟩ n d r) :=
  read0_at c (V m c main_v8) t n d r
theorem read1_at (A : Buf (Elt Ideal) ((c : Thread nD τ).loc (Pipeline.arrRef spec0 1))) (t : Fin cfg0.N) (y : Fin 8192) (d : Fin 128) :
    (((cfg0.win 1).blk t).view.read (Elt Ideal) A : FVec Ideal S1x8192x128 .bf16) (ix3 0 y d) = (A : FVec Ideal S8x8192x128 .bf16) (ix3 ⟨t.val / 4, by have := lt32 t; omega⟩ y d) := by
  refine congrArg A ?_
  blk_ext [wx1]
theorem kB_at (t : Fin cfg0.N) (y : Fin 8192) (d : Fin 128) :
    kB m c t (ix3 0 y d) = (V m c main_v11 : FVec Ideal S8x8192x128 .bf16) (ix3 ⟨t.val / 4, by have := lt32 t; omega⟩ y d) :=
  read1_at c (V m c main_v11) t y d
theorem read2_at (A : Buf (Elt Ideal) ((c : Thread nD τ).loc (Pipeline.arrRef spec0 2))) (t : Fin cfg0.N) (n : Fin 16) (e : Fin 144) (r : Fin 512) :
    (((cfg0.win 2).blk t).view.read (Elt Ideal) A : FVec Ideal S1x16x144x512 .bf16) (ix4 0 n e r) = (A : FVec Ideal S8x16x144x512 .bf16) (ix4 ⟨t.val / 4, by have := lt32 t; omega⟩ n e r) := by
  refine congrArg A ?_
  blk_ext [wx2]
theorem vB_at (t : Fin cfg0.N) (n : Fin 16) (e : Fin 144) (r : Fin 512) :
    vB m c t (ix4 0 n e r) = (V m c main_v16 : FVec Ideal S8x16x144x512 .bf16) (ix4 ⟨t.val / 4, by have := lt32 t; omega⟩ n e r) :=
  read2_at c (V m c main_v16) t n e r
theorem read3_at (A : Buf (Elt Ideal) ((c : Thread nD τ).loc (Pipeline.arrRef spec0 3))) (t : Fin cfg0.N) (r : Fin 4096) :
    (((cfg0.win 3).blk t).view.read (Elt Ideal) A : FVec Ideal S1x4096 .f32) (ix2 0 r) = (A : FVec Ideal S1x4096 .f32) (ix2 0 r) := by
  refine congrArg A ?_
  blk_ext [wx3]
theorem sB_at (t : Fin cfg0.N) (r : Fin 4096) :
    sB m c t (ix2 0 r) = (V m c main_v23 : FVec Ideal S1x4096 .f32) (ix2 0 r) :=
  read3_at c (V m c main_v23) t r
theorem read4_at (A : Buf (Elt Ideal) ((c : Thread nD τ).loc (Pipeline.arrRef spec0 4))) (t : Fin cfg0.N) (a : Fin 4) (j : Fin 64) :
    (((cfg0.win 4).blk t).view.read (Elt Ideal) A : FVec Ideal S4x64 .f32) (ix2 a j) = (A : FVec Ideal S4x64 .f32) (ix2 a j) := by
  refine congrArg A ?_
  blk_ext [wx4]
theorem lB_at (t : Fin cfg0.N) (a : Fin 4) (j : Fin 64) : lB m c t (ix2 a j) = argL m c (ix2 a j) :=
  (read4_at c (V m c main_arg3) t a j).trans (congrFun (V_main_arg3 m c) (ix2 a j))
theorem read5_at (A : Buf (Elt Ideal) ((c : Thread nD τ).loc (Pipeline.arrRef spec0 5))) (t : Fin cfg0.N) (e : Fin 128) :
    (((cfg0.win 5).blk t).view.read (Elt Ideal) A : FVec Ideal S128x1 .f32) (ix2 e 0) = (A : FVec Ideal S128x1 .f32) (ix2 e 0) := by
  refine congrArg A ?_
  blk_ext [wx5]
theorem gB_at (t : Fin cfg0.N) (e : Fin 128) : gB m c t (ix2 e 0) = argS m c (ix1 e) :=
  (read5_at c (V m c main_v24) t e).trans (host_g m c e)

open Cert.ReferenceDiffIdeal.Hand (scT mxT prT laT oT outT)

theorem lam_eq (t : Fin cfg0.N) : lam (lB m c t) = laT (argL m c) ix0 := by
  rw [Cert.ReferenceDiffIdeal.Hand.la_at]
  unfold lam
  simp only [lB_at]

section
variable (hq : ∀ i, IsR (argQ m c i)) (hk : ∀ i, IsR (argK m c i))
include hq hk

theorem scT_isR (h : Fin 8) (w : Fin 2) (x y : Fin 8192) : IsR (scT (argQ m c) (argK m c) (ix4 h w x y)) := by
  rw [Cert.ReferenceDiffIdeal.Hand.sc_at, scale_A]
  exact (IsR.sum _ _ fun d => (hq _).mul (hk _)).mul (.coe _)

theorem mxT_isR (h : Fin 8) (w : Fin 2) (x : Fin 8192) : IsR (mxT (argQ m c) (argK m c) (ix3 h w x)) := by
  rw [Cert.ReferenceDiffIdeal.Hand.mx_at, ofBits_ninf]
  exact .max_left bot_ne_top (.fold_max _ fun y => scT_isR m c hq hk h w x y)

theorem prT_isR (h : Fin 8) (w : Fin 2) (x y : Fin 8192) : IsR (prT (argQ m c) (argK m c) (ix4 h w x y)) := by
  have hs := fun z => scT_isR m c hq hk h w x z
  choose T hT using hs
  obtain ⟨M, hM⟩ := mxT_isR m c hq hk h w x
  rw [Cert.ReferenceDiffIdeal.Hand.pr_at]
  simp only [hT, hM, exp_sub, ← coe_sum]
  have hW : 0 < ∑ k, Real.exp (T k - M) := Finset.sum_pos (fun i _ => Real.exp_pos _) Finset.univ_nonempty
  rw [Ideal.div_coe hW.ne']
  exact (IsR.coe _).mul (.coe _)

/-- One entry of one map's quotient: the values weighted by the reference's softmax. -/
theorem map_at (t : Fin cfg0.N) (r : Fin 2048) (e : Fin 128) (w : Fin 2) (j : Fin 4096)
    (h : Fin 8) (x : Fin 8192) (hh : h.val = t.val / 4) (hx : x.val = 2048 * (t.val % 4) + r.val) (hj : j.val = w.val * 2048 + r.val) :
    k0_pay57 (top (fin (kB m c t) (vB m c t) (qq (qB m c t)) (sB m c t) (grid0.coords t 1).val))
        (nrm (fin (kB m c t) (vB m c t) (qq (qB m c t)) (sB m c t) (grid0.coords t 1).val)) (ix2 e j)
      = ∑ y : Fin 8192, argV m c (ix3 y h e) * prT (argQ m c) (argK m c) (ix4 h w x y) := by
  obtain ⟨M, hM⟩ := mxT_isR m c hq hk h w x
  choose q' hq' using hq
  choose k' hk' using hk
  have ht := lt32 t
  have hr := r.isLt
  have hw := w.isLt
  let S : Fin 8192 → ℝ := fun y => ∑ d : Fin 64, k' (ix4 y h w d) * (q' (ix4 x h w d) * rB)
  let T : Fin 8192 → ℝ := fun y => (∑ d : Fin 64, q' (ix4 x h w d) * k' (ix4 y h w d)) * rA
  have hT : ∀ y, T y = S y * Real.log 2 := fun y => by
    show (∑ d : Fin 64, q' (ix4 x h w d) * k' (ix4 y h w d)) * rA = (∑ d : Fin 64, k' (ix4 y h w d) * (q' (ix4 x h w d) * rB)) * Real.log 2
    rw [Finset.sum_mul, Finset.sum_mul, rA_eq]
    exact Finset.sum_congr rfl fun d _ => by ring
  have hsc : ∀ y, scT (argQ m c) (argK m c) (ix4 h w x y) = (T y : EReal) := fun y => by
    rw [Cert.ReferenceDiffIdeal.Hand.sc_at, scale_A]
    show _ = (((∑ d : Fin 64, q' (ix4 x h w d) * k' (ix4 y h w d)) * rA : ℝ) : EReal)
    rw [EReal.coe_mul, coe_sum]
    refine congrArg (· * (rA : EReal)) (Finset.sum_congr rfl fun d _ => ?_)
    rw [EReal.coe_mul, ← hk', ← hq']
  simp only [Cert.ReferenceDiffIdeal.Hand.pr_at, hsc, hM]
  have hh' : (⟨t.val / 4, by omega⟩ : Fin 8) = h := Fin.ext hh.symm
  have hqd : ∀ d : Fin 128, qBl (qq (qB m c t)) (grid0.coords t 1).val (ix3 0 d j)
      = if d.val / 64 = w.val then (V m c main_v8 : FVec Ideal S8x16x128x512 .bf16) (ix4 h ⟨x.val / 512, by omega⟩ d ⟨x.val % 512, Nat.mod_lt _ (by decide)⟩) else (0 : EReal) := fun d => by
    rw [qBl_at _ _ (by rw [coord1]; omega), qq_at]
    unfold qG
    have e2 : j.val / 2048 = w.val := by omega
    show (if d.val / 64 = j.val / 2048 then qB m c t (ix4 0 ⟨4 * (grid0.coords t 1).val + j.val % 2048 / 512, _⟩ d ⟨j.val % 512, _⟩) else (0 : EReal)) = _
    rw [e2]
    refine if_congr Iff.rfl ?_ rfl
    refine (qB_at m c t ⟨4 * (grid0.coords t 1).val + j.val % 2048 / 512, by rw [coord1]; omega⟩ d ⟨j.val % 512, Nat.mod_lt _ (by decide)⟩).trans ?_
    refine congrArg (V m c main_v8) (funext fun a => Fin.ext ?_)
    fin_cases a
    · exact hh.symm
    · show 4 * (grid0.coords t 1).val + j.val % 2048 / 512 = x.val / 512
      rw [coord1, hx]; omega
    · rfl
    · show j.val % 512 = x.val % 512
      rw [hx]; omega
  have hx' : (⟨x.val / 512 * 512 + x.val % 512, by omega⟩ : Fin 8192) = x := Fin.ext (by show x.val / 512 * 512 + x.val % 512 = x.val; omega)
  refine quot_at (kB m c t) (vB m c t) (qq (qB m c t)) (sB m c t) _ j e (fun y => argV m c (ix3 y h e)) S T ?_ ?_ ?_ ?_ hT M
  · intro n hn k
    show _ = ((∑ d : Fin 64, k' (ix4 _ h w d) * (q' (ix4 x h w d) * rB) : ℝ) : EReal)
    rw [coe_sum]
    refine (sum_half _ w fun d hd => ?_).trans (Finset.sum_congr rfl fun d _ => ?_)
    · rw [hqd, if_neg hd, mul_zero]
    · rw [hqd, if_pos (by show (w.val * 64 + d.val) / 64 = w.val; omega), host_q _ _ _ _ w d, hx', scale_B, kCh_at _ n hn, kB_at, host_k _ _ _ _ w d, hh', EReal.coe_mul, EReal.coe_mul, ← hk', ← hq']
  · intro n hn k
    rw [vCh_at _ n hn, vB_at, host_v, hh']
  · intro n hn k
    rw [vCh_at _ n hn, vB_at, host_one]
  · rw [sB_at]
    exact host_s m c j

variable (hv : ∀ i, IsR (argV m c i)) (hl : ∀ i, IsR (argL m c i))
include hv hl

/-- One entry of the result's block: the reference's entry there. -/
theorem outAt_at (t : Fin cfg0.N) (r : Fin 2048) (e : Fin 128)
    (h : Fin 8) (x : Fin 8192) (hh : h.val = t.val / 4) (hx : x.val = 2048 * (t.val % 4) + r.val) :
    outAt m c t (ix2 r e) = outT (argQ m c) (argK m c) (argV m c) (argL m c) (argS m c) (ix2 x ⟨h.val * 128 + e.val, by omega⟩) := by
  have hla : IsR (laT (argL m c) ix0) := by
    rw [Cert.ReferenceDiffIdeal.Hand.la_at]
    exact lam_isR (argL m c) hl
  have hd : ∀ e', dif (k0_pay57 (top (fin (kB m c t) (vB m c t) (qq (qB m c t)) (sB m c t) (grid0.coords t 1).val))
        (nrm (fin (kB m c t) (vB m c t) (qq (qB m c t)) (sB m c t) (grid0.coords t 1).val))) (lam (lB m c t)) r e'
      = oT (argQ m c) (argK m c) (argV m c) (argL m c) (ix3 x h e') := fun e' => by
    unfold dif
    rw [map_at m c hq hk t r e' 0 _ h x hh hx (by show r.val = 0 * 2048 + r.val; omega),
      map_at m c hq hk t r e' 1 _ h x hh hx (by show 2048 + r.val = 1 * 2048 + r.val; omega), lam_eq, Cert.ReferenceDiffIdeal.Hand.o_at]
    exact sum_dif _ _ _ _ (fun y => hv _) (fun y => prT_isR m c hq hk h 0 x y) (fun y => prT_isR m c hq hk h 1 x y) hla
  unfold outAt oBlk
  rw [pay1_at _ _ _ _ r e (lam (lB m c t)) (by rw [pay58_at]; simp only [pay59_at]; rfl), Cert.ReferenceDiffIdeal.Hand.out_at]
  simp only [hd, gB_at]

/-- The result array after the run. -/
theorem arr_eq :
    (dats m 0 c).arrAt 6 cfg0.N = outT (argQ m c) (argK m c) (argV m c) (argL m c) (argS m c) := by
  refine (dats m 0 c).arrAt_eq_of_covers 6 _ (by decide +kernel) fun t hf y => ?_
  blk_simp
  rw [after0_6]
  have ht := lt32 t
  obtain ⟨r, e, rfl⟩ : ∃ (r : Fin 2048) (e : Fin 128), y = ix2 r e := ⟨y 0, y 1, by funext a; fin_cases a <;> rfl⟩
  refine (outAt_at m c hq hk hv hl t r e ⟨t.val / 4, by omega⟩ ⟨2048 * (t.val % 4) + r.val, by omega⟩ rfl rfl).trans ?_
  refine congrArg (outT (argQ m c) (argK m c) (argV m c) (argL m c) (argS m c)) ?_
  blk_ext [wx6]
end

end Cert.KernelDiffIdeal.Hand
end
-- ==== Proof.DiffPreI.lean ====
module

public import proofs.«01_k».proof.Proof.Gen.Pre_finite_q_k_v_lam
public import proofs.«01_k».proof.Proof.PreI
public import Idealize.ShloMosaic.Lib.Pointwise
public import Idealize.ShloMosaic.Lib.ReduceAll

@[expose] public section

set_option maxRecDepth 16384

noncomputable section

/-! # The precondition of attention B: queries, keys, values and the parameters of lambda are real -/

namespace Cert.Pre_finite_q_k_v_lam.Hand

open Idealize.ShloMosaic Cert.Pre_finite_q_k_v_lam Cert.Pre_finite_q_k_v_lam.Gen Cert.Soft
open Cert.Pre_finite_q_k.Hand (isR_of_lt ofBits_inf)

theorem reals (q k : FVec Ideal S8192x8x2x64 .f32) (v : FVec Ideal S8192x8x128 .f32) (l : FVec Ideal S4x64 .f32) (s : FVec Ideal S128 .f32) (a b : FVec Ideal S64 .f32)
    (h : fn (F := Ideal) q k v l s a b = fun _ => 1#1) : (∀ i, IsR (q i)) ∧ (∀ i, IsR (k i)) ∧ (∀ i, IsR (v i)) ∧ ∀ i, IsR (l i) := by
  have h0 := congrFun h (fun a => a.elim0)
  unfold fn fn_part1 at h0
  have h1 := IntOp.andi_eq_one.mp h0
  have h2 := IntOp.andi_eq_one.mp h1.1
  have h3 := IntOp.andi_eq_one.mp h2.1
  exact ⟨fun i => isR_of_lt ofBits_inf (Host.reduce_andi_all _ _ _ _ _ h3.1 i), fun i => isR_of_lt ofBits_inf (Host.reduce_andi_all _ _ _ _ _ h3.2 i),
    fun i => isR_of_lt ofBits_inf (Host.reduce_andi_all _ _ _ _ _ h2.2 i), fun i => isR_of_lt ofBits_inf (Host.reduce_andi_all _ _ _ _ _ h1.2 i)⟩

end Cert.Pre_finite_q_k_v_lam.Hand
end
-- ==== Proof.NormI.lean ====
module

public import proofs.«01_k».proof.Proof.Gen.KernelNormIdeal.Value
public import proofs.«01_k».proof.Proof.Gen.ReferenceNormIdeal.Run
public import Idealize.ShloMosaic.Lib.Pointwise
public import Idealize.ShloMosaic.Lib.Claim
public import Idealize.ShloMosaic.Lib.IdealHost
public import Idealize.ShloMosaic.Lib.Pipeline.ValueKit

@[expose] public section

set_option maxRecDepth 16384

noncomputable section

/-! # The gated half of the feed-forward part: silu(x G) · (x U) -/
/-! # The norm: x · rsqrt(mean x² + ε) · gain -/

namespace Cert.ReferenceNormIdeal.Hand

open Idealize.ShloMosaic Idealize.ShloMosaic.TcCoe
open Cert.ReferenceNormIdeal Cert.ReferenceNormIdeal.Gen

variable (x : FVec Ideal S8192x4096 .f32) (g : FVec Ideal S2x4096 .f32)

/-- The reference's result. -/
def outT : FVec Ideal S8192x4096 .bf16 :=
  truncf .bf16 (mulf (mulf x (broadcastInDim S8192x4096 ![0, 1] bcast_S8192x1_S8192x4096_0_1 (Host.rsqrt (addf (Host.divf (broadcastInDim S8192x1 ![0] bcast_S8192_S8192x1_0 (Host.reduceAdd (mulf x x) (constant S_ .f32 0x00000000#32) reducesTo_S8192x4096_S8192_d1 h_S_)) (broadcastInDim S8192x1 ![] bcast_S_S8192x1 (constant S_ .f32 0x45800000#32))) (broadcastInDim S8192x1 ![] bcast_S_S8192x1 (constant S_ .f32 0x358637BD#32)))))) (broadcastInDim S8192x4096 ![0, 1] bcast_S1x4096_S8192x4096_0_1 (broadcastInDim S1x4096 ![1] bcast_S4096_S1x4096_1 (shapeCast _ (extractStridedSlice S1x4096 ![1, 0] g slices_S2x4096_S1x4096_1_0) shapeCasts_S1x4096_S4096)))) bitsLt_bf16_f32

theorem run' (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v15) = outT (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := Value.run m ρ

theorem out_at (i : Fin 8192) (j : Fin 4096) :
    outT x g (ix2 i j) = x (ix2 i j) * Ideal.rsqrt (Ideal.div (∑ k : Fin 4096, x (ix2 i k) * x (ix2 i k)) (Ideal.ofBits .f32 0x45800000#32) + Ideal.ofBits .f32 0x358637BD#32) * g (ix2 1 j) := by
  pointwise [outT]

end Cert.ReferenceNormIdeal.Hand

namespace Cert.KernelNormIdeal.Hand

open Idealize.ShloMosaic Idealize.ShloMosaic.TcCoe
open Cert.KernelNormIdeal.Gen
open Cert.ReferenceNormIdeal.Hand (outT)

variable (m : (ℓ : Loc nD τ sig) → Buf (Elt Ideal) ℓ) (c : Dev nD)

abbrev argX : FVec Ideal S8192x4096 .f32 := m ((c : Thread nD τ).loc main_arg0)
abbrev argG : FVec Ideal S2x4096 .f32 := m ((c : Thread nD τ).loc main_arg1)

/-- The layer's gains, that the kernel is called on. -/
theorem host_g (k : Fin 4096) :
    (V m c main_v2 : FVec Ideal S1x4096 .f32) (ix2 0 k) = argG m c (ix2 1 k) := by
  entry_read
  pointwise

theorem wx0 : ∀ t : Fin grid0.N, win0_0.index t = ![t.val, 0] := by decide +kernel
theorem wx1 : ∀ t : Fin grid0.N, win0_1.index t = ![0, 0] := by decide +kernel
theorem wx2 : ∀ t : Fin grid0.N, win0_2.index t = ![t.val, 0] := by decide +kernel

/-- One entry of a block's result. -/
theorem pay_at (x : FVec Ideal S512x4096 .f32) (g : FVec Ideal S1x4096 .f32) (r : Fin 512) (j : Fin 4096) :
    (k0_pay1 x g : FVec Ideal S512x4096 .bf16) (ix2 r j) = x (ix2 r j) * Ideal.rsqrt (Ideal.div (∑ k : Fin 4096, x (ix2 r k) * x (ix2 r k)) (Ideal.ofBits .f32 0x45800000#32) + Ideal.ofBits .f32 0x358637BD#32) * g (ix2 0 j) := by
  pointwise [k0_pay1]

theorem lt16 (t : Fin cfg0.N) : t.val < 16 := lt_of_lt_of_eq t.isLt N_0

theorem xB_at (t : Fin cfg0.N) (r : Fin 512) (k : Fin 4096) :
    (iblk m c 0 t : FVec Ideal S512x4096 .f32) (ix2 r k) = argX m c (ix2 ⟨512 * t.val + r.val, by have := lt16 t; omega⟩ k) := by
  blk_simp [iblk]
  refine congrArg (argX m c) ?_
  blk_ext [wx0]
theorem gB_at (t : Fin cfg0.N) (k : Fin 4096) :
    (iblk m c 1 t : FVec Ideal S1x4096 .f32) (ix2 0 k) = argG m c (ix2 1 k) := by
  refine Eq.trans ?_ (host_g m c k)
  blk_simp [iblk]
  refine congrArg (V m c main_v2) ?_
  blk_ext [wx1]

/-- The result array after the run. -/
theorem arr_eq : (dats m 0 c).arrAt 2 cfg0.N = outT (argX m c) (argG m c) := by
  refine (dats m 0 c).arrAt_eq_of_covers 2 _ (by decide +kernel) fun t hf y => ?_
  blk_simp
  rw [after0_2]
  frame_out
  have ht := lt16 t
  obtain ⟨r, e, rfl⟩ : ∃ (r : Fin 512) (e : Fin 4096), y = ix2 r e := ⟨y 0, y 1, by funext a; fin_cases a <;> rfl⟩
  have hi : (((cfg0.win 2).blk t).view.emb (ix2 r e) : S8192x4096.Idx) = ix2 ⟨512 * t.val + r.val, by omega⟩ e := by
    blk_ext [wx2]
  refine Eq.trans ?_ (congrArg (outT (argX m c) (argG m c)) hi).symm
  rw [Cert.ReferenceNormIdeal.Hand.out_at]
  refine (pay_at (iblk m c 0 t) (iblk m c 1 t) r e).trans ?_
  simp only [xB_at, gB_at]

end Cert.KernelNormIdeal.Hand
end
-- ==== Proof.OutI.lean ====
module

public import proofs.«01_k».proof.Proof.Gen.KernelOutIdeal.Value
public import proofs.«01_k».proof.Proof.Gen.ReferenceOutIdeal.Run
public import Idealize.ShloMosaic.Lib.Pointwise
public import Idealize.ShloMosaic.Lib.Claim
public import Idealize.ShloMosaic.Lib.IdealHost
public import Idealize.ShloMosaic.Lib.Pipeline.ValueKit

@[expose] public section

set_option maxRecDepth 16384

noncomputable section

/-! # The gated half of the feed-forward part: silu(x G) · (x U) -/
/-! # The output projection: residual + [ya yb yc] W -/

namespace Cert.ReferenceOutIdeal.Hand

open Idealize.ShloMosaic Idealize.ShloMosaic.TcCoe
open Cert.ReferenceOutIdeal Cert.ReferenceOutIdeal.Gen

variable (a : FVec Ideal S8192x1536 .bf16) (b : FVec Ideal S8192x1024 .bf16) (d : FVec Ideal S8192x1536 .bf16)
  (w : FVec Ideal S2x4096x4096 .f32) (h : FVec Ideal S8192x4096 .f32)

/-- The three mixers' outputs side by side. -/
def catT : FVec Ideal S8192x4096 .f32 :=
  concatenate S8192x4096 1 [⟨S8192x1536, ((extf .f32 a bitsLt_bf16_f32) : (⟨S8192x1536, .f32⟩ : BufTy).Contents (Elt Ideal))⟩, ⟨S8192x1024, ((extf .f32 b bitsLt_bf16_f32) : (⟨S8192x1024, .f32⟩ : BufTy).Contents (Elt Ideal))⟩, ⟨S8192x1536, ((extf .f32 d bitsLt_bf16_f32) : (⟨S8192x1536, .f32⟩ : BufTy).Contents (Elt Ideal))⟩] concatenates_S8192x1536_S8192x1024_S8192x1536_S8192x4096_d1

/-- The reference's result. -/
def outT : FVec Ideal S8192x4096 .f32 :=
  addf h (Host.dotGeneral dot_S8192x4096_S4096x4096_S8192x4096_1_0_0_1_n_n none (catT a b d) (shapeCast _ (extractStridedSlice S1x4096x4096 ![1, 0, 0] w slices_S2x4096x4096_S1x4096x4096_1_0_0) shapeCasts_S1x4096x4096_S4096x4096))

theorem run' (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v7) = outT (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := Value.run m ρ

theorem out_gen (C : FVec Ideal S8192x4096 .f32) (i : Fin 8192) (j : Fin 4096) :
    (addf h (Host.dotGeneral dot_S8192x4096_S4096x4096_S8192x4096_1_0_0_1_n_n none C (shapeCast _ (extractStridedSlice S1x4096x4096 ![1, 0, 0] w slices_S2x4096x4096_S1x4096x4096_1_0_0) shapeCasts_S1x4096x4096_S4096x4096)) : FVec Ideal S8192x4096 .f32) (ix2 i j)
      = h (ix2 i j) + ∑ k : Fin 4096, C (ix2 i k) * w (ix3 1 k j) := by
  pointwise

theorem cat_a (i : Fin 8192) (k : Fin 1536) : catT a b d (ix2 i ⟨k.val, by omega⟩) = a (ix2 i k) := by
  pointwise [catT]
theorem cat_b (i : Fin 8192) (k : Fin 1024) : catT a b d (ix2 i ⟨1536 + k.val, by omega⟩) = b (ix2 i k) := by
  pointwise [catT]
theorem cat_d (i : Fin 8192) (k : Fin 1536) : catT a b d (ix2 i ⟨2560 + k.val, by omega⟩) = d (ix2 i k) := by
  pointwise [catT]
  rw [dif_neg (by omega), dif_neg (by omega)]
  congr 2
  exact Fin.ext (by simp only []; omega)

/-- A sum over 4096 places as three: the first 1536, the next 1024 and the last 1536. -/
theorem sum_three (f : Fin 4096 → EReal) :
    ∑ k, f k = (∑ k : Fin 1536, f ⟨k.val, by omega⟩) + (∑ k : Fin 1024, f ⟨1536 + k.val, by omega⟩) + ∑ k : Fin 1536, f ⟨2560 + k.val, by omega⟩ :=
  (Fin.sum_univ_add (a := 2560) (b := 1536) f).trans
    (congrArg (· + _) (Fin.sum_univ_add (a := 1536) (b := 1024) fun k => f ⟨k.val, by omega⟩))

theorem out_at (i : Fin 8192) (j : Fin 4096) :
    outT a b d w h (ix2 i j)
      = h (ix2 i j) + ((∑ k : Fin 1536, a (ix2 i k) * w (ix3 1 ⟨k.val, by omega⟩ j)) + (∑ k : Fin 1024, b (ix2 i k) * w (ix3 1 ⟨1536 + k.val, by omega⟩ j))
        + ∑ k : Fin 1536, d (ix2 i k) * w (ix3 1 ⟨2560 + k.val, by omega⟩ j)) := by
  refine (out_gen w h (catT a b d) i j).trans ?_
  rw [sum_three]
  simp only [cat_a, cat_b, cat_d]

end Cert.ReferenceOutIdeal.Hand

namespace Cert.KernelOutIdeal.Hand

open Idealize.ShloMosaic Idealize.ShloMosaic.TcCoe
open Cert.KernelOutIdeal.Gen
open Cert.ReferenceOutIdeal.Hand (outT)

variable (m : (ℓ : Loc nD τ sig) → Buf (Elt Ideal) ℓ) (c : Dev nD)

abbrev argA : FVec Ideal S8192x1536 .bf16 := m ((c : Thread nD τ).loc main_arg0)
abbrev argB : FVec Ideal S8192x1024 .bf16 := m ((c : Thread nD τ).loc main_arg1)
abbrev argD : FVec Ideal S8192x1536 .bf16 := m ((c : Thread nD τ).loc main_arg2)
abbrev argW : FVec Ideal S2x4096x4096 .f32 := m ((c : Thread nD τ).loc main_arg3)
abbrev argH : FVec Ideal S8192x4096 .f32 := m ((c : Thread nD τ).loc main_arg4)

theorem wx0 : ∀ t : Fin grid0.N, win0_0.index t = ![t.val / 8, 0] := by decide +kernel
theorem wx1 : ∀ t : Fin grid0.N, win0_1.index t = ![t.val / 8, 0] := by decide +kernel
theorem wx2 : ∀ t : Fin grid0.N, win0_2.index t = ![t.val / 8, 0] := by decide +kernel
theorem wx3 : ∀ t : Fin grid0.N, win0_3.index t = ![1, 0, t.val % 8] := by decide +kernel
theorem wx4 : ∀ t : Fin grid0.N, win0_4.index t = ![t.val / 8, t.val % 8] := by decide +kernel
theorem wx5 : ∀ t : Fin grid0.N, win0_5.index t = ![t.val / 8, t.val % 8] := by decide +kernel

/-- One entry of a block's result. -/
theorem pay_at (a : FVec Ideal S1024x1536 .bf16) (b : FVec Ideal S1024x1024 .bf16) (d : FVec Ideal S1024x1536 .bf16)
    (w : FVec Ideal S1x4096x512 .f32) (h : FVec Ideal S1024x512 .f32) (r : Fin 1024) (e : Fin 512) :
    (k0_pay1 a b d w h : FVec Ideal S1024x512 .f32) (ix2 r e)
      = (∑ k : Fin 1536, a (ix2 r k) * w (ix3 0 ⟨k.val, by omega⟩ e)) + (∑ k : Fin 1024, b (ix2 r k) * w (ix3 0 ⟨1536 + k.val, by omega⟩ e))
        + (∑ k : Fin 1536, d (ix2 r k) * w (ix3 0 ⟨2560 + k.val, by omega⟩ e)) + h (ix2 r e) := by
  pointwise [k0_pay1]

theorem lt64 (t : Fin cfg0.N) : t.val < 64 := lt_of_lt_of_eq t.isLt N_0

theorem aB_at (t : Fin cfg0.N) (r : Fin 1024) (k : Fin 1536) :
    (iblk m c 0 t : FVec Ideal S1024x1536 .bf16) (ix2 r k) = argA m c (ix2 ⟨1024 * (t.val / 8) + r.val, by have := lt64 t; omega⟩ k) := by
  blk_simp [iblk]
  refine congrArg (argA m c) ?_
  blk_ext [wx0]
theorem bB_at (t : Fin cfg0.N) (r : Fin 1024) (k : Fin 1024) :
    (iblk m c 1 t : FVec Ideal S1024x1024 .bf16) (ix2 r k) = argB m c (ix2 ⟨1024 * (t.val / 8) + r.val, by have := lt64 t; omega⟩ k) := by
  blk_simp [iblk]
  refine congrArg (argB m c) ?_
  blk_ext [wx1]
theorem dB_at (t : Fin cfg0.N) (r : Fin 1024) (k : Fin 1536) :
    (iblk m c 2 t : FVec Ideal S1024x1536 .bf16) (ix2 r k) = argD m c (ix2 ⟨1024 * (t.val / 8) + r.val, by have := lt64 t; omega⟩ k) := by
  blk_simp [iblk]
  refine congrArg (argD m c) ?_
  blk_ext [wx2]
theorem wB_at (t : Fin cfg0.N) (k : Fin 4096) (e : Fin 512) :
    (iblk m c 3 t : FVec Ideal S1x4096x512 .f32) (ix3 0 k e) = argW m c (ix3 1 k ⟨512 * (t.val % 8) + e.val, by have := lt64 t; omega⟩) := by
  blk_simp [iblk]
  refine congrArg (argW m c) ?_
  blk_ext [wx3]
theorem hB_at (t : Fin cfg0.N) (r : Fin 1024) (e : Fin 512) :
    (iblk m c 4 t : FVec Ideal S1024x512 .f32) (ix2 r e) = argH m c (ix2 ⟨1024 * (t.val / 8) + r.val, by have := lt64 t; omega⟩ ⟨512 * (t.val % 8) + e.val, by have := lt64 t; omega⟩) := by
  blk_simp [iblk]
  refine congrArg (argH m c) ?_
  blk_ext [wx4]

/-- The result array after the run. -/
theorem arr_eq : (dats m 0 c).arrAt 5 cfg0.N = outT (argA m c) (argB m c) (argD m c) (argW m c) (argH m c) := by
  refine (dats m 0 c).arrAt_eq_of_covers 5 _ (by decide +kernel) fun t hf y => ?_
  blk_simp
  rw [after0_5]
  frame_out
  have ht := lt64 t
  obtain ⟨r, e, rfl⟩ : ∃ (r : Fin 1024) (e : Fin 512), y = ix2 r e := ⟨y 0, y 1, by funext a; fin_cases a <;> rfl⟩
  have hi : (((cfg0.win 5).blk t).view.emb (ix2 r e) : S8192x4096.Idx) = ix2 ⟨1024 * (t.val / 8) + r.val, by omega⟩ ⟨512 * (t.val % 8) + e.val, by omega⟩ := by
    blk_ext [wx5]
  refine Eq.trans ?_ (congrArg (outT (argA m c) (argB m c) (argD m c) (argW m c) (argH m c)) hi).symm
  rw [Cert.ReferenceOutIdeal.Hand.out_at]
  refine (pay_at (iblk m c 0 t) (iblk m c 1 t) (iblk m c 2 t) (iblk m c 3 t) (iblk m c 4 t) r e).trans ?_
  simp only [aB_at, bB_at, dB_at, wB_at, hB_at]
  exact add_comm _ _

end Cert.KernelOutIdeal.Hand
end
-- ==== Proof.InI.lean ====
module

public import proofs.«01_k».proof.Proof.Gen.KernelInIdeal.Value
public import proofs.«01_k».proof.Proof.Gen.ReferenceInIdeal.Run
public import Idealize.ShloMosaic.Lib.Pointwise
public import Idealize.ShloMosaic.Lib.Claim
public import Idealize.ShloMosaic.Lib.IdealHost
public import Idealize.ShloMosaic.Lib.Pipeline.ValueKit

@[expose] public section

set_option maxRecDepth 16384

noncomputable section

/-! # The input projection -/

namespace Cert.ReferenceInIdeal.Hand

open Idealize.ShloMosaic Idealize.ShloMosaic.TcCoe
open Cert.ReferenceInIdeal Cert.ReferenceInIdeal.Gen

variable (x : FVec Ideal S8192x4096 .bf16) (w : FVec Ideal S2x4096x7232 .f32)

/-- The reference's result. -/
def outT : FVec Ideal S8192x7168 .f32 :=
  Host.dotGeneral dot_S8192x4096_S4096x7168_S8192x7168_1_0_0_1_n_n none (extf .f32 x bitsLt_bf16_f32) (extractStridedSlice S4096x7168 ![0, 0] (shapeCast _ (extractStridedSlice S1x4096x7232 ![1, 0, 0] w slices_S2x4096x7232_S1x4096x7232_1_0_0) shapeCasts_S1x4096x7232_S4096x7232) slices_S4096x7232_S4096x7168_0_0)

theorem run' (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v4) = outT (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := Value.run m ρ

theorem out_at (i : Fin 8192) (j : Fin 7168) :
    outT x w (ix2 i j) = ∑ k : Fin 4096, x (ix2 i k) * w (ix3 1 k ⟨j.val, by omega⟩) := by
  pointwise [outT]

end Cert.ReferenceInIdeal.Hand

namespace Cert.KernelInIdeal.Hand

open Idealize.ShloMosaic Idealize.ShloMosaic.TcCoe
open Cert.KernelInIdeal.Gen
open Cert.ReferenceInIdeal.Hand (outT)

variable (m : (ℓ : Loc nD τ sig) → Buf (Elt Ideal) ℓ) (c : Dev nD)

abbrev argX : FVec Ideal S8192x4096 .bf16 := m ((c : Thread nD τ).loc main_arg0)
abbrev argW : FVec Ideal S2x4096x7232 .f32 := m ((c : Thread nD τ).loc main_arg1)

/-- The transposed weights that the kernel is called on. -/
theorem host_w (l : Fin 2) (j : Fin 7232) (k : Fin 4096) :
    (V m c main_v0 : FVec Ideal S2x7232x4096 .f32) (ix3 l j k) = argW m c (ix3 l k j) := by
  entry_read
  pointwise

theorem wx0 : ∀ t : Fin grid0.N, win0_0.index t = ![t.val / 14, 0] := by decide +kernel
theorem wx1 : ∀ t : Fin grid0.N, win0_1.index t = ![1, t.val % 14, 0] := by decide +kernel
theorem wx2 : ∀ t : Fin grid0.N, win0_2.index t = ![t.val / 14, t.val % 14] := by decide +kernel

/-- One entry of a block's result. -/
theorem pay_at (x : FVec Ideal S1024x4096 .bf16) (w : FVec Ideal S1x512x4096 .f32) (r : Fin 1024) (e : Fin 512) :
    (k0_pay1 x w : FVec Ideal S1024x512 .f32) (ix2 r e) = ∑ k : Fin 4096, x (ix2 r k) * w (ix3 0 e k) := by
  pointwise [k0_pay1]

theorem lt112 (t : Fin cfg0.N) : t.val < 112 := lt_of_lt_of_eq t.isLt N_0

theorem xB_at (t : Fin cfg0.N) (r : Fin 1024) (k : Fin 4096) :
    (iblk m c 0 t : FVec Ideal S1024x4096 .bf16) (ix2 r k) = argX m c (ix2 ⟨1024 * (t.val / 14) + r.val, by have := lt112 t; omega⟩ k) := by
  blk_simp [iblk]
  refine congrArg (argX m c) ?_
  blk_ext [wx0]
theorem wB_at (t : Fin cfg0.N) (e : Fin 512) (k : Fin 4096) :
    (X0_1 m c t : FVec Ideal S1x512x4096 .f32) (ix3 0 e k) = argW m c (ix3 1 k ⟨512 * (t.val % 14) + e.val, by have := lt112 t; omega⟩) := by
  refine Eq.trans ?_ (host_w m c 1 ⟨512 * (t.val % 14) + e.val, by have := lt112 t; omega⟩ k)
  unfold X0_1 Pipeline.Window.fill
  rw [dif_pos (moved0_1 t _)]
  blk_simp [iblk]
  refine congrArg (V m c main_v0) ?_
  blk_ext [wx1]

/-- The result array after the run. -/
theorem arr_eq : (dats m 0 c).arrAt 2 cfg0.N = outT (argX m c) (argW m c) := by
  refine (dats m 0 c).arrAt_eq_of_covers 2 _ (by decide +kernel) fun t hf y => ?_
  blk_simp
  rw [after0_2]
  unfold outsAt0
  frame_out
  have ht := lt112 t
  obtain ⟨r, e, rfl⟩ : ∃ (r : Fin 1024) (e : Fin 512), y = ix2 r e := ⟨y 0, y 1, by funext a; fin_cases a <;> rfl⟩
  have hi : (((cfg0.win 2).blk t).view.emb (ix2 r e) : S8192x7168.Idx) = ix2 ⟨1024 * (t.val / 14) + r.val, by omega⟩ ⟨512 * (t.val % 14) + e.val, by omega⟩ := by
    blk_ext [wx2]
  refine Eq.trans ?_ (congrArg (outT (argX m c) (argW m c)) hi).symm
  rw [Cert.ReferenceInIdeal.Hand.out_at]
  refine (pay_at (iblk m c 0 t) (X0_1 m c t) r e).trans ?_
  simp only [xB_at, wB_at]

end Cert.KernelInIdeal.Hand
end
-- ==== Proof.QuI.lean ====
module

public import proofs.«01_k».proof.Proof.Gen.KernelQuIdeal.Value
public import proofs.«01_k».proof.Proof.Gen.ReferenceQuIdeal.Run
public import Idealize.ShloMosaic.Lib.Pointwise
public import Idealize.ShloMosaic.Lib.Claim
public import Idealize.ShloMosaic.Lib.IdealHost
public import Idealize.ShloMosaic.Lib.Pipeline.ValueKit

@[expose] public section

set_option maxRecDepth 16384

noncomputable section

/-! # Queries from their latent, each head padded from 192 to 256 columns -/

namespace Cert.ReferenceQuIdeal.Hand

open Idealize.ShloMosaic Idealize.ShloMosaic.TcCoe
open Cert.ReferenceQuIdeal Cert.ReferenceQuIdeal.Gen

variable (x : FVec Ideal S8192x1024 .bf16) (w : FVec Ideal S2x1024x2304 .f32)

/-- The reference's result. -/
def outT : FVec Ideal S8192x3072 .f32 :=
  shapeCast _ (concatenate S8192x12x256 2 [⟨S8192x12x192, (shapeCast _ (Host.dotGeneral dot_S8192x1024_S1024x2304_S8192x2304_1_0_0_1_n_n none (extf .f32 x bitsLt_bf16_f32) (shapeCast _ (extractStridedSlice S1x1024x2304 ![1, 0, 0] w slices_S2x1024x2304_S1x1024x2304_1_0_0) shapeCasts_S1x1024x2304_S1024x2304)) shapeCasts_S8192x2304_S8192x12x192)⟩, ⟨S8192x12x64, (broadcastInDim S8192x12x64 ![] bcast_S_S8192x12x64 (constant S_ .f32 0x00000000#32))⟩] concatenates_S8192x12x192_S8192x12x64_S8192x12x256_d2) shapeCasts_S8192x12x256_S8192x3072

theorem run' (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v7) = outT (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := Value.run m ρ

theorem out_at (i : Fin 8192) (h : Fin 12) (d : Fin 192) :
    outT x w (ix2 i ⟨h.val * 256 + d.val, by omega⟩) = ∑ k : Fin 1024, x (ix2 i k) * w (ix3 1 k ⟨h.val * 192 + d.val, by omega⟩) := by
  have h1 : (h.val * 256 + d.val) / 256 = h.val := by omega
  have h2 : (h.val * 256 + d.val) % 256 = d.val := by omega
  pointwise [outT]
  simp only [h2, d.isLt, dite_true]

theorem out_zero (i : Fin 8192) (h : Fin 12) (d : Fin 64) :
    outT x w (ix2 i ⟨h.val * 256 + 192 + d.val, by omega⟩) = (0 : EReal) := by
  have h1 : (h.val * 256 + 192 + d.val) / 256 = h.val := by omega
  have h2 : (h.val * 256 + 192 + d.val) % 256 = 192 + d.val := by omega
  pointwise [outT]
  exact dif_neg (by omega)

end Cert.ReferenceQuIdeal.Hand

namespace Cert.KernelQuIdeal.Hand

open Idealize.ShloMosaic Idealize.ShloMosaic.TcCoe
open Cert.KernelQuIdeal.Gen
open Cert.ReferenceQuIdeal.Hand (outT)

variable (m : (ℓ : Loc nD τ sig) → Buf (Elt Ideal) ℓ) (c : Dev nD)

abbrev argX : FVec Ideal S8192x1024 .bf16 := m ((c : Thread nD τ).loc main_arg0)
abbrev argW : FVec Ideal S2x1024x2304 .f32 := m ((c : Thread nD τ).loc main_arg1)

/-- The weights that the kernel is called on. -/
theorem host_w (k : Fin 1024) (h : Fin 12) (d : Fin 192) :
    (V m c main_v6 : FVec Ideal S1024x3072 .bf16) (ix2 k ⟨h.val * 256 + d.val, by omega⟩) = argW m c (ix3 1 k ⟨h.val * 192 + d.val, by omega⟩) := by
  have h1 : (h.val * 256 + d.val) / 256 = h.val := by omega
  have h2 : (h.val * 256 + d.val) % 256 = d.val := by omega
  entry_read
  pointwise
  simp only [h2, d.isLt, dite_true]

theorem host_zero (k : Fin 1024) (h : Fin 12) (d : Fin 64) :
    (V m c main_v6 : FVec Ideal S1024x3072 .bf16) (ix2 k ⟨h.val * 256 + 192 + d.val, by omega⟩) = (0 : EReal) := by
  have h1 : (h.val * 256 + 192 + d.val) / 256 = h.val := by omega
  have h2 : (h.val * 256 + 192 + d.val) % 256 = 192 + d.val := by omega
  entry_read
  pointwise
  exact dif_neg (by omega)

theorem wx0 : ∀ t : Fin grid0.N, win0_0.index t = ![t.val / 2, 0] := by decide +kernel
theorem wx1 : ∀ t : Fin grid0.N, win0_1.index t = ![0, t.val % 2] := by decide +kernel
theorem wx2 : ∀ t : Fin grid0.N, win0_2.index t = ![t.val / 2, t.val % 2] := by decide +kernel

/-- One entry of a block's result. -/
theorem pay_at (x : FVec Ideal S1024x1024 .bf16) (w : FVec Ideal S1024x1536 .bf16) (r : Fin 1024) (e : Fin 1536) :
    (k0_pay1 x w : FVec Ideal S1024x1536 .f32) (ix2 r e) = ∑ k : Fin 1024, x (ix2 r k) * w (ix2 k e) := by
  pointwise [k0_pay1]

theorem lt16 (t : Fin cfg0.N) : t.val < 16 := lt_of_lt_of_eq t.isLt N_0

theorem xB_at (t : Fin cfg0.N) (r : Fin 1024) (k : Fin 1024) :
    (iblk m c 0 t : FVec Ideal S1024x1024 .bf16) (ix2 r k) = argX m c (ix2 ⟨1024 * (t.val / 2) + r.val, by have := lt16 t; omega⟩ k) := by
  blk_simp [iblk]
  refine congrArg (argX m c) ?_
  blk_ext [wx0]

theorem wB_at (t : Fin cfg0.N) (k : Fin 1024) (e : Fin 1536) :
    (iblk m c 1 t : FVec Ideal S1024x1536 .bf16) (ix2 k e) = (V m c main_v6 : FVec Ideal S1024x3072 .bf16) (ix2 k ⟨1536 * (t.val % 2) + e.val, by omega⟩) := by
  blk_simp [iblk]
  refine congrArg (V m c main_v6) ?_
  blk_ext [wx1]

/-- The result array after the run. -/
theorem arr_eq : (dats m 0 c).arrAt 2 cfg0.N = outT (argX m c) (argW m c) := by
  refine (dats m 0 c).arrAt_eq_of_covers 2 _ (by decide +kernel) fun t hf y => ?_
  blk_simp
  rw [after0_2]
  frame_out
  have ht := lt16 t
  obtain ⟨r, e, rfl⟩ : ∃ (r : Fin 1024) (e : Fin 1536), y = ix2 r e := ⟨y 0, y 1, by funext a; fin_cases a <;> rfl⟩
  have hi : (((cfg0.win 2).blk t).view.emb (ix2 r e) : S8192x3072.Idx) = ix2 ⟨1024 * (t.val / 2) + r.val, by omega⟩ ⟨1536 * (t.val % 2) + e.val, by omega⟩ := by
    blk_ext [wx2]
  refine Eq.trans ?_ (congrArg (outT (argX m c) (argW m c)) hi).symm
  refine (pay_at (iblk m c 0 t) (iblk m c 1 t) r e).trans ?_
  simp only [xB_at, wB_at]
  by_cases hd : (1536 * (t.val % 2) + e.val) % 256 < 192
  · obtain ⟨h, d, hj⟩ : ∃ (h : Fin 12) (d : Fin 192), (⟨1536 * (t.val % 2) + e.val, by omega⟩ : Fin 3072) = ⟨h.val * 256 + d.val, by omega⟩ :=
      ⟨⟨(1536 * (t.val % 2) + e.val) / 256, by omega⟩, ⟨(1536 * (t.val % 2) + e.val) % 256, hd⟩, Fin.ext (by show 1536 * (t.val % 2) + e.val = _ / 256 * 256 + _ % 256; omega)⟩
    rw [hj, Cert.ReferenceQuIdeal.Hand.out_at]
    exact Finset.sum_congr rfl fun k _ => congrArg (_ * ·) (host_w m c k h d)
  · obtain ⟨h, d, hj⟩ : ∃ (h : Fin 12) (d : Fin 64), (⟨1536 * (t.val % 2) + e.val, by omega⟩ : Fin 3072) = ⟨h.val * 256 + 192 + d.val, by omega⟩ :=
      ⟨⟨(1536 * (t.val % 2) + e.val) / 256, by omega⟩, ⟨(1536 * (t.val % 2) + e.val) % 256 - 192, by omega⟩, Fin.ext (by show 1536 * (t.val % 2) + e.val = _ / 256 * 256 + 192 + (_ % 256 - 192); omega)⟩
    rw [hj, Cert.ReferenceQuIdeal.Hand.out_zero]
    exact Finset.sum_eq_zero fun k _ => (congrArg (_ * ·) (host_zero m c k h d)).trans (mul_zero _)

end Cert.KernelQuIdeal.Hand
end
-- ==== Proof.KvI.lean ====
module

public import proofs.«01_k».proof.Proof.Gen.KernelKvIdeal.Value
public import proofs.«01_k».proof.Proof.Gen.ReferenceKvIdeal.Run
public import Idealize.ShloMosaic.Lib.Pointwise
public import Idealize.ShloMosaic.Lib.Claim
public import Idealize.ShloMosaic.Lib.IdealHost
public import Idealize.ShloMosaic.Lib.Pipeline.ValueKit

@[expose] public section

set_option maxRecDepth 16384

noncomputable section

/-! # Keys and values from their latent -/

namespace Cert.ReferenceKvIdeal.Hand

open Idealize.ShloMosaic Idealize.ShloMosaic.TcCoe
open Cert.ReferenceKvIdeal Cert.ReferenceKvIdeal.Gen

variable (x : FVec Ideal S8192x512 .bf16) (w : FVec Ideal S2x512x3072 .f32)

/-- The reference's result. -/
def outT : FVec Ideal S8192x3072 .f32 :=
  Host.dotGeneral dot_S8192x512_S512x3072_S8192x3072_1_0_0_1_n_n none (extf .f32 x bitsLt_bf16_f32) (shapeCast _ (extractStridedSlice S1x512x3072 ![1, 0, 0] w slices_S2x512x3072_S1x512x3072_1_0_0) shapeCasts_S1x512x3072_S512x3072)

theorem run' (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v3) = outT (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := Value.run m ρ

theorem out_at (i : Fin 8192) (j : Fin 3072) :
    outT x w (ix2 i j) = ∑ k : Fin 512, x (ix2 i k) * w (ix3 1 k j) := by
  pointwise [outT]

end Cert.ReferenceKvIdeal.Hand

namespace Cert.KernelKvIdeal.Hand

open Idealize.ShloMosaic Idealize.ShloMosaic.TcCoe
open Cert.KernelKvIdeal.Gen
open Cert.ReferenceKvIdeal.Hand (outT)

variable (m : (ℓ : Loc nD τ sig) → Buf (Elt Ideal) ℓ) (c : Dev nD)

abbrev argX : FVec Ideal S8192x512 .bf16 := m ((c : Thread nD τ).loc main_arg0)
abbrev argW : FVec Ideal S2x512x3072 .f32 := m ((c : Thread nD τ).loc main_arg1)

/-- The weights that the kernel is called on. -/
theorem host_w (k : Fin 512) (j : Fin 3072) :
    (V m c main_v2 : FVec Ideal S512x3072 .bf16) (ix2 k j) = argW m c (ix3 1 k j) := by
  entry_read
  pointwise

theorem wx0 : ∀ t : Fin grid0.N, win0_0.index t = ![t.val / 2, 0] := by decide +kernel
theorem wx1 : ∀ t : Fin grid0.N, win0_1.index t = ![0, t.val % 2] := by decide +kernel
theorem wx2 : ∀ t : Fin grid0.N, win0_2.index t = ![t.val / 2, t.val % 2] := by decide +kernel

/-- One entry of a block's result. -/
theorem pay_at (x : FVec Ideal S1024x512 .bf16) (w : FVec Ideal S512x1536 .bf16) (r : Fin 1024) (e : Fin 1536) :
    (k0_pay1 x w : FVec Ideal S1024x1536 .f32) (ix2 r e) = ∑ k : Fin 512, x (ix2 r k) * w (ix2 k e) := by
  pointwise [k0_pay1]

theorem lt16 (t : Fin cfg0.N) : t.val < 16 := lt_of_lt_of_eq t.isLt N_0

theorem xB_at (t : Fin cfg0.N) (r : Fin 1024) (k : Fin 512) :
    (iblk m c 0 t : FVec Ideal S1024x512 .bf16) (ix2 r k) = argX m c (ix2 ⟨1024 * (t.val / 2) + r.val, by have := lt16 t; omega⟩ k) := by
  blk_simp [iblk]
  refine congrArg (argX m c) ?_
  blk_ext [wx0]

theorem wB_at (t : Fin cfg0.N) (k : Fin 512) (e : Fin 1536) :
    (iblk m c 1 t : FVec Ideal S512x1536 .bf16) (ix2 k e) = (V m c main_v2 : FVec Ideal S512x3072 .bf16) (ix2 k ⟨1536 * (t.val % 2) + e.val, by omega⟩) := by
  blk_simp [iblk]
  refine congrArg (V m c main_v2) ?_
  blk_ext [wx1]

/-- The result array after the run. -/
theorem arr_eq : (dats m 0 c).arrAt 2 cfg0.N = outT (argX m c) (argW m c) := by
  refine (dats m 0 c).arrAt_eq_of_covers 2 _ (by decide +kernel) fun t hf y => ?_
  blk_simp
  rw [after0_2]
  frame_out
  have ht := lt16 t
  obtain ⟨r, e, rfl⟩ : ∃ (r : Fin 1024) (e : Fin 1536), y = ix2 r e := ⟨y 0, y 1, by funext a; fin_cases a <;> rfl⟩
  have hi : (((cfg0.win 2).blk t).view.emb (ix2 r e) : S8192x3072.Idx) = ix2 ⟨1024 * (t.val / 2) + r.val, by omega⟩ ⟨1536 * (t.val % 2) + e.val, by omega⟩ := by
    blk_ext [wx2]
  refine Eq.trans ?_ (congrArg (outT (argX m c) (argW m c)) hi).symm
  refine (pay_at (iblk m c 0 t) (iblk m c 1 t) r e).trans ?_
  simp only [xB_at, wB_at]
  rw [Cert.ReferenceKvIdeal.Hand.out_at]
  exact Finset.sum_congr rfl fun k _ => congrArg (_ * ·) (host_w m c k _)

end Cert.KernelKvIdeal.Hand
end
-- ==== Proof.KrI.lean ====
module

public import proofs.«01_k».proof.Proof.Gen.KernelKrIdeal.Value
public import proofs.«01_k».proof.Proof.Gen.ReferenceKrIdeal.Run
public import Idealize.ShloMosaic.Lib.Pointwise
public import Idealize.ShloMosaic.Lib.Claim
public import Idealize.ShloMosaic.Lib.IdealHost
public import Idealize.ShloMosaic.Lib.Pipeline.ValueKit

@[expose] public section

set_option maxRecDepth 16384

noncomputable section

/-! # The last 64 columns of the input projection, padded to 128 -/

namespace Cert.ReferenceKrIdeal.Hand

open Idealize.ShloMosaic Idealize.ShloMosaic.TcCoe
open Cert.ReferenceKrIdeal Cert.ReferenceKrIdeal.Gen

variable (x : FVec Ideal S8192x4096 .bf16) (w : FVec Ideal S2x4096x7232 .f32)

/-- The reference's result. -/
def outT : FVec Ideal S8192x128 .f32 :=
  concatenate S8192x128 1 [⟨S8192x64, (Host.dotGeneral dot_S8192x4096_S4096x64_S8192x64_1_0_0_1_n_n none (extf .f32 x bitsLt_bf16_f32) (extractStridedSlice S4096x64 ![0, 7168] (shapeCast _ (extractStridedSlice S1x4096x7232 ![1, 0, 0] w slices_S2x4096x7232_S1x4096x7232_1_0_0) shapeCasts_S1x4096x7232_S4096x7232) slices_S4096x7232_S4096x64_0_7168))⟩, ⟨S8192x64, (broadcastInDim S8192x64 ![] bcast_S_S8192x64 (constant S_ .f32 0x00000000#32))⟩] concatenates_S8192x64_S8192x64_S8192x128_d1

theorem run' (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v6) = outT (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := Value.run m ρ

theorem out_at (i : Fin 8192) (j : Fin 64) :
    outT x w (ix2 i ⟨j.val, by omega⟩) = ∑ k : Fin 4096, x (ix2 i k) * w (ix3 1 k ⟨7168 + j.val, by omega⟩) := by
  pointwise [outT]

theorem out_zero (i : Fin 8192) (j : Fin 64) :
    outT x w (ix2 i ⟨64 + j.val, by omega⟩) = (0 : EReal) := by
  pointwise [outT]

end Cert.ReferenceKrIdeal.Hand

namespace Cert.KernelKrIdeal.Hand

open Idealize.ShloMosaic Idealize.ShloMosaic.TcCoe
open Cert.KernelKrIdeal.Gen
open Cert.ReferenceKrIdeal.Hand (outT)

variable (m : (ℓ : Loc nD τ sig) → Buf (Elt Ideal) ℓ) (c : Dev nD)

abbrev argX : FVec Ideal S8192x4096 .bf16 := m ((c : Thread nD τ).loc main_arg0)
abbrev argW : FVec Ideal S2x4096x7232 .f32 := m ((c : Thread nD τ).loc main_arg1)

/-- The transposed weights that the kernel is called on. -/
theorem host_w (l : Fin 2) (j : Fin 7232) (k : Fin 4096) :
    (V m c main_v0 : FVec Ideal S2x7232x4096 .f32) (ix3 l j k) = argW m c (ix3 l k j) := by
  entry_read
  pointwise

theorem wx0 : ∀ t : Fin grid0.N, win0_0.index t = ![t.val, 0] := by decide +kernel
theorem wx1 : ∀ t : Fin grid0.N, win0_1.index t = ![1, 112, 0] := by decide +kernel
theorem wx2 : ∀ t : Fin grid0.N, win0_2.index t = ![t.val, 0] := by decide +kernel

/-- One entry of a block's result, in the columns that carry weights; -/
theorem pay_at (x : FVec Ideal S1024x4096 .bf16) (w : FVec Ideal S1x64x4096 .f32) (r : Fin 1024) (e : Fin 64) :
    (k0_pay1 w x : FVec Ideal S1024x128 .f32) (ix2 r ⟨e.val, by omega⟩) = ∑ k : Fin 4096, x (ix2 r k) * w (ix3 0 e k) := by
  pointwise [k0_pay1]

/-- and in the others. -/
theorem pay_zero (x : FVec Ideal S1024x4096 .bf16) (w : FVec Ideal S1x64x4096 .f32) (r : Fin 1024) (e : Fin 64) :
    (k0_pay1 w x : FVec Ideal S1024x128 .f32) (ix2 r ⟨64 + e.val, by omega⟩) = (0 : EReal) := by
  pointwise [k0_pay1]
  simp only [mul_zero, Finset.sum_const_zero]

theorem lt8 (t : Fin cfg0.N) : t.val < 8 := lt_of_lt_of_eq t.isLt N_0

theorem xB_at (t : Fin cfg0.N) (r : Fin 1024) (k : Fin 4096) :
    (iblk m c 0 t : FVec Ideal S1024x4096 .bf16) (ix2 r k) = argX m c (ix2 ⟨1024 * t.val + r.val, by have := lt8 t; omega⟩ k) := by
  blk_simp [iblk]
  refine congrArg (argX m c) ?_
  blk_ext [wx0]

theorem wB_at (t : Fin cfg0.N) (e : Fin 64) (k : Fin 4096) :
    (iblk m c 1 t : FVec Ideal S1x64x4096 .f32) (ix3 0 e k) = argW m c (ix3 1 k ⟨7168 + e.val, by omega⟩) := by
  refine Eq.trans ?_ (host_w m c 1 ⟨7168 + e.val, by omega⟩ k)
  blk_simp [iblk]
  refine congrArg (V m c main_v0) ?_
  blk_ext [wx1]

/-- The result array after the run. -/
theorem arr_eq : (dats m 0 c).arrAt 2 cfg0.N = outT (argX m c) (argW m c) := by
  refine (dats m 0 c).arrAt_eq_of_covers 2 _ (by decide +kernel) fun t hf y => ?_
  blk_simp
  rw [after0_2]
  frame_out
  have ht := lt8 t
  obtain ⟨r, e, rfl⟩ : ∃ (r : Fin 1024) (e : Fin 128), y = ix2 r e := ⟨y 0, y 1, by funext a; fin_cases a <;> rfl⟩
  have hi : (((cfg0.win 2).blk t).view.emb (ix2 r e) : S8192x128.Idx) = ix2 ⟨1024 * t.val + r.val, by omega⟩ e := by
    blk_ext [wx2]
  refine Eq.trans ?_ (congrArg (outT (argX m c) (argW m c)) hi).symm
  by_cases he : e.val < 64
  · obtain ⟨j, hj⟩ : ∃ j : Fin 64, e = ⟨j.val, by omega⟩ := ⟨⟨e.val, he⟩, rfl⟩
    rw [hj]
    refine (pay_at (iblk m c 0 t) (iblk m c 1 t) r j).trans ?_
    rw [Cert.ReferenceKrIdeal.Hand.out_at]
    simp only [xB_at, wB_at]
  · obtain ⟨j, hj⟩ : ∃ j : Fin 64, e = ⟨64 + j.val, by omega⟩ := ⟨⟨e.val - 64, by omega⟩, Fin.ext (by show e.val = 64 + (e.val - 64); omega)⟩
    rw [hj]
    exact (pay_zero (iblk m c 0 t) (iblk m c 1 t) r j).trans (Cert.ReferenceKrIdeal.Hand.out_zero _ _ _ j).symm

end Cert.KernelKrIdeal.Hand
end
-- ==== Proof.DownI.lean ====
module

public import proofs.«01_k».proof.Proof.Gen.KernelDownIdeal.Frame
public import proofs.«01_k».proof.Proof.Gen.ReferenceDownIdeal.Run
public import Idealize.ShloMosaic.Lib.Exec
public import Idealize.ShloMosaic.Lib.WritesUnit
public import Idealize.ShloMosaic.Lib.Pipeline.ValueKit
public import Idealize.ShloMosaic.Lib.Pipeline.Quiescent

@[expose] public section

set_option maxRecDepth 16384

noncomputable section

/-! # The down projection: residual + act · W, the contraction in two halves, the first half kept in the scratch -/

namespace Cert.KernelDownIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelDownIdeal.Gen

variable {F : FTy → Type} [FloatOps F]

local notation "𝕄" => MT nD τ sig Unit (Elt F) ℕ (UR sig nD τ) ℕ

/-! ## The body as functions of its blocks -/

/-- Half of the contraction, for one block of columns. -/
def prod (x : Vec F S1024x5504 .bf16) (w : Vec F S1x5504x256 .f32) : Vec F S1024x256 .f32 :=
  matmul dot_S1024x5504_S5504x256_S1024x256_1_0_0_1_n_n none x
    (truncf .bf16 (shapeCast S5504x256 w shapeCasts_S1x5504x256_S5504x256 : FVec F S5504x256 .f32) bitsLt_bf16_f32)
    (constant S1024x256 .f32 0x00000000#32)

/-- Slot `j` of the scratch. -/
def slot (A : Vec F S16x1024x256 .f32) (j : ℕ) : Vec F S1024x256 .f32 :=
  fun y => A (ix3 ⟨j % 16, Nat.mod_lt _ (by decide)⟩ (y 0) (y 1))

/-- The scratch with `p` in slot `j`. -/
def put (A : Vec F S16x1024x256 .f32) (j : ℕ) (p : Vec F S1024x256 .f32) : Vec F S16x1024x256 .f32 :=
  fun y => if (y 0).val = j then p (ix2 (y 1) (y 2)) else A y

theorem cond1_eq : ∀ i : grid0.Coords, k0_cond1 i = 1#1 ↔ (i 2).val = 0 := by decide +kernel
theorem cond2_eq : ∀ i : grid0.Coords, k0_cond2 i = 1#1 ↔ (i 2).val = 1 := by decide +kernel

theorem cast_drop (v : Vec F S1x1024x256 .f32) (y : S1024x256.Idx) :
    (shapeCast S1024x256 v shapeCasts_S1x1024x256_S1024x256 : Vec F S1024x256 .f32) y = v (ix3 0 (y 0) (y 1)) := by
  obtain ⟨r, e, rfl⟩ : ∃ (r : Fin 1024) (e : Fin 256), y = ix2 r e := ⟨y 0, y 1, by funext a; fin_cases a <;> rfl⟩
  pointwise
theorem cast_add (v : Vec F S1024x256 .f32) (x : S1x1024x256.Idx) :
    (shapeCast S1x1024x256 v shapeCasts_S1024x256_S1x1024x256 : Vec F S1x1024x256 .f32) x = v (ix2 (x 1) (x 2)) := by
  obtain ⟨o, r, e, rfl⟩ : ∃ (o : Fin 1) (r : Fin 1024) (e : Fin 256), x = ix3 o r e := ⟨x 0, x 1, x 2, by funext a; fin_cases a <;> rfl⟩
  pointwise

/-- What the scratch reads after the store to slot `j`. -/
theorem read_put {sp : Space} (v : View sig .tc sp S16x1024x256 .f32) (f : v.ty.Contents (Elt F)) (i : grid0.Coords) (p)
    (w : Vec F S1024x256 .f32) :
    v.read (Elt F) (v.writes (Elt F) f [⟨Rect.unit (s := S16x1024x256) (k0_off1 i) ![1, 1024, 256] p, shapeCast S1x1024x256 w shapeCasts_S1024x256_S1x1024x256⟩])
      = put (v.read (Elt F) f) (i 3).val w := by
  funext y
  unfold put
  split
  · rename_i h
    refine (View.read_writes_cons_unit_of_mem v f p _ [] y (ix3 (0 : Fin 1) (y 1) (y 2)) (k0_off1_eq i) ?_).trans ?_
    · intro a; fin_cases a <;> simp [h]
    · exact cast_add w _
  · rename_i h
    refine (View.read_writes_cons_unit_of_not_mem v f p _ [] y (k0_off1_eq i) 0 ?_).trans rfl
    simp only [Matrix.cons_val_zero]
    omega

/-- A load of slot `j`, as a block. -/
theorem read_slot {sp : Space} (v : View sig .tc sp S16x1024x256 .f32) (f : v.ty.Contents (Elt F)) (i : grid0.Coords) (p) :
    (shapeCast S1024x256 (v.readAt (Elt F) (Rect.unit (s := S16x1024x256) (k0_off2 i) ![1, 1024, 256] p).toLoadRect f) shapeCasts_S1x1024x256_S1024x256 : Vec F S1024x256 .f32)
      = slot (v.read (Elt F) f) (i 3).val := by
  funext y
  refine (cast_drop _ y).trans ?_
  show v.read (Elt F) f _ = v.read (Elt F) f _
  refine congrArg _ (funext fun a => Fin.ext ?_)
  have h := congrFun (k0_off2_eq i) a
  have h3 := (i 3).isLt
  have : (i 3).val % 16 = (i 3).val := Nat.mod_eq_of_lt h3
  fin_cases a
  · simp_all [slot]
    omega
  · simp_all [slot]
  · simp_all [slot]

section
variable (𝒱 : Variants) (c : Dev nD) (bd : Option 𝒱.V) (E : Set ℕ) (i : grid0.Coords)
  (arg4 : Memref sig .tc .vmem S1024x5504 .bf16) (harg4 : arg4.IsWhole) (arg5 : Memref sig .tc .vmem S1x5504x256 .f32) (harg5 : arg5.IsWhole)
  (arg6 : Memref sig .tc .vmem S1024x256 .f32) (harg6 : arg6.IsWhole) (arg7 : Memref sig .tc .vmem S1024x256 .f32) (harg7 : arg7.IsWhole)
  (arg8 : Memref sig .tc .vmem S16x1024x256 .f32) (harg8 : arg8.IsWhole)
  (X4 : BufTy.Contents (Elt F) arg4.view.ty) (X5 : BufTy.Contents (Elt F) arg5.view.ty) (X6 : BufTy.Contents (Elt F) arg6.view.ty)
  (X8 : BufTy.Contents (Elt F) arg8.view.ty)

theorem rd4 (p) : arg4.view.readAt (Elt F) (Rect.unit (s := S1024x5504) ![0, 0] ![1024, 5504] p).toLoadRect X4 = arg4.view.read (Elt F) X4 :=
  View.ld_unit_zero (by funext a; fin_cases a <;> rfl) p _
theorem rd5 (p) : arg5.view.readAt (Elt F) (Rect.unit (s := S1x5504x256) ![0, 0, 0] ![1, 5504, 256] p).toLoadRect X5 = arg5.view.read (Elt F) X5 :=
  View.ld_unit_zero (by funext a; fin_cases a <;> rfl) p _
theorem rd6 (p) : arg6.view.readAt (Elt F) (Rect.unit (s := S1024x256) ![0, 0] ![1024, 256] p).toLoadRect X6 = arg6.view.read (Elt F) X6 :=
  View.ld_unit_zero (by funext a; fin_cases a <;> rfl) p _

theorem rd7w (f : arg7.view.ty.Contents (Elt F)) (p) (w) (L) :
    arg7.view.read (Elt F) (arg7.view.writes (Elt F) f (⟨Rect.unit (s := S1024x256) ![0, 0] ![1024, 256] p, w⟩ :: L)) = w := by
  rw [← rd6 arg7 _ p, View.readAt_rect]
  funext x
  exact View.read_writes_cons_emb _ _ _ _ _ x

/-- In the first half the product goes to the scratch. -/
theorem body0 (h1 : k0_cond1 i = 1#1) (h2 : ¬ k0_cond2 i = 1#1) :
    (iprop((arg4.view.loc (c : Thread nD τ) ↦[arg4.view.set]{fullShare} X4) ∗ (arg5.view.loc (c : Thread nD τ) ↦[arg5.view.set]{fullShare} X5)
        ∗ (arg8.view.loc (c : Thread nD τ) ↦[arg8.view.set]{fullShare} X8)) : sProp 𝕄)
      ⊢ wp frame (wpE (defs₀ (F := F)) 𝒱 (c : Thread nD τ) bd) E (cc0_ffn_down (F := F) i arg4 harg4 arg5 harg5 arg6 harg6 arg7 harg7 arg8 harg8)
          (fun _ => iprop((arg4.view.loc (c : Thread nD τ) ↦[arg4.view.set]{fullShare} X4) ∗ (arg5.view.loc (c : Thread nD τ) ↦[arg5.view.set]{fullShare} X5)
            ∗ (∃ f, (arg8.view.loc (c : Thread nD τ) ↦[arg8.view.set]{fullShare} f)
              ∗ ⌜arg8.view.read (Elt F) f = put (arg8.view.read (Elt F) X8) (i 3).val (prod (arg4.view.read (Elt F) X4) (arg5.view.read (Elt F) X5))⌝))) := by
  unfold cc0_ffn_down
  iintro ⟨H4, H5, H8⟩
  sl_exec
  sl_step
  isplitl [H4]; · iexact H4
  isplitl [H5]; · iexact H5
  iexists _; isplitl [H8]; · iexact H8
  ipureintro
  sl_unfold_words
  rw [rd4, rd5]
  exact read_put arg8.view X8 i _ (prod (arg4.view.read (Elt F) X4) (arg5.view.read (Elt F) X5))

/-- In the second half the two products and the residual make the result. -/
theorem body1 (h1 : ¬ k0_cond1 i = 1#1) (h2 : k0_cond2 i = 1#1) :
    (iprop((arg4.view.loc (c : Thread nD τ) ↦[arg4.view.set]{fullShare} X4) ∗ (arg5.view.loc (c : Thread nD τ) ↦[arg5.view.set]{fullShare} X5)
        ∗ (arg6.view.loc (c : Thread nD τ) ↦[arg6.view.set]{fullShare} X6)
        ∗ (∃ f, arg7.view.loc (c : Thread nD τ) ↦[arg7.view.set]{fullShare} f)
        ∗ (arg8.view.loc (c : Thread nD τ) ↦[arg8.view.set]{fullShare} X8)) : sProp 𝕄)
      ⊢ wp frame (wpE (defs₀ (F := F)) 𝒱 (c : Thread nD τ) bd) E (cc0_ffn_down (F := F) i arg4 harg4 arg5 harg5 arg6 harg6 arg7 harg7 arg8 harg8)
          (fun _ => iprop((arg4.view.loc (c : Thread nD τ) ↦[arg4.view.set]{fullShare} X4) ∗ (arg5.view.loc (c : Thread nD τ) ↦[arg5.view.set]{fullShare} X5)
            ∗ (arg6.view.loc (c : Thread nD τ) ↦[arg6.view.set]{fullShare} X6)
            ∗ (∃ f, (arg7.view.loc (c : Thread nD τ) ↦[arg7.view.set]{fullShare} f)
              ∗ ⌜arg7.view.read (Elt F) f = addf (addf (slot (arg8.view.read (Elt F) X8) (i 3).val) (prod (arg4.view.read (Elt F) X4) (arg5.view.read (Elt F) X5)) : FVec F S1024x256 .f32) (arg6.view.read (Elt F) X6)⌝)
            ∗ (arg8.view.loc (c : Thread nD τ) ↦[arg8.view.set]{fullShare} X8))) := by
  unfold cc0_ffn_down
  iintro ⟨H4, H5, H6, ⟨%f7, H7⟩, H8⟩
  sl_exec
  sl_step
  isplitl [H4]; · iexact H4
  isplitl [H5]; · iexact H5
  isplitl [H6]; · iexact H6
  isplitl [H7]
  · iexists _; isplitl [H7]; · iexact H7
    ipureintro
    refine (rd7w arg7 _ _ _ _).trans ?_
    sl_unfold_words
    rw [rd4, rd5, rd6]
    exact congrArg (fun a => addf (addf a (prod (arg4.view.read (Elt F) X4) (arg5.view.read (Elt F) X5)) : FVec F S1024x256 .f32) (arg6.view.read (Elt F) X6))
      (read_slot arg8.view X8 i _)
  iexact H8

end

/-! ## The run -/

variable (m : (ℓ : Loc nD τ sig) → Buf (Elt F) ℓ) (ρ : Dev nD → PrngReg)

abbrev xB (c : Dev nD) (t : Fin cfg0.N) : Vec F S1024x5504 .bf16 := iblk m c 0 t
abbrev wB (c : Dev nD) (t : Fin cfg0.N) : Vec F S1x5504x256 .f32 := iblk m c 1 t
abbrev hB (c : Dev nD) (t : Fin cfg0.N) : Vec F S1024x256 .f32 := iblk m c 2 t

/-- The product of point `t`. -/
def prodAt (c : Dev nD) (t : Fin cfg0.N) : Vec F S1024x256 .f32 := prod (xB m c t) (wB m c t)

/-- The result's block at point `t` of a second half. -/
def outAt (c : Dev nD) (t : Fin cfg0.N) : Vec F S1024x256 .f32 :=
  addf (addf (prodAt m c ⟨t.val - 16, by omega⟩) (prodAt m c t) : FVec F S1024x256 .f32) (hB m c t)

/-- What the scratch holds before point `t`: the products of the row's first half so far. -/
def held (c : Dev nD) (t : ℕ) (A : Vec F S16x1024x256 .f32) : Prop :=
  ∀ (s : Fin 16) (h : 32 * (t / 32) + s.val < cfg0.N), s.val < t % 32 →
    ∀ (r : Fin 1024) (e : Fin 256), A (ix3 s r e) = prodAt m c ⟨32 * (t / 32) + s.val, h⟩ (ix2 r e)

theorem held_put (c : Dev nD) (t : Fin cfg0.N) (h : t.val / 16 % 2 = 0) (A : Vec F S16x1024x256 .f32) (hA : held m c t.val A) :
    held m c (t.val + 1) (put A (t.val % 16) (prodAt m c t)) := by
  intro s hs hlt r e
  have e1 : (t.val + 1) / 32 = t.val / 32 := by omega
  have e2 : (t.val + 1) % 32 = t.val % 32 + 1 := by omega
  unfold put
  split
  · rename_i hj
    replace hj : s.val = t.val % 16 := hj
    have : (⟨32 * ((t.val + 1) / 32) + s.val, hs⟩ : Fin cfg0.N) = t := Fin.ext (by simp only []; omega)
    rw [this]
    rfl
  · rename_i hj
    replace hj : ¬ s.val = t.val % 16 := hj
    have hs' : 32 * (t.val / 32) + s.val < cfg0.N := by omega
    refine (hA s hs' (by omega) r e).trans ?_
    exact congrArg (fun u => prodAt m c u (ix2 r e)) (Fin.ext (by simp only []; omega))

theorem held_keep (c : Dev nD) (t : Fin cfg0.N) (h : t.val / 16 % 2 = 1) (A : Vec F S16x1024x256 .f32) (hA : held m c t.val A) :
    held m c (t.val + 1) A := by
  intro s hs hlt r e
  have e1 : (t.val + 1) / 32 = t.val / 32 := by omega
  have hs' : 32 * (t.val / 32) + s.val < cfg0.N := by omega
  have := s.isLt
  refine (hA s hs' (by omega) r e).trans ?_
  exact congrArg (fun u => prodAt m c u (ix2 r e)) (Fin.ext (by simp only []; omega))

theorem held_slot (c : Dev nD) (t : Fin cfg0.N) (h : t.val / 16 % 2 = 1) (A : Vec F S16x1024x256 .f32) (hA : held m c t.val A) :
    slot A (t.val % 16) = prodAt m c ⟨t.val - 16, by omega⟩ := by
  funext y
  obtain ⟨r, e, rfl⟩ : ∃ (r : Fin 1024) (e : Fin 256), y = ix2 r e := ⟨y 0, y 1, by funext a; fin_cases a <;> rfl⟩
  have hs' : 32 * (t.val / 32) + t.val % 16 % 16 < cfg0.N := by have := t.isLt; omega
  refine (hA ⟨t.val % 16 % 16, by omega⟩ hs' (by simp only []; omega) r e).trans ?_
  exact congrArg (fun u => prodAt m c u (ix2 r e)) (Fin.ext (by simp only []; omega))

/-- The scratch and the generator register before point `t`. -/
def ΦI (c : Dev nD) (t : ℕ) : sProp 𝕄 :=
  iprop((∃ f, ((Memref.whole cc0_scratch0).view.loc (c : Thread nD τ) ↦[(Memref.whole cc0_scratch0).view.set]{fullShare} f)
      ∗ ⌜held m c t ((Memref.whole cc0_scratch0).view.read (Elt F) f)⌝)
    ∗ ∃ r, prngReg c r)

theorem scratch_eq (c : Dev nD) : (Pipeline.scopedRest spec0 c : sProp 𝕄)
    = iprop(∃ f, (Memref.whole cc0_scratch0).view.loc (c : Thread nD τ) ↦[(Memref.whole cc0_scratch0).view.set]{fullShare} f) := by
  rw [show (Memref.whole cc0_scratch0).view.set = Finset.univ from View.set_whole cc0_scratch0]
  exact scopedRest0_eq c

theorem Φ_in (c : Dev nD) : (Pipeline.ΦA spec0 c : sProp 𝕄) ⊢ ΦI m c 0 := by
  unfold Pipeline.ΦA ΦI
  rw [scratch_eq]
  iintro ⟨⟨%f, H⟩, Hg⟩
  isplitr [Hg]
  · iexists f; isplitl [H]; · iexact H
    ipureintro
    intro s _ h
    exact absurd h (by omega)
  iexact Hg

theorem Φ_out (c : Dev nD) (t : ℕ) : ΦI m c t ⊢ (Pipeline.ΦA spec0 c : sProp 𝕄) := by
  unfold Pipeline.ΦA ΦI
  rw [scratch_eq]
  iintro ⟨⟨%f, H, -⟩, Hg⟩
  isplitr [Hg]
  · iexists f; iexact H
  iexact Hg

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAt m c t
  Φ t := ΦI m c t.val
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = outAt m c t := by dsimp only [dats]

theorem coord2 : ∀ t : Fin grid0.N, (grid0.coords t 2).val = t.val / 16 % 2 := by decide +kernel
theorem coord3 : ∀ t : Fin grid0.N, (grid0.coords t 3).val = t.val % 16 := by decide +kernel
theorem idle_first : ∀ t : Fin grid0.N, t.val / 16 % 2 = 0 → idle0 3 (grid0.coords t) = true := by decide +kernel
theorem idle_second : ∀ t : Fin grid0.N, t.val / 16 % 2 = 1 → idle0 3 (grid0.coords t) = false := by decide +kernel
theorem flush_first : ∀ t : Fin grid0.N, t.val / 16 % 2 = 0 → win0_3.flush t = false := by decide +kernel

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))
def bodyPost0 (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ (∃ d, owns (c : Thread nD τ) (st0_3 t) fullShare ((dats m 0 c).before 3 t d)))
def bodyPost1 (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

set_option maxHeartbeats 1000000 in
theorem sound_first (c : Dev nD) (t : Fin cfg0.N) (h : t.val / 16 % 2 = 0) :
    bodyPre m c t ⊢ wp frame (wpE (defs₀ (F := F)) Variants.none c none) Set.univ (bodyAt0 t) (fun _ => bodyPost0 m c t) := by
  have h2 : (grid0.coords t 2).val = 0 := (coord2 t).trans h
  unfold bodyPre bodyPost0 bodyAt0
  rw [show (dats m 0 c).Φ t.castSucc = ΦI m c t.val from rfl, show (dats m 0 c).Φ t.succ = ΦI m c (t.val + 1) from rfl,
    after0_0, after0_1, after0_2]
  unfold ΦI Dat.owesAt Pipeline.owesWithin
  rw [show (dats m 0 c).owed t.castSucc = 0 from rfl, show (dats m 0 c).owed t.succ = 0 from rfl]
  simp only [before0_0_of m (dats m 0 c) (A_eq m c 0) (after0_0 m c), before0_1_of m (dats m 0 c) (A_eq m c 1) (after0_1 m c),
    before0_2_of m (dats m 0 c) (A_eq m c 2) (after0_2 m c)]
  iintro ⟨⟨⟨%s, HS, %hs⟩, Hg⟩, ⟨%W, -, HW⟩, ⟨%d0, H0⟩, ⟨%d1, H1⟩, H2, H3⟩
  unfold owns
  icases H0 with ⟨%f0, %e0, H0⟩
  icases H1 with ⟨%f1, %e1, H1⟩
  iapply (wp_wand_r Idealize.ShloMosaic.frame (wpE (defs₀ (F := F)) Variants.none (c : Thread nD τ) none) Set.univ)
  isplitl [HS H0 H1]
  · iapply (body0 Variants.none c none Set.univ (grid0.coords t) (st0_0 t) (hstage0_0 ((cfg0.slots t 0).cast nbuf0_0)) (st0_1 t) (hstage0_1 ((cfg0.slots t 1).cast nbuf0_1))
      (st0_2 t) (hstage0_2 ((cfg0.slots t 2).cast nbuf0_2)) (st0_3 t) (hstage0_3 ((cfg0.slots t 3).cast nbuf0_3))
      (Memref.whole cc0_scratch0) (Memref.isWhole_whole _) f0 f1 s ((cond1_eq _).mpr h2) (fun h' => by have := (cond2_eq _).mp h'; omega))
    isplitl [H0]; · iexact H0
    isplitl [H1]; · iexact H1
    iexact HS
  iintro %_ ⟨H0, H1, ⟨%g, HS, %hg⟩⟩
  isplitl [HS Hg]
  · isplitr [Hg]
    · iexists g; isplitl [HS]; · iexact HS
      ipureintro
      rw [hg, e0, e1, coord3]
      exact held_put m c t h _ hs
    iexact Hg
  isplitl [HW]
  · iexists W; isplitr; · ipureintro; exact fun _ _ => Or.inl trivial
    iexact HW
  isplitl [H0]; · iexists _; isplitr; swap; · iexact H0
                  ipureintro; exact e0
  isplitl [H1]; · iexists _; isplitr; swap; · iexact H1
                  ipureintro; exact e1
  isplitl [H2]
  · icases H2 with ⟨%d2, H2⟩
    iexact H2
  iexact H3

set_option maxHeartbeats 1000000 in
theorem sound_second (c : Dev nD) (t : Fin cfg0.N) (h : t.val / 16 % 2 = 1) :
    bodyPre m c t ⊢ wp frame (wpE (defs₀ (F := F)) Variants.none c none) Set.univ (bodyAt0 t) (fun _ => bodyPost1 m c t) := by
  have h2 : (grid0.coords t 2).val = 1 := (coord2 t).trans h
  unfold bodyPre bodyPost1 bodyAt0
  rw [show (dats m 0 c).Φ t.castSucc = ΦI m c t.val from rfl, show (dats m 0 c).Φ t.succ = ΦI m c (t.val + 1) from rfl,
    after0_0, after0_1, after0_2, after0_3]
  unfold ΦI Dat.owesAt Pipeline.owesWithin
  rw [show (dats m 0 c).owed t.castSucc = 0 from rfl, show (dats m 0 c).owed t.succ = 0 from rfl]
  simp only [before0_0_of m (dats m 0 c) (A_eq m c 0) (after0_0 m c), before0_1_of m (dats m 0 c) (A_eq m c 1) (after0_1 m c),
    before0_2_of m (dats m 0 c) (A_eq m c 2) (after0_2 m c)]
  unfold owns
  iintro ⟨⟨⟨%s, HS, %hs⟩, Hg⟩, ⟨%W, -, HW⟩, ⟨%d0, ⟨%f0, %e0, H0⟩⟩, ⟨%d1, ⟨%f1, %e1, H1⟩⟩, ⟨%d2, ⟨%f2, %e2, H2⟩⟩, ⟨%d3, ⟨%f3, %e3, H3⟩⟩⟩
  iapply (wp_wand_r Idealize.ShloMosaic.frame (wpE (defs₀ (F := F)) Variants.none (c : Thread nD τ) none) Set.univ)
  isplitl [HS H0 H1 H2 H3]
  · iapply (body1 Variants.none c none Set.univ (grid0.coords t) (st0_0 t) (hstage0_0 ((cfg0.slots t 0).cast nbuf0_0)) (st0_1 t) (hstage0_1 ((cfg0.slots t 1).cast nbuf0_1))
      (st0_2 t) (hstage0_2 ((cfg0.slots t 2).cast nbuf0_2)) (st0_3 t) (hstage0_3 ((cfg0.slots t 3).cast nbuf0_3))
      (Memref.whole cc0_scratch0) (Memref.isWhole_whole _) f0 f1 f2 s (fun h' => by have := (cond1_eq _).mp h'; omega) ((cond2_eq _).mpr h2))
    isplitl [H0]; · iexact H0
    isplitl [H1]; · iexact H1
    isplitl [H2]; · iexact H2
    isplitl [H3]; · iexists _; iexact H3
    iexact HS
  iintro %_ ⟨H0, H1, H2, ⟨%g, H3, %hg⟩, HS⟩
  isplitl [HS Hg]
  · isplitr [Hg]
    · iexists s; isplitl [HS]; · iexact HS
      ipureintro
      exact held_keep m c t h _ hs
    iexact Hg
  isplitl [HW]
  · iexists W; isplitr; · ipureintro; exact fun _ _ => Or.inl trivial
    iexact HW
  isplitl [H0]; · iexists _; isplitr; swap; · iexact H0
                  ipureintro; exact e0
  isplitl [H1]; · iexists _; isplitr; swap; · iexact H1
                  ipureintro; exact e1
  isplitl [H2]; · iexists _; isplitr; swap; · iexact H2
                  ipureintro; exact e2
  iexists _; isplitr; swap; · iexact H3
  ipureintro
  rw [hg, e0, e1, e2, coord3, held_slot m c t h _ hs]
  rfl

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  rcases Nat.mod_two_eq_zero_or_one (t.val / 16) with h | h
  · have hi : cfg0.idle 3 (cfg0.grid.coords t) = true := idle_first t h
    have hf : (cfg0.win 3).flush t = false := flush_first t h
    rw [hi, hf]
    exact triple_restated (sound_first m c t h) rfl .rfl fun _ => .rfl
  · have hi : cfg0.idle 3 (cfg0.grid.coords t) = false := idle_second t h
    rw [hi]
    exact triple_restated (sound_second m c t h) rfl .rfl fun _ => .rfl

set_option backward.isDefEq.respectTransparency.types false in
theorem run_main : θ_run defs (onTc (τ := τ) (main (F := F))) (s₀ m ρ)
    (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun c => Φ_in m c) (hout := fun c => Φ_out m c _)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_with_sems (frame_of m ρ (dats m) (A_eq m)) (run_main m ρ)

end Cert.KernelDownIdeal.Hand

/-! ## The value -/

namespace Cert.ReferenceDownIdeal.Hand

open Idealize.ShloMosaic Idealize.ShloMosaic.TcCoe
open Cert.ReferenceDownIdeal Cert.ReferenceDownIdeal.Gen

variable (x : FVec Ideal S8192x11008 .bf16) (w : FVec Ideal S2x11008x4096 .f32) (h : FVec Ideal S8192x4096 .f32)

/-- The reference's result. -/
def outT : FVec Ideal S8192x4096 .f32 :=
  addf h (Host.dotGeneral dot_S8192x11008_S11008x4096_S8192x4096_1_0_0_1_n_n none (extf .f32 x bitsLt_bf16_f32) (shapeCast _ (extractStridedSlice S1x11008x4096 ![1, 0, 0] w slices_S2x11008x4096_S1x11008x4096_1_0_0) shapeCasts_S1x11008x4096_S11008x4096))

theorem run' (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v4) = outT (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := Value.run m ρ

theorem out_all (i : Fin 8192) (j : Fin 4096) :
    outT x w h (ix2 i j) = h (ix2 i j) + ∑ k : Fin 11008, x (ix2 i k) * w (ix3 1 k j) := by
  pointwise [outT]

/-- The contraction in two halves. -/
theorem out_at (i : Fin 8192) (j : Fin 4096) :
    outT x w h (ix2 i j) = h (ix2 i j) + ((∑ k : Fin 5504, x (ix2 i ⟨k.val, by omega⟩) * w (ix3 1 ⟨k.val, by omega⟩ j))
      + ∑ k : Fin 5504, x (ix2 i ⟨5504 + k.val, by omega⟩) * w (ix3 1 ⟨5504 + k.val, by omega⟩ j)) :=
  (out_all x w h i j).trans (congrArg (h (ix2 i j) + ·) (Fin.sum_univ_add (a := 5504) (b := 5504) fun k : Fin 11008 => x (ix2 i k) * w (ix3 1 k j)))

end Cert.ReferenceDownIdeal.Hand

namespace Cert.KernelDownIdeal.Hand

open Idealize.ShloMosaic Idealize.ShloMosaic.TcCoe
open Idealize.SL.Sem
open Cert.KernelDownIdeal.Gen
open Cert.ReferenceDownIdeal.Hand (outT)

section
variable (m : (ℓ : Loc nD τ sig) → Buf (Elt Ideal) ℓ) (ρ : Dev nD → PrngReg) (c : Dev nD)

abbrev argX : FVec Ideal S8192x11008 .bf16 := m ((c : Thread nD τ).loc main_arg0)
abbrev argW : FVec Ideal S2x11008x4096 .f32 := m ((c : Thread nD τ).loc main_arg1)
abbrev argH : FVec Ideal S8192x4096 .f32 := m ((c : Thread nD τ).loc main_arg2)

theorem wx0 : ∀ t : Fin grid0.N, win0_0.index t = ![t.val / 32, t.val / 16 % 2] := by decide +kernel
theorem wx1 : ∀ t : Fin grid0.N, win0_1.index t = ![1, t.val / 16 % 2, t.val % 16] := by decide +kernel
theorem wx2 : ∀ t : Fin grid0.N, win0_2.index t = ![t.val / 32, if t.val / 16 % 2 = 1 then t.val % 16 else 0] := by decide +kernel
theorem wx3 : ∀ t : Fin grid0.N, win0_3.index t = ![t.val / 32, if t.val / 16 % 2 = 1 then t.val % 16 else 0] := by decide +kernel

theorem lt256 (t : Fin cfg0.N) : t.val < 256 := lt_of_lt_of_eq t.isLt N_0

/-- One entry of a product. -/
theorem prod_at (x : FVec Ideal S1024x5504 .bf16) (w : FVec Ideal S1x5504x256 .f32) (r : Fin 1024) (e : Fin 256) :
    (prod (F := Ideal) x w : FVec Ideal S1024x256 .f32) (ix2 r e) = ∑ k : Fin 5504, x (ix2 r k) * w (ix3 0 k e) := by
  pointwise [prod]

theorem out_pt (a b d : FVec Ideal S1024x256 .f32) (r : Fin 1024) (e : Fin 256) :
    (addf (addf a b) d : FVec Ideal S1024x256 .f32) (ix2 r e) = a (ix2 r e) + b (ix2 r e) + d (ix2 r e) := by
  pointwise

theorem xB_at (t : Fin cfg0.N) (r : Fin 1024) (k : Fin 5504) :
    (xB m c t : FVec Ideal S1024x5504 .bf16) (ix2 r k)
      = argX m c (ix2 ⟨1024 * (t.val / 32) + r.val, by have := lt256 t; omega⟩ ⟨5504 * (t.val / 16 % 2) + k.val, by omega⟩) := by
  blk_simp [iblk]
  refine congrArg (argX m c) ?_
  blk_ext [wx0]
theorem wB_at (t : Fin cfg0.N) (k : Fin 5504) (e : Fin 256) :
    (wB m c t : FVec Ideal S1x5504x256 .f32) (ix3 0 k e)
      = argW m c (ix3 1 ⟨5504 * (t.val / 16 % 2) + k.val, by omega⟩ ⟨256 * (t.val % 16) + e.val, by omega⟩) := by
  blk_simp [iblk]
  refine congrArg (argW m c) ?_
  blk_ext [wx1]
theorem hB_at (t : Fin cfg0.N) (ht : t.val / 16 % 2 = 1) (r : Fin 1024) (e : Fin 256) :
    (hB m c t : FVec Ideal S1024x256 .f32) (ix2 r e)
      = argH m c (ix2 ⟨1024 * (t.val / 32) + r.val, by have := lt256 t; omega⟩ ⟨256 * (t.val % 16) + e.val, by omega⟩) := by
  blk_simp [iblk]
  refine congrArg (argH m c) ?_
  blk_ext [wx2, if_pos ht]

/-- The result array after the run. -/
theorem arr_eq : (dats m 0 c).arrAt 3 cfg0.N = outT (argX m c) (argW m c) (argH m c) := by
  refine (dats m 0 c).arrAt_eq_of_covers 3 _ (by decide +kernel) fun t hf y => ?_
  have ht := lt256 t
  have hk : t.val / 16 % 2 = 1 := by
    rcases Nat.mod_two_eq_zero_or_one (t.val / 16) with h | h
    · exact absurd hf (by rw [show (cfg0.win 3).flush t = false from flush_first t h]; decide)
    · exact h
  blk_simp
  rw [after0_3]
  obtain ⟨r, e, rfl⟩ : ∃ (r : Fin 1024) (e : Fin 256), y = ix2 r e := ⟨y 0, y 1, by funext a; fin_cases a <;> rfl⟩
  have hi : (((cfg0.win 3).blk t).view.emb (ix2 r e) : S8192x4096.Idx) = ix2 ⟨1024 * (t.val / 32) + r.val, by omega⟩ ⟨256 * (t.val % 16) + e.val, by omega⟩ := by
    blk_ext [wx3, if_pos hk]
  refine Eq.trans ?_ (congrArg (outT (argX m c) (argW m c) (argH m c)) hi).symm
  rw [Cert.ReferenceDownIdeal.Hand.out_at]
  unfold outAt
  refine (out_pt _ _ _ r e).trans ?_
  unfold prodAt
  rw [prod_at, prod_at, hB_at m c t hk]
  simp only [xB_at, wB_at]
  have e0 : (t.val - 16) / 16 % 2 = 0 := by omega
  have e1 : (t.val - 16) / 32 = t.val / 32 := by omega
  have e2 : (t.val - 16) % 16 = t.val % 16 := by omega
  simp only [e0, e1, e2, hk, Nat.mul_zero, Nat.mul_one, Nat.zero_add]
  exact add_comm _ _

theorem value_run : θ_run defs (onTc (τ := τ) (main (F := Ideal))) ⟨m, fun _ => 0, ρ⟩ fun r => ∀ c : Dev nD,
      r.2.mem ((c.tc : Thread nD τ).loc main_v0) = outT (argX m c) (argW m c) (argH m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨((h.1 c).1 3).trans (arr_eq m c),
      ((h.1 c).1 0).trans (((dats m 0 c).arrAt_in 0 rfl _).trans (A_eq m c 0)),
      ((h.1 c).1 1).trans (((dats m 0 c).arrAt_in 1 rfl _).trans (A_eq m c 1)),
      ((h.1 c).1 2).trans (((dats m 0 c).arrAt_in 2 rfl _).trans (A_eq m c 2))⟩) (run_main m ρ)
end

end Cert.KernelDownIdeal.Hand
end
-- ==== Proof.UpI.lean ====
module

public import proofs.«01_k».proof.Proof.Gen.KernelUpIdeal.Value
public import proofs.«01_k».proof.Proof.Gen.ReferenceUpIdeal.Run
public import Idealize.ShloMosaic.Lib.Pointwise
public import Idealize.ShloMosaic.Lib.Claim
public import Idealize.ShloMosaic.Lib.IdealHost
public import Idealize.ShloMosaic.Lib.Pipeline.ValueKit

@[expose] public section

set_option maxRecDepth 16384

noncomputable section

/-! # The gated half of the feed-forward part: silu(x G) · (x U) -/

namespace Cert.ReferenceUpIdeal.Hand

open Idealize.ShloMosaic Idealize.ShloMosaic.TcCoe
open Cert.ReferenceUpIdeal Cert.ReferenceUpIdeal.Gen

variable (x : FVec Ideal S8192x4096 .bf16) (g u : FVec Ideal S2x4096x11008 .f32)

/-- The product of the activations with one layer's weights. -/
def prT : FVec Ideal S8192x11008 .f32 :=
  Host.dotGeneral dot_S8192x4096_S4096x11008_S8192x11008_1_0_0_1_n_n none (extf .f32 x bitsLt_bf16_f32) (shapeCast _ (extractStridedSlice S1x4096x11008 ![1, 0, 0] g slices_S2x4096x11008_S1x4096x11008_1_0_0) shapeCasts_S1x4096x11008_S4096x11008)

/-- The reference's result. -/
def outT : FVec Ideal S8192x11008 .bf16 :=
  truncf .bf16 (mulf (mulf (prT x g) (Host.divf (broadcastInDim S8192x11008 ![] bcast_S_S8192x11008 (constant S_ .f32 0x3F800000#32)) (addf (broadcastInDim S8192x11008 ![] bcast_S_S8192x11008 (constant S_ .f32 0x3F800000#32)) (Host.exp (Host.negf (prT x g)))))) (prT x u)) bitsLt_bf16_f32

theorem run' (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v9) = outT (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := Value.run m ρ

theorem pr_at (i : Fin 8192) (j : Fin 11008) :
    prT x g (ix2 i j) = ∑ k : Fin 4096, x (ix2 i k) * g (ix3 1 k j) := by
  pointwise [prT]

theorem out_gen (P Q : FVec Ideal S8192x11008 .f32) (i : Fin 8192) (j : Fin 11008) :
    (truncf .bf16 (mulf (mulf P (Host.divf (broadcastInDim S8192x11008 ![] bcast_S_S8192x11008 (constant S_ .f32 0x3F800000#32)) (addf (broadcastInDim S8192x11008 ![] bcast_S_S8192x11008 (constant S_ .f32 0x3F800000#32)) (Host.exp (Host.negf P))))) Q) bitsLt_bf16_f32 : FVec Ideal S8192x11008 .bf16) (ix2 i j)
      = P (ix2 i j) * Ideal.logistic (P (ix2 i j)) * Q (ix2 i j) := by
  pointwise
  rfl

theorem out_at (i : Fin 8192) (j : Fin 11008) :
    outT x g u (ix2 i j) = prT x g (ix2 i j) * Ideal.logistic (prT x g (ix2 i j)) * prT x u (ix2 i j) :=
  out_gen (prT x g) (prT x u) i j

end Cert.ReferenceUpIdeal.Hand

namespace Cert.KernelUpIdeal.Hand

open Idealize.ShloMosaic Idealize.ShloMosaic.TcCoe
open Cert.KernelUpIdeal.Gen
open Cert.ReferenceUpIdeal.Hand (prT outT)

variable (m : (ℓ : Loc nD τ sig) → Buf (Elt Ideal) ℓ) (c : Dev nD)

abbrev argX : FVec Ideal S8192x4096 .bf16 := m ((c : Thread nD τ).loc main_arg0)
abbrev argG : FVec Ideal S2x4096x11008 .f32 := m ((c : Thread nD τ).loc main_arg1)
abbrev argU : FVec Ideal S2x4096x11008 .f32 := m ((c : Thread nD τ).loc main_arg2)

theorem wx0 : ∀ t : Fin grid0.N, win0_0.index t = ![t.val / 43, 0] := by decide +kernel
theorem wx1 : ∀ t : Fin grid0.N, win0_1.index t = ![1, 0, t.val % 43] := by decide +kernel
theorem wx2 : ∀ t : Fin grid0.N, win0_2.index t = ![1, 0, t.val % 43] := by decide +kernel
theorem wx3 : ∀ t : Fin grid0.N, win0_3.index t = ![t.val / 43, t.val % 43] := by decide +kernel

/-- One entry of a block's result. -/
theorem pay_at (x : FVec Ideal S2048x4096 .bf16) (g u : FVec Ideal S1x4096x256 .f32) (r : Fin 2048) (e : Fin 256) :
    k0_pay1 x g u (ix2 r e)
      = (∑ k : Fin 4096, x (ix2 r k) * g (ix3 0 k e)) * Ideal.logistic (∑ k : Fin 4096, x (ix2 r k) * g (ix3 0 k e)) * ∑ k : Fin 4096, x (ix2 r k) * u (ix3 0 k e) := by
  pointwise [k0_pay1]

theorem lt172 (t : Fin cfg0.N) : t.val < 172 := lt_of_lt_of_eq t.isLt N_0

theorem xB_at (t : Fin cfg0.N) (r : Fin 2048) (k : Fin 4096) :
    (iblk m c 0 t : FVec Ideal S2048x4096 .bf16) (ix2 r k) = argX m c (ix2 ⟨2048 * (t.val / 43) + r.val, by have := lt172 t; omega⟩ k) := by
  blk_simp [iblk]
  refine congrArg (argX m c) ?_
  blk_ext [wx0]
theorem gB_at (t : Fin cfg0.N) (k : Fin 4096) (e : Fin 256) :
    (iblk m c 1 t : FVec Ideal S1x4096x256 .f32) (ix3 0 k e) = argG m c (ix3 1 k ⟨256 * (t.val % 43) + e.val, by have := lt172 t; omega⟩) := by
  blk_simp [iblk]
  refine congrArg (argG m c) ?_
  blk_ext [wx1]
theorem uB_at (t : Fin cfg0.N) (k : Fin 4096) (e : Fin 256) :
    (iblk m c 2 t : FVec Ideal S1x4096x256 .f32) (ix3 0 k e) = argU m c (ix3 1 k ⟨256 * (t.val % 43) + e.val, by have := lt172 t; omega⟩) := by
  blk_simp [iblk]
  refine congrArg (argU m c) ?_
  blk_ext [wx2]

/-- The result array after the run. -/
theorem arr_eq : (dats m 0 c).arrAt 3 cfg0.N = outT (argX m c) (argG m c) (argU m c) := by
  refine (dats m 0 c).arrAt_eq_of_covers 3 _ (by decide +kernel) fun t hf y => ?_
  blk_simp
  rw [after0_3]
  frame_out
  have ht := lt172 t
  obtain ⟨r, e, rfl⟩ : ∃ (r : Fin 2048) (e : Fin 256), y = ix2 r e := ⟨y 0, y 1, by funext a; fin_cases a <;> rfl⟩
  have hi : (((cfg0.win 3).blk t).view.emb (ix2 r e) : S8192x11008.Idx) = ix2 ⟨2048 * (t.val / 43) + r.val, by omega⟩ ⟨256 * (t.val % 43) + e.val, by omega⟩ := by
    blk_ext [wx3]
  refine Eq.trans ?_ (congrArg (outT (argX m c) (argG m c) (argU m c)) hi).symm
  rw [Cert.ReferenceUpIdeal.Hand.out_at, Cert.ReferenceUpIdeal.Hand.pr_at, Cert.ReferenceUpIdeal.Hand.pr_at]
  refine (pay_at (iblk m c 0 t) (iblk m c 1 t) (iblk m c 2 t) r e).trans ?_
  simp only [xB_at, gB_at, uB_at]

end Cert.KernelUpIdeal.Hand
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite_q_k
public import proofs.«01_k».proof.Proof.Gen.KernelUp
public import proofs.«01_k».proof.Proof.Gen.KernelUpIdeal
public import proofs.«01_k».proof.Proof.Gen.KernelUp.Frame
public import proofs.«01_k».proof.Proof.Gen.KernelUpIdeal.Frame
public import proofs.«01_k».proof.Proof.Gen.KernelUpIdeal.Value
public import proofs.«01_k».proof.Proof.Gen.ReferenceUpIdeal
public import proofs.«01_k».proof.Proof.Gen.ReferenceUpIdeal.Run
public import proofs.«01_k».proof.Proof.Gen.KernelDown
public import proofs.«01_k».proof.Proof.Gen.KernelDownIdeal
public import proofs.«01_k».proof.Proof.Gen.KernelDownIdeal.Frame
public import proofs.«01_k».proof.Proof.Gen.ReferenceDownIdeal
public import proofs.«01_k».proof.Proof.Gen.ReferenceDownIdeal.Run
public import proofs.«01_k».proof.Proof.Gen.KernelIn
public import proofs.«01_k».proof.Proof.Gen.KernelInIdeal
public import proofs.«01_k».proof.Proof.Gen.KernelIn.Frame
public import proofs.«01_k».proof.Proof.Gen.KernelInIdeal.Frame
public import proofs.«01_k».proof.Proof.Gen.KernelInIdeal.Value
public import proofs.«01_k».proof.Proof.Gen.ReferenceInIdeal
public import proofs.«01_k».proof.Proof.Gen.ReferenceInIdeal.Run
public import proofs.«01_k».proof.Proof.Gen.KernelOut
public import proofs.«01_k».proof.Proof.Gen.KernelOutIdeal
public import proofs.«01_k».proof.Proof.Gen.KernelOut.Frame
public import proofs.«01_k».proof.Proof.Gen.KernelOutIdeal.Frame
public import proofs.«01_k».proof.Proof.Gen.KernelOutIdeal.Value
public import proofs.«01_k».proof.Proof.Gen.ReferenceOutIdeal
public import proofs.«01_k».proof.Proof.Gen.ReferenceOutIdeal.Run
public import proofs.«01_k».proof.Proof.Gen.KernelNorm
public import proofs.«01_k».proof.Proof.Gen.KernelNormIdeal
public import proofs.«01_k».proof.Proof.Gen.KernelNorm.Frame
public import proofs.«01_k».proof.Proof.Gen.KernelNormIdeal.Frame
public import proofs.«01_k».proof.Proof.Gen.KernelNormIdeal.Value
public import proofs.«01_k».proof.Proof.Gen.ReferenceNormIdeal
public import proofs.«01_k».proof.Proof.Gen.ReferenceNormIdeal.Run
public import proofs.«01_k».proof.Proof.Gen.KernelLat
public import proofs.«01_k».proof.Proof.Gen.KernelLatIdeal
public import proofs.«01_k».proof.Proof.Gen.KernelLatIdeal.Frame
public import proofs.«01_k».proof.Proof.Gen.ReferenceLatIdeal
public import proofs.«01_k».proof.Proof.Gen.ReferenceLatIdeal.Run
public import proofs.«01_k».proof.Proof.Gen.Pre_finite_q_k_c
public import proofs.«01_k».proof.Proof.Gen.KernelDiff
public import proofs.«01_k».proof.Proof.Gen.KernelDiffIdeal
public import proofs.«01_k».proof.Proof.Gen.KernelDiffIdeal.Skeleton
public import proofs.«01_k».proof.Proof.Gen.KernelDiffIdeal.Frame
public import proofs.«01_k».proof.Proof.Gen.ReferenceDiffIdeal
public import proofs.«01_k».proof.Proof.Gen.ReferenceDiffIdeal.Run
public import proofs.«01_k».proof.Proof.Gen.Pre_finite_q_k_v_lam
public import proofs.«01_k».proof.Proof.Gen.KernelQu
public import proofs.«01_k».proof.Proof.Gen.KernelQu.Frame
public import proofs.«01_k».proof.Proof.Gen.KernelQuIdeal
public import proofs.«01_k».proof.Proof.Gen.KernelQuIdeal.Frame
public import proofs.«01_k».proof.Proof.Gen.KernelQuIdeal.Value
public import proofs.«01_k».proof.Proof.Gen.ReferenceQuIdeal
public import proofs.«01_k».proof.Proof.Gen.ReferenceQuIdeal.Run
public import proofs.«01_k».proof.Proof.Gen.KernelKv
public import proofs.«01_k».proof.Proof.Gen.KernelKv.Frame
public import proofs.«01_k».proof.Proof.Gen.KernelKvIdeal
public import proofs.«01_k».proof.Proof.Gen.KernelKvIdeal.Frame
public import proofs.«01_k».proof.Proof.Gen.KernelKvIdeal.Value
public import proofs.«01_k».proof.Proof.Gen.ReferenceKvIdeal
public import proofs.«01_k».proof.Proof.Gen.ReferenceKvIdeal.Run
public import proofs.«01_k».proof.Proof.Gen.KernelKr
public import proofs.«01_k».proof.Proof.Gen.KernelKr.Frame
public import proofs.«01_k».proof.Proof.Gen.KernelKrIdeal
public import proofs.«01_k».proof.Proof.Gen.KernelKrIdeal.Frame
public import proofs.«01_k».proof.Proof.Gen.KernelKrIdeal.Value
public import proofs.«01_k».proof.Proof.Gen.ReferenceKrIdeal
public import proofs.«01_k».proof.Proof.Gen.ReferenceKrIdeal.Run
public import proofs.«01_k».proof.Proof.AlgI
public import proofs.«01_k».proof.Proof.LatAlgI
public import proofs.«01_k».proof.Proof.LatPreI
public import proofs.«01_k».proof.Proof.DiffAlgI
public import proofs.«01_k».proof.Proof.DiffPreI
public import proofs.«01_k».proof.Proof.NormI
public import proofs.«01_k».proof.Proof.OutI
public import proofs.«01_k».proof.Proof.InI
public import proofs.«01_k».proof.Proof.QuI
public import proofs.«01_k».proof.Proof.KvI
public import proofs.«01_k».proof.Proof.KrI
public import proofs.«01_k».proof.Proof.DownI
public import proofs.«01_k».proof.Proof.UpI
public import proofs.«01_k».proof.Proof.PreI
public import Idealize.ShloMosaic.Adequacy
public import Idealize.ShloMosaic.Init

@[expose] public section

noncomputable section

namespace Cert.Proof

open Idealize.ShloMosaic Idealize.SL.Sem

section Words

local instance : Cert.Kernel.Facts := Cert.Kernel.Gen.facts
local instance : Cert.KernelIdeal.Facts := Cert.KernelIdeal.Gen.facts

/-- The kernel as written and the kernel over the extended reals are one text: their bodies are one function. -/
theorem body_eq (F : FTy → Type) [FloatOps F] : Cert.Kernel.defs₀ (F := F) = Cert.KernelIdeal.defs₀ (F := F) := by
  unfold Cert.Kernel.defs₀ Cert.KernelIdeal.defs₀
  refine congrArg Defs.onTc ?_
  funext l x
  match l, x with
  | 0, (t, s) => rfl

theorem defs_eq (F : FTy → Type) [FloatOps F] : Cert.Kernel.defs (F := F) = Cert.KernelIdeal.defs (F := F) :=
  congrArg (Pipeline.defs (Cert.KernelIdeal.pcfgs (F := F))) (body_eq F)

end Words

/-- The frame of the kernel as written is that of its one run, at machine words. -/
theorem frame_kernel : Cert.quiescent_Kernel (hKernel := Cert.Kernel.Gen.facts) := fun m ρ _ => by
  have h := Cert.KernelIdeal.Hand.frame (F := Bits) m ρ
  rw [← defs_eq Bits] at h
  exact h

theorem frame_ideal : Cert.quiescent_KernelIdeal (hKernelIdeal := Cert.KernelIdeal.Gen.facts) := fun m ρ _ =>
  Cert.KernelIdeal.Hand.frame (F := Ideal) m ρ

theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Hand.run' m ρ)

theorem algebraic : Cert.algebraic_KernelIdeal_ReferenceIdeal_pre_finite_q_k (hKernelIdeal := Cert.KernelIdeal.Gen.facts)
    (hReferenceIdeal := Cert.ReferenceIdeal.Gen.facts) (hPre_finite_q_k := Cert.Pre_finite_q_k.Gen.facts) := by
  intro m ρ m' ρ' hpre hagree
  refine ⟨fun c => Cert.ReferenceIdeal.Hand.outT (Cert.KernelIdeal.Hand.argQ m c) (Cert.KernelIdeal.Hand.argK m c) (Cert.KernelIdeal.Hand.argV m c), ?_, ?_⟩
  · refine (θ_run Cert.KernelIdeal.defs _ _).mono (fun r h c => ?_) (Cert.KernelIdeal.Hand.run_main (F := Ideal) m ρ)
    obtain ⟨hq, hk⟩ := Cert.Pre_finite_q_k.Hand.reals _ _ _ _ _ (hpre c)
    refine ⟨(h.1.out_eq c 4).trans (Cert.KernelIdeal.Hand.arr_eq m c hq hk), ?_⟩
    exact ⟨(h.1.rest_eq c _ (Pipeline.mem_restRefs_of Cert.KernelIdeal.main_arg0 (by decide) (by decide))).trans (Cert.KernelIdeal.Gen.V_main_arg0 m c),
      (h.1.rest_eq c _ (Pipeline.mem_restRefs_of Cert.KernelIdeal.main_arg1 (by decide) (by decide))).trans (Cert.KernelIdeal.Gen.V_main_arg1 m c),
      (h.1.rest_eq c _ (Pipeline.mem_restRefs_of Cert.KernelIdeal.main_arg2 (by decide) (by decide))).trans (Cert.KernelIdeal.Gen.V_main_arg2 m c),
      (h.1.rest_eq c _ (Pipeline.mem_restRefs_of Cert.KernelIdeal.main_arg3 (by decide) (by decide))).trans (Cert.KernelIdeal.Gen.V_main_arg3 m c),
      (h.1.rest_eq c _ (Pipeline.mem_restRefs_of Cert.KernelIdeal.main_arg4 (by decide) (by decide))).trans (Cert.KernelIdeal.Gen.V_main_arg4 m c)⟩
  · refine (θ_run Cert.ReferenceIdeal.defs _ _).mono (fun r h c => ⟨(h c).1.trans ?_, (h c).2⟩) (Cert.ReferenceIdeal.Hand.run' m' ρ')
    obtain ⟨h0, h1, h2, -⟩ := hagree c
    rw [h0, h1, h2]

/-! ## The gated product of the feed-forward layer -/

theorem frame_kernel_up : Cert.quiescent_KernelUp (hKernelUp := Cert.KernelUp.Gen.facts) := fun m ρ _ =>
  Cert.KernelUp.Gen.frame m ρ

theorem frame_ideal_up : Cert.quiescent_KernelUpIdeal (hKernelUpIdeal := Cert.KernelUpIdeal.Gen.facts) := fun m ρ _ =>
  Cert.KernelUpIdeal.Gen.frame m ρ

theorem frame_reference_up : Cert.quiescent_ReferenceUpIdeal (hReferenceUpIdeal := Cert.ReferenceUpIdeal.Gen.facts) := fun m ρ _ =>
  (θ_run Cert.ReferenceUpIdeal.defs _ _).mono (fun r h => ⟨fun c => (h c).2, sem_eq_zero_of_no_sems (by decide) r.2⟩)
    (Cert.ReferenceUpIdeal.Hand.run' m ρ)

theorem algebraic_up : Cert.algebraic_KernelUpIdeal_ReferenceUpIdeal (hKernelUpIdeal := Cert.KernelUpIdeal.Gen.facts)
    (hReferenceUpIdeal := Cert.ReferenceUpIdeal.Gen.facts) := by
  intro m ρ m' ρ' _ hagree
  refine ⟨fun c => Cert.ReferenceUpIdeal.Hand.outT (Cert.KernelUpIdeal.Hand.argX m c) (Cert.KernelUpIdeal.Hand.argG m c) (Cert.KernelUpIdeal.Hand.argU m c), ?_, ?_⟩
  · exact (θ_run Cert.KernelUpIdeal.defs _ _).mono (fun r h c => ⟨(h c).1.trans (Cert.KernelUpIdeal.Hand.arr_eq m c), (h c).2⟩) (Cert.KernelUpIdeal.Value.run_blocks m ρ)
  · refine (θ_run Cert.ReferenceUpIdeal.defs _ _).mono (fun r h c => ⟨(h c).1.trans ?_, (h c).2⟩) (Cert.ReferenceUpIdeal.Hand.run' m' ρ')
    obtain ⟨h0, h1, h2⟩ := hagree c
    rw [h0, h1, h2]

/-! ## The down projection -/

section Words

local instance : Cert.KernelDown.Facts := Cert.KernelDown.Gen.facts
local instance : Cert.KernelDownIdeal.Facts := Cert.KernelDownIdeal.Gen.facts

theorem body_eq_down (F : FTy → Type) [FloatOps F] : Cert.KernelDown.defs₀ (F := F) = Cert.KernelDownIdeal.defs₀ (F := F) := by
  unfold Cert.KernelDown.defs₀ Cert.KernelDownIdeal.defs₀
  refine congrArg Defs.onTc ?_
  funext l x
  match l, x with
  | 0, (t, s) => rfl

theorem defs_eq_down (F : FTy → Type) [FloatOps F] : Cert.KernelDown.defs (F := F) = Cert.KernelDownIdeal.defs (F := F) :=
  congrArg (Pipeline.defs (Cert.KernelDownIdeal.pcfgs (F := F))) (body_eq_down F)

end Words

theorem frame_kernel_down : Cert.quiescent_KernelDown (hKernelDown := Cert.KernelDown.Gen.facts) := fun m ρ _ => by
  have h := Cert.KernelDownIdeal.Hand.frame (F := Bits) m ρ
  rw [← defs_eq_down Bits] at h
  exact h

theorem frame_ideal_down : Cert.quiescent_KernelDownIdeal (hKernelDownIdeal := Cert.KernelDownIdeal.Gen.facts) := fun m ρ _ =>
  Cert.KernelDownIdeal.Hand.frame (F := Ideal) m ρ

theorem frame_reference_down : Cert.quiescent_ReferenceDownIdeal (hReferenceDownIdeal := Cert.ReferenceDownIdeal.Gen.facts) := fun m ρ _ =>
  (θ_run Cert.ReferenceDownIdeal.defs _ _).mono (fun r h => ⟨fun c => (h c).2, sem_eq_zero_of_no_sems (by decide) r.2⟩)
    (Cert.ReferenceDownIdeal.Hand.run' m ρ)

theorem algebraic_down : Cert.algebraic_KernelDownIdeal_ReferenceDownIdeal (hKernelDownIdeal := Cert.KernelDownIdeal.Gen.facts)
    (hReferenceDownIdeal := Cert.ReferenceDownIdeal.Gen.facts) := by
  intro m ρ m' ρ' _ hagree
  refine ⟨fun c => Cert.ReferenceDownIdeal.Hand.outT (Cert.KernelDownIdeal.Hand.argX m c) (Cert.KernelDownIdeal.Hand.argW m c) (Cert.KernelDownIdeal.Hand.argH m c), ?_, ?_⟩
  · exact Cert.KernelDownIdeal.Hand.value_run m ρ
  · refine (θ_run Cert.ReferenceDownIdeal.defs _ _).mono (fun r h c => ⟨(h c).1.trans ?_, (h c).2⟩) (Cert.ReferenceDownIdeal.Hand.run' m' ρ')
    obtain ⟨h0, h1, h2⟩ := hagree c
    rw [h0, h1, h2]

/-! ## The input projection -/

theorem frame_kernel_in : Cert.quiescent_KernelIn (hKernelIn := Cert.KernelIn.Gen.facts) := fun m ρ _ =>
  Cert.KernelIn.Gen.frame m ρ

theorem frame_ideal_in : Cert.quiescent_KernelInIdeal (hKernelInIdeal := Cert.KernelInIdeal.Gen.facts) := fun m ρ _ =>
  Cert.KernelInIdeal.Gen.frame m ρ

theorem frame_reference_in : Cert.quiescent_ReferenceInIdeal (hReferenceInIdeal := Cert.ReferenceInIdeal.Gen.facts) := fun m ρ _ =>
  (θ_run Cert.ReferenceInIdeal.defs _ _).mono (fun r h => ⟨fun c => (h c).2, sem_eq_zero_of_no_sems (by decide) r.2⟩)
    (Cert.ReferenceInIdeal.Hand.run' m ρ)

theorem algebraic_in : Cert.algebraic_KernelInIdeal_ReferenceInIdeal (hKernelInIdeal := Cert.KernelInIdeal.Gen.facts)
    (hReferenceInIdeal := Cert.ReferenceInIdeal.Gen.facts) := by
  intro m ρ m' ρ' _ hagree
  refine ⟨fun c => Cert.ReferenceInIdeal.Hand.outT (Cert.KernelInIdeal.Hand.argX m c) (Cert.KernelInIdeal.Hand.argW m c), ?_, ?_⟩
  · exact (θ_run Cert.KernelInIdeal.defs _ _).mono (fun r h c => ⟨(h c).1.trans (Cert.KernelInIdeal.Hand.arr_eq m c), (h c).2⟩) (Cert.KernelInIdeal.Value.run_blocks m ρ)
  · refine (θ_run Cert.ReferenceInIdeal.defs _ _).mono (fun r h c => ⟨(h c).1.trans ?_, (h c).2⟩) (Cert.ReferenceInIdeal.Hand.run' m' ρ')
    obtain ⟨h0, h1⟩ := hagree c
    rw [h0, h1]

/-! ## The output projection -/

theorem frame_kernel_out : Cert.quiescent_KernelOut (hKernelOut := Cert.KernelOut.Gen.facts) := fun m ρ _ =>
  Cert.KernelOut.Gen.frame m ρ

theorem frame_ideal_out : Cert.quiescent_KernelOutIdeal (hKernelOutIdeal := Cert.KernelOutIdeal.Gen.facts) := fun m ρ _ =>
  Cert.KernelOutIdeal.Gen.frame m ρ

theorem frame_reference_out : Cert.quiescent_ReferenceOutIdeal (hReferenceOutIdeal := Cert.ReferenceOutIdeal.Gen.facts) := fun m ρ _ =>
  (θ_run Cert.ReferenceOutIdeal.defs _ _).mono (fun r h => ⟨fun c => (h c).2, sem_eq_zero_of_no_sems (by decide) r.2⟩)
    (Cert.ReferenceOutIdeal.Hand.run' m ρ)

theorem algebraic_out : Cert.algebraic_KernelOutIdeal_ReferenceOutIdeal (hKernelOutIdeal := Cert.KernelOutIdeal.Gen.facts)
    (hReferenceOutIdeal := Cert.ReferenceOutIdeal.Gen.facts) := by
  intro m ρ m' ρ' _ hagree
  refine ⟨fun c => Cert.ReferenceOutIdeal.Hand.outT (Cert.KernelOutIdeal.Hand.argA m c) (Cert.KernelOutIdeal.Hand.argB m c) (Cert.KernelOutIdeal.Hand.argD m c) (Cert.KernelOutIdeal.Hand.argW m c) (Cert.KernelOutIdeal.Hand.argH m c), ?_, ?_⟩
  · exact (θ_run Cert.KernelOutIdeal.defs _ _).mono (fun r h c => ⟨(h c).1.trans (Cert.KernelOutIdeal.Hand.arr_eq m c), (h c).2⟩) (Cert.KernelOutIdeal.Value.run_blocks m ρ)
  · refine (θ_run Cert.ReferenceOutIdeal.defs _ _).mono (fun r h c => ⟨(h c).1.trans ?_, (h c).2⟩) (Cert.ReferenceOutIdeal.Hand.run' m' ρ')
    obtain ⟨h0, h1, h2, h3, h4⟩ := hagree c
    rw [h0, h1, h2, h3, h4]

/-! ## The norm -/

theorem frame_kernel_norm : Cert.quiescent_KernelNorm (hKernelNorm := Cert.KernelNorm.Gen.facts) := fun m ρ _ =>
  Cert.KernelNorm.Gen.frame m ρ

theorem frame_ideal_norm : Cert.quiescent_KernelNormIdeal (hKernelNormIdeal := Cert.KernelNormIdeal.Gen.facts) := fun m ρ _ =>
  Cert.KernelNormIdeal.Gen.frame m ρ

theorem frame_reference_norm : Cert.quiescent_ReferenceNormIdeal (hReferenceNormIdeal := Cert.ReferenceNormIdeal.Gen.facts) := fun m ρ _ =>
  (θ_run Cert.ReferenceNormIdeal.defs _ _).mono (fun r h => ⟨fun c => (h c).2, sem_eq_zero_of_no_sems (by decide) r.2⟩)
    (Cert.ReferenceNormIdeal.Hand.run' m ρ)

theorem algebraic_norm : Cert.algebraic_KernelNormIdeal_ReferenceNormIdeal (hKernelNormIdeal := Cert.KernelNormIdeal.Gen.facts)
    (hReferenceNormIdeal := Cert.ReferenceNormIdeal.Gen.facts) := by
  intro m ρ m' ρ' _ hagree
  refine ⟨fun c => Cert.ReferenceNormIdeal.Hand.outT (Cert.KernelNormIdeal.Hand.argX m c) (Cert.KernelNormIdeal.Hand.argG m c), ?_, ?_⟩
  · exact (θ_run Cert.KernelNormIdeal.defs _ _).mono (fun r h c => ⟨(h c).1.trans (Cert.KernelNormIdeal.Hand.arr_eq m c), (h c).2⟩) (Cert.KernelNormIdeal.Value.run_blocks m ρ)
  · refine (θ_run Cert.ReferenceNormIdeal.defs _ _).mono (fun r h c => ⟨(h c).1.trans ?_, (h c).2⟩) (Cert.ReferenceNormIdeal.Hand.run' m' ρ')
    obtain ⟨h0, h1⟩ := hagree c
    rw [h0, h1]

/-! ## Attention C -/

section Words

local instance : Cert.KernelLat.Facts := Cert.KernelLat.Gen.facts
local instance : Cert.KernelLatIdeal.Facts := Cert.KernelLatIdeal.Gen.facts

/-- The kernel as written and the kernel over the extended reals are one text: their bodies are one function. -/
theorem body_eq_lat (F : FTy → Type) [FloatOps F] : Cert.KernelLat.defs₀ (F := F) = Cert.KernelLatIdeal.defs₀ (F := F) := by
  unfold Cert.KernelLat.defs₀ Cert.KernelLatIdeal.defs₀
  refine congrArg Defs.onTc ?_
  funext l x
  match l, x with
  | 0, (t, s) => rfl

theorem defs_eq_lat (F : FTy → Type) [FloatOps F] : Cert.KernelLat.defs (F := F) = Cert.KernelLatIdeal.defs (F := F) :=
  congrArg (Pipeline.defs (Cert.KernelLatIdeal.pcfgs (F := F))) (body_eq_lat F)

end Words

/-- The frame of the kernel as written is that of its one run, at machine words. -/
theorem frame_kernel_lat : Cert.quiescent_KernelLat (hKernelLat := Cert.KernelLat.Gen.facts) := fun m ρ _ => by
  have h := Cert.KernelLatIdeal.Hand.frame (F := Bits) m ρ
  rw [← defs_eq_lat Bits] at h
  exact h

theorem frame_ideal_lat : Cert.quiescent_KernelLatIdeal (hKernelLatIdeal := Cert.KernelLatIdeal.Gen.facts) := fun m ρ _ =>
  Cert.KernelLatIdeal.Hand.frame (F := Ideal) m ρ

theorem frame_reference_lat : Cert.quiescent_ReferenceLatIdeal (hReferenceLatIdeal := Cert.ReferenceLatIdeal.Gen.facts) := fun m ρ _ =>
  (θ_run Cert.ReferenceLatIdeal.defs _ _).mono (fun r h => ⟨fun c => (h c).2, sem_eq_zero_of_no_sems (by decide) r.2⟩)
    (Cert.ReferenceLatIdeal.Hand.run' m ρ)

theorem algebraic_lat : Cert.algebraic_KernelLatIdeal_ReferenceLatIdeal_pre_finite_q_k_c (hKernelLatIdeal := Cert.KernelLatIdeal.Gen.facts)
    (hReferenceLatIdeal := Cert.ReferenceLatIdeal.Gen.facts) (hPre_finite_q_k_c := Cert.Pre_finite_q_k_c.Gen.facts) := by
  intro m ρ m' ρ' hpre hagree
  refine ⟨fun c => Cert.ReferenceLatIdeal.Hand.outT (Cert.KernelLatIdeal.Hand.argQ m c) (Cert.KernelLatIdeal.Hand.argK m c) (Cert.KernelLatIdeal.Hand.argV m c), ?_, ?_⟩
  · refine (θ_run Cert.KernelLatIdeal.defs _ _).mono (fun r h c => ?_) (Cert.KernelLatIdeal.Hand.run_main (F := Ideal) m ρ)
    obtain ⟨hq, hk⟩ := Cert.Pre_finite_q_k_c.Hand.reals _ _ _ _ _ (hpre c)
    refine ⟨(h.1.out_eq c 4).trans (Cert.KernelLatIdeal.Hand.arr_eq m c hq hk), ?_⟩
    exact ⟨(h.1.rest_eq c _ (Pipeline.mem_restRefs_of Cert.KernelLatIdeal.main_arg0 (by decide) (by decide))).trans (Cert.KernelLatIdeal.Gen.V_main_arg0 m c),
      (h.1.rest_eq c _ (Pipeline.mem_restRefs_of Cert.KernelLatIdeal.main_arg1 (by decide) (by decide))).trans (Cert.KernelLatIdeal.Gen.V_main_arg1 m c),
      (h.1.rest_eq c _ (Pipeline.mem_restRefs_of Cert.KernelLatIdeal.main_arg2 (by decide) (by decide))).trans (Cert.KernelLatIdeal.Gen.V_main_arg2 m c),
      (h.1.rest_eq c _ (Pipeline.mem_restRefs_of Cert.KernelLatIdeal.main_arg3 (by decide) (by decide))).trans (Cert.KernelLatIdeal.Gen.V_main_arg3 m c),
      (h.1.rest_eq c _ (Pipeline.mem_restRefs_of Cert.KernelLatIdeal.main_arg4 (by decide) (by decide))).trans (Cert.KernelLatIdeal.Gen.V_main_arg4 m c)⟩
  · refine (θ_run Cert.ReferenceLatIdeal.defs _ _).mono (fun r h c => ⟨(h c).1.trans ?_, (h c).2⟩) (Cert.ReferenceLatIdeal.Hand.run' m' ρ')
    obtain ⟨h0, h1, h2, -⟩ := hagree c
    rw [h0, h1, h2]

section Words

local instance : Cert.KernelDiff.Facts := Cert.KernelDiff.Gen.facts
local instance : Cert.KernelDiffIdeal.Facts := Cert.KernelDiffIdeal.Gen.facts

/-- The kernel as written and the kernel over the extended reals are one text: their bodies are one function. -/
theorem body_eq_diff (F : FTy → Type) [FloatOps F] : Cert.KernelDiff.defs₀ (F := F) = Cert.KernelDiffIdeal.defs₀ (F := F) := by
  unfold Cert.KernelDiff.defs₀ Cert.KernelDiffIdeal.defs₀
  refine congrArg Defs.onTc ?_
  funext l x
  match l, x with
  | 0, (t, s) => rfl

theorem defs_eq_diff (F : FTy → Type) [FloatOps F] : Cert.KernelDiff.defs (F := F) = Cert.KernelDiffIdeal.defs (F := F) :=
  congrArg (Pipeline.defs (Cert.KernelDiffIdeal.pcfgs (F := F))) (body_eq_diff F)

end Words

/-- The frame of the kernel as written is that of its one run, at machine words. -/
theorem frame_kernel_diff : Cert.quiescent_KernelDiff (hKernelDiff := Cert.KernelDiff.Gen.facts) := fun m ρ _ => by
  have h := Cert.KernelDiffIdeal.Hand.frame (F := Bits) m ρ
  rw [← defs_eq_diff Bits] at h
  exact h

theorem frame_ideal_diff : Cert.quiescent_KernelDiffIdeal (hKernelDiffIdeal := Cert.KernelDiffIdeal.Gen.facts) := fun m ρ _ =>
  Cert.KernelDiffIdeal.Hand.frame (F := Ideal) m ρ

theorem frame_reference_diff : Cert.quiescent_ReferenceDiffIdeal (hReferenceDiffIdeal := Cert.ReferenceDiffIdeal.Gen.facts) := fun m ρ _ =>
  (θ_run Cert.ReferenceDiffIdeal.defs _ _).mono (fun r h => ⟨fun c => (h c).2, sem_eq_zero_of_no_sems (by decide) r.2⟩)
    (Cert.ReferenceDiffIdeal.Hand.run' m ρ)

theorem algebraic_diff : Cert.algebraic_KernelDiffIdeal_ReferenceDiffIdeal_pre_finite_q_k_v_lam (hKernelDiffIdeal := Cert.KernelDiffIdeal.Gen.facts)
    (hReferenceDiffIdeal := Cert.ReferenceDiffIdeal.Gen.facts) (hPre_finite_q_k_v_lam := Cert.Pre_finite_q_k_v_lam.Gen.facts) := by
  intro m ρ m' ρ' hpre hagree
  refine ⟨fun c => Cert.ReferenceDiffIdeal.Hand.outT (Cert.KernelDiffIdeal.Hand.argQ m c) (Cert.KernelDiffIdeal.Hand.argK m c) (Cert.KernelDiffIdeal.Hand.argV m c) (Cert.KernelDiffIdeal.Hand.argL m c) (Cert.KernelDiffIdeal.Hand.argS m c), ?_, ?_⟩
  · refine (θ_run Cert.KernelDiffIdeal.defs _ _).mono (fun r h c => ?_) (Cert.KernelDiffIdeal.Hand.run_main (F := Ideal) m ρ)
    obtain ⟨hq, hk, hv, hl⟩ := Cert.Pre_finite_q_k_v_lam.Hand.reals _ _ _ _ _ _ _ (hpre c)
    refine ⟨(h.1.out_eq c 6).trans (Cert.KernelDiffIdeal.Hand.arr_eq m c hq hk hv hl), ?_⟩
    exact ⟨(h.1.rest_eq c _ (Pipeline.mem_restRefs_of Cert.KernelDiffIdeal.main_arg0 (by decide) (by decide))).trans (Cert.KernelDiffIdeal.Gen.V_main_arg0 m c),
      (h.1.rest_eq c _ (Pipeline.mem_restRefs_of Cert.KernelDiffIdeal.main_arg1 (by decide) (by decide))).trans (Cert.KernelDiffIdeal.Gen.V_main_arg1 m c),
      (h.1.rest_eq c _ (Pipeline.mem_restRefs_of Cert.KernelDiffIdeal.main_arg2 (by decide) (by decide))).trans (Cert.KernelDiffIdeal.Gen.V_main_arg2 m c),
      (h.1.out_eq c 4).trans (((Cert.KernelDiffIdeal.Hand.dats m 0 c).arrAt_in 4 rfl _).trans (Cert.KernelDiffIdeal.Gen.V_main_arg3 m c)),
      (h.1.rest_eq c _ (Pipeline.mem_restRefs_of Cert.KernelDiffIdeal.main_arg4 (by decide) (by decide))).trans (Cert.KernelDiffIdeal.Gen.V_main_arg4 m c),
      (h.1.rest_eq c _ (Pipeline.mem_restRefs_of Cert.KernelDiffIdeal.main_arg5 (by decide) (by decide))).trans (Cert.KernelDiffIdeal.Gen.V_main_arg5 m c),
      (h.1.rest_eq c _ (Pipeline.mem_restRefs_of Cert.KernelDiffIdeal.main_arg6 (by decide) (by decide))).trans (Cert.KernelDiffIdeal.Gen.V_main_arg6 m c)⟩
  · refine (θ_run Cert.ReferenceDiffIdeal.defs _ _).mono (fun r h c => ⟨(h c).1.trans ?_, (h c).2⟩) (Cert.ReferenceDiffIdeal.Hand.run' m' ρ')
    obtain ⟨h0, h1, h2, h3, h4, -⟩ := hagree c
    rw [h0, h1, h2, h3, h4]

/-! ## The queries of mixer C from their latent -/

theorem frame_kernel_qu : Cert.quiescent_KernelQu (hKernelQu := Cert.KernelQu.Gen.facts) := fun m ρ _ =>
  Cert.KernelQu.Gen.frame m ρ

theorem frame_ideal_qu : Cert.quiescent_KernelQuIdeal (hKernelQuIdeal := Cert.KernelQuIdeal.Gen.facts) := fun m ρ _ =>
  Cert.KernelQuIdeal.Gen.frame m ρ

theorem frame_reference_qu : Cert.quiescent_ReferenceQuIdeal (hReferenceQuIdeal := Cert.ReferenceQuIdeal.Gen.facts) := fun m ρ _ =>
  (θ_run Cert.ReferenceQuIdeal.defs _ _).mono (fun r h => ⟨fun c => (h c).2, sem_eq_zero_of_no_sems (by decide) r.2⟩)
    (Cert.ReferenceQuIdeal.Hand.run' m ρ)

theorem algebraic_qu : Cert.algebraic_KernelQuIdeal_ReferenceQuIdeal (hKernelQuIdeal := Cert.KernelQuIdeal.Gen.facts)
    (hReferenceQuIdeal := Cert.ReferenceQuIdeal.Gen.facts) := by
  intro m ρ m' ρ' _ hagree
  refine ⟨fun c => Cert.ReferenceQuIdeal.Hand.outT (Cert.KernelQuIdeal.Hand.argX m c) (Cert.KernelQuIdeal.Hand.argW m c), ?_, ?_⟩
  · exact (θ_run Cert.KernelQuIdeal.defs _ _).mono (fun r h c => ⟨(h c).1.trans (Cert.KernelQuIdeal.Hand.arr_eq m c), (h c).2⟩) (Cert.KernelQuIdeal.Value.run_blocks m ρ)
  · refine (θ_run Cert.ReferenceQuIdeal.defs _ _).mono (fun r h c => ⟨(h c).1.trans ?_, (h c).2⟩) (Cert.ReferenceQuIdeal.Hand.run' m' ρ')
    obtain ⟨h0, h1⟩ := hagree c
    rw [h0, h1]

/-! ## The keys and values of mixer C from their latent -/

theorem frame_kernel_kv : Cert.quiescent_KernelKv (hKernelKv := Cert.KernelKv.Gen.facts) := fun m ρ _ =>
  Cert.KernelKv.Gen.frame m ρ

theorem frame_ideal_kv : Cert.quiescent_KernelKvIdeal (hKernelKvIdeal := Cert.KernelKvIdeal.Gen.facts) := fun m ρ _ =>
  Cert.KernelKvIdeal.Gen.frame m ρ

theorem frame_reference_kv : Cert.quiescent_ReferenceKvIdeal (hReferenceKvIdeal := Cert.ReferenceKvIdeal.Gen.facts) := fun m ρ _ =>
  (θ_run Cert.ReferenceKvIdeal.defs _ _).mono (fun r h => ⟨fun c => (h c).2, sem_eq_zero_of_no_sems (by decide) r.2⟩)
    (Cert.ReferenceKvIdeal.Hand.run' m ρ)

theorem algebraic_kv : Cert.algebraic_KernelKvIdeal_ReferenceKvIdeal (hKernelKvIdeal := Cert.KernelKvIdeal.Gen.facts)
    (hReferenceKvIdeal := Cert.ReferenceKvIdeal.Gen.facts) := by
  intro m ρ m' ρ' _ hagree
  refine ⟨fun c => Cert.ReferenceKvIdeal.Hand.outT (Cert.KernelKvIdeal.Hand.argX m c) (Cert.KernelKvIdeal.Hand.argW m c), ?_, ?_⟩
  · exact (θ_run Cert.KernelKvIdeal.defs _ _).mono (fun r h c => ⟨(h c).1.trans (Cert.KernelKvIdeal.Hand.arr_eq m c), (h c).2⟩) (Cert.KernelKvIdeal.Value.run_blocks m ρ)
  · refine (θ_run Cert.ReferenceKvIdeal.defs _ _).mono (fun r h c => ⟨(h c).1.trans ?_, (h c).2⟩) (Cert.ReferenceKvIdeal.Hand.run' m' ρ')
    obtain ⟨h0, h1⟩ := hagree c
    rw [h0, h1]

/-! ## The last columns of the input projection -/

theorem frame_kernel_kr : Cert.quiescent_KernelKr (hKernelKr := Cert.KernelKr.Gen.facts) := fun m ρ _ =>
  Cert.KernelKr.Gen.frame m ρ

theorem frame_ideal_kr : Cert.quiescent_KernelKrIdeal (hKernelKrIdeal := Cert.KernelKrIdeal.Gen.facts) := fun m ρ _ =>
  Cert.KernelKrIdeal.Gen.frame m ρ

theorem frame_reference_kr : Cert.quiescent_ReferenceKrIdeal (hReferenceKrIdeal := Cert.ReferenceKrIdeal.Gen.facts) := fun m ρ _ =>
  (θ_run Cert.ReferenceKrIdeal.defs _ _).mono (fun r h => ⟨fun c => (h c).2, sem_eq_zero_of_no_sems (by decide) r.2⟩)
    (Cert.ReferenceKrIdeal.Hand.run' m ρ)

theorem algebraic_kr : Cert.algebraic_KernelKrIdeal_ReferenceKrIdeal (hKernelKrIdeal := Cert.KernelKrIdeal.Gen.facts)
    (hReferenceKrIdeal := Cert.ReferenceKrIdeal.Gen.facts) := by
  intro m ρ m' ρ' _ hagree
  refine ⟨fun c => Cert.ReferenceKrIdeal.Hand.outT (Cert.KernelKrIdeal.Hand.argX m c) (Cert.KernelKrIdeal.Hand.argW m c), ?_, ?_⟩
  · exact (θ_run Cert.KernelKrIdeal.defs _ _).mono (fun r h c => ⟨(h c).1.trans (Cert.KernelKrIdeal.Hand.arr_eq m c), (h c).2⟩) (Cert.KernelKrIdeal.Value.run_blocks m ρ)
  · refine (θ_run Cert.ReferenceKrIdeal.defs _ _).mono (fun r h c => ⟨(h c).1.trans ?_, (h c).2⟩) (Cert.ReferenceKrIdeal.Hand.run' m' ρ')
    obtain ⟨h0, h1⟩ := hagree c
    rw [h0, h1]

theorem claim : Cert.Claim := ⟨
  Cert.Kernel.Gen.facts, Cert.KernelIdeal.Gen.facts, Cert.ReferenceIdeal.Gen.facts,
  Cert.KernelUp.Gen.facts, Cert.KernelUpIdeal.Gen.facts, Cert.ReferenceUpIdeal.Gen.facts,
  Cert.KernelDown.Gen.facts, Cert.KernelDownIdeal.Gen.facts, Cert.ReferenceDownIdeal.Gen.facts,
  Cert.KernelIn.Gen.facts, Cert.KernelInIdeal.Gen.facts, Cert.ReferenceInIdeal.Gen.facts,
  Cert.KernelOut.Gen.facts, Cert.KernelOutIdeal.Gen.facts, Cert.ReferenceOutIdeal.Gen.facts,
  Cert.KernelNorm.Gen.facts, Cert.KernelNormIdeal.Gen.facts, Cert.ReferenceNormIdeal.Gen.facts,
  Cert.KernelLat.Gen.facts, Cert.KernelLatIdeal.Gen.facts, Cert.ReferenceLatIdeal.Gen.facts,
  Cert.KernelDiff.Gen.facts, Cert.KernelDiffIdeal.Gen.facts, Cert.ReferenceDiffIdeal.Gen.facts,
  Cert.KernelQu.Gen.facts, Cert.KernelQuIdeal.Gen.facts, Cert.ReferenceQuIdeal.Gen.facts,
  Cert.KernelKv.Gen.facts, Cert.KernelKvIdeal.Gen.facts, Cert.ReferenceKvIdeal.Gen.facts,
  Cert.KernelKr.Gen.facts, Cert.KernelKrIdeal.Gen.facts, Cert.ReferenceKrIdeal.Gen.facts,
  Cert.Pre_finite_q_k.Gen.facts, Cert.Pre_finite_q_k_c.Gen.facts, Cert.Pre_finite_q_k_v_lam.Gen.facts,
  frame_kernel, frame_ideal, fun m ρ _ => frame_ideal m ρ trivial, frame_reference, fun m ρ _ => frame_reference m ρ trivial,
  frame_kernel_up, frame_ideal_up, frame_reference_up, frame_kernel_down, frame_ideal_down,
  frame_reference_down, frame_kernel_in, frame_ideal_in, frame_reference_in, frame_kernel_out,
  frame_ideal_out, frame_reference_out, frame_kernel_norm, frame_ideal_norm, frame_reference_norm,
  frame_kernel_lat, frame_ideal_lat, fun m ρ _ => frame_ideal_lat m ρ trivial, frame_reference_lat, fun m ρ _ => frame_reference_lat m ρ trivial,
  frame_kernel_diff, frame_ideal_diff, fun m ρ _ => frame_ideal_diff m ρ trivial, frame_reference_diff, fun m ρ _ => frame_reference_diff m ρ trivial,
  frame_kernel_qu, frame_ideal_qu, frame_reference_qu,
  frame_kernel_kv, frame_ideal_kv, frame_reference_kv,
  frame_kernel_kr, frame_ideal_kr, frame_reference_kr,
  trivial, algebraic, trivial, algebraic_up, trivial,
  algebraic_down, trivial, algebraic_in, trivial, algebraic_out,
  trivial, algebraic_norm, trivial, algebraic_lat,
  trivial, algebraic_diff, trivial, algebraic_qu,
  trivial, algebraic_kv, trivial, algebraic_kr⟩

end Cert.Proof

end
